-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  IdealRules.named_const.Statement Cert.KernelIdeal.κ "skip" .f32 0xC2DC0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v30)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v79) = v0 c
          ∧ r.2.mem ((c.tc : Thread Cert.Reference13Ideal.nD Cert.Reference13Ideal.τ).loc Cert.Reference13Ideal.main_v58) = v1 c
          ∧ r.2.mem ((c.tc : Thread Cert.Reference13Ideal.nD Cert.Reference13Ideal.τ).loc Cert.Reference13Ideal.main_v80) = v2 c
          ∧ r.2.mem ((c.tc : Thread Cert.Reference13Ideal.nD Cert.Reference13Ideal.τ).loc Cert.Reference13Ideal.main_v59) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8x8192x128 : Shape := ⟨3, ![8, 8192, 128]⟩
abbrev S8x8192 : Shape := ⟨2, ![8, 8192]⟩
abbrev S_ : Shape := ⟨0, ![]⟩

class Facts : Prop where
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_arg4 : FVec F S8x8192x128 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8x8192x128 .f32 := Host.absf main_arg4
  let main_cst_6 : FVec F S_ .f32 := constant S_ .f32 0x7F800000#32
  let main_v20 : FVec F S8x8192x128 .f32 := broadcastInDim S8x8192x128 ![] bcast_S_S8x8192x128 main_cst_6
  let main_v21 : IVec S8x8192x128 1 := cmpf .olt main_v19 main_v20
  let main_c_7 : IVec S_ 1 := constantI S_ 1 1#1
  let main_v22 : IVec S_ 1 := (fun x v => Host.reduce IntOp.andi x v reducesTo_S8x8192x128_S_d0_1_2 h_S_) main_v21 main_c_7
  let main_v23 : IVec S_ 1 := andi main_v18 main_v22
  main_v23

def fn {F : FTy → Type} [FloatOps F] (main_arg0 : FVec F S8x8192x128 .f32) (main_arg1 : FVec F S8x8192x128 .f32) (main_arg2 : FVec F S8x8192x128 .f32) (main_arg3 : FVec F S8x8192 .f32) (main_arg4 : FVec F S8x8192x128 .f32) : IVec S_ 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_c : IVec S_ 1 := constantI S_ 1 1#1
  let main_v3 : IVec S_ 1 := (fun x v => Host.reduce IntOp.andi x v reducesTo_S8x8192x128_S_d0_1_2 h_S_) main_v2 main_c
  let main_v4 : FVec F S8x8192x128 .f32 := Host.absf main_arg1
  let main_cst_0 : FVec F S_ .f32 := constant S_ .f32 0x7F800000#32
  let main_v5 : FVec F S8x8192x128 .f32 := broadcastInDim S8x8192x128 ![] bcast_S_S8x8192x128 main_cst_0
  let main_v6 : IVec S8x8192x128 1 := cmpf .olt main_v4 main_v5
  let main_c_1 : IVec S_ 1 := constantI S_ 1 1#1
  let main_v7 : IVec S_ 1 := (fun x v => Host.reduce IntOp.andi x v reducesTo_S8x8192x128_S_d0_1_2 h_S_) main_v6 main_c_1
  let main_v8 : IVec S_ 1 := andi main_v3 main_v7
  let main_v9 : FVec F S8x8192x128 .f32 := Host.absf main_arg2
  let main_cst_2 : FVec F S_ .f32 := constant S_ .f32 0x7F800000#32
  let main_v10 : FVec F S8x8192x128 .f32 := broadcastInDim S8x8192x128 ![] bcast_S_S8x8192x128 main_cst_2
  let main_v11 : IVec S8x8192x128 1 := cmpf .olt main_v9 main_v10
  let main_c_3 : IVec S_ 1 := constantI S_ 1 1#1
  let main_v12 : IVec S_ 1 := (fun x v => Host.reduce IntOp.andi x v reducesTo_S8x8192x128_S_d0_1_2 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg4 main_v13 main_v16
-- ==== Kernel.lean ====
abbrev S8x8192x128 : Shape := ⟨3, ![8, 8192, 128]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x8x128 : Shape := ⟨3, ![8192, 8, 128]⟩
abbrev S8192x1024 : Shape := ⟨2, ![8192, 1024]⟩
abbrev S8192x3072 : Shape := ⟨2, ![8192, 3072]⟩
abbrev S8192x6144 : Shape := ⟨2, ![8192, 6144]⟩
abbrev S8192x8 : Shape := ⟨2, ![8192, 8]⟩
abbrev S8192x128 : Shape := ⟨2, ![8192, 128]⟩
abbrev S1024x128 : Shape := ⟨2, ![1024, 128]⟩
abbrev S1x1024x1 : Shape := ⟨3, ![1, 1024, 1]⟩
abbrev S1x1 : Shape := ⟨2, ![1, 1]⟩
abbrev S1 : Shape := ⟨1, ![1]⟩
abbrev S1024 : Shape := ⟨1, ![1024]⟩
abbrev S1024x1 : Shape := ⟨2, ![1024, 1]⟩
abbrev S1024x1024 : Shape := ⟨2, ![1024, 1024]⟩
abbrev S1x1x1 : Shape := ⟨3, ![1, 1, 1]⟩
abbrev S1x1024 : Shape := ⟨2, ![1, 1024]⟩
abbrev S1x1x1024 : Shape := ⟨3, ![1, 1, 1024]⟩

abbrev nBuf : Space → Nat
  | .hbm => 69
  | .vmem => 25
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8x8192x128, .f32⟩
  | .hbm, ⟨3, _⟩ => ⟨S8x8192, .f32⟩
  | .hbm, ⟨4, _⟩ => ⟨S8x8192x128, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192x1, .f32⟩
  | .hbm, ⟨10, _⟩ => ⟨S8x8192x8192, .f32⟩
  | .hbm, ⟨11, _⟩ => ⟨S8x8192x8192, .f32⟩
  | .hbm, ⟨12, _⟩ => ⟨S8x1x8192, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x128, .f32⟩
  | .hbm, ⟨38, _⟩ => ⟨S8x8192x1, .f32⟩
  | .hbm, ⟨39, _⟩ => ⟨S8x8192x1, .f32⟩
  | .hbm, ⟨40, _⟩ => ⟨S_, .f32⟩
  | .hbm, ⟨41, _⟩ => ⟨S8x8192x128, .f32⟩
  | .hbm, ⟨42, _⟩ => ⟨S8x8192x128, .f32⟩
  | .hbm, ⟨43, _⟩ => ⟨S8192x8x128, .f32⟩
  | .hbm, ⟨44, _⟩ => ⟨S8192x1024, .f32⟩
  | .hbm, ⟨45, _⟩ => ⟨S8192x8x128, .f32⟩
  | .hbm, ⟨46, _⟩ => ⟨S8192x1024, .f32⟩
  | .hbm, ⟨47, _⟩ => ⟨S8192x8x128, .f32⟩
  | .hbm, ⟨48, _⟩ => ⟨S8192x1024, .f32⟩
  | .hbm, ⟨49, _⟩ => ⟨S8192x3072, .f32⟩
  | .hbm, ⟨50, _⟩ => ⟨S8192x3072, .bf16⟩
  | .hbm, ⟨51, _⟩ => ⟨S_, .i32⟩
  | .hbm, ⟨52, _⟩ => ⟨S_, .bf16⟩
  | .hbm, ⟨53, _⟩ => ⟨S8192x6144, .bf16⟩
  | .hbm, ⟨54, _⟩ => ⟨S8192x8, .f32⟩
  | .hbm, ⟨55, _⟩ => ⟨S_, .i32⟩
  | .hbm, ⟨56, _⟩ => ⟨S_, .f32⟩
  | .hbm, ⟨57, _⟩ => ⟨S8192x128, .f32⟩
  | .hbm, ⟨58, _⟩ => ⟨S8192x8x128, .f32⟩
  | .hbm, ⟨59, _⟩ => ⟨S8192x1024, .f32⟩
  | .hbm, ⟨60, _⟩ => ⟨S8192x8x128, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8x8192, .f32⟩
  | .hbm, ⟨66, _⟩ => ⟨S8x8192x1, .f32⟩
  | .hbm, ⟨67, _⟩ => ⟨S8x8192, .f32⟩
  | .hbm, ⟨68, _⟩ => ⟨S8x8192, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S8x8192, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x1024x1, .f32⟩
  | .local _ .vmem, ⟨14, _⟩ => ⟨S1x1024x1, .f32⟩
  | .local _ .vmem, ⟨15, _⟩ => ⟨S1024x128, .f32⟩
  | .local _ .vmem, ⟨16, _⟩ => ⟨S1024x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8x8192, .f32⟩
  | .local _ .vmem, ⟨22, _⟩ => ⟨S1x1024x1, .f32⟩
  | .local _ .vmem, ⟨23, _⟩ => ⟨S1x1024x1, .f32⟩
  | .local _ .vmem, ⟨24, _⟩ => ⟨S1x1, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_call1_v0 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_call2_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev main_v45_2 : Ref sig .tc := ⟨.hbm, 64, rfl⟩
abbrev main_v45_3 : Ref sig .tc := ⟨.hbm, 65, rfl⟩
abbrev main_v45_4 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1_i32_23 : BitVec 32 := 1#32
  let v50 : BitVec 32 := Scalar.subi arg1 c1_i32_23
  let c0_i32_24 : BitVec 32 := 0#32
  let v51 : BitVec 32 := Scalar.maxsi v50 c0_i32_24
  let c1024_i32 : BitVec 32 := 1024#32
  let v52 : BitVec 32 := Scalar.muli v51 c1024_i32
  v52
def k0_off1 (i : grid0.Coords) : Fin 2 → Nat :=
  let arg0 : BitVec 32 := BitVec.ofNat 32 (i 0).val
  let v54 : Index := Scalar.indexCast arg0
  let arg1 : BitVec 32 := BitVec.ofNat 32 (i 1).val
  let c1_i32_23 : BitVec 32 := 1#32
  let v50 : BitVec 32 := Scalar.subi arg1 c1_i32_23
  let c0_i32_24 : BitVec 32 := 0#32
  let v51 : BitVec 32 := Scalar.maxsi v50 c0_i32_24
  let c1024_i32 : BitVec 32 := 1024#32
  let v52 : BitVec 32 := Scalar.muli v51 c1024_i32
  let v53 : BitVec 32 := v52
  let v55 : Index := Scalar.indexCast v53
  ![v54.toNat, v55.toNat]
def k0_mult2 (i : grid0.Coords) : BitVec 32 :=
  let arg1 : BitVec 32 := BitVec.ofNat 32 (i 1).val
  let c1024_i32_26 : BitVec 32 := 1024#32
  let v62 : BitVec 32 := Scalar.muli arg1 c1024_i32_26
  v62
def k0_off2 (i : grid0.Coords) : Fin 2 → Nat :=
  let arg1 : BitVec 32 := BitVec.ofNat 32 (i 1).val
  let c1024_i32_26 : BitVec 32 := 1024#32
  let v62 : BitVec 32 := Scalar.muli arg1 c1024_i32_26
  let v63 : BitVec 32 := v62
  let v64 : Index := Scalar.indexCast v63
  let c0_27 : Index := 0#32
  ![v64.toNat, 0]
def k0_off3 (i : grid0.Coords) : Fin 2 → Nat :=
  let arg0 : BitVec 32 := BitVec.ofNat 32 (i 0).val
  let v70 : Index := Scalar.indexCast arg0
  let arg1 : BitVec 32 := BitVec.ofNat 32 (i 1).val
  let c1024_i32_26 : BitVec 32 := 1024#32
  let v62 : BitVec 32 := Scalar.muli arg1 c1024_i32_26
  let v63 : BitVec 32 := v62
  let v71 : Index := Scalar.indexCast v63
  ![v70.toNat, v71.toNat]
def k0_mult3 (arg16 : BitVec 32) : BitVec 32 :=
  let c1024_i32_47 : BitVec 32 := 1024#32
  let v126 : BitVec 32 := Scalar.muli arg16 c1024_i32_47
  v126

def k0_off4 (arg16 : BitVec 32) : Fin 2 → Nat :=
  let c1024_i32_47 : BitVec 32 := 1024#32
  let v126 : BitVec 32 := Scalar.muli arg16 c1024_i32_47
  let v127 : BitVec 32 := v126
  let v128 : Index := Scalar.indexCast v127
  let c0_48 : Index := 0#32
  ![v128.toNat, 0]
def k0_off5 (i : grid0.Coords) (arg16 : BitVec 32) : Fin 2 → Nat :=
  let arg0 : BitVec 32 := BitVec.ofNat 32 (i 0).val
  let v134 : Index := Scalar.indexCast arg0
  let c1024_i32_47 : BitVec 32 := 1024#32
  let v126 : BitVec 32 := Scalar.muli arg16 c1024_i32_47
  let v127 : BitVec 32 := v126
  let v135 : Index := Scalar.indexCast v127
  ![v134.toNat, v135.toNat]
def k0_mult4 (arg16 : BitVec 32) : BitVec 32 :=
  let c1_i32_62 : BitVec 32 := 1#32
  let v181 : BitVec 32 := Scalar.subi arg16 c1_i32_62
  let c0_i32_63 : BitVec 32 := 0#32
  let v182 : BitVec 32 := Scalar.maxsi v181 c0_i32_63
  let c1024_i32_64 : BitVec 32 := 1024#32
  let v183 : BitVec 32 := Scalar.muli v182 c1024_i32_64
  v183
def k0_off6 (i : grid0.Coords) (arg16 : BitVec 32) : Fin 2 → Nat :=
  let arg0 : BitVec 32 := BitVec.ofNat 32 (i 0).val
  let v185 : Index := Scalar.indexCast arg0
  let c1_i32_62 : BitVec 32 := 1#32
  let v181 : BitVec 32 := Scalar.subi arg16 c1_i32_62
  let c0_i32_63 : BitVec 32 := 0#32
  let v182 : BitVec 32 := Scalar.maxsi v181 c0_i32_63
  let c1024_i32_64 : BitVec 32 := 1024#32
  let v183 : BitVec 32 := Scalar.muli v182 c1024_i32_64
  let v184 : BitVec 32 := v183
  let v186 : Index := Scalar.indexCast v184
  ![v185.toNat, v186.toNat]

def k0_chk1 (i : grid0.Coords) (arg16 : BitVec 32) : Prop :=
  (1024 ∣ (k0_mult3 arg16).toNat) ∧
  (∀ a, (k0_off4 arg16) a + S1024x128.size a ≤ S8192x128.size a) ∧
  (∀ a, (k0_off5 i arg16) a + S1x1024.size a ≤ S8x8192.size a) ∧
  (1024 ∣ (k0_mult4 arg16).toNat) ∧
  (∀ a, (k0_off6 i arg16) a + S1x1024.size a ≤ S8x8192.size a)
theorem k0_mult3_dvd : ∀ (i : grid0.Coords) (arg16 : BitVec 32) (k0_hw1 : k0_chk1 i arg16), 1024 ∣ (k0_mult3 arg16).toNat := fun i arg16 k0_hw1 => k0_hw1.1
theorem k0_off4_inb : ∀ (i : grid0.Coords) (arg16 : BitVec 32) (k0_hw1 : k0_chk1 i arg16), ∀ a, (k0_off4 arg16) a + S1024x128.size a ≤ S8192x128.size a := fun i arg16 k0_hw1 => k0_hw1.2.1
theorem k0_off5_inb : ∀ (i : grid0.Coords) (arg16 : BitVec 32) (k0_hw1 : k0_chk1 i arg16), ∀ a, (k0_off5 i arg16) a + S1x1024.size a ≤ S8x8192.size a := fun i arg16 k0_hw1 => k0_hw1.2.2.1
theorem k0_mult4_dvd : ∀ (i : grid0.Coords) (arg16 : BitVec 32) (k0_hw1 : k0_chk1 i arg16), 1024 ∣ (k0_mult4 arg16).toNat := fun i arg16 k0_hw1 => k0_hw1.2.2.2.1
theorem k0_off6_inb : ∀ (i : grid0.Coords) (arg16 : BitVec 32) (k0_hw1 : k0_chk1 i arg16), ∀ a, (k0_off6 i arg16) a + S1x1024.size a ≤ S8x8192.size a := fun i arg16 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "skip" => some ⊥
  | _ => none
-- ==== ReferenceIdeal.lean ====
abbrev S8x8192x128 : Shape := ⟨3, ![8, 8192, 128]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8192x8x128 : Shape := ⟨3, ![8192, 8, 128]⟩
abbrev S8192x1024 : Shape := ⟨2, ![8192, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8x8192x128, .f32⟩
  | .hbm, ⟨3, _⟩ => ⟨S8x8192, .f32⟩
  | .hbm, ⟨4, _⟩ => ⟨S8x8192x128, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192x1, .f32⟩
  | .hbm, ⟨10, _⟩ => ⟨S8x8192x8192, .f32⟩
  | .hbm, ⟨11, _⟩ => ⟨S8x8192x8192, .f32⟩
  | .hbm, ⟨12, _⟩ => ⟨S8x1x8192, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x128, .f32⟩
  | .hbm, ⟨67, _⟩ => ⟨S8x128x8192, .f32⟩
  | .hbm, ⟨68, _⟩ => ⟨S8x8192x128, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x1x8192, .f32⟩
  | .hbm, ⟨91, _⟩ => ⟨S_, .f32⟩
  | .hbm, ⟨92, _⟩ => ⟨S8x8192, .f32⟩
  | .hbm, ⟨93, _⟩ => ⟨S_, .f32⟩
  | .hbm, ⟨94, _⟩ => ⟨S8x8192, .f32⟩
  | .hbm, ⟨95, _⟩ => ⟨S8x8192x1, .f32⟩
  | .hbm, ⟨96, _⟩ => ⟨S_, .f32⟩
  | .hbm, ⟨97, _⟩ => ⟨S8x8192, .f32⟩
  | .hbm, ⟨98, _⟩ => ⟨S8x8192, .f32⟩
  | .hbm, ⟨99, _⟩ => ⟨S_, .f32⟩
  | .hbm, ⟨100, _⟩ => ⟨S8x8192x8192, .f32⟩
  | .hbm, ⟨101, _⟩ => ⟨S8x8192x8192, .f32⟩
  | .hbm, ⟨102, _⟩ => ⟨S8x8192x128, .f32⟩
  | .hbm, ⟨103, _⟩ => ⟨S8x8192x128, .f32⟩
  | .hbm, ⟨104, _⟩ => ⟨S8192x8x128, .f32⟩
  | .hbm, ⟨105, _⟩ => ⟨S8192x1024, .f32⟩
  | .hbm, ⟨106, _⟩ => ⟨S8192x8x128, .f32⟩
  | .hbm, ⟨107, _⟩ => ⟨S8192x1024, .f32⟩
  | .hbm, ⟨108, _⟩ => ⟨S8192x8x128, .f32⟩
  | .hbm, ⟨109, _⟩ => ⟨S8192x1024, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S8192x11264 : Shape := ⟨2, ![8192, 11264]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11264 : Shape := ⟨2, ![2048, 11264]⟩
abbrev S1024x1024 : Shape := ⟨2, ![1024, 1024]⟩
abbrev S1024x1408 : Shape := ⟨2, ![1024, 1408]⟩

abbrev nBuf : Space → Nat
  | .hbm => 23
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x11264, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x11264, .bf16⟩
  | .hbm, ⟨22, _⟩ => ⟨S2048x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S1x2048 : Shape := ⟨2, ![1, 2048]⟩
abbrev S8192x11264 : Shape := ⟨2, ![8192, 11264]⟩
abbrev S_ : Shape := ⟨0, ![]⟩
abbrev S2048x11264 : Shape := ⟨2, ![2048, 11264]⟩
abbrev S2048 : Shape := ⟨1, ![2048]⟩
abbrev S8192 : Shape := ⟨1, ![8192]⟩
abbrev S8192x1 : Shape := ⟨2, ![8192, 1]⟩
abbrev S11264x2048 : Shape := ⟨2, ![11264, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x11264, .f32⟩
  | .hbm, ⟨3, _⟩ => ⟨S_, .f32⟩
  | .hbm, ⟨4, _⟩ => ⟨S2048x11264, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x11264, .f32⟩
  | .hbm, ⟨23, _⟩ => ⟨S11264x2048, .f32⟩
  | .hbm, ⟨24, _⟩ => ⟨S2048x11264, .f32⟩
  | .hbm, ⟨25, _⟩ => ⟨S2048x11264, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x11264 : Shape := ⟨2, ![2048, 11264]⟩
abbrev S8192x11264 : Shape := ⟨2, ![8192, 11264]⟩
abbrev S512x1408 : Shape := ⟨2, ![512, 1408]⟩
abbrev S2048x1408 : Shape := ⟨2, ![2048, 1408]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .f32⟩
  | .hbm, ⟨3, _⟩ => ⟨S8192x11264, .f32⟩
  | .hbm, ⟨4, _⟩ => ⟨S8192x2048, .f32⟩
  | .hbm, ⟨5, _⟩ => ⟨S8192x11264, .bf16⟩
  | .hbm, ⟨6, _⟩ => ⟨S2048x11264, .bf16⟩
  | .hbm, ⟨7, _⟩ => ⟨S8192x2048, .f32⟩
  | .hbm, ⟨8, _⟩ => ⟨S1x2048, .f32⟩
  | .local _ .vmem, ⟨0, _⟩ => ⟨S512x1408, .bf16⟩
  | .local _ .vmem, ⟨1, _⟩ => ⟨S512x1408, .bf16⟩
  | .local _ .vmem, ⟨2, _⟩ => ⟨S2048x1408, .bf16⟩
  | .local _ .vmem, ⟨3, _⟩ => ⟨S2048x1408, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_9 : BitVec 32 := 0#32
  let v16 : BitVec 1 := Scalar.cmpi .eq arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S8192x2048 : Shape := ⟨2, ![8192, 2048]⟩
abbrev S1x2048 : Shape := ⟨2, ![1, 2048]⟩
abbrev S2048x11264 : Shape := ⟨2, ![2048, 11264]⟩
abbrev S8192x11264 : Shape := ⟨2, ![8192, 11264]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .f32⟩
  | .hbm, ⟨3, _⟩ => ⟨S8192x11264, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x11264, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S2048x6272 : Shape := ⟨2, ![2048, 6272]⟩
abbrev S8192x6272 : Shape := ⟨2, ![8192, 6272]⟩
abbrev S512x896 : Shape := ⟨2, ![512, 896]⟩
abbrev S2048x896 : Shape := ⟨2, ![2048, 896]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6272, .f32⟩
  | .hbm, ⟨3, _⟩ => ⟨S8192x6272, .f32⟩
  | .hbm, ⟨4, _⟩ => ⟨S8192x2048, .f32⟩
  | .hbm, ⟨5, _⟩ => ⟨S8192x6272, .bf16⟩
  | .hbm, ⟨6, _⟩ => ⟨S2048x6272, .bf16⟩
  | .hbm, ⟨7, _⟩ => ⟨S8192x2048, .f32⟩
  | .hbm, ⟨8, _⟩ => ⟨S1x2048, .f32⟩
  | .local _ .vmem, ⟨0, _⟩ => ⟨S512x896, .bf16⟩
  | .local _ .vmem, ⟨1, _⟩ => ⟨S512x896, .bf16⟩
  | .local _ .vmem, ⟨2, _⟩ => ⟨S2048x896, .bf16⟩
  | .local _ .vmem, ⟨3, _⟩ => ⟨S2048x896, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_9 : BitVec 32 := 0#32
  let v16 : BitVec 1 := Scalar.cmpi .eq arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S8192x2048 : Shape := ⟨2, ![8192, 2048]⟩
abbrev S1x2048 : Shape := ⟨2, ![1, 2048]⟩
abbrev S2048x6272 : Shape := ⟨2, ![2048, 6272]⟩
abbrev S8192x6272 : Shape := ⟨2, ![8192, 6272]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6272, .f32⟩
  | .hbm, ⟨3, _⟩ => ⟨S8192x6272, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x6272, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S8192x6272 : Shape := ⟨2, ![8192, 6272]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x6272 : Shape := ⟨2, ![2048, 6272]⟩
abbrev S1024x1024 : Shape := ⟨2, ![1024, 1024]⟩
abbrev S1024x896 : Shape := ⟨2, ![1024, 896]⟩

abbrev nBuf : Space → Nat
  | .hbm => 23
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x6272, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x6272, .bf16⟩
  | .hbm, ⟨22, _⟩ => ⟨S2048x6272, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S1x2048 : Shape := ⟨2, ![1, 2048]⟩
abbrev S8192x6272 : Shape := ⟨2, ![8192, 6272]⟩
abbrev S_ : Shape := ⟨0, ![]⟩
abbrev S2048x6272 : Shape := ⟨2, ![2048, 6272]⟩
abbrev S2048 : Shape := ⟨1, ![2048]⟩
abbrev S8192 : Shape := ⟨1, ![8192]⟩
abbrev S8192x1 : Shape := ⟨2, ![8192, 1]⟩
abbrev S6272x2048 : Shape := ⟨2, ![6272, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x6272, .f32⟩
  | .hbm, ⟨3, _⟩ => ⟨S_, .f32⟩
  | .hbm, ⟨4, _⟩ => ⟨S2048x6272, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x6272, .f32⟩
  | .hbm, ⟨23, _⟩ => ⟨S6272x2048, .f32⟩
  | .hbm, ⟨24, _⟩ => ⟨S2048x6272, .f32⟩
  | .hbm, ⟨25, _⟩ => ⟨S2048x6272, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S5632x2048 : Shape := ⟨2, ![5632, 2048]⟩
abbrev S8192x2048 : Shape := ⟨2, ![8192, 2048]⟩
abbrev S8192x5632 : Shape := ⟨2, ![8192, 5632]⟩
abbrev S512x1024 : Shape := ⟨2, ![512, 1024]⟩
abbrev S5632x1024 : Shape := ⟨2, ![5632, 1024]⟩
abbrev S512x5632 : Shape := ⟨2, ![512, 5632]⟩

abbrev nBuf : Space → Nat
  | .hbm => 4
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S8192x2048, .f32⟩
  | .hbm, ⟨2, _⟩ => ⟨S5632x2048, .bf16⟩
  | .hbm, ⟨3, _⟩ => ⟨S8192x5632, .f32⟩
  | .local _ .vmem, ⟨0, _⟩ => ⟨S512x1024, .f32⟩
  | .local _ .vmem, ⟨1, _⟩ => ⟨S512x1024, .f32⟩
  | .local _ .vmem, ⟨2, _⟩ => ⟨S5632x1024, .bf16⟩
  | .local _ .vmem, ⟨3, _⟩ => ⟨S5632x1024, .bf16⟩
  | .local _ .vmem, ⟨4, _⟩ => ⟨S512x5632, .f32⟩
  | .local _ .vmem, ⟨5, _⟩ => ⟨S512x5632, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S5632x2048 : Shape := ⟨2, ![5632, 2048]⟩
abbrev S8192x2048 : Shape := ⟨2, ![8192, 2048]⟩
abbrev S_ : Shape := ⟨0, ![]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S8192x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S8192x5632, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x5632 : Shape := ⟨2, ![8192, 5632]⟩
abbrev S8192x2048 : Shape := ⟨2, ![8192, 2048]⟩
abbrev S5632x2048 : Shape := ⟨2, ![5632, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S5632x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 42
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x2048, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x2048, .f32⟩
  | .hbm, ⟨40, _⟩ => ⟨S8192x2048, .bf16⟩
  | .hbm, ⟨41, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .f32⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1x1024 : Shape := ⟨2, ![1, 1024]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x2048, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x2048, .f32⟩
  | .hbm, ⟨40, _⟩ => ⟨S_, .f32⟩
  | .hbm, ⟨41, _⟩ => ⟨S2048x2048, .f32⟩
  | .hbm, ⟨42, _⟩ => ⟨S8192x2048, .f32⟩
  | .hbm, ⟨43, _⟩ => ⟨S2048x2048, .f32⟩
  | .hbm, ⟨44, _⟩ => ⟨S2048x2048, .f32⟩
  | .hbm, ⟨45, _⟩ => ⟨S2048x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel9.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S1x2048 : Shape := ⟨2, ![1, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .f32⟩
  | .hbm, ⟨3, _⟩ => ⟨S2048x11264, .bf16⟩
  | .hbm, ⟨4, _⟩ => ⟨S8192x11264, .f32⟩
  | .hbm, ⟨5, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S8192x2048 : Shape := ⟨2, ![8192, 2048]⟩
abbrev S1x2048 : Shape := ⟨2, ![1, 2048]⟩
abbrev S2048x11264 : Shape := ⟨2, ![2048, 11264]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x11264 : Shape := ⟨2, ![8192, 11264]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x11264, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S8192x2048 : Shape := ⟨2, ![8192, 2048]⟩
abbrev S1x2048 : Shape := ⟨2, ![1, 2048]⟩
abbrev S2048x6272 : Shape := ⟨2, ![2048, 6272]⟩
abbrev S8192x6272 : Shape := ⟨2, ![8192, 6272]⟩
abbrev S1024x2048 : Shape := ⟨2, ![1024, 2048]⟩
abbrev S2048x896 : Shape := ⟨2, ![2048, 896]⟩
abbrev S1024x896 : Shape := ⟨2, ![1024, 896]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6272, .f32⟩
  | .hbm, ⟨3, _⟩ => ⟨S2048x6272, .bf16⟩
  | .hbm, ⟨4, _⟩ => ⟨S8192x6272, .f32⟩
  | .hbm, ⟨5, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S1024x896, .f32⟩
  | .local _ .vmem, ⟨6, _⟩ => ⟨S1024x896, .f32⟩
  | .local _ .vmem, ⟨7, _⟩ => ⟨S1024x2048, .bf16⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S8192x2048 : Shape := ⟨2, ![8192, 2048]⟩
abbrev S1x2048 : Shape := ⟨2, ![1, 2048]⟩
abbrev S2048x6272 : Shape := ⟨2, ![2048, 6272]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x6272 : Shape := ⟨2, ![8192, 6272]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6272, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x6272, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S2048x2048 : Shape := ⟨2, ![2048, 2048]⟩
abbrev S8192x2048 : Shape := ⟨2, ![8192, 2048]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S2048x2048, .f32⟩
  | .hbm, ⟨5, _⟩ => ⟨S8192x2048, .f32⟩
  | .hbm, ⟨6, _⟩ => ⟨S2048x2048, .bf16⟩
  | .hbm, ⟨7, _⟩ => ⟨S8192x2048, .f32⟩
  | .hbm, ⟨8, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference12Ideal.lean ====
abbrev S8192x1024 : Shape := ⟨2, ![8192, 1024]⟩
abbrev S1x1024 : Shape := ⟨2, ![1, 1024]⟩
abbrev S2048x2048 : Shape := ⟨2, ![2048, 2048]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S2048x2048, .f32⟩
  | .hbm, ⟨5, _⟩ => ⟨S8192x2048, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S2048x2048 : Shape := ⟨2, ![2048, 2048]⟩
abbrev S8192x2048 : Shape := ⟨2, ![8192, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S2048x2048, .f32⟩
  | .hbm, ⟨5, _⟩ => ⟨S8192x2048, .f32⟩
  | .hbm, ⟨6, _⟩ => ⟨S2048x2048, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_10 : BitVec 32 := 0#32
  let v16 : BitVec 1 := Scalar.cmpi .eq arg0 c0_i32_10
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference13Ideal.lean ====
abbrev S8192x1024 : Shape := ⟨2, ![8192, 1024]⟩
abbrev S1x1024 : Shape := ⟨2, ![1, 1024]⟩
abbrev S2048x2048 : Shape := ⟨2, ![2048, 2048]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S2048x2048, .f32⟩
  | .hbm, ⟨5, _⟩ => ⟨S8192x2048, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel14.lean ====
abbrev S8x1610x128 : Shape := ⟨3, ![8, 1610, 128]⟩
abbrev S1610x128 : Shape := ⟨2, ![1610, 128]⟩
abbrev S1x1610x128 : Shape := ⟨3, ![1, 1610, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1610x128, .f32⟩
  | .hbm, ⟨1, _⟩ => ⟨S1610x128, .f32⟩
  | .hbm, ⟨2, _⟩ => ⟨S1610x128, .f32⟩
  | .hbm, ⟨3, _⟩ => ⟨S1610x128, .f32⟩
  | .hbm, ⟨4, _⟩ => ⟨S1610x128, .f32⟩
  | .hbm, ⟨5, _⟩ => ⟨S1610x128, .f32⟩
  | .hbm, ⟨6, _⟩ => ⟨S1610x128, .f32⟩
  | .hbm, ⟨7, _⟩ => ⟨S1610x128, .f32⟩
  | .local _ .vmem, ⟨0, _⟩ => ⟨S8x1610x128, .f32⟩
  | .local _ .vmem, ⟨1, _⟩ => ⟨S1610x128, .f32⟩
  | .local _ .vmem, ⟨2, _⟩ => ⟨S1610x128, .f32⟩
  | .local _ .vmem, ⟨3, _⟩ => ⟨S1610x128, .f32⟩
  | .local _ .vmem, ⟨4, _⟩ => ⟨S1610x128, .f32⟩
  | .local _ .vmem, ⟨5, _⟩ => ⟨S1610x128, .f32⟩
  | .local _ .vmem, ⟨6, _⟩ => ⟨S1610x128, .f32⟩
  | .local _ .vmem, ⟨7, _⟩ => ⟨S1610x128, .f32⟩
  | _, _ => ⟨S8x1610x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x1610x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1610x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1610x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1610x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1610x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1610x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1610x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1610x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S8x1610x128 : Shape := ⟨3, ![8, 1610, 128]⟩
abbrev S1610x128 : Shape := ⟨2, ![1610, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1610x128, .f32⟩
  | .hbm, ⟨1, _⟩ => ⟨S1610x128, .f32⟩
  | .hbm, ⟨2, _⟩ => ⟨S1610x128, .f32⟩
  | .hbm, ⟨3, _⟩ => ⟨S1610x128, .f32⟩
  | .hbm, ⟨4, _⟩ => ⟨S_, .f32⟩
  | .hbm, ⟨5, _⟩ => ⟨S1610x128, .f32⟩
  | .hbm, ⟨6, _⟩ => ⟨S_, .f32⟩
  | .hbm, ⟨7, _⟩ => ⟨S1610x128, .f32⟩
  | .hbm, ⟨8, _⟩ => ⟨S1610x128, .f32⟩
  | .hbm, ⟨9, _⟩ => ⟨S_, .f32⟩
  | .hbm, ⟨10, _⟩ => ⟨S1610x128, .f32⟩
  | .hbm, ⟨11, _⟩ => ⟨S1610x128, .f32⟩
  | .hbm, ⟨12, _⟩ => ⟨S1610x128, .f32⟩
  | .hbm, ⟨13, _⟩ => ⟨S_, .f32⟩
  | .hbm, ⟨14, _⟩ => ⟨S1610x128, .f32⟩
  | .hbm, ⟨15, _⟩ => ⟨S1610x128, .f32⟩
  | .hbm, ⟨16, _⟩ => ⟨S1610x128, .f32⟩
  | .hbm, ⟨17, _⟩ => ⟨S_, .f32⟩
  | .hbm, ⟨18, _⟩ => ⟨S1610x128, .f32⟩
  | .hbm, ⟨19, _⟩ => ⟨S1610x128, .f32⟩
  | .hbm, ⟨20, _⟩ => ⟨S1610x128, .f32⟩
  | .hbm, ⟨21, _⟩ => ⟨S_, .f32⟩
  | .hbm, ⟨22, _⟩ => ⟨S1610x128, .f32⟩
  | .hbm, ⟨23, _⟩ => ⟨S1610x128, .f32⟩
  | .hbm, ⟨24, _⟩ => ⟨S_, .f32⟩
  | .hbm, ⟨25, _⟩ => ⟨S1610x128, .f32⟩
  | .hbm, ⟨26, _⟩ => ⟨S1610x128, .f32⟩
  | .hbm, ⟨27, _⟩ => ⟨S1610x128, .f32⟩
  | .hbm, ⟨28, _⟩ => ⟨S_, .f32⟩
  | .hbm, ⟨29, _⟩ => ⟨S1610x128, .f32⟩
  | .hbm, ⟨30, _⟩ => ⟨S1610x128, .f32⟩
  | .hbm, ⟨31, _⟩ => ⟨S1610x128, .f32⟩
  | .hbm, ⟨32, _⟩ => ⟨S_, .f32⟩
  | .hbm, ⟨33, _⟩ => ⟨S1610x128, .f32⟩
  | .hbm, ⟨34, _⟩ => ⟨S1610x128, .f32⟩
  | .hbm, ⟨35, _⟩ => ⟨S1610x128, .f32⟩
  | .hbm, ⟨36, _⟩ => ⟨S_, .f32⟩
  | .hbm, ⟨37, _⟩ => ⟨S1610x128, .f32⟩
  | .hbm, ⟨38, _⟩ => ⟨S1610x128, .f32⟩
  | _, _ => ⟨S8x1610x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S1x12x1408 : Shape := ⟨3, ![1, 12, 1408]⟩
abbrev S12x1408 : Shape := ⟨2, ![12, 1408]⟩

abbrev nBuf : Space → Nat
  | .hbm => 8
  | .vmem => 8
  | .smem => 0
  | _ => 0

abbrev bufTy : (tb : Table) → Fin (tcTables nBuf tb) → BufTy
  | .hbm, ⟨0, _⟩ => ⟨S1x12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .local _ .vmem, ⟨0, _⟩ => ⟨S1x12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | .local _ .vmem, ⟨7, _⟩ => ⟨S12x1408, .f32⟩
  | _, _ => ⟨S1x12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S12x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S1x12x1408 : Shape := ⟨3, ![1, 12, 1408]⟩
abbrev S12x1408 : Shape := ⟨2, ![12, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S_, .f32⟩
  | .hbm, ⟨5, _⟩ => ⟨S12x1408, .f32⟩
  | .hbm, ⟨6, _⟩ => ⟨S_, .f32⟩
  | .hbm, ⟨7, _⟩ => ⟨S12x1408, .f32⟩
  | .hbm, ⟨8, _⟩ => ⟨S12x1408, .f32⟩
  | .hbm, ⟨9, _⟩ => ⟨S_, .f32⟩
  | .hbm, ⟨10, _⟩ => ⟨S12x1408, .f32⟩
  | .hbm, ⟨11, _⟩ => ⟨S12x1408, .f32⟩
  | .hbm, ⟨12, _⟩ => ⟨S12x1408, .f32⟩
  | .hbm, ⟨13, _⟩ => ⟨S_, .f32⟩
  | .hbm, ⟨14, _⟩ => ⟨S12x1408, .f32⟩
  | .hbm, ⟨15, _⟩ => ⟨S12x1408, .f32⟩
  | .hbm, ⟨16, _⟩ => ⟨S12x1408, .f32⟩
  | .hbm, ⟨17, _⟩ => ⟨S_, .f32⟩
  | .hbm, ⟨18, _⟩ => ⟨S12x1408, .f32⟩
  | .hbm, ⟨19, _⟩ => ⟨S12x1408, .f32⟩
  | .hbm, ⟨20, _⟩ => ⟨S12x1408, .f32⟩
  | .hbm, ⟨21, _⟩ => ⟨S_, .f32⟩
  | .hbm, ⟨22, _⟩ => ⟨S12x1408, .f32⟩
  | .hbm, ⟨23, _⟩ => ⟨S12x1408, .f32⟩
  | .hbm, ⟨24, _⟩ => ⟨S_, .f32⟩
  | .hbm, ⟨25, _⟩ => ⟨S12x1408, .f32⟩
  | .hbm, ⟨26, _⟩ => ⟨S12x1408, .f32⟩
  | .hbm, ⟨27, _⟩ => ⟨S12x1408, .f32⟩
  | .hbm, ⟨28, _⟩ => ⟨S_, .f32⟩
  | .hbm, ⟨29, _⟩ => ⟨S12x1408, .f32⟩
  | .hbm, ⟨30, _⟩ => ⟨S12x1408, .f32⟩
  | .hbm, ⟨31, _⟩ => ⟨S12x1408, .f32⟩
  | .hbm, ⟨32, _⟩ => ⟨S_, .f32⟩
  | .hbm, ⟨33, _⟩ => ⟨S12x1408, .f32⟩
  | .hbm, ⟨34, _⟩ => ⟨S12x1408, .f32⟩
  | .hbm, ⟨35, _⟩ => ⟨S12x1408, .f32⟩
  | .hbm, ⟨36, _⟩ => ⟨S_, .f32⟩
  | .hbm, ⟨37, _⟩ => ⟨S12x1408, .f32⟩
  | .hbm, ⟨38, _⟩ => ⟨S12x1408, .f32⟩
  | _, _ => ⟨S1x12x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Fox.Owns.lean ====
/-
  Loads and stores of a memref that is owned at known contents. A load through a unit-stride rectangle continues at the
  window of the contents; an unmasked store leaves the contents with the payload put over the window
  (`VecWindow.window`, `VecWindow.put`: plain functions of vectors, with no view in them).
-/
module

public import Idealize.ShloMosaic.Lib.VecWindow
public import Idealize.ShloMosaic.Lib.Memref
public import Idealize.ShloMosaic.Lib.Tactic

@[expose] public section

noncomputable section

namespace Cert.Proof.Fox

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Λ : Labels} {defs : Defs nD τ sig Val Λ} (𝒱 : Variants) (c : Thread nD τ) (bd : Option 𝒱.V) (E : Set ℕ)
variable {U : Type} [URA U] {s : Shape} {e : EltTy} {α : Type}

local notation "𝕄" => MT nD τ sig Unit Val ℕ U ℕ

/-- A load of a memref owned at `x` continues at the window of `x` it reads, the memref owned as before. -/
theorem wp_load_owns {cs : CoreSpace} {M : Memref sig c.2.kind cs s e} {off size : Fin s.rank → ℕ} {inb : ∀ a, off a + size a ≤ s.size a}
    {hl : M.view.LoadsAt (Rect.unit off size inb).toLoadRect}
    {k : ((Rect.unit off size inb).shape.Idx → Val e) → Prog (TpuEff nD τ sig Val Λ c.2) α}
    {q : PosShare TreeShare} {x : s.Idx → Val e} {Q : α → sProp 𝕄} :
    (owns c M q x : sProp 𝕄)
      ⊢ iprop((owns c M q x -∗ wp frame (wpE defs 𝒱 c bd) E (k (VecWindow.window x off size inb)) Q)
        -∗ wp frame (wpE defs 𝒱 c bd) E (.op (.load M (Rect.unit off size inb).toLoadRect hl) k) Q) := by
  iintro H Hk
  unfold owns
  icases H with ⟨%f, %hf, H⟩
  subst hf
  iapply (wp_load 𝒱 c bd E (m := M) (View.setOn_subset_set _ _)) $$ H
  iintro H
  rw [View.readAt_unit M.view f inb rfl inb]
  iapply Hk
  iexists f
  isplitr
  · ipureintro; rfl
  · iexact H

/-- A load of a memref owned at `x`, through the rectangle of its own sizes, continues at `x`. -/
theorem wp_load_owns_full {cs : CoreSpace} {M : Memref sig c.2.kind cs s e} {off : Fin s.rank → ℕ} {inb : ∀ a, off a + s.size a ≤ s.size a}
    {hl : M.view.LoadsAt (Rect.unit off s.size inb).toLoadRect}
    {k : ((Rect.unit off s.size inb).shape.Idx → Val e) → Prog (TpuEff nD τ sig Val Λ c.2) α}
    {q : PosShare TreeShare} {x : s.Idx → Val e} {Q : α → sProp 𝕄} :
    (owns c M q x : sProp 𝕄)
      ⊢ iprop((owns c M q x -∗ wp frame (wpE defs 𝒱 c bd) E (k x) Q)
        -∗ wp frame (wpE defs 𝒱 c bd) E (.op (.load M (Rect.unit off s.size inb).toLoadRect hl) k) Q) := by
  iintro H Hk
  unfold owns
  icases H with ⟨%f, %hf, H⟩
  subst hf
  iapply (wp_load 𝒱 c bd E (m := M) (View.setOn_subset_set _ _)) $$ H
  iintro H
  rw [View.readAt_full M.view f inb]
  iapply Hk
  iexists f
  isplitr
  · ipureintro; rfl
  · iexact H

/-- An unmasked store into a memref owned at `x` leaves it owned at `x` with the payload put over the window. -/
theorem wp_store_owns {cs : CoreSpace} {M : Memref sig c.2.kind cs s e} {off size : Fin s.rank → ℕ} {inb : ∀ a, off a + size a ≤ s.size a}
    {w : (Rect.unit off size inb).shape.Idx → Val e} {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {x : s.Idx → Val e} {Q : α → sProp 𝕄} :
    (owns c M fullShare x : sProp 𝕄)
      ⊢ iprop((owns c M fullShare (VecWindow.put x off size w) -∗ wp frame (wpE defs 𝒱 c bd) E (k ⟨⟩) Q)
        -∗ wp frame (wpE defs 𝒱 c bd) E (.op (.store M (Rect.unit off size inb) w Finset.univ hx hm) k) Q) := by
  iintro H Hk
  unfold owns
  icases H with ⟨%f, %hf, H⟩
  subst hf
  iapply (wp_store 𝒱 c bd E (m := M) (r := Rect.unit off size inb) (Mk := Finset.univ) (M.setOn_access_subset _ _)) $$ H
  iintro H
  iapply Hk
  iexists _
  isplitr
  swap
  · iexact H
  ipureintro
  exact View.read_writes_cons_put M.view f inb w [] rfl

/-- An unmasked store of the memref's own sizes leaves it owned at the payload, whatever it held. -/
theorem wp_store_owns_full {cs : CoreSpace} {M : Memref sig c.2.kind cs s e} {off : Fin s.rank → ℕ} {inb : ∀ a, off a + s.size a ≤ s.size a}
    {w : (Rect.unit off s.size inb).shape.Idx → Val e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {x : s.Idx → Val e} {Q : α → sProp 𝕄} :
    (owns c M fullShare x : sProp 𝕄)
      ⊢ iprop((owns c M fullShare w -∗ wp frame (wpE defs 𝒱 c bd) E (k ⟨⟩) Q)
        -∗ wp frame (wpE defs 𝒱 c bd) E (.op (.store M (Rect.unit off s.size inb) w Finset.univ hx hm) k) Q) := by
  iintro H Hk
  unfold owns
  icases H with ⟨%f, %hf, H⟩
  subst hf
  iapply (wp_store 𝒱 c bd E (m := M) (r := Rect.unit off s.size inb) (Mk := Finset.univ) (M.setOn_access_subset _ _)) $$ H
  iintro H
  iapply Hk
  iexists _
  isplitr
  swap
  · iexact H
  ipureintro
  exact View.read_writes_full M.view f inb w []

end Cert.Proof.Fox

end
-- ==== Proof.Fox.WhileI.lean ====
/-
  The kernel's inner loop. It walks the key blocks before the query block downwards, as long as the bound of the next
  block's exponents stays above the level below which a block is skipped. `walk` says what it leaves in the three
  accumulators in memory and in the carried values; `spec_le` proves that the program's loop does that.
-/
module

public import proofs.«01_k».proof.Proof.Gen.KernelIdeal.Launch
public import proofs.«01_k».proof.Proof.Gen.KernelIdeal.Skeleton
public import proofs.«01_k».proof.Proof.Fox.Owns

@[expose] public section

set_option maxRecDepth 16384

noncomputable section

namespace Cert.Proof.FoxI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Fox

variable {F : FTy → Type} [FloatOps F] [Named F]

local notation "𝕄" => MT nD τ sig Unit (Elt F) ℕ (UR sig nD τ) ℕ

/-! ## Blocks of the arrays the kernel holds whole -/

section Blocks
variable {α : Type}

/-- Rows `1024 n …` of a keys-by-columns array. -/
def rows (x : S8192x128.Idx → α) (n : Fin 8) : S1024x128.Idx → α :=
  VecWindow.window x ![n.val * 1024, 0] S1024x128.size (fun a => by fin_cases a <;> simp [S1024x128, S8192x128] <;> omega)
/-- The array with rows `1024 n …` replaced. -/
def putRows (x : S8192x128.Idx → α) (n : Fin 8) (w : S1024x128.Idx → α) : S8192x128.Idx → α :=
  VecWindow.put x ![n.val * 1024, 0] S1024x128.size w
/-- Head `h`'s entries `1024 n …` of a heads-by-keys array. -/
def row (x : S8x8192.Idx → α) (h n : Fin 8) : S1x1024.Idx → α :=
  VecWindow.window x ![h.val, n.val * 1024] S1x1024.size (fun a => by fin_cases a <;> simp [S1x1024, S8x8192] <;> omega)
/-- The array with head `h`'s entries `1024 n …` replaced. -/
def putRow (x : S8x8192.Idx → α) (h n : Fin 8) (w : S1x1024.Idx → α) : S8x8192.Idx → α :=
  VecWindow.put x ![h.val, n.val * 1024] S1x1024.size w

theorem window_rows (x : S8192x128.Idx → α) {off : Fin 2 → ℕ} (n : Fin 8) (h : off = ![n.val * 1024, 0]) (inb) :
    VecWindow.window x off S1024x128.size inb = rows x n := by subst h; rfl
theorem put_rows (x : S8192x128.Idx → α) {off : Fin 2 → ℕ} (n : Fin 8) (h : off = ![n.val * 1024, 0]) (w) :
    VecWindow.put x off S1024x128.size w = putRows x n w := by subst h; rfl
theorem window_row (x : S8x8192.Idx → α) {off : Fin 2 → ℕ} (h n : Fin 8) (e : off = ![h.val, n.val * 1024]) (inb) :
    VecWindow.window x off S1x1024.size inb = row x h n := by subst e; rfl
theorem put_row (x : S8x8192.Idx → α) {off : Fin 2 → ℕ} (h n : Fin 8) (e : off = ![h.val, n.val * 1024]) (w) :
    VecWindow.put x off S1x1024.size w = putRow x h n w := by subst e; rfl

end Blocks

/-- The block before `n` (block 0 before itself). -/
def prev (n : Fin 8) : Fin 8 := ⟨n.val - 1, by omega⟩

/-- The head of a grid point. -/
def head (i : grid0.Coords) : Fin 8 := ⟨(i 0).val, (i 0).isLt⟩
/-- The query block of a grid point. -/
def qblk (i : grid0.Coords) : Fin 8 := ⟨(i 1).val, (i 1).isLt⟩

/-! ## The loop's counter -/

/-- The counter when `n` blocks are left: the index of the next one, −1 when none is. -/
def ctr (n : ℕ) : BitVec 32 := Scalar.subi (BitVec.ofNat 32 n) 1#32

theorem ctr_succ (n : Fin 8) : ctr (n.val + 1) = BitVec.ofNat 32 n.val := by revert n; decide
theorem ctr_sge_zero : Scalar.cmpi .sge (ctr 0) 0#32 = 0#1 := by decide
theorem ofNat_sge (n : Fin 8) : Scalar.cmpi .sge (BitVec.ofNat 32 n.val) 0#32 = 1#1 := by revert n; decide
theorem andi_zero (b : BitVec 1) : Scalar.andi 0#1 b = 0#1 := by revert b; decide
theorem andi_one (b : BitVec 1) : Scalar.andi 1#1 b = b := by revert b; decide

theorem off4_eq (n : Fin 8) : k0_off4 (BitVec.ofNat 32 n.val) = ![n.val * 1024, 0] := by revert n; decide
theorem off5_eq (i : grid0.Coords) (n : Fin 8) : k0_off5 i (BitVec.ofNat 32 n.val) = ![(head i).val, n.val * 1024] := by
  have : ∀ h n : Fin 8, (![(Scalar.indexCast (BitVec.ofNat 32 h.val) : Index).toNat, (k0_off4 (BitVec.ofNat 32 n.val)) 0] : Fin 2 → ℕ)
      = ![h.val, n.val * 1024] := by decide
  exact this (head i) n
theorem off6_eq (i : grid0.Coords) (n : Fin 8) : k0_off6 i (BitVec.ofNat 32 n.val) = ![(head i).val, (prev n).val * 1024] := by
  have : ∀ h n : Fin 8, (![(Scalar.indexCast (BitVec.ofNat 32 h.val) : Index).toNat, (Scalar.indexCast (k0_mult4 (BitVec.ofNat 32 n.val)) : Index).toNat] : Fin 2 → ℕ)
      = ![h.val, (prev n).val * 1024] := by decide
  exact this (head i) n
theorem chk (i : grid0.Coords) (n : Fin 8) : k0_chk1 i (BitVec.ofNat 32 n.val) := by
  refine ⟨?_, ?_, ?_, ?_, ?_⟩
  · revert n; decide
  · rw [off4_eq]; revert n; decide
  · rw [off5_eq]; generalize head i = h; revert h n; decide
  · revert n; decide
  · rw [off6_eq]; generalize head i = h; revert h n; decide

/-! ## What the loop computes -/

/-- What a loop run reads and does not change: keys, values, the summed log gates; the query block's scaled queries,
    its log gates and log-sum-exps, its output gradient, its row sums, and the bound of its exponents. -/
structure Env (F : FTy → Type) where
  k : FVec F S8192x128 .bf16
  v : FVec F S8192x128 .bf16
  g : FVec F S8x8192 .f32
  q : FVec F S1024x128 .bf16
  cq : FVec F S1024x1 .f32
  lse : FVec F S1024x1 .f32
  ct : FVec F S1024x128 .bf16
  rs : FVec F S1024x1 .f32
  top : F .f32
  h : Fin 8

/-- What it changes: the gradients of keys, values and key-side gates, and the carried bound, query gradient and
    query-side gate gradient. -/
structure St (F : FTy → Type) where
  dk : FVec F S8192x128 .f32
  dv : FVec F S8192x128 .f32
  dg : FVec F S8x8192 .f32
  mg : F .f32
  dq : FVec F S1024x128 .f32
  dcq : FVec F S1024x1 .f32

/-- One trip at key block `n`. -/
def step (e : Env F) (n : Fin 8) (s : St F) : St F where
  dk := putRows s.dk n (k0_pay37 e.q e.cq e.lse e.ct e.rs (rows e.k n) (rows e.v n) (row e.g e.h n) (rows s.dk n))
  dv := putRows s.dv n (k0_pay38 e.q e.cq e.lse e.ct (rows e.k n) (row e.g e.h n) (rows s.dv n))
  dg := putRow s.dg e.h n (k0_pay2 (k0_pay39 (row s.dg e.h n))
    (k0_pay40 e.q e.cq e.lse e.ct e.rs (rows e.k n) (rows e.v n) (row e.g e.h n)))
  mg := k0_pay5 e.top (row e.g e.h (prev n))
  dq := k0_pay3 s.dq (k0_pay33 (rows e.k n)) (k0_pay36 e.q e.cq e.lse e.ct e.rs (rows e.k n) (rows e.v n) (row e.g e.h n))
  dcq := k0_pay4 s.dcq (k0_pay35 e.q e.cq e.lse e.ct e.rs (rows e.k n) (rows e.v n) (row e.g e.h n))

/-- The loop goes on at bound `x`: it lies above the level of the skipped blocks. -/
def goesOn (x : F .f32) : Prop := Scalar.cmpf .ogt x (Named.named κ "skip" 0xC2DC0000#32) = 1#1
instance (x : F .f32) : Decidable (goesOn x) := by unfold goesOn; infer_instance

/-- The loop with `n` blocks left. -/
def walk (e : Env F) : (n : ℕ) → n ≤ 8 → St F → St F
  | 0, _, s => s
  | n + 1, h, s => if goesOn s.mg then walk e n (Nat.le_of_succ_le h) (step e ⟨n, h⟩ s) else s

/-! ## The program's loop -/

abbrev 𝒱₀ : Variants := Variants.nat

section Label
variable (c : Dev nD) (i : grid0.Coords) (e : Env F)
variable (m3 : Memref sig .tc .vmem S8192x128 .bf16) (w3 : m3.IsWhole) (m4 : Memref sig .tc .vmem S8192x128 .bf16) (w4 : m4.IsWhole)
variable (m6 : Memref sig .tc .vmem S8x8192 .f32) (w6 : m6.IsWhole) (m11 : Memref sig .tc .vmem S8192x128 .f32) (w11 : m11.IsWhole)
variable (m12 : Memref sig .tc .vmem S8192x128 .f32) (w12 : m12.IsWhole) (m13 : Memref sig .tc .vmem S8x8192 .f32) (w13 : m13.IsWhole)

/-- The six buffers the loop works on, the three it reads and the three it adds to. -/
def held (s : St F) : sProp 𝕄 :=
  iprop(owns (c : Thread nD τ) m3 fullShare e.k ∗ owns (c : Thread nD τ) m4 fullShare e.v ∗ owns (c : Thread nD τ) m6 fullShare e.g
    ∗ owns (c : Thread nD τ) m11 fullShare s.dk ∗ owns (c : Thread nD τ) m12 fullShare s.dv ∗ owns (c : Thread nD τ) m13 fullShare s.dg)

/-- The loop's specification: from the buffers at `s` it returns the carried gradients of `s'` and leaves the buffers at
    `s'`. -/
def spec (s s' : St F) : sWPT 𝕄 (BitVec 32 × F .f32 × FVec F S1024x128 .f32 × FVec F S1024x1 .f32) := do
  sWPT.consume (held c e m3 m4 m6 m11 m12 m13 s)
  let r ← sWPT.arbitrary
  sWPT.assume (r.2.2.1 = s'.dq ∧ r.2.2.2 = s'.dcq)
  sWPT.produce (held c e m3 m4 m6 m11 m12 m13 s')
  pure r

theorem spec_apply (s s' : St F) (K : BitVec 32 × F .f32 × FVec F S1024x128 .f32 × FVec F S1024x1 .f32 → sProp 𝕄) :
    spec c e m3 m4 m6 m11 m12 m13 s s' K
      = iprop(held c e m3 m4 m6 m11 m12 m13 s ∗ ∀ r : BitVec 32 × F .f32 × FVec F S1024x128 .f32 × FVec F S1024x1 .f32,
          ⌜r.2.2.1 = s'.dq ∧ r.2.2.2 = s'.dcq⌝ -∗ (held c e m3 m4 m6 m11 m12 m13 s' -∗ K r)) := rfl

/-- The loop's state on exit: the program returns its carried values, the buffers stay. -/
theorem exit (s : St F) (n : BitVec 32) (E : Set ℕ) (bd) (K : BitVec 32 × F .f32 × FVec F S1024x128 .f32 × FVec F S1024x1 .f32 → sProp 𝕄) :
    spec c e m3 m4 m6 m11 m12 m13 s s K
      ⊢ wp frame (wpE (defs₀ (F := F)) 𝒱₀ (c : Thread nD τ) bd) E (Prog.ret (n, s.mg, s.dq, s.dcq)) K := by
  rw [spec_apply]
  iintro ⟨H, Hk⟩
  rw [wp_ret]; imodintro
  iapply Hk
  · ipureintro; exact ⟨rfl, rfl⟩
  · iexact H

/-- The program's loop with `n` blocks left does what `walk` says. -/
theorem spec_le (he : e.h = head i) (E : Set ℕ) :
    ∀ (n : ℕ) (hn : n ≤ 8) (s : St F) (K : BitVec 32 × F .f32 × FVec F S1024x128 .f32 × FVec F S1024x1 .f32 → sProp 𝕄),
      spec c e m3 m4 m6 m11 m12 m13 s (walk e n hn s) K
      ⊢ wp frame (wpE (defs₀ (F := F)) 𝒱₀ (c : Thread nD τ) (some n)) E
          (defs₀ (F := F) .tc 1 ⟨i, m3, w3, m4, w4, m6, w6, e.q, e.cq, e.lse, e.ct, e.rs, m11, w11, m12, w12, m13, w13, e.top,
            ctr n, s.mg, s.dq, s.dcq⟩) K := by
  intro n
  induction n with
  | zero =>
    intro hn s K
    show _ ⊢ wp frame (wpE (defs₀ (F := F)) 𝒱₀ (c : Thread nD τ) (some 0)) E
      (cc0_while1 i m3 w3 m4 w4 m6 w6 e.q e.cq e.lse e.ct e.rs m11 w11 m12 w12 m13 w13 e.top (ctr 0) s.mg s.dq s.dcq) K
    simp only [cc0_while1_eq_skeleton]; unfold cc0_while1_skel
    simp only [ctr_sge_zero, andi_zero, show ¬(0#1 = 1#1) by decide, ↓reduceIte, Prog.pure_eq_ret]
    exact exit c e m3 m4 m6 m11 m12 m13 s _ E _ K
  | succ n ih =>
    intro hn s K
    have hc : ctr (n + 1) = BitVec.ofNat 32 n := ctr_succ ⟨n, hn⟩
    rw [hc]
    show _ ⊢ wp frame (wpE (defs₀ (F := F)) 𝒱₀ (c : Thread nD τ) (some (n + 1))) E
      (cc0_while1 i m3 w3 m4 w4 m6 w6 e.q e.cq e.lse e.ct e.rs m11 w11 m12 w12 m13 w13 e.top (BitVec.ofNat 32 n) s.mg s.dq s.dcq) K
    simp only [cc0_while1_eq_skeleton]; unfold cc0_while1_skel
    have hs : Scalar.cmpi .sge (BitVec.ofNat 32 n) 0#32 = 1#1 := ofNat_sge ⟨n, hn⟩
    by_cases hg : goesOn s.mg
    · have hg' := hg
      unfold goesOn at hg'
      simp only [hs, andi_one, hg', ↓reduceIte]
      simp only [walk, hg, ↓reduceIte]
      simp only [k0_part4_eq_skeleton]; unfold k0_part4_skel
      simp only [Prog.lift, Prog.bind_op, Prog.bind_ret, Prog.pure_eq_ret]
      rw [spec_apply]; unfold held
      iintro ⟨⟨H3, H4, H6, H11, H12, H13⟩, Hk⟩
      iapply (wp_assume 𝒱₀ (c : Thread nD τ) (some (n + 1)) E (chk i ⟨n, hn⟩))
      iapply (wp_load_owns 𝒱₀ (c : Thread nD τ) (some (n + 1)) E) $$ H3; iintro H3
      iapply (wp_load_owns 𝒱₀ (c : Thread nD τ) (some (n + 1)) E) $$ H4; iintro H4
      iapply (wp_load_owns 𝒱₀ (c : Thread nD τ) (some (n + 1)) E) $$ H6; iintro H6
      iapply (wp_load_owns 𝒱₀ (c : Thread nD τ) (some (n + 1)) E) $$ H11; iintro H11
      iapply (wp_load_owns 𝒱₀ (c : Thread nD τ) (some (n + 1)) E) $$ H11; iintro H11
      iapply (wp_store_owns 𝒱₀ (c : Thread nD τ) (some (n + 1)) E) $$ H11; iintro H11
      iapply (wp_load_owns 𝒱₀ (c : Thread nD τ) (some (n + 1)) E) $$ H12; iintro H12
      iapply (wp_load_owns 𝒱₀ (c : Thread nD τ) (some (n + 1)) E) $$ H12; iintro H12
      iapply (wp_store_owns 𝒱₀ (c : Thread nD τ) (some (n + 1)) E) $$ H12; iintro H12
      iapply (wp_load_owns 𝒱₀ (c : Thread nD τ) (some (n + 1)) E) $$ H13; iintro H13
      iapply (wp_load_owns 𝒱₀ (c : Thread nD τ) (some (n + 1)) E) $$ H13; iintro H13
      iapply (wp_store_owns 𝒱₀ (c : Thread nD τ) (some (n + 1)) E) $$ H13; iintro H13
      iapply (wp_load_owns 𝒱₀ (c : Thread nD τ) (some (n + 1)) E) $$ H6; iintro H6
      have o4 := off4_eq ⟨n, hn⟩
      have o5 := off5_eq i ⟨n, hn⟩
      have o6 := off6_eq i ⟨n, hn⟩
      rw [← he] at o5 o6
      simp only [window_rows _ ⟨n, hn⟩ o4, put_rows _ ⟨n, hn⟩ o4, window_row _ e.h ⟨n, hn⟩ o5, put_row _ e.h ⟨n, hn⟩ o5,
        window_row _ e.h (prev ⟨n, hn⟩) o6]
      iapply (wp_call_spec 𝒱₀ (c : Thread nD τ) (some (n + 1)) E
        (spec c e m3 m4 m6 m11 m12 m13 (step e ⟨n, hn⟩ s) (walk e n (Nat.le_of_succ_le hn) (step e ⟨n, hn⟩ s))) n
        (fun u hu => by cases hu; exact Nat.lt_succ_self n) (ih (Nat.le_of_succ_le hn) (step e ⟨n, hn⟩ s)))
      rw [spec_apply]; unfold held
      isplitl [H3 H4 H6 H11 H12 H13]
      · isplitl [H3]; · iexact H3
        isplitl [H4]; · iexact H4
        isplitl [H6]; · iexact H6
        isplitl [H11]; · iexact H11
        isplitl [H12]; · iexact H12
        iexact H13
      iintro %r %hr H
      rw [wp_ret]; imodintro
      iapply Hk
      · ipureintro; exact hr
      · iexact H
    · have hg' := hg
      unfold goesOn at hg'
      simp only [hs, andi_one, hg', ↓reduceIte, Prog.pure_eq_ret]
      simp only [walk, hg, ↓reduceIte]
      exact exit c e m3 m4 m6 m11 m12 m13 s _ E _ K

end Label

end Cert.Proof.FoxI

end
-- ==== Proof.Fox.LaunchI.lean ====
/-
  The launch of the kernel's region: the host lines before and after it, the arguments they leave alone, the windows'
  blocks, the staging buffers, and the two branch conditions of the body over the grid points.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.FoxI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`). -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch₀0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs (F := F) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs (F := F) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs (F := F) p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg4`: it ends as launched. -/
theorem W_main_arg4 (dats : (p : Fin _) → (c : Dev nD) → Dat τ (Elt F) Unit ℕ (UR sig nD τ) ℕ (cfgs (F := F) p) c) (c : Dev nD) :
    Pipeline.afterTail₀ (cfgs (F := F)) dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is the region's and whose body leaves the block in place. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is the region's and whose body leaves the block in place. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is the region's and whose body leaves the block in place. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is the region's and whose body leaves the block in place. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is the region's and whose body leaves the block in place. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is the region's and whose body leaves the block in place. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is the region's and whose body leaves the block in place. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is the region's and whose body leaves the block in place. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the region's post leaves every argument as launched: a staged one is an input of the region, the others are
    written by no host line. -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c)),
      (((h c).2 main_arg2 (Pipeline.mem_restRefs_of main_arg2 (by decide) (by exact (by decide : ∀ w, Pipeline.arrRef spec0 w ≠ main_arg2)))).trans (W_main_arg2 m dats c)),
      ((h c).1 4).trans (((dats 0 c).arrAt_in 4 rfl _).trans ((hA c 4).trans (V_main_arg3 m c))),
      (((h c).2 main_arg4 (Pipeline.mem_restRefs_of main_arg4 (by decide) (by exact (by decide : ∀ w, Pipeline.arrRef spec0 w ≠ main_arg4)))).trans (W_main_arg4 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin (cfg0 (F := F)).N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- It holds at the first point only — by arithmetic of the point. -/
theorem hcond0_1 : ∀ t : Fin (cfg0 (F := F)).N, cond0_1 (grid0.coords t) ↔ t.val % 64 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 64 = 0)

/-! ## The kernel body on any staging memrefs: a subtype the run finds -/

/-- Each window's current staging memref at point `t`, spelled as the pipeline passes it (`bodyAt0`), and its wholeness. -/
abbrev ms0_0 (t : Fin (cfg0 (F := F)).N) : Memref sig .tc .vmem S1024x128 .bf16 := win0_0.stage ((cfg0 (F := F)).slots t 0)
abbrev hs0_0 (t : Fin (cfg0 (F := F)).N) : (ms0_0 (F := F) t).IsWhole := hstage0_0 (((cfg0 (F := F)).slots t 0).cast nbuf0_0)
abbrev ms0_1 (t : Fin (cfg0 (F := F)).N) : Memref sig .tc .vmem S8192x128 .bf16 := win0_1.stage ((cfg0 (F := F)).slots t 1)
abbrev hs0_1 (t : Fin (cfg0 (F := F)).N) : (ms0_1 (F := F) t).IsWhole := hstage0_1 (((cfg0 (F := F)).slots t 1).cast nbuf0_1)
abbrev ms0_2 (t : Fin (cfg0 (F := F)).N) : Memref sig .tc .vmem S8192x128 .bf16 := win0_2.stage ((cfg0 (F := F)).slots t 2)
abbrev hs0_2 (t : Fin (cfg0 (F := F)).N) : (ms0_2 (F := F) t).IsWhole := hstage0_2 (((cfg0 (F := F)).slots t 2).cast nbuf0_2)
abbrev ms0_3 (t : Fin (cfg0 (F := F)).N) : Memref sig .tc .vmem S1024x128 .f32 := win0_3.stage ((cfg0 (F := F)).slots t 3)
abbrev hs0_3 (t : Fin (cfg0 (F := F)).N) : (ms0_3 (F := F) t).IsWhole := hstage0_3 (((cfg0 (F := F)).slots t 3).cast nbuf0_3)
abbrev ms0_4 (t : Fin (cfg0 (F := F)).N) : Memref sig .tc .vmem S8x8192 .f32 := win0_4.stage ((cfg0 (F := F)).slots t 4)
abbrev hs0_4 (t : Fin (cfg0 (F := F)).N) : (ms0_4 (F := F) t).IsWhole := hstage0_4 (((cfg0 (F := F)).slots t 4).cast nbuf0_4)
abbrev ms0_5 (t : Fin (cfg0 (F := F)).N) : Memref sig .tc .vmem S1024x128 .f32 := win0_5.stage ((cfg0 (F := F)).slots t 5)
abbrev hs0_5 (t : Fin (cfg0 (F := F)).N) : (ms0_5 (F := F) t).IsWhole := hstage0_5 (((cfg0 (F := F)).slots t 5).cast nbuf0_5)
abbrev ms0_6 (t : Fin (cfg0 (F := F)).N) : Memref sig .tc .vmem S1024x128 .f32 := win0_6.stage ((cfg0 (F := F)).slots t 6)
abbrev hs0_6 (t : Fin (cfg0 (F := F)).N) : (ms0_6 (F := F) t).IsWhole := hstage0_6 (((cfg0 (F := F)).slots t 6).cast nbuf0_6)
abbrev ms0_7 (t : Fin (cfg0 (F := F)).N) : Memref sig .tc .vmem S1x1024x1 .f32 := win0_7.stage ((cfg0 (F := F)).slots t 7)
abbrev hs0_7 (t : Fin (cfg0 (F := F)).N) : (ms0_7 (F := F) t).IsWhole := hstage0_7 (((cfg0 (F := F)).slots t 7).cast nbuf0_7)
abbrev ms0_8 (t : Fin (cfg0 (F := F)).N) : Memref sig .tc .vmem S1024x128 .f32 := win0_8.stage ((cfg0 (F := F)).slots t 8)
abbrev hs0_8 (t : Fin (cfg0 (F := F)).N) : (ms0_8 (F := F) t).IsWhole := hstage0_8 (((cfg0 (F := F)).slots t 8).cast nbuf0_8)
abbrev ms0_9 (t : Fin (cfg0 (F := F)).N) : Memref sig .tc .vmem S8192x128 .f32 := win0_9.stage ((cfg0 (F := F)).slots t 9)
abbrev hs0_9 (t : Fin (cfg0 (F := F)).N) : (ms0_9 (F := F) t).IsWhole := hstage0_9 (((cfg0 (F := F)).slots t 9).cast nbuf0_9)
abbrev ms0_10 (t : Fin (cfg0 (F := F)).N) : Memref sig .tc .vmem S8192x128 .f32 := win0_10.stage ((cfg0 (F := F)).slots t 10)
abbrev hs0_10 (t : Fin (cfg0 (F := F)).N) : (ms0_10 (F := F) t).IsWhole := hstage0_10 (((cfg0 (F := F)).slots t 10).cast nbuf0_10)
abbrev ms0_11 (t : Fin (cfg0 (F := F)).N) : Memref sig .tc .vmem S8x8192 .f32 := win0_11.stage ((cfg0 (F := F)).slots t 11)
abbrev hs0_11 (t : Fin (cfg0 (F := F)).N) : (ms0_11 (F := F) t).IsWhole := hstage0_11 (((cfg0 (F := F)).slots t 11).cast nbuf0_11)
abbrev ms0_12 (t : Fin (cfg0 (F := F)).N) : Memref sig .tc .vmem S1x1024x1 .f32 := win0_12.stage ((cfg0 (F := F)).slots t 12)
abbrev hs0_12 (t : Fin (cfg0 (F := F)).N) : (ms0_12 (F := F) t).IsWhole := hstage0_12 (((cfg0 (F := F)).slots t 12).cast nbuf0_12)
/-- The scratch operands: whole scoped buffers of the kernel's own, passed beside the windows. -/
abbrev scM0_0 : Memref sig .tc .vmem S1x1 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.FoxI

end
-- ==== Proof.Fox.BodyI.lean ====
/-
  One grid point of the kernel: what it leaves in its outputs and in the scratch cell (`body`), and the proof that the
  program does so (`body_wp`).
-/
module

public import proofs.«01_k».proof.Proof.Fox.WhileI
public import proofs.«01_k».proof.Proof.Fox.LaunchI

@[expose] public section

set_option maxRecDepth 16384

noncomputable section

namespace Cert.Proof.FoxI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Fox

variable {F : FTy → Type} [FloatOps F] [Named F]

local notation "𝕄" => MT nD τ sig Unit (Elt F) ℕ (UR sig nD τ) ℕ

/-- What a grid point reads: its query block, its head's keys and values, its block of the summed log gates with the
    heads across, all the summed log gates, the block's output, output gradient and log-sum-exps. -/
structure In (F : FTy → Type) where
  q : FVec F S1024x128 .bf16
  k : FVec F S8192x128 .bf16
  v : FVec F S8192x128 .bf16
  cl : FVec F S1024x128 .f32
  g : FVec F S8x8192 .f32
  o : FVec F S1024x128 .f32
  ct : FVec F S1024x128 .f32
  lse : FVec F S1x1024x1 .f32

/-- What it carries from point to point: the gradients of keys, values and key-side gates, and the scratch cell with the
    largest key norm. -/
structure Acc (F : FTy → Type) where
  dk : FVec F S8192x128 .f32
  dv : FVec F S8192x128 .f32
  dg : FVec F S8x8192 .f32
  km : FVec F S1x1 .f32

/-- Row and column numbers of a block of scores. -/
abbrev rowNo : IVec S1024x1024 32 := iota .tc S1024x1024 32 [0] iota_S1024x1024_d0_w32
abbrev colNo : IVec S1024x1024 32 := iota .tc S1024x1024 32 [1] iota_S1024x1024_d1_w32

/-- The carried state once the point has cleared what starts with it. -/
def clear (i : grid0.Coords) (x : In F) (a : Acc F) : Acc F where
  dk := if cond0_0 i then k0_pay6 else a.dk
  dv := if cond0_0 i then k0_pay7 else a.dv
  dg := if cond0_1 i then k0_pay9 else a.dg
  km := if cond0_0 i then k0_pay8 x.k else a.km

/-- What the point's inner loop reads. -/
def env (i : grid0.Coords) (x : In F) (km : FVec F S1x1 .f32) : Env F where
  k := x.k
  v := x.v
  g := x.g
  q := k0_pay10 x.q
  cq := k0_pay15 i x.cl
  lse := k0_pay14 x.lse
  ct := k0_pay12 x.ct
  rs := k0_pay13 x.ct x.o
  top := k0_pay17 (k0_pay14 x.lse) (k0_pay15 i x.cl) km (k0_pay16 x.q)
  h := head i

/-- The block's exponentials on the diagonal block, before the mask. -/
def diagExp (e : Env F) (b : Fin 8) : FVec F S1024x1024 .f32 := k0_pay23 e.q e.lse e.cq (rows e.k b) (row e.g e.h b)

/-- The state once the diagonal block `b` is done. -/
def diag (x : In F) (e : Env F) (b : Fin 8) (a : Acc F) : St F where
  dk := putRows a.dk b (k0_pay27 e.q e.ct e.rs rowNo colNo (k0_pay22 (rows e.v b)) (diagExp e b) (rows a.dk b))
  dv := putRows a.dv b (k0_pay28 e.ct rowNo colNo (diagExp e b) (rows a.dv b))
  dg := putRow a.dg e.h b (k0_pay29 e.ct e.rs rowNo colNo (k0_pay22 (rows e.v b)) (diagExp e b) (row a.dg e.h b))
  mg := k0_pay20 e.lse e.cq a.km (k0_pay16 x.q) (row e.g e.h (prev b))
  dq := k0_pay30 e.ct e.rs rowNo colNo k0_pay18 (k0_pay21 (rows e.k b)) (k0_pay22 (rows e.v b)) (diagExp e b)
  dcq := k0_pay31 e.ct e.rs rowNo colNo k0_pay19 (k0_pay22 (rows e.v b)) (diagExp e b)

/-- The state once the point is done, from the cleared carried state. -/
def point (i : grid0.Coords) (x : In F) (a : Acc F) : St F :=
  walk (env i x a.km) (qblk i).val (qblk i).isLt.le (diag x (env i x a.km) (qblk i) a)

/-- The carried state once the point is done. -/
def next (i : grid0.Coords) (x : In F) (a : Acc F) : Acc F where
  dk := (point i x (clear i x a)).dk
  dv := (point i x (clear i x a)).dv
  dg := (point i x (clear i x a)).dg
  km := (clear i x a).km

/-- The point's two blocks of its own: the queries' gradient and the query-side gates'. -/
def outQ (i : grid0.Coords) (x : In F) (a : Acc F) : FVec F S1024x128 .f32 := k0_pay32 (point i x (clear i x a)).dq
def outG (i : grid0.Coords) (x : In F) (a : Acc F) : FVec F S1x1024x1 .f32 := k0_pay1 (point i x (clear i x a)).dcq

/-! ## The offsets of the blocks -/

theorem off1_eq (i : grid0.Coords) : k0_off1 i = ![(head i).val, (prev (qblk i)).val * 1024] := by
  have : ∀ h n : Fin 8, (![(Scalar.indexCast (BitVec.ofNat 32 h.val) : Index).toNat,
      (Scalar.indexCast (Scalar.muli (Scalar.maxsi (Scalar.subi (BitVec.ofNat 32 n.val) 1#32) 0#32) 1024#32) : Index).toNat] : Fin 2 → ℕ)
      = ![h.val, (prev n).val * 1024] := by decide
  exact this (head i) (qblk i)
theorem off2_eq (i : grid0.Coords) : k0_off2 i = ![(qblk i).val * 1024, 0] := by
  have : ∀ n : Fin 8, (![(Scalar.indexCast (Scalar.muli (BitVec.ofNat 32 n.val) 1024#32) : Index).toNat, 0] : Fin 2 → ℕ)
      = ![n.val * 1024, 0] := by decide
  exact this (qblk i)
theorem off3_eq (i : grid0.Coords) : k0_off3 i = ![(head i).val, (qblk i).val * 1024] := by
  have : ∀ h n : Fin 8, (![(Scalar.indexCast (BitVec.ofNat 32 h.val) : Index).toNat,
      (Scalar.indexCast (Scalar.muli (BitVec.ofNat 32 n.val) 1024#32) : Index).toNat] : Fin 2 → ℕ) = ![h.val, n.val * 1024] := by decide
  exact this (head i) (qblk i)

/-! ## The program -/

section Body
variable (c : Dev nD) (i : grid0.Coords) (x : In F)
variable (m2 : Memref sig .tc .vmem S1024x128 .bf16) (w2 : m2.IsWhole)
variable (m3 : Memref sig .tc .vmem S8192x128 .bf16) (w3 : m3.IsWhole)
variable (m4 : Memref sig .tc .vmem S8192x128 .bf16) (w4 : m4.IsWhole)
variable (m5 : Memref sig .tc .vmem S1024x128 .f32) (w5 : m5.IsWhole)
variable (m6 : Memref sig .tc .vmem S8x8192 .f32) (w6 : m6.IsWhole)
variable (m7 : Memref sig .tc .vmem S1024x128 .f32) (w7 : m7.IsWhole)
variable (m8 : Memref sig .tc .vmem S1024x128 .f32) (w8 : m8.IsWhole)
variable (m9 : Memref sig .tc .vmem S1x1024x1 .f32) (w9 : m9.IsWhole)
variable (m10 : Memref sig .tc .vmem S1024x128 .f32) (w10 : m10.IsWhole)
variable (m11 : Memref sig .tc .vmem S8192x128 .f32) (w11 : m11.IsWhole)
variable (m12 : Memref sig .tc .vmem S8192x128 .f32) (w12 : m12.IsWhole)
variable (m13 : Memref sig .tc .vmem S8x8192 .f32) (w13 : m13.IsWhole)
variable (m14 : Memref sig .tc .vmem S1x1024x1 .f32) (w14 : m14.IsWhole)
variable (m15 : Memref sig .tc .vmem S1x1 .f32) (w15 : m15.IsWhole)

/-- The eight inputs' buffers. -/
def inOwns : sProp 𝕄 :=
  iprop(owns (c : Thread nD τ) m2 fullShare x.q
    ∗ owns (c : Thread nD τ) m3 fullShare x.k
    ∗ owns (c : Thread nD τ) m4 fullShare x.v
    ∗ owns (c : Thread nD τ) m5 fullShare x.cl
    ∗ owns (c : Thread nD τ) m6 fullShare x.g
    ∗ owns (c : Thread nD τ) m7 fullShare x.o
    ∗ owns (c : Thread nD τ) m8 fullShare x.ct
    ∗ owns (c : Thread nD τ) m9 fullShare x.lse)

/-- The carried state's buffers. -/
def accOwns (a : Acc F) : sProp 𝕄 :=
  iprop(owns (c : Thread nD τ) m11 fullShare a.dk ∗ owns (c : Thread nD τ) m12 fullShare a.dv
    ∗ owns (c : Thread nD τ) m13 fullShare a.dg ∗ owns (c : Thread nD τ) m15 fullShare a.km)

set_option maxHeartbeats 1600000 in
/-- The body's first part clears what starts with the point and hands on what the rest needs. -/
theorem part1_wp (a : Acc F) (K : _ → sProp 𝕄) :
    iprop(inOwns c x m2 m3 m4 m5 m6 m7 m8 m9 ∗ accOwns c m11 m12 m13 m15 a
      ∗ (iprop(inOwns c x m2 m3 m4 m5 m6 m7 m8 m9 ∗ accOwns c m11 m12 m13 m15 (clear i x a))
          -∗ K ⟨BitVec.ofNat 32 (i 0).val, BitVec.ofNat 32 (i 1).val, k0_pay10 x.q, k0_pay12 x.ct, k0_pay13 x.ct x.o, k0_pay14 x.lse,
            k0_pay15 i x.cl, rowNo, colNo, (clear i x a).km, k0_pay16 x.q⟩))
      ⊢ wp frame (wpE (defs₀ (F := F)) 𝒱₀ (c : Thread nD τ) none) Set.univ (k0_part1 i m2 w2 m3 w3 m4 w4 m5 w5 m6 w6 m7 w7 m8 w8 m9 w9 m10 w10 m11 w11 m12 w12 m13 w13 m14 w14 m15 w15) K := by
  simp only [k0_part1_eq_skeleton]; unfold k0_part1_skel
  unfold inOwns accOwns
  iintro ⟨⟨H2, H3, H4, H5, H6, H7, H8, H9⟩, ⟨H11, H12, H13, H15⟩, Hk⟩
  by_cases h0 : cond0_0 i
  · have e0 := h0
    unfold cond0_0 at e0
    simp only [e0, ↓reduceDIte]
    simp only [Prog.lift, Prog.bind_op, Prog.bind_ret, Prog.pure_eq_ret]
    iapply (wp_load_owns_full 𝒱₀ (c : Thread nD τ) none Set.univ) $$ H11; iintro H11
    iapply (wp_store_owns_full 𝒱₀ (c : Thread nD τ) none Set.univ) $$ H11; iintro H11
    iapply (wp_load_owns_full 𝒱₀ (c : Thread nD τ) none Set.univ) $$ H12; iintro H12
    iapply (wp_store_owns_full 𝒱₀ (c : Thread nD τ) none Set.univ) $$ H12; iintro H12
    iapply (wp_load_owns_full 𝒱₀ (c : Thread nD τ) none Set.univ) $$ H3; iintro H3
    iapply (wp_load_owns_full 𝒱₀ (c : Thread nD τ) none Set.univ) $$ H15; iintro H15
    iapply (wp_store_owns_full 𝒱₀ (c : Thread nD τ) none Set.univ) $$ H15; iintro H15
    by_cases h1 : cond0_1 i
    · have e1 := h1
      rw [dif_pos e1]
      iapply (wp_load_owns_full 𝒱₀ (c : Thread nD τ) none Set.univ) $$ H13; iintro H13
      iapply (wp_store_owns_full 𝒱₀ (c : Thread nD τ) none Set.univ) $$ H13; iintro H13
      iapply (wp_load_owns_full 𝒱₀ (c : Thread nD τ) none Set.univ) $$ H2; iintro H2
      iapply (wp_load_owns_full 𝒱₀ (c : Thread nD τ) none Set.univ) $$ H8; iintro H8
      iapply (wp_load_owns_full 𝒱₀ (c : Thread nD τ) none Set.univ) $$ H7; iintro H7
      iapply (wp_load_owns_full 𝒱₀ (c : Thread nD τ) none Set.univ) $$ H9; iintro H9
      iapply (wp_load_owns_full 𝒱₀ (c : Thread nD τ) none Set.univ) $$ H5; iintro H5
      iapply (wp_load_owns_full 𝒱₀ (c : Thread nD τ) none Set.univ) $$ H15; iintro H15
      rw [wp_ret]; imodintro
      rw [show clear i x a = ⟨k0_pay6, k0_pay7, k0_pay9, k0_pay8 x.k⟩ by unfold clear; rw [if_pos h0, if_pos h0, if_pos h0, if_pos h1]]
      iapply Hk
      isplitl [H2 H3 H4 H5 H6 H7 H8 H9]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H11]; · iexact H11
      isplitl [H12]; · iexact H12
      isplitl [H13]; · iexact H13
      iexact H15
    · have e1 := h1
      rw [dif_neg e1]
      iapply (wp_load_owns_full 𝒱₀ (c : Thread nD τ) none Set.univ) $$ H2; iintro H2
      iapply (wp_load_owns_full 𝒱₀ (c : Thread nD τ) none Set.univ) $$ H8; iintro H8
      iapply (wp_load_owns_full 𝒱₀ (c : Thread nD τ) none Set.univ) $$ H7; iintro H7
      iapply (wp_load_owns_full 𝒱₀ (c : Thread nD τ) none Set.univ) $$ H9; iintro H9
      iapply (wp_load_owns_full 𝒱₀ (c : Thread nD τ) none Set.univ) $$ H5; iintro H5
      iapply (wp_load_owns_full 𝒱₀ (c : Thread nD τ) none Set.univ) $$ H15; iintro H15
      rw [wp_ret]; imodintro
      rw [show clear i x a = ⟨k0_pay6, k0_pay7, a.dg, k0_pay8 x.k⟩ by unfold clear; rw [if_pos h0, if_pos h0, if_pos h0, if_neg h1]]
      iapply Hk
      isplitl [H2 H3 H4 H5 H6 H7 H8 H9]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H11]; · iexact H11
      isplitl [H12]; · iexact H12
      isplitl [H13]; · iexact H13
      iexact H15
  · have e0 := h0
    unfold cond0_0 at e0
    simp only [e0, ↓reduceDIte]
    simp only [Prog.lift, Prog.bind_op, Prog.bind_ret, Prog.pure_eq_ret]
    by_cases h1 : cond0_1 i
    · have e1 := h1
      rw [dif_pos e1]
      iapply (wp_load_owns_full 𝒱₀ (c : Thread nD τ) none Set.univ) $$ H13; iintro H13
      iapply (wp_store_owns_full 𝒱₀ (c : Thread nD τ) none Set.univ) $$ H13; iintro H13
      iapply (wp_load_owns_full 𝒱₀ (c : Thread nD τ) none Set.univ) $$ H2; iintro H2
      iapply (wp_load_owns_full 𝒱₀ (c : Thread nD τ) none Set.univ) $$ H8; iintro H8
      iapply (wp_load_owns_full 𝒱₀ (c : Thread nD τ) none Set.univ) $$ H7; iintro H7
      iapply (wp_load_owns_full 𝒱₀ (c : Thread nD τ) none Set.univ) $$ H9; iintro H9
      iapply (wp_load_owns_full 𝒱₀ (c : Thread nD τ) none Set.univ) $$ H5; iintro H5
      iapply (wp_load_owns_full 𝒱₀ (c : Thread nD τ) none Set.univ) $$ H15; iintro H15
      rw [wp_ret]; imodintro
      rw [show clear i x a = ⟨a.dk, a.dv, k0_pay9, a.km⟩ by unfold clear; rw [if_neg h0, if_neg h0, if_neg h0, if_pos h1]]
      iapply Hk
      isplitl [H2 H3 H4 H5 H6 H7 H8 H9]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H11]; · iexact H11
      isplitl [H12]; · iexact H12
      isplitl [H13]; · iexact H13
      iexact H15
    · have e1 := h1
      rw [dif_neg e1]
      iapply (wp_load_owns_full 𝒱₀ (c : Thread nD τ) none Set.univ) $$ H2; iintro H2
      iapply (wp_load_owns_full 𝒱₀ (c : Thread nD τ) none Set.univ) $$ H8; iintro H8
      iapply (wp_load_owns_full 𝒱₀ (c : Thread nD τ) none Set.univ) $$ H7; iintro H7
      iapply (wp_load_owns_full 𝒱₀ (c : Thread nD τ) none Set.univ) $$ H9; iintro H9
      iapply (wp_load_owns_full 𝒱₀ (c : Thread nD τ) none Set.univ) $$ H5; iintro H5
      iapply (wp_load_owns_full 𝒱₀ (c : Thread nD τ) none Set.univ) $$ H15; iintro H15
      rw [wp_ret]; imodintro
      rw [show clear i x a = a by unfold clear; rw [if_neg h0, if_neg h0, if_neg h0, if_neg h1]]
      iapply Hk
      isplitl [H2 H3 H4 H5 H6 H7 H8 H9]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H11]; · iexact H11
      isplitl [H12]; · iexact H12
      isplitl [H13]; · iexact H13
      iexact H15

/-- The second part reads the diagonal block. -/
theorem part2_wp (km : FVec F S1x1 .f32) (K : _ → sProp 𝕄) :
    iprop(inOwns c x m2 m3 m4 m5 m6 m7 m8 m9
      ∗ (inOwns c x m2 m3 m4 m5 m6 m7 m8 m9
          -∗ K ⟨k0_pay17 (k0_pay14 x.lse) (k0_pay15 i x.cl) km (k0_pay16 x.q), k0_pay18, k0_pay19, Scalar.subi (BitVec.ofNat 32 (i 1).val) 1#32,
            k0_pay20 (k0_pay14 x.lse) (k0_pay15 i x.cl) km (k0_pay16 x.q) (row x.g (head i) (prev (qblk i))),
            Scalar.muli (BitVec.ofNat 32 (i 1).val) 1024#32, k0_pay21 (rows x.k (qblk i)), k0_pay22 (rows x.v (qblk i)),
            k0_pay23 (k0_pay10 x.q) (k0_pay14 x.lse) (k0_pay15 i x.cl) (rows x.k (qblk i)) (row x.g (head i) (qblk i))⟩))
      ⊢ wp frame (wpE (defs₀ (F := F)) 𝒱₀ (c : Thread nD τ) none) Set.univ (k0_part2 i m2 w2 m3 w3 m4 w4 m5 w5 m6 w6 m7 w7 m8 w8 m9 w9 m10 w10 m11 w11 m12 w12 m13 w13 m14 w14 m15 w15 (BitVec.ofNat 32 (i 0).val) (BitVec.ofNat 32 (i 1).val)
          (k0_pay10 x.q) (k0_pay14 x.lse) (k0_pay15 i x.cl) km (k0_pay16 x.q)) K := by
  simp only [k0_part2_eq_skeleton]; unfold k0_part2_skel
  unfold inOwns
  iintro ⟨⟨H2, H3, H4, H5, H6, H7, H8, H9⟩, Hk⟩
  simp only [Prog.lift, Prog.bind_op, Prog.bind_ret, Prog.pure_eq_ret]
  iapply (wp_load_owns 𝒱₀ (c : Thread nD τ) none Set.univ) $$ H6; iintro H6
  iapply (wp_load_owns 𝒱₀ (c : Thread nD τ) none Set.univ) $$ H3; iintro H3
  iapply (wp_load_owns 𝒱₀ (c : Thread nD τ) none Set.univ) $$ H4; iintro H4
  iapply (wp_load_owns 𝒱₀ (c : Thread nD τ) none Set.univ) $$ H6; iintro H6
  simp only [window_rows _ (qblk i) (off2_eq i), window_row _ (head i) (qblk i) (off3_eq i), window_row _ (head i) (prev (qblk i)) (off1_eq i)]
  rw [wp_ret]; imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The third part adds the diagonal block's share, runs the loop and writes the queries' gradient. -/
theorem part3_wp (a : Acc F) (z : FVec F S1024x128 .f32) (K : _ → sProp 𝕄) :
    iprop(inOwns c x m2 m3 m4 m5 m6 m7 m8 m9 ∗ accOwns c m11 m12 m13 m15 a ∗ owns (c : Thread nD τ) m10 fullShare z
      ∗ (iprop(inOwns c x m2 m3 m4 m5 m6 m7 m8 m9
            ∗ accOwns c m11 m12 m13 m15 ⟨(point i x a).dk, (point i x a).dv, (point i x a).dg, a.km⟩
            ∗ owns (c : Thread nD τ) m10 fullShare (k0_pay32 (point i x a).dq))
          -∗ K (point i x a).dcq))
      ⊢ wp frame (wpE (defs₀ (F := F)) 𝒱₀ (c : Thread nD τ) none) Set.univ (k0_part3 i m2 w2 m3 w3 m4 w4 m5 w5 m6 w6 m7 w7 m8 w8 m9 w9 m10 w10 m11 w11 m12 w12 m13 w13 m14 w14 m15 w15 (BitVec.ofNat 32 (i 0).val)
          (k0_pay10 x.q) (k0_pay12 x.ct) (k0_pay13 x.ct x.o) (k0_pay14 x.lse) (k0_pay15 i x.cl) rowNo colNo
          (k0_pay17 (k0_pay14 x.lse) (k0_pay15 i x.cl) a.km (k0_pay16 x.q)) k0_pay18 k0_pay19 (Scalar.subi (BitVec.ofNat 32 (i 1).val) 1#32)
          (k0_pay20 (k0_pay14 x.lse) (k0_pay15 i x.cl) a.km (k0_pay16 x.q) (row x.g (head i) (prev (qblk i))))
          (Scalar.muli (BitVec.ofNat 32 (i 1).val) 1024#32) (k0_pay21 (rows x.k (qblk i))) (k0_pay22 (rows x.v (qblk i)))
          (k0_pay23 (k0_pay10 x.q) (k0_pay14 x.lse) (k0_pay15 i x.cl) (rows x.k (qblk i)) (row x.g (head i) (qblk i)))) K := by
  simp only [k0_part3_eq_skeleton]; unfold k0_part3_skel
  unfold inOwns accOwns
  iintro ⟨⟨H2, H3, H4, H5, H6, H7, H8, H9⟩, ⟨H11, H12, H13, H15⟩, H10, Hk⟩
  simp only [Prog.lift, Prog.bind_op, Prog.bind_ret, Prog.pure_eq_ret]
  iapply (wp_load_owns 𝒱₀ (c : Thread nD τ) none Set.univ) $$ H11; iintro H11
  iapply (wp_load_owns 𝒱₀ (c : Thread nD τ) none Set.univ) $$ H11; iintro H11
  iapply (wp_store_owns 𝒱₀ (c : Thread nD τ) none Set.univ) $$ H11; iintro H11
  iapply (wp_load_owns 𝒱₀ (c : Thread nD τ) none Set.univ) $$ H12; iintro H12
  iapply (wp_load_owns 𝒱₀ (c : Thread nD τ) none Set.univ) $$ H12; iintro H12
  iapply (wp_store_owns 𝒱₀ (c : Thread nD τ) none Set.univ) $$ H12; iintro H12
  iapply (wp_load_owns 𝒱₀ (c : Thread nD τ) none Set.univ) $$ H13; iintro H13
  iapply (wp_load_owns 𝒱₀ (c : Thread nD τ) none Set.univ) $$ H13; iintro H13
  iapply (wp_store_owns 𝒱₀ (c : Thread nD τ) none Set.univ) $$ H13; iintro H13
  simp only [window_rows _ (qblk i) (off2_eq i), put_rows _ (qblk i) (off2_eq i), window_row _ (head i) (qblk i) (off3_eq i),
    put_row _ (head i) (qblk i) (off3_eq i)]
  iapply (wp_call_spec 𝒱₀ (c : Thread nD τ) none Set.univ (spec c (env i x a.km) m3 m4 m6 m11 m12 m13 (diag x (env i x a.km) (qblk i) a) (point i x a)) (qblk i).val
    (fun u hu => nomatch hu) (spec_le c i (env i x a.km) m3 w3 m4 w4 m6 w6 m11 w11 m12 w12 m13 w13 rfl Set.univ (qblk i).val (qblk i).isLt.le
      (diag x (env i x a.km) (qblk i) a)))
  rw [spec_apply]; unfold held
  isplitl [H3 H4 H6 H11 H12 H13]
  · isplitl [H3]; · iexact H3
    isplitl [H4]; · iexact H4
    isplitl [H6]; · iexact H6
    isplitl [H11]; · iexact H11
    isplitl [H12]; · iexact H12
    iexact H13
  iintro %r %hr ⟨H3, H4, H6, H11, H12, H13⟩
  obtain ⟨n, g, dq, dg⟩ := r
  obtain ⟨rfl, rfl⟩ := hr
  iapply (wp_load_owns_full 𝒱₀ (c : Thread nD τ) none Set.univ) $$ H10; iintro H10
  iapply (wp_store_owns_full 𝒱₀ (c : Thread nD τ) none Set.univ) $$ H10; iintro H10
  rw [wp_ret]; imodintro
  iapply Hk
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H11 H12 H13 H15]
  · isplitl [H11]; · iexact H11
    isplitl [H12]; · iexact H12
    isplitl [H13]; · iexact H13
    iexact H15
  iexact H10

/-- The whole body at a grid point. -/
theorem body_wp (a : Acc F) (z : FVec F S1024x128 .f32) (z' : FVec F S1x1024x1 .f32) (K : PUnit → sProp 𝕄) :
    iprop(inOwns c x m2 m3 m4 m5 m6 m7 m8 m9 ∗ accOwns c m11 m12 m13 m15 a ∗ owns (c : Thread nD τ) m10 fullShare z ∗ owns (c : Thread nD τ) m14 fullShare z'
      ∗ (iprop(inOwns c x m2 m3 m4 m5 m6 m7 m8 m9 ∗ accOwns c m11 m12 m13 m15 (next i x a)
            ∗ owns (c : Thread nD τ) m10 fullShare (outQ i x a) ∗ owns (c : Thread nD τ) m14 fullShare (outG i x a))
          -∗ K ⟨⟩))
      ⊢ wp frame (wpE (defs₀ (F := F)) 𝒱₀ (c : Thread nD τ) none) Set.univ (cc0_d_fox i m2 w2 m3 w3 m4 w4 m5 w5 m6 w6 m7 w7 m8 w8 m9 w9 m10 w10 m11 w11 m12 w12 m13 w13 m14 w14 m15 w15) K := by
  simp only [cc0_d_fox_eq_skeleton]; unfold cc0_d_fox_skel
  iintro ⟨HI, HA, H10, H14, Hk⟩
  rw [wp_bind]
  iapply (part1_wp c i x m2 w2 m3 w3 m4 w4 m5 w5 m6 w6 m7 w7 m8 w8 m9 w9 m10 w10 m11 w11 m12 w12 m13 w13 m14 w14 m15 w15 a)
  isplitl [HI]; · iexact HI
  isplitl [HA]; · iexact HA
  iintro ⟨HI, HA⟩
  dsimp only
  rw [wp_bind]
  iapply (part2_wp c i x m2 w2 m3 w3 m4 w4 m5 w5 m6 w6 m7 w7 m8 w8 m9 w9 m10 w10 m11 w11 m12 w12 m13 w13 m14 w14 m15 w15 (clear i x a).km)
  isplitl [HI]; · iexact HI
  iintro HI
  dsimp only
  rw [wp_bind]
  iapply (part3_wp c i x m2 w2 m3 w3 m4 w4 m5 w5 m6 w6 m7 w7 m8 w8 m9 w9 m10 w10 m11 w11 m12 w12 m13 w13 m14 w14 m15 w15 (clear i x a) z)
  isplitl [HI]; · iexact HI
  isplitl [HA]; · iexact HA
  isplitl [H10]; · iexact H10
  iintro ⟨HI, HA, H10⟩
  simp only [Prog.lift, Prog.bind_op, Prog.bind_ret, Prog.pure_eq_ret]
  iapply (wp_load_owns_full 𝒱₀ (c : Thread nD τ) none Set.univ) $$ H14; iintro H14
  iapply (wp_store_owns_full 𝒱₀ (c : Thread nD τ) none Set.univ) $$ H14; iintro H14
  rw [wp_ret]; imodintro
  iapply Hk
  isplitl [HI]; · iexact HI
  isplitl [HA]; · iexact HA
  isplitl [H10]; · iexact H10
  iexact H14

end Body

end Cert.Proof.FoxI

end
-- ==== Proof.Fox.Math.lean ====
/-
  The mathematics of the gradient of forgetting attention, over the reals, with natural numbers as indices: a head `h`,
  a query `i`, a key `j`, a component `d`. `P` is the softmax weight of the key at the query, `DS` the gradient of the
  logit; `DQ`, `DK`, `DV`, `DC` are the four gradients.
-/
module

public import Mathlib.Analysis.SpecialFunctions.Log.Basic
public import Mathlib.Analysis.SpecialFunctions.Exp
public import Mathlib.Data.EReal.Inv
public import Idealize.ShloMosaic.PureOps.Ideal
public import Idealize.ShloMosaic.PureOps.Ideal.Laws

@[expose] public section

noncomputable section

open scoped BigOperators
open Finset (range sum_congr mem_range)

namespace Cert.Proof.FoxV

/-- The arguments over the reals: the scale of the logits, queries, keys, values, summed log gates and the output's gradient. -/
structure Data where
  σ : ℝ
  q : ℕ → ℕ → ℕ → ℝ
  k : ℕ → ℕ → ℕ → ℝ
  v : ℕ → ℕ → ℕ → ℝ
  c : ℕ → ℕ → ℝ
  t : ℕ → ℕ → ℕ → ℝ

namespace Data

variable (A : Data) (h i j d : ℕ)

/-- The logit. -/
def S : ℝ := (∑ d ∈ range 128, A.q h i d * A.k h j d) * A.σ + A.c h i - A.c h j
/-- The exponential of a logit below the diagonal, shifted by `m`; zero above it. -/
def E (m : ℝ) : ℝ := if j ≤ i then Real.exp (A.S h i j - m) else 0
/-- The sum of a query's exponentials. -/
def L : ℝ := ∑ j ∈ range 8192, A.E h i j 0
/-- The logarithm of that sum. -/
def LSE : ℝ := Real.log (A.L h i)
/-- The softmax weight. -/
def P : ℝ := A.E h i j 0 / A.L h i
/-- The attention's output. -/
def O : ℝ := ∑ j ∈ range 8192, A.P h i j * A.v h j d
/-- The gradient of the weight. -/
def DP : ℝ := ∑ d ∈ range 128, A.t h i d * A.v h j d
/-- The row's sum of gradient times output. -/
def DSUM : ℝ := ∑ d ∈ range 128, A.t h i d * A.O h i d
/-- The gradient of the logit. -/
def DS : ℝ := A.P h i j * (A.DP h i j - A.DSUM h i)
/-- The gradient of the queries. -/
def DQ : ℝ := (∑ j ∈ range 8192, A.DS h i j * A.k h j d) * A.σ
/-- The gradient of the keys. -/
def DK : ℝ := ∑ i ∈ range 8192, A.DS h i j * (A.q h i d * A.σ)
/-- The gradient of the values. -/
def DV : ℝ := ∑ i ∈ range 8192, A.P h i j * A.t h i d
/-- The gradient of the summed log gates. -/
def DC : ℝ := -(∑ i' ∈ range 8192, A.DS h i' i) + ∑ j ∈ range 8192, A.DS h i j

variable {h i j d}

theorem E_nonneg (m : ℝ) : 0 ≤ A.E h i j m := by
  unfold E; split
  · exact (Real.exp_pos _).le
  · exact le_rfl

theorem E_shift (m : ℝ) : A.E h i j m = Real.exp (-m) * A.E h i j 0 := by
  unfold E; split
  · rw [← Real.exp_add]; congr 1; ring
  · rw [mul_zero]

theorem sum_E_shift (m : ℝ) : ∑ j ∈ range 8192, A.E h i j m = Real.exp (-m) * A.L h i := by
  unfold L; rw [Finset.mul_sum]; exact sum_congr rfl fun j _ => A.E_shift m

theorem L_pos (hi : i < 8192) : 0 < A.L h i := by
  refine Finset.sum_pos' (fun j _ => A.E_nonneg 0) ⟨i, mem_range.2 hi, ?_⟩
  unfold E; rw [if_pos le_rfl]; exact Real.exp_pos _

theorem sum_E_pos (hi : i < 8192) (m : ℝ) : 0 < ∑ j ∈ range 8192, A.E h i j m := by
  rw [sum_E_shift]; exact mul_pos (Real.exp_pos _) (A.L_pos hi)

/-- The weight does not depend on the shift. -/
theorem E_div (hi : i < 8192) (m : ℝ) : A.E h i j m / ∑ j ∈ range 8192, A.E h i j m = A.P h i j := by
  rw [sum_E_shift, E_shift]; unfold P
  rw [mul_div_mul_left _ _ (Real.exp_pos _).ne']

theorem P_eq_zero (hj : i < j) : A.P h i j = 0 := by
  unfold P E; rw [if_neg (by omega), zero_div]

theorem DS_eq_zero (hj : i < j) : A.DS h i j = 0 := by
  unfold DS; rw [A.P_eq_zero hj, zero_mul]

/-- The weight as the kernel computes it, the logarithm of the sum subtracted in the exponent. -/
theorem exp_sub_lse (hi : i < 8192) (hj : j ≤ i) : Real.exp (A.S h i j - A.LSE h i) = A.P h i j := by
  unfold LSE P E; rw [if_pos hj, Real.exp_sub, Real.exp_log (A.L_pos hi), sub_zero]

/-- The logarithm of the sum does not depend on the shift. -/
theorem lse_shift (hi : i < 8192) (m : ℝ) : m + Real.log (∑ j ∈ range 8192, A.E h i j m) = A.LSE h i := by
  rw [sum_E_shift, Real.log_mul (Real.exp_pos _).ne' (A.L_pos hi).ne', Real.log_exp]; unfold LSE; ring

theorem dsum_eq : A.DSUM h i = ∑ j ∈ range 8192, A.P h i j * A.DP h i j := by
  unfold DSUM O DP
  simp only [Finset.mul_sum]
  rw [Finset.sum_comm]
  refine sum_congr rfl fun j _ => sum_congr rfl fun d _ => by ring

/-- The gradient of the logit as the derivative of the softmax prints it: through the exponentials and their sum `l`. -/
theorem ds_shift (hi : i < 8192) (m l : ℝ) (hl : l = ∑ j ∈ range 8192, A.E h i j m) :
    (A.DP h i j / l + -(∑ j' ∈ range 8192, A.DP h i j' * (1 / (l * l)) * A.E h i j' m)) * A.E h i j m = A.DS h i j := by
  have hl0 : l ≠ 0 := by rw [hl]; exact (A.sum_E_pos hi m).ne'
  have hP : ∀ j', A.E h i j' m = A.P h i j' * l := fun j' => by
    rw [← A.E_div hi m, ← hl, div_mul_cancel₀ _ hl0]
  have hs : ∑ j' ∈ range 8192, A.DP h i j' * (1 / (l * l)) * A.E h i j' m = A.DSUM h i / l := by
    rw [dsum_eq, Finset.sum_div]
    refine sum_congr rfl fun j' _ => ?_
    rw [hP]; field_simp
  rw [hs, hP]; unfold DS; field_simp; ring

/-- A sum whose terms from `n` on vanish. -/
theorem sum_range_of_zero (f : ℕ → ℝ) {n N : ℕ} (hn : n ≤ N) (hz : ∀ x, n ≤ x → f x = 0) :
    ∑ x ∈ range N, f x = ∑ x ∈ range n, f x := by
  symm
  exact Finset.sum_subset (Finset.range_subset_range.2 hn) fun x _ hx => hz x (by rw [mem_range] at hx; omega)

end Data

/-! ## From the extended reals -/

theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A sum of reals over `Fin n` is the real sum over the first `n` natural numbers. -/
theorem sum_fin {n : ℕ} (F : Fin n → EReal) (f : ℕ → ℝ) (hF : ∀ k : Fin n, F k = (f k.val : EReal)) :
    ∑ k : Fin n, F k = ((∑ k ∈ range n, f k : ℝ) : EReal) := by
  rw [coe_sum, Finset.sum_range]; exact sum_congr rfl fun k _ => hF k

open Idealize.ShloMosaic

theorem exp_coe (r : ℝ) : Ideal.exp (r : EReal) = ((Real.exp r : ℝ) : EReal) := rfl
theorem exp_bot : Ideal.exp ⊥ = ((0 : ℝ) : EReal) := rfl
theorem log_coe {r : ℝ} (hr : 0 < r) : Ideal.log (r : EReal) = ((Real.log r : ℝ) : EReal) := by
  show (if r ≤ 0 then (⊥ : EReal) else _) = _
  rw [if_neg (not_le.2 hr)]
theorem div_coe_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A fold of `max` from the bottom, over values not all the bottom and none the top, is a real. -/
theorem fold_max_real {ι : Type*} (s : Finset ι) (f : ι → EReal) (x : ι) (hx : x ∈ s) (hb : f x ≠ ⊥) (ht : ∀ y ∈ s, f y ≠ ⊤) :
    ∃ r : ℝ, s.fold max ⊥ f = (r : EReal) := by
  have h1 : s.fold max ⊥ f ≠ ⊥ := fun he => hb (le_bot_iff.1 ((Finset.le_fold_max _).2 (.inr ⟨x, hx, le_rfl⟩) |>.trans he.le))
  have h2 : s.fold max ⊥ f ≠ ⊤ := fun he => by
    have : (⊤ : EReal) ≤ s.fold max ⊥ f := he.ge
    rcases (Finset.le_fold_max _).1 this with h | ⟨y, hy, h⟩
    · exact absurd (top_le_iff.1 h) (by simp)
    · exact ht y hy (top_le_iff.1 h)
  exact ⟨_, (EReal.coe_toReal h2 h1).symm⟩

/-- The scale's word is a real. -/
theorem scale_real : ∃ r : ℝ, Ideal.ofBits .f32 0x3DB504F3#32 = (r : EReal) := by
  simp only [Ideal.ofBits, Ideal.ieee]
  rw [if_neg (by decide), if_neg (by decide)]
  exact ⟨_, rfl⟩

/-- The scale of the logits, the rational that its word is. -/
def scale : ℝ := (Ideal.ofBits .f32 0x3DB504F3#32).toReal

theorem ofBits_scale : Ideal.ofBits .f32 0x3DB504F3#32 = (scale : EReal) := by
  obtain ⟨r, hr⟩ := scale_real
  unfold scale; rw [hr, EReal.toReal_coe]

theorem ofBits_neg_inf : Ideal.ofBits .f32 0xFF800000#32 = ⊥ := by
  simp only [Ideal.ofBits, Ideal.ieee]
  rw [if_pos (by decide), if_pos (by decide), if_pos (by decide)]

theorem ofBits_inf : Ideal.ofBits .f32 0x7F800000#32 = ⊤ := by
  simp only [Ideal.ofBits, Ideal.ieee]
  rw [if_pos (by decide), if_pos (by decide), if_neg (by decide)]

/-! ## The arguments -/

/-- A three-axis array over the reals, by natural numbers. -/
def nat3 (x : (⟨3, ![8, 8192, 128]⟩ : Shape).Idx → EReal) (h n d : ℕ) : ℝ :=
  if hh : h < 8 ∧ n < 8192 ∧ d < 128 then
    (x (fun a => match a with | ⟨0, _⟩ => ⟨h, hh.1⟩ | ⟨1, _⟩ => ⟨n, hh.2.1⟩ | ⟨2, _⟩ => ⟨d, hh.2.2⟩)).toReal else 0

/-- A two-axis array over the reals, by natural numbers. -/
def nat2 (x : (⟨2, ![8, 8192]⟩ : Shape).Idx → EReal) (h n : ℕ) : ℝ :=
  if hh : h < 8 ∧ n < 8192 then
    (x (fun a => match a with | ⟨0, _⟩ => ⟨h, hh.1⟩ | ⟨1, _⟩ => ⟨n, hh.2⟩)).toReal else 0

/-- Every element is a real. -/
def Fin' {s : Shape} (x : s.Idx → EReal) : Prop := ∀ i, x i ≠ ⊥ ∧ x i ≠ ⊤

theorem nat3_eq {x : (⟨3, ![8, 8192, 128]⟩ : Shape).Idx → EReal} (hx : Fin' x) (i : (⟨3, ![8, 8192, 128]⟩ : Shape).Idx)
    {h n d : ℕ} (h0 : (i 0).val = h) (h1 : (i 1).val = n) (h2 : (i 2).val = d) : x i = (nat3 x h n d : EReal) := by
  subst h0 h1 h2
  unfold nat3
  rw [dif_pos ⟨(i 0).isLt, (i 1).isLt, (i 2).isLt⟩, EReal.coe_toReal (hx _).2 (hx _).1]
  congr 1; funext a
  match a with
  | ⟨0, _⟩ => rfl
  | ⟨1, _⟩ => rfl
  | ⟨2, _⟩ => rfl

theorem nat2_eq {x : (⟨2, ![8, 8192]⟩ : Shape).Idx → EReal} (hx : Fin' x) (i : (⟨2, ![8, 8192]⟩ : Shape).Idx)
    {h n : ℕ} (h0 : (i 0).val = h) (h1 : (i 1).val = n) : x i = (nat2 x h n : EReal) := by
  subst h0 h1
  unfold nat2
  rw [dif_pos ⟨(i 0).isLt, (i 1).isLt⟩, EReal.coe_toReal (hx _).2 (hx _).1]
  congr 1; funext a
  match a with
  | ⟨0, _⟩ => rfl
  | ⟨1, _⟩ => rfl

/-- The arguments' data. -/
def data (q k v : (⟨3, ![8, 8192, 128]⟩ : Shape).Idx → EReal) (c : (⟨2, ![8, 8192]⟩ : Shape).Idx → EReal)
    (t : (⟨3, ![8, 8192, 128]⟩ : Shape).Idx → EReal) : Data :=
  ⟨scale, nat3 q, nat3 k, nat3 v, nat2 c, nat3 t⟩

end Cert.Proof.FoxV

end
-- ==== Proof.Fox.RefV.lean ====
/-
  The reference's four results over the extended reals, of real arguments: the gradients `DQ`, `DK`, `DV`, `DC`.
-/
module

public import proofs.«01_k».proof.Proof.Gen.ReferenceIdeal.Read
public import proofs.«01_k».proof.Proof.Fox.Math
public import Idealize.ShloMosaic.Lib.WordCmp
public import Idealize.ShloMosaic.Lib.IdealHost

@[expose] public section

set_option maxRecDepth 16384

noncomputable section

namespace Cert.Proof.FoxV

open Idealize.ShloMosaic Cert.ReferenceIdeal Cert.ReferenceIdeal.Gen Cert.ReferenceIdeal.Read
open scoped BigOperators
open Finset (range)

/-- The comparison of two positions, as a choice. -/
theorem select_le {α : Type} {a b : ℕ} (ha : a < 8192) (hb : b < 8192) (x y : α) :
    Scalar.select (IntOp.cmpi .sle (BitVec.ofNat 32 a) (BitVec.ofNat 32 b)) x y = if a ≤ b then x else y := by
  rw [WordCmp.cmpi_sle_ofNat (by omega) (by omega)]
  by_cases h : a ≤ b <;> simp [h, Scalar.select]

variable (x0 x1 x2 : (⟨3, ![8, 8192, 128]⟩ : Shape).Idx → EReal) (x3 : (⟨2, ![8, 8192]⟩ : Shape).Idx → EReal)
  (x4 : (⟨3, ![8, 8192, 128]⟩ : Shape).Idx → EReal)

variable {x0 x1 x2 x3 x4} (h0 : Fin' x0) (h1 : Fin' x1) (h2 : Fin' x2) (h3 : Fin' x3) (h4 : Fin' x4)

include h0 h1 h3 in
/-- The logits before the mask. -/
theorem ref_logit (i : S8x8192x8192.Idx) :
    val_main_v8 (F := Ideal) x0 x1 x3 i = (((data x0 x1 x2 x3 x4).S (i 0).val (i 1).val (i 2).val : ℝ) : EReal) := by
  rw [val_main_v8_apply, val_main_v5_apply, val_main_v2_apply, val_main_v0_apply, val_main_v1_apply, val_main_cst_apply,
    val_main_v4_apply, val_main_v3_apply, val_main_v7_apply, val_main_v6_apply]
  simp only [Ideal.subf_def, Ideal.addf_def, Ideal.mulf_def, Ideal.ofBits_def, ofBits_scale]
  rw [sum_fin _ (fun d => nat3 x0 (i 0).val (i 1).val d * nat3 x1 (i 0).val (i 2).val d) (fun k => by
    rw [EReal.coe_mul, nat3_eq h0 _ rfl rfl rfl, nat3_eq h1 _ rfl rfl rfl]),
    nat2_eq h3 _ (h := (i 0).val) (n := (i 1).val) rfl rfl, nat2_eq h3 _ (h := (i 0).val) (n := (i 2).val) rfl rfl,
    ← EReal.coe_mul, ← EReal.coe_add, ← EReal.coe_sub]
  rfl

/-- The mask, as a choice. -/
theorem ref_mask {α : Type} (i : S8x8192x8192.Idx) (x y : α) :
    Scalar.select (val_main_v15_1 (F := Ideal) i) x y = if (i 2).val ≤ (i 1).val then x else y := by
  rw [val_main_v15_1_apply, val_main_v14_apply, val_main_v12_apply, val_main_v10_apply, val_main_v13_apply, val_main_v11_apply,
    val_main_v9_apply, val_main_v9_apply]
  exact select_le (i 2).isLt (i 1).isLt x y

include h0 h1 h3 in
/-- The masked logits. -/
theorem ref_masked (i : S8x8192x8192.Idx) :
    val_main_v15_0 (F := Ideal) x0 x1 x3 i
      = if (i 2).val ≤ (i 1).val then (((data x0 x1 x2 x3 x4).S (i 0).val (i 1).val (i 2).val : ℝ) : EReal) else ⊥ := by
  rw [val_main_v15_0_apply, ref_mask, ref_logit h0 h1 h3 (x2 := x2) (x4 := x4), val_main_call0_v2_apply, val_main_call0_v0_apply,
    val_main_cst_0_apply, Ideal.ofBits_def, ofBits_neg_inf]

include h0 h1 h3 in
/-- A query's maximum is a real. -/
theorem ref_max (x2 x4 : (⟨3, ![8, 8192, 128]⟩ : Shape).Idx → EReal) (i : S8x8192.Idx) :
    ∃ r : ℝ, val_main_v23 (F := Ideal) x0 x1 x3 i = (r : EReal) := by
  rw [val_main_v23_apply, val_main_v22_apply, val_main_cst_3_apply, Ideal.ofBits_def, ofBits_neg_inf, Ideal.maximumf_def,
    max_eq_right bot_le]
  unfold val_main_v16
  rw [Host.reduce_eq_fold_single FloatOps.maximumf _ _ _ (by decide) _ i, val_main_cst_1_apply, Ideal.ofBits_def, ofBits_neg_inf]
  refine fold_max_real _ _ (i 1 : Fin 8192) (Finset.mem_univ _) ?_ (fun y _ => ?_)
  · show val_main_v15_0 (F := Ideal) x0 x1 x3 _ ≠ ⊥
    rw [ref_masked h0 h1 h3 (x2 := x2) (x4 := x4)]
    exact ne_of_eq_of_ne (if_pos (le_of_eq rfl)) (EReal.coe_ne_bot _)
  · show val_main_v15_0 (F := Ideal) x0 x1 x3 _ ≠ ⊤
    rw [ref_masked h0 h1 h3 (x2 := x2) (x4 := x4)]
    split
    · exact EReal.coe_ne_top _
    · exact bot_ne_top

/-- The queries' maxima. -/
def refMax (x0 x1 : (⟨3, ![8, 8192, 128]⟩ : Shape).Idx → EReal) (x3 : (⟨2, ![8, 8192]⟩ : Shape).Idx → EReal) : ℕ → ℕ → ℝ :=
  nat2 (val_main_v23 (F := Ideal) x0 x1 x3)

include h0 h1 h3 in
theorem refMax_eq (x2 x4 : (⟨3, ![8, 8192, 128]⟩ : Shape).Idx → EReal) (i : S8x8192.Idx) :
    val_main_v23 (F := Ideal) x0 x1 x3 i = ((refMax x0 x1 x3 (i 0).val (i 1).val : ℝ) : EReal) :=
  nat2_eq (fun j => by
    obtain ⟨r, hr⟩ := ref_max h0 h1 h3 x2 x4 j
    rw [hr]; exact ⟨EReal.coe_ne_bot _, EReal.coe_ne_top _⟩) i rfl rfl

include h0 h1 h3 in
/-- The exponentials. -/
theorem ref_exp (i : S8x8192x8192.Idx) :
    val_main_v36 (F := Ideal) x0 x1 x3 i
      = (((data x0 x1 x2 x3 x4).E (i 0).val (i 1).val (i 2).val (refMax x0 x1 x3 (i 0).val (i 1).val) : ℝ) : EReal) := by
  rw [val_main_v36_apply, val_main_v35_apply, val_main_v34_apply, val_main_v33_apply, refMax_eq h0 h1 h3 x2 x4,
    ref_masked h0 h1 h3 (x2 := x2) (x4 := x4), Ideal.hostUnary_exp_def, Ideal.subf_def]
  unfold Data.E
  split
  · rw [← EReal.coe_sub, exp_coe]
  · rw [EReal.bot_sub, exp_bot]

/-- A query's sum of exponentials. -/
abbrev refL (x0 x1 x2 : (⟨3, ![8, 8192, 128]⟩ : Shape).Idx → EReal) (x3 : (⟨2, ![8, 8192]⟩ : Shape).Idx → EReal)
    (x4 : (⟨3, ![8, 8192, 128]⟩ : Shape).Idx → EReal) (h n : ℕ) : ℝ :=
  ∑ j ∈ range 8192, (data x0 x1 x2 x3 x4).E h n j (refMax x0 x1 x3 h n)

include h0 h1 h3 in
theorem ref_sum (i : S8x8192.Idx) :
    val_main_v37 (F := Ideal) x0 x1 x3 i = ((refL x0 x1 x2 x3 x4 (i 0).val (i 1).val : ℝ) : EReal) := by
  rw [val_main_v37_apply, val_main_cst_9_apply, Ideal.ofBits_def, Ideal.ofBits_zero_f32, zero_add]
  exact sum_fin _ (fun j => (data x0 x1 x2 x3 x4).E (i 0).val (i 1).val j (refMax x0 x1 x3 (i 0).val (i 1).val)) (fun k => ref_exp h0 h1 h3 _)

theorem refL_ne {h n : ℕ} (hn : n < 8192) : refL x0 x1 x2 x3 x4 h n ≠ 0 := ((data x0 x1 x2 x3 x4).sum_E_pos hn _).ne'

include h0 h1 h3 in
/-- The softmax weights. -/
theorem ref_P (i : S8x8192x8192.Idx) :
    val_main_v40 (F := Ideal) x0 x1 x3 i = (((data x0 x1 x2 x3 x4).P (i 0).val (i 1).val (i 2).val : ℝ) : EReal) := by
  rw [val_main_v40_apply, val_main_v39_apply, val_main_v38_apply, ref_sum h0 h1 h3 (x2 := x2) (x4 := x4),
    ref_exp h0 h1 h3 (x2 := x2) (x4 := x4), Ideal.hostDivf_def]
  refine (div_coe_coe _ (refL_ne (i 1).isLt)).trans ?_
  rw [← (data x0 x1 x2 x3 x4).E_div (i 1).isLt (refMax x0 x1 x3 (i 0).val (i 1).val)]

include h0 h1 h3 h4 in
/-- The gradient of the values. -/
theorem ref_dv (i : S8x8192x128.Idx) :
    val_main_v46 (F := Ideal) x0 x1 x3 x4 i = (((data x0 x1 x2 x3 x4).DV (i 0).val (i 1).val (i 2).val : ℝ) : EReal) := by
  rw [val_main_v46_apply, val_main_v45_apply]
  exact sum_fin _ (fun n => (data x0 x1 x2 x3 x4).P (i 0).val n (i 1).val * (data x0 x1 x2 x3 x4).t (i 0).val n (i 2).val) (fun k => by
    rw [EReal.coe_mul, mul_comm]
    exact congrArg₂ (· * ·) (ref_P h0 h1 h3 (x2 := x2) (x4 := x4) _) (nat3_eq h4 _ rfl rfl rfl))

include h2 h4 in
/-- The gradient of the weights. -/
theorem ref_dp (i : S8x8192x8192.Idx) :
    val_main_v47 (F := Ideal) x2 x4 i = (((data x0 x1 x2 x3 x4).DP (i 0).val (i 1).val (i 2).val : ℝ) : EReal) := by
  rw [val_main_v47_apply]
  exact sum_fin _ (fun d => (data x0 x1 x2 x3 x4).t (i 0).val (i 1).val d * (data x0 x1 x2 x3 x4).v (i 0).val (i 2).val d) (fun k => by
    rw [EReal.coe_mul]
    exact congrArg₂ (· * ·) (nat3_eq h4 _ rfl rfl rfl) (nat3_eq h2 _ rfl rfl rfl))

include h0 h1 h3 in
/-- The inverse square of the sum. -/
theorem ref_inv (i : S8x8192x1.Idx) :
    val_main_v43 (F := Ideal) x0 x1 x3 i
      = ((1 / (refL x0 x1 x2 x3 x4 (i 0).val (i 1).val * refL x0 x1 x2 x3 x4 (i 0).val (i 1).val) : ℝ) : EReal) := by
  rw [val_main_v43_apply, val_main_v42_apply, val_main_cst_10_apply, val_main_v41_apply, val_main_v38_apply,
    ref_sum h0 h1 h3 (x2 := x2) (x4 := x4), Ideal.hostDivf_def, Ideal.mulf_def, Ideal.ofBits_def, Ideal.ofBits_one_f32]
  rw [← EReal.coe_mul, ← EReal.coe_one]
  exact div_coe_coe _ (mul_ne_zero (refL_ne (i 1).isLt) (refL_ne (i 1).isLt))

include h0 h1 h2 h3 h4 in
/-- The row's sum in the derivative of the softmax. -/
theorem ref_rowsum (i : S8x8192.Idx) :
    val_main_v51 (F := Ideal) x0 x1 x2 x3 x4 i
      = ((∑ j ∈ range 8192, (data x0 x1 x2 x3 x4).DP (i 0).val (i 1).val j
          * (1 / (refL x0 x1 x2 x3 x4 (i 0).val (i 1).val * refL x0 x1 x2 x3 x4 (i 0).val (i 1).val))
          * (data x0 x1 x2 x3 x4).E (i 0).val (i 1).val j (refMax x0 x1 x3 (i 0).val (i 1).val) : ℝ) : EReal) := by
  rw [val_main_v51_apply, val_main_cst_11_apply, Ideal.ofBits_def, Ideal.ofBits_zero_f32, zero_add]
  refine sum_fin _ (fun j => (data x0 x1 x2 x3 x4).DP (i 0).val (i 1).val j
          * (1 / (refL x0 x1 x2 x3 x4 (i 0).val (i 1).val * refL x0 x1 x2 x3 x4 (i 0).val (i 1).val))
          * (data x0 x1 x2 x3 x4).E (i 0).val (i 1).val j (refMax x0 x1 x3 (i 0).val (i 1).val)) (fun k => ?_)
  rw [val_main_v50_apply, val_main_v49_apply, val_main_v48_apply, Ideal.mulf_def, Ideal.mulf_def, EReal.coe_mul, EReal.coe_mul]
  refine congrArg₂ (· * ·) (congrArg₂ (· * ·) (ref_dp h2 h4 (x0 := x0) (x1 := x1) (x3 := x3) _) ?_)
    (ref_exp h0 h1 h3 (x2 := x2) (x4 := x4) _)
  exact ref_inv h0 h1 h3 (x2 := x2) (x4 := x4) _

include h0 h1 h2 h3 h4 in
/-- The gradient of the logits. -/
theorem ref_ds (i : S8x8192x8192.Idx) :
    val_main_v60 (F := Ideal) x0 x1 x2 x3 x4 i = (((data x0 x1 x2 x3 x4).DS (i 0).val (i 1).val (i 2).val : ℝ) : EReal) := by
  rw [val_main_v60_apply, ref_mask]
  split
  · have e57 : val_main_v57 (F := Ideal) x0 x1 x2 x3 x4 i
        = ((-(∑ j ∈ range 8192, (data x0 x1 x2 x3 x4).DP (i 0).val (i 1).val j
          * (1 / (refL x0 x1 x2 x3 x4 (i 0).val (i 1).val * refL x0 x1 x2 x3 x4 (i 0).val (i 1).val))
          * (data x0 x1 x2 x3 x4).E (i 0).val (i 1).val j (refMax x0 x1 x3 (i 0).val (i 1).val)) : ℝ) : EReal) := by
      rw [val_main_v57_apply, val_main_v56_apply, val_main_cst_12_apply, Ideal.ofBits_def, Ideal.ofBits_zero_f32, zero_add,
        Fin.sum_univ_one, val_main_v53_apply, val_main_v52_apply, ref_rowsum h0 h1 h2 h3 h4, EReal.coe_neg]
      have hn : (i 1).val < 8192 := (i 1).isLt
      have e0 : (idx_main_v52 (idx_main_v56 (idx_main_v57 i) 0) 0).val = (i 0).val := by
        show ((((i 0).val * 8192 + (i 1).val) * 1 + 0) / 8192) = (i 0).val; omega
      have e1 : (idx_main_v52 (idx_main_v56 (idx_main_v57 i) 0) 1).val = (i 1).val := by
        show ((((i 0).val * 8192 + (i 1).val) * 1 + 0) % 8192) = (i 1).val; omega
      rw [e0, e1]; rfl
    rw [val_main_v59_apply, val_main_v58_apply, val_main_v55_apply, val_main_v54_apply, val_main_v38_apply,
      ref_sum h0 h1 h3 (x2 := x2) (x4 := x4), ref_dp h2 h4 (x0 := x0) (x1 := x1) (x3 := x3),
      ref_exp h0 h1 h3 (x2 := x2) (x4 := x4), e57, Ideal.mulf_def, Ideal.addf_def, Ideal.hostDivf_def]
    rw [← (data x0 x1 x2 x3 x4).ds_shift (j := (i 2).val) (i 1).isLt (refMax x0 x1 x3 (i 0).val (i 1).val) (refL x0 x1 x2 x3 x4 (i 0).val (i 1).val) rfl,
      EReal.coe_mul, EReal.coe_add]
    refine congrArg₂ (· * ·) (congrArg₂ (· + ·) ?_ rfl) rfl
    exact div_coe_coe _ (refL_ne (i 1).isLt)
  · rename_i hm
    rw [(data x0 x1 x2 x3 x4).DS_eq_zero (by omega)]
    show val_main_call1_v0 (F := Ideal) i = _
    rw [val_main_call1_v0_apply]
    rw [val_main_call1_cst_apply, Ideal.ofBits_def, Ideal.ofBits_zero_f32]; rfl

include h0 h1 h2 h3 h4 in
/-- The gradient of the summed log gates. -/
theorem ref_dc (i : S8x8192.Idx) :
    val_main_v68 (F := Ideal) x0 x1 x2 x3 x4 i = (((data x0 x1 x2 x3 x4).DC (i 0).val (i 1).val : ℝ) : EReal) := by
  have hn : (i 1).val < 8192 := (i 1).isLt
  have e64 : val_main_v64 (F := Ideal) x0 x1 x2 x3 x4 i = ((-(∑ n ∈ range 8192, (data x0 x1 x2 x3 x4).DS (i 0).val n (i 1).val) : ℝ) : EReal) := by
    rw [val_main_v64_apply, val_main_cst_14_apply, Ideal.ofBits_def, Ideal.ofBits_zero_f32, zero_add, Fin.sum_univ_one,
      val_main_v63_apply, val_main_v62_apply, val_main_cst_13_apply, Ideal.ofBits_def, Ideal.ofBits_zero_f32, zero_add,
      ← Finset.sum_neg_distrib]
    refine sum_fin _ (fun n => -(data x0 x1 x2 x3 x4).DS (i 0).val n (i 1).val) (fun k => ?_)
    have e0 : (idx_main_v62 (idx_main_v63 (idx_main_v64 i 0)) k 0).val = (i 0).val := by
      show ((((i 0).val * 1 + 0) * 8192 + (i 1).val) / 8192) = (i 0).val; omega
    have e2 : (idx_main_v62 (idx_main_v63 (idx_main_v64 i 0)) k 2).val = (i 1).val := by
      show ((((i 0).val * 1 + 0) * 8192 + (i 1).val) % 8192) = (i 1).val; omega
    rw [val_main_v61_apply, ref_ds h0 h1 h2 h3 h4, e0, e2, EReal.coe_neg]; rfl
  have e67 : val_main_v67 (F := Ideal) x0 x1 x2 x3 x4 i = ((∑ j ∈ range 8192, (data x0 x1 x2 x3 x4).DS (i 0).val (i 1).val j : ℝ) : EReal) := by
    rw [val_main_v67_apply, val_main_cst_16_apply, Ideal.ofBits_def, Ideal.ofBits_zero_f32, zero_add, Fin.sum_univ_one,
      val_main_v66_apply, val_main_v65_apply, val_main_cst_15_apply, Ideal.ofBits_def, Ideal.ofBits_zero_f32, zero_add]
    refine sum_fin _ (fun j => (data x0 x1 x2 x3 x4).DS (i 0).val (i 1).val j) (fun k => ?_)
    have e0 : (idx_main_v65 (idx_main_v66 (idx_main_v67 i 0)) k 0).val = (i 0).val := by
      show ((((i 0).val * 8192 + (i 1).val) * 1 + 0) / 8192) = (i 0).val; omega
    have e1 : (idx_main_v65 (idx_main_v66 (idx_main_v67 i 0)) k 1).val = (i 1).val := by
      show ((((i 0).val * 8192 + (i 1).val) * 1 + 0) % 8192) = (i 1).val; omega
    rw [ref_ds h0 h1 h2 h3 h4, e0, e1]
  rw [val_main_v68_apply, e64, e67, Ideal.addf_def, ← EReal.coe_add]; rfl

include h0 h1 h2 h3 h4 in
/-- The scaled gradient of the logits. -/
theorem ref_dss (i : S8x8192x8192.Idx) :
    val_main_v70 (F := Ideal) x0 x1 x2 x3 x4 i = (((data x0 x1 x2 x3 x4).DS (i 0).val (i 1).val (i 2).val * (data x0 x1 x2 x3 x4).σ : ℝ) : EReal) := by
  rw [val_main_v70_apply, ref_ds h0 h1 h2 h3 h4, val_main_v69_apply, val_main_cst_17_apply, Ideal.ofBits_def, ofBits_scale,
    Ideal.mulf_def, ← EReal.coe_mul]; rfl

include h0 h1 h2 h3 h4 in
/-- The gradient of the keys. -/
theorem ref_dk (i : S8x8192x128.Idx) :
    val_main_v71 (F := Ideal) x0 x1 x2 x3 x4 i = (((data x0 x1 x2 x3 x4).DK (i 0).val (i 1).val (i 2).val : ℝ) : EReal) := by
  rw [val_main_v71_apply]
  refine sum_fin _ (fun n => (data x0 x1 x2 x3 x4).DS (i 0).val n (i 1).val * ((data x0 x1 x2 x3 x4).q (i 0).val n (i 2).val * (data x0 x1 x2 x3 x4).σ)) (fun k => ?_)
  rw [mul_comm ((data x0 x1 x2 x3 x4).q _ _ _), ← mul_assoc, EReal.coe_mul]
  exact congrArg₂ (· * ·) (ref_dss h0 h1 h2 h3 h4 _) (nat3_eq h0 _ rfl rfl rfl)

include h0 h1 h2 h3 h4 in
/-- The gradient of the queries. -/
theorem ref_dq (i : S8x8192x128.Idx) :
    val_main_v72 (F := Ideal) x0 x1 x2 x3 x4 i = (((data x0 x1 x2 x3 x4).DQ (i 0).val (i 1).val (i 2).val : ℝ) : EReal) := by
  rw [val_main_v72_apply]; unfold Data.DQ; rw [Finset.sum_mul]
  refine sum_fin _ (fun j => (data x0 x1 x2 x3 x4).DS (i 0).val (i 1).val j * (data x0 x1 x2 x3 x4).k (i 0).val j (i 2).val * (data x0 x1 x2 x3 x4).σ) (fun k => ?_)
  rw [mul_right_comm, EReal.coe_mul]
  exact congrArg₂ (· * ·) (ref_dss h0 h1 h2 h3 h4 _) (nat3_eq h1 _ rfl rfl rfl)

/-- A row of an array with the heads side by side: the head, the component. -/
theorem rows_div {a b : ℕ} (hb : b < 1024) : (a * 1024 + b) / 1024 = a := by omega

theorem rows_head {a b : ℕ} (hb : b < 1024) : (a * 1024 + b) / 128 % 8 = b / 128 := by omega

theorem rows_comp {a b : ℕ} : (a * 1024 + b) % 128 = b % 128 := by omega

include h0 h1 h2 h3 h4 in
/-- The reference's first result, at a position and a column of the heads side by side. -/
theorem ref_res0 (i : S8192x1024.Idx) :
    val_main_v74 (F := Ideal) x0 x1 x2 x3 x4 i = (((data x0 x1 x2 x3 x4).DQ ((i 1).val / 128) (i 0).val ((i 1).val % 128) : ℝ) : EReal) := by
  have hn : (i 1).val < 1024 := (i 1).isLt
  rw [val_main_v74_apply, val_main_v73_apply, ref_dq h0 h1 h2 h3 h4]
  have e0 : (idx_main_v73 (idx_main_v74 i) 0).val = (i 1).val / 128 := rows_head hn
  have e1 : (idx_main_v73 (idx_main_v74 i) 1).val = (i 0).val := rows_div hn
  have e2 : (idx_main_v73 (idx_main_v74 i) 2).val = (i 1).val % 128 := rows_comp
  rw [e0, e1, e2]

include h0 h1 h2 h3 h4 in
/-- The reference's second result. -/
theorem ref_res1 (i : S8192x1024.Idx) :
    val_main_v76 (F := Ideal) x0 x1 x2 x3 x4 i = (((data x0 x1 x2 x3 x4).DK ((i 1).val / 128) (i 0).val ((i 1).val % 128) : ℝ) : EReal) := by
  have hn : (i 1).val < 1024 := (i 1).isLt
  rw [val_main_v76_apply, val_main_v75_apply, ref_dk h0 h1 h2 h3 h4]
  have e0 : (idx_main_v75 (idx_main_v76 i) 0).val = (i 1).val / 128 := rows_head hn
  have e1 : (idx_main_v75 (idx_main_v76 i) 1).val = (i 0).val := rows_div hn
  have e2 : (idx_main_v75 (idx_main_v76 i) 2).val = (i 1).val % 128 := rows_comp
  rw [e0, e1, e2]

include h0 h1 h3 h4 in
/-- The reference's third result. -/
theorem ref_res2 (i : S8192x1024.Idx) :
    val_main_v78 (F := Ideal) x0 x1 x3 x4 i = (((data x0 x1 x2 x3 x4).DV ((i 1).val / 128) (i 0).val ((i 1).val % 128) : ℝ) : EReal) := by
  have hn : (i 1).val < 1024 := (i 1).isLt
  rw [val_main_v78_apply, val_main_v77_apply, ref_dv h0 h1 h3 h4 (x2 := x2)]
  have e0 : (idx_main_v77 (idx_main_v78 i) 0).val = (i 1).val / 128 := rows_head hn
  have e1 : (idx_main_v77 (idx_main_v78 i) 1).val = (i 0).val := rows_div hn
  have e2 : (idx_main_v77 (idx_main_v78 i) 2).val = (i 1).val % 128 := rows_comp
  rw [e0, e1, e2]

end Cert.Proof.FoxV

end
-- ==== Proof.Fox.PayV.lean ====
/-
  The block operations of the kernel over the reals: what one block of queries and one block of keys give, of operands
  that are reals.
-/
module

public import proofs.«01_k».proof.Proof.Fox.BodyI
public import proofs.«01_k».proof.Proof.Fox.RefV
public import Idealize.ShloMosaic.Lib.Pointwise

@[expose] public section

set_option maxRecDepth 16384

noncomputable section

namespace Cert.Proof.FoxV

open Idealize.ShloMosaic Cert.KernelIdeal Cert.KernelIdeal.Gen
open Idealize.ShloMosaic.Pointwise
open Cert.Proof.FoxI
open scoped BigOperators
open Finset (range)

/-- A matrix whose elements are the reals `f r l`. -/
def Is2 {a b : ℕ} (x : (⟨2, ![a, b]⟩ : Shape).Idx → EReal) (f : ℕ → ℕ → ℝ) : Prop :=
  ∀ (r : Fin a) (l : Fin b), x (ix2 r l) = ((f r.val l.val : ℝ) : EReal)

theorem Is2.at {a b : ℕ} {x : (⟨2, ![a, b]⟩ : Shape).Idx → EReal} {f : ℕ → ℕ → ℝ} (hx : Is2 x f) (i : (⟨2, ![a, b]⟩ : Shape).Idx) :
    x i = ((f (i 0).val (i 1).val : ℝ) : EReal) := by
  rw [eq_ix2 i]; exact hx _ _

theorem Is2.of {a b : ℕ} {x : (⟨2, ![a, b]⟩ : Shape).Idx → EReal} {f : ℕ → ℕ → ℝ}
    (h : ∀ i, x i = ((f (i 0).val (i 1).val : ℝ) : EReal)) : Is2 x f := fun r l => h (ix2 r l)

theorem Is2.congr {a b : ℕ} {x : (⟨2, ![a, b]⟩ : Shape).Idx → EReal} {f g : ℕ → ℕ → ℝ} (hx : Is2 x f)
    (h : ∀ r l, r < a → l < b → f r l = g r l) : Is2 x g := fun r l => by rw [hx r l, h _ _ r.isLt l.isLt]

/-! ## Blocks of rows and of a row -/

/-- A block of rows. -/
theorem is2_rows {x : S8192x128.Idx → EReal} {f : ℕ → ℕ → ℝ} (hx : Is2 x f) (n : Fin 8) :
    Is2 (a := 1024) (b := 128) (rows x n) (fun r l => f (n.val * 1024 + r) l) := fun r l => by
  refine (congrArg x (funext fun a => Fin.ext ?_)).trans (hx ⟨n.val * 1024 + r.val, by omega⟩ l)
  match a with
  | ⟨0, _⟩ => show n.val * 1024 + 1 * r.val = n.val * 1024 + r.val; omega
  | ⟨1, _⟩ => show 0 + 1 * l.val = l.val; omega

/-- A block of a head's row. -/
theorem is2_row {x : S8x8192.Idx → EReal} {f : ℕ → ℕ → ℝ} (hx : Is2 x f) (h n : Fin 8) :
    Is2 (a := 1) (b := 1024) (row x h n) (fun r l => f h.val (n.val * 1024 + l)) := fun r l => by
  refine (congrArg x (funext fun a => Fin.ext ?_)).trans (hx h ⟨n.val * 1024 + l.val, by omega⟩)
  match a with
  | ⟨0, _⟩ => show h.val + 1 * r.val = h.val; omega
  | ⟨1, _⟩ => show n.val * 1024 + 1 * l.val = n.val * 1024 + l.val; omega

/-- The matrix with a block of rows replaced. -/
theorem is2_putRows {x : S8192x128.Idx → EReal} {w : S1024x128.Idx → EReal} {f g : ℕ → ℕ → ℝ} (hx : Is2 x f) (n : Fin 8)
    (hw : Is2 w g) :
    Is2 (a := 8192) (b := 128) (putRows x n w)
      (fun r l => if n.val * 1024 ≤ r ∧ r < (n.val + 1) * 1024 then g (r - n.val * 1024) l else f r l) := fun r l => by
  unfold putRows VecWindow.put
  dsimp only
  by_cases h : n.val * 1024 ≤ r.val ∧ r.val < (n.val + 1) * 1024
  · rw [if_pos h, dif_pos]
    · exact hw.at _
    · intro a
      match a with
      | ⟨0, _⟩ => show n.val * 1024 ≤ r.val ∧ r.val < n.val * 1024 + 1024; omega
      | ⟨1, _⟩ => show 0 ≤ l.val ∧ l.val < 0 + 128; omega
  · rw [if_neg h, dif_neg]
    · exact hx r l
    · intro ha
      have : n.val * 1024 ≤ r.val ∧ r.val < n.val * 1024 + 1024 := ha 0
      omega

/-- The matrix with a block of a head's row replaced. -/
theorem is2_putRow {x : S8x8192.Idx → EReal} {w : S1x1024.Idx → EReal} {f g : ℕ → ℕ → ℝ} (hx : Is2 x f) (h n : Fin 8)
    (hw : Is2 w g) :
    Is2 (a := 8) (b := 8192) (putRow x h n w)
      (fun r l => if r = h.val ∧ n.val * 1024 ≤ l ∧ l < (n.val + 1) * 1024 then g 0 (l - n.val * 1024) else f r l) := fun r l => by
  unfold putRow VecWindow.put
  dsimp only
  by_cases hh : r.val = h.val ∧ n.val * 1024 ≤ l.val ∧ l.val < (n.val + 1) * 1024
  · rw [if_pos hh, dif_pos]
    · refine (hw.at _).trans ?_
      have : (r.val - h.val) = 0 := by omega
      show ((g (r.val - h.val) (l.val - n.val * 1024) : ℝ) : EReal) = _
      rw [this]
    · intro a
      match a with
      | ⟨0, _⟩ => show h.val ≤ r.val ∧ r.val < h.val + 1; omega
      | ⟨1, _⟩ => show n.val * 1024 ≤ l.val ∧ l.val < n.val * 1024 + 1024; omega
  · rw [if_neg hh, dif_neg]
    · exact hx r l
    · intro ha
      have h0 : h.val ≤ r.val ∧ r.val < h.val + 1 := ha 0
      have h1 : n.val * 1024 ≤ l.val ∧ l.val < n.val * 1024 + 1024 := ha 1
      omega

/-! ## The block operations -/

variable (q : FVec Ideal S1024x128 .bf16) (cq lse : FVec Ideal S1024x1 .f32) (ct : FVec Ideal S1024x128 .bf16)
  (rs : FVec Ideal S1024x1 .f32) (k v : FVec Ideal S1024x128 .bf16) (g : FVec Ideal S1x1024 .f32)
variable {fq ft fk fv : ℕ → ℕ → ℝ} {fc fl fr fg : ℕ → ℝ}

/-- The exponentials of a block's shifted logits. -/
def expB (fq fk : ℕ → ℕ → ℝ) (fc fg fl : ℕ → ℝ) (r l : ℕ) : ℝ :=
  Real.exp ((∑ d ∈ range 128, fq r d * fk l d) + (fc r - fg l) - fl r)
/-- The gradients of a block's weights less the row sums. -/
def dpB (ft fv : ℕ → ℕ → ℝ) (fr : ℕ → ℝ) (r l : ℕ) : ℝ := (∑ d ∈ range 128, ft r d * fv l d) - fr r

section
variable (hq : Is2 q fq) (hc : Is2 cq fun r _ => fc r) (hl : Is2 lse fun r _ => fl r) (ht : Is2 ct ft) (hr : Is2 rs fun r _ => fr r)
  (hk : Is2 k fk) (hv : Is2 v fv) (hg : Is2 g fun _ l => fg l)

include hq hc hl hk hg in
theorem is2_pay34 : Is2 (k0_pay34 (F := Ideal) q cq lse k g) (expB fq fk fc fg fl) := fun r l => by
  pointwise [k0_pay34, k0_pay33]
  rw [sum_fin _ (fun d => fq r.val d * fk l.val d) (fun x => by rw [hq, hk, EReal.coe_mul]), hc, hg, hl, ← EReal.coe_sub,
    ← EReal.coe_add, ← EReal.coe_sub, exp_coe]
  rfl

include hq hc hl hk hg in
theorem is2_pay23 : Is2 (k0_pay23 (F := Ideal) q lse cq k g) (expB fq fk fc fg fl) := fun r l => by
  pointwise [k0_pay23, k0_pay21]
  rw [sum_fin _ (fun d => fq r.val d * fk l.val d) (fun x => by rw [hq, hk, EReal.coe_mul]), hc, hg, hl, ← EReal.coe_sub,
    ← EReal.coe_add, ← EReal.coe_sub, exp_coe]
  rfl

include hq hc hl ht hr hk hv hg in
theorem is2_pay35 : Is2 (k0_pay35 (F := Ideal) q cq lse ct rs k v g) (fun r l => expB fq fk fc fg fl r l * dpB ft fv fr r l) := fun r l => by
  pointwise [k0_pay35]
  rw [sum_fin _ (fun d => ft r.val d * fv l.val d) (fun x => by rw [ht, hv, EReal.coe_mul]), hr,
    is2_pay34 q cq lse k g hq hc hl hk hg, ← EReal.coe_sub, ← EReal.coe_mul]
  rfl
end

variable {p : FVec Ideal S1024x1024 .f32} {fp fd : ℕ → ℕ → ℝ}

/-- The diagonal block's mask. -/
theorem is2_pay24 (hp : Is2 p fp) :
    Is2 (k0_pay24 (F := Ideal) rowNo colNo p) (fun r l => if l ≤ r then fp r l else 0) := fun r l => by
  pointwise [k0_pay24, rowNo, colNo]
  rw [select_le (by omega) (by omega), hp]
  split <;> simp

theorem is2_pay25 (ht : Is2 ct ft) (hr : Is2 rs fun r _ => fr r) (hv : Is2 v fv) (hp : Is2 p fp) :
    Is2 (k0_pay25 (F := Ideal) ct rs rowNo colNo v p) (fun r l => (if l ≤ r then fp r l else 0) * dpB ft fv fr r l) := fun r l => by
  pointwise [k0_pay25]
  rw [sum_fin _ (fun d => ft r.val d * fv l.val d) (fun x => by rw [ht, hv, EReal.coe_mul]), hr,
    is2_pay24 hp, ← EReal.coe_sub, ← EReal.coe_mul]
  rfl

/-! ### What is added to the accumulators -/

variable {x : FVec Ideal S1024x128 .f32} {fx : ℕ → ℕ → ℝ}

theorem is2_pay37 (hd : Is2 (k0_pay35 (F := Ideal) q cq lse ct rs k v g) fd) (hq : Is2 q fq) (hx : Is2 x fx) :
    Is2 (k0_pay37 (F := Ideal) q cq lse ct rs k v g x) (fun r l => fx r l + ∑ n ∈ range 1024, fd n r * fq n l) := fun r l => by
  pointwise [k0_pay37, k0_pay36]
  rw [sum_fin _ (fun n => fd n r.val * fq n l.val) (fun x => by rw [hd, hq, EReal.coe_mul]), hx, ← EReal.coe_add]

theorem is2_pay38 (hd : Is2 (k0_pay34 (F := Ideal) q cq lse k g) fd) (ht : Is2 ct ft) (hx : Is2 x fx) :
    Is2 (k0_pay38 (F := Ideal) q cq lse ct k g x) (fun r l => fx r l + ∑ n ∈ range 1024, fd n r * ft n l) := fun r l => by
  pointwise [k0_pay38]
  rw [sum_fin _ (fun n => fd n r.val * ft n l.val) (fun x => by rw [hd, ht, EReal.coe_mul]), hx, ← EReal.coe_add]

theorem is2_pay27 (hd : Is2 (k0_pay25 (F := Ideal) ct rs rowNo colNo v p) fd) (hq : Is2 q fq) (hx : Is2 x fx) :
    Is2 (k0_pay27 (F := Ideal) q ct rs rowNo colNo v p x) (fun r l => fx r l + ∑ n ∈ range 1024, fd n r * fq n l) := fun r l => by
  pointwise [k0_pay27, k0_pay26]
  rw [sum_fin _ (fun n => fd n r.val * fq n l.val) (fun x => by rw [hd, hq, EReal.coe_mul]), hx, ← EReal.coe_add]

theorem is2_pay28 (hd : Is2 (k0_pay24 (F := Ideal) rowNo colNo p) fd) (ht : Is2 ct ft) (hx : Is2 x fx) :
    Is2 (k0_pay28 (F := Ideal) ct rowNo colNo p x) (fun r l => fx r l + ∑ n ∈ range 1024, fd n r * ft n l) := fun r l => by
  pointwise [k0_pay28]
  rw [sum_fin _ (fun n => fd n r.val * ft n l.val) (fun x => by rw [hd, ht, EReal.coe_mul]), hx, ← EReal.coe_add]

variable {y : FVec Ideal S1x1024 .f32} {fy : ℕ → ℝ}

theorem is2_pay2 (hd : Is2 (k0_pay35 (F := Ideal) q cq lse ct rs k v g) fd) (hy : Is2 y fun _ l => fy l) :
    Is2 (k0_pay2 (F := Ideal) (k0_pay39 y) (k0_pay40 q cq lse ct rs k v g)) (fun _ l => fy l - ∑ n ∈ range 1024, fd n l) := fun r l => by
  pointwise [k0_pay2, k0_pay39, k0_pay40]
  rw [sum_fin _ (fun n => fd n l.val) (fun x => by rw [hd]), hy, ← EReal.coe_sub]

theorem is2_pay29 (hd : Is2 (k0_pay25 (F := Ideal) ct rs rowNo colNo v p) fd) (hy : Is2 y fun _ l => fy l) :
    Is2 (k0_pay29 (F := Ideal) ct rs rowNo colNo v p y) (fun _ l => fy l - ∑ n ∈ range 1024, fd n l) := fun r l => by
  pointwise [k0_pay29]
  rw [sum_fin _ (fun n => fd n l.val) (fun x => by rw [hd]), hy, ← EReal.coe_sub]

theorem is2_pay3 (hd : Is2 (k0_pay35 (F := Ideal) q cq lse ct rs k v g) fd) (hk : Is2 k fk) (hx : Is2 x fx) :
    Is2 (k0_pay3 (F := Ideal) x (k0_pay33 k) (k0_pay36 q cq lse ct rs k v g)) (fun r l => fx r l + ∑ n ∈ range 1024, fd r n * fk n l) := fun r l => by
  pointwise [k0_pay3, k0_pay33, k0_pay36]
  rw [sum_fin _ (fun n => fd r.val n * fk n l.val) (fun x => by rw [hd, hk, EReal.coe_mul]), hx, ← EReal.coe_add]

theorem is2_pay30 (hd : Is2 (k0_pay25 (F := Ideal) ct rs rowNo colNo v p) fd) (hk : Is2 k fk) :
    Is2 (k0_pay30 (F := Ideal) ct rs rowNo colNo k0_pay18 (k0_pay21 k) v p) (fun r l => ∑ n ∈ range 1024, fd r n * fk n l) := fun r l => by
  pointwise [k0_pay30, k0_pay18, k0_pay21, k0_pay26]
  rw [sum_fin _ (fun n => fd r.val n * fk n l.val) (fun x => by rw [hd, hk, EReal.coe_mul])]

variable {z : FVec Ideal S1024x1 .f32} {fz : ℕ → ℝ}

theorem is2_pay4 (hp : Is2 p fd) (hz : Is2 z fun r _ => fz r) :
    Is2 (k0_pay4 (F := Ideal) z p) (fun r _ => fz r + ∑ n ∈ range 1024, fd r n) := fun r l => by
  pointwise [k0_pay4]
  rw [sum_fin _ (fun n => fd r.val n) (fun x => by rw [hp]), hz, ← EReal.coe_add]

theorem is2_pay31 (hd : Is2 (k0_pay25 (F := Ideal) ct rs rowNo colNo v p) fd) :
    Is2 (k0_pay31 (F := Ideal) ct rs rowNo colNo k0_pay19 v p) (fun r _ => ∑ n ∈ range 1024, fd r n) := fun r l => by
  pointwise [k0_pay31, k0_pay19]
  rw [sum_fin _ (fun n => fd r.val n) (fun x => by rw [hd])]

/-! ### The query block's own vectors -/

theorem is2_pay10 {q : FVec Ideal S1024x128 .bf16} (hq : Is2 q fq) : Is2 (k0_pay10 (F := Ideal) q) fq := fun r l => by
  pointwise [k0_pay10]; exact hq r l

theorem is2_pay22 {q : FVec Ideal S1024x128 .bf16} (hq : Is2 q fq) : Is2 (k0_pay22 (F := Ideal) q) fq := fun r l => by
  pointwise [k0_pay22]; exact hq r l

theorem is2_pay12 (hx : Is2 x fx) : Is2 (k0_pay12 (F := Ideal) x) fx := fun r l => by
  pointwise [k0_pay12, k0_pay11]; exact hx r l

theorem is2_pay13 {o : FVec Ideal S1024x128 .f32} {fo : ℕ → ℕ → ℝ} (hx : Is2 x fx) (ho : Is2 o fo) :
    Is2 (k0_pay13 (F := Ideal) x o) (fun r _ => ∑ d ∈ range 128, fx r d * fo r d) := fun r l => by
  pointwise [k0_pay13, k0_pay11]
  exact sum_fin _ (fun d => fx r.val d * fo r.val d) (fun d => by rw [hx, ho, EReal.coe_mul])

theorem is2_pay14 {w : FVec Ideal S1x1024x1 .f32} (hw : ∀ r : Fin 1024, w (ix3 0 r 0) = ((fl r.val : ℝ) : EReal)) :
    Is2 (k0_pay14 (F := Ideal) w) (fun r _ => fl r) := fun r l => by
  pointwise [k0_pay14]; exact hw r

/-- The head's column of the block of gates with the heads across. -/
theorem is2_pay15 (i : grid0.Coords) (hx : Is2 x fx) : Is2 (k0_pay15 (F := Ideal) i x) (fun r _ => fx r (i 0).val) := fun r l => by
  pointwise [k0_pay15]
  have hi : (i 0).val < 8 := (i 0).isLt
  rw [Finset.sum_eq_single (⟨(i 0).val, by omega⟩ : Fin 128)]
  · rw [WordCmp.cmpi_eq_ofNat (by omega) (by omega)]
    simp only [if_true, Scalar.select]
    exact hx r _
  · intro b _ hb
    rw [WordCmp.cmpi_eq_ofNat (by omega) (by omega)]
    rw [decide_eq_false (fun h => hb (Fin.ext h))]
    rfl
  · intro h; exact absurd (Finset.mem_univ _) h

theorem is2_pay32 (hx : Is2 x fx) : Is2 (k0_pay32 (F := Ideal) x) (fun r l => fx r l * scale) := fun r l => by
  pointwise [k0_pay32]
  rw [hx, ofBits_scale, ← EReal.coe_mul]

theorem pay1_apply (hz : Is2 z fun r _ => fz r) (r : Fin 1024) : k0_pay1 (F := Ideal) z (ix3 0 r 0) = ((fz r.val : ℝ) : EReal) := by
  pointwise [k0_pay1]
  exact hz r 0

theorem is2_pay6 : Is2 (k0_pay6 (F := Ideal)) (fun _ _ => 0) := fun r l => by
  pointwise [k0_pay6]; rfl
theorem is2_pay7 : Is2 (k0_pay7 (F := Ideal)) (fun _ _ => 0) := fun r l => by
  pointwise [k0_pay7]; rfl
theorem is2_pay9 : Is2 (k0_pay9 (F := Ideal)) (fun _ _ => 0) := fun r l => by
  pointwise [k0_pay9]; rfl

/-! ### The bound of a block's exponents -/

theorem sqrt_nonneg {x : EReal} (hx : 0 ≤ x) : 0 ≤ Ideal.sqrt x := by
  induction x with
  | bot => exact absurd hx (by simp)
  | top => exact le_top
  | coe r =>
    have : 0 ≤ r := by exact_mod_cast hx
    show 0 ≤ (if r < 0 then (⊥ : EReal) else (Real.sqrt r : EReal))
    rw [if_neg (not_lt.2 this)]; exact_mod_cast Real.sqrt_nonneg r

/-- The largest key norm is at least zero. -/
theorem pay8_nonneg {k : FVec Ideal S8192x128 .bf16} {fk : ℕ → ℕ → ℝ} (hk : Is2 k fk) (i : S1x1.Idx) : 0 ≤ k0_pay8 (F := Ideal) k i := by
  rw [eq_ix2 i]
  generalize i 0 = r; generalize i 1 = l
  pointwise [k0_pay8]
  refine sqrt_nonneg ((Finset.le_fold_max _).2 (.inr ⟨0, Finset.mem_univ _, ?_⟩))
  rw [sum_fin _ (fun d => fk 0 d * fk 0 d) (fun x => by rw [hk, EReal.coe_mul]; rfl)]
  exact_mod_cast Finset.sum_nonneg fun d _ => mul_self_nonneg _

theorem norm_word : 0 ≤ Ideal.ofBits .f32 0x3F820000#32 := by
  simp only [Ideal.ofBits, Ideal.ieee]
  rw [if_neg (by decide), if_neg (by decide), if_neg (by decide)]
  positivity

theorem coe_add_ne_bot {x : EReal} (hx : x ≠ ⊥) (r : ℝ) : x + (r : EReal) ≠ ⊥ := fun h => by
  rcases EReal.add_eq_bot_iff.1 h with h | h
  · exact hx h
  · exact EReal.coe_ne_bot _ h

/-- The bound is not the bottom. -/
theorem pay17_ne_bot {km : FVec Ideal S1x1 .f32} (hl : Is2 lse fun r _ => fl r) (hc : Is2 cq fun r _ => fc r) (hkm : ∀ i, 0 ≤ km i)
    (hq : Is2 q fq) : k0_pay17 (F := Ideal) lse cq km (k0_pay16 q) ≠ ⊥ := by
  pointwise [k0_pay17, k0_pay16, k0_pay10]
  intro h
  have h0 := (Finset.le_fold_max (b := Ideal.ofBits .f32 0xFF800000#32) (s := (Finset.univ : Finset (Fin 1024 × Fin 1)))
    (f := fun x => Ideal.sqrt (∑ x_1, q (ix2 x.1 x_1) * q (ix2 x.1 x_1)) * km (ix2 0 0) * Ideal.ofBits FTy.f32 1065484288#32
      + cq (ix2 x.1 0) - lse (ix2 x.1 0)) _).2 (.inr ⟨(0, 0), Finset.mem_univ _, le_rfl⟩)
  rw [h] at h0
  have h1 := le_bot_iff.1 h0
  rw [hc, hl, sub_eq_add_neg, ← EReal.coe_neg] at h1
  refine coe_add_ne_bot (coe_add_ne_bot (ne_of_gt (lt_of_lt_of_le EReal.bot_lt_zero ?_)) _) _ h1
  refine mul_nonneg (mul_nonneg (sqrt_nonneg ?_) (hkm _)) norm_word
  rw [sum_fin _ (fun d => fq 0 d * fq 0 d) (fun x => by rw [hq, EReal.coe_mul]; rfl)]
  exact_mod_cast Finset.sum_nonneg fun d _ => mul_self_nonneg _

theorem fold_min_ne_top {ι : Type*} [Fintype ι] (i : ι) {f : ι → EReal} (hf : f i ≠ ⊤) {b : EReal} :
    (Finset.univ : Finset ι).fold min b f ≠ ⊤ := fun h =>
  hf (top_le_iff.1 (h ▸ (Finset.fold_min_le _).2 (.inr ⟨i, Finset.mem_univ _, le_rfl⟩)))

theorem sub_ne_bot {x y : EReal} (hx : x ≠ ⊥) (hy : y ≠ ⊤) : x - y ≠ ⊥ := fun h => by
  rw [sub_eq_add_neg] at h
  rcases EReal.add_eq_bot_iff.1 h with h | h
  · exact hx h
  · exact hy (EReal.neg_eq_bot_iff.1 h)

/-- Nor is it when a row of gates is taken off. -/
theorem pay5_ne_bot {t : EReal} (ht : t ≠ ⊥) (hy : Is2 y fun _ l => fy l) : k0_pay5 (F := Ideal) t y ≠ ⊥ := by
  pointwise [k0_pay5]
  refine sub_ne_bot ht (fold_min_ne_top (0, 0) ?_)
  rw [hy]; exact EReal.coe_ne_top _

theorem pay20_ne_bot {km : FVec Ideal S1x1 .f32} (ht : k0_pay17 (F := Ideal) lse cq km (k0_pay16 q) ≠ ⊥) (hy : Is2 y fun _ l => fy l) :
    k0_pay20 (F := Ideal) lse cq km (k0_pay16 q) y ≠ ⊥ := by
  pointwise [k0_pay20]
  refine sub_ne_bot ht (fold_min_ne_top (0, 0) ?_)
  rw [hy]; exact EReal.coe_ne_top _

/-- The loop goes on at every bound but the bottom: no block is skipped. -/
theorem goesOn_of_ne_bot {t : EReal} (ht : t ≠ ⊥) : goesOn (F := Ideal) t := by
  show Ideal.cmp .ogt t ⊥ = 1#1
  have : ⊥ < t := bot_lt_iff_ne_bot.2 ht
  simp [Ideal.cmp, this]

end Cert.Proof.FoxV

end
-- ==== Proof.Fox.PointV.lean ====
/-
  One grid point of the kernel over the reals: a head `h` and a block `b` of queries, with all blocks of keys up to the
  diagonal.
-/
module

public import proofs.«01_k».proof.Proof.Fox.PayV

@[expose] public section

set_option maxRecDepth 16384

noncomputable section

namespace Cert.Proof.FoxV

open Idealize.ShloMosaic Cert.KernelIdeal Cert.KernelIdeal.Gen
open Idealize.ShloMosaic.Pointwise
open Cert.Proof.FoxI
open scoped BigOperators
open Finset (range Ico sum_congr mem_range)

variable (A : Data) (h b : ℕ)

/-- What the query block adds to the keys' gradient. -/
def KD (j d : ℕ) : ℝ := ∑ x ∈ range 1024, A.DS h (b * 1024 + x) j * (A.q h (b * 1024 + x) d * A.σ)
/-- What it adds to the values' gradient. -/
def VD (j d : ℕ) : ℝ := ∑ x ∈ range 1024, A.P h (b * 1024 + x) j * A.t h (b * 1024 + x) d
/-- What it takes from the gates' gradient. -/
def GD (j : ℕ) : ℝ := ∑ x ∈ range 1024, A.DS h (b * 1024 + x) j

theorem KD_zero {j : ℕ} (d : ℕ) (hj : (b + 1) * 1024 ≤ j) : KD A h b j d = 0 :=
  Finset.sum_eq_zero fun x hx => by rw [mem_range] at hx; rw [A.DS_eq_zero (by omega), zero_mul]
theorem VD_zero {j : ℕ} (d : ℕ) (hj : (b + 1) * 1024 ≤ j) : VD A h b j d = 0 :=
  Finset.sum_eq_zero fun x hx => by rw [mem_range] at hx; rw [A.P_eq_zero (by omega), zero_mul]
theorem GD_zero {j : ℕ} (hj : (b + 1) * 1024 ≤ j) : GD A h b j = 0 :=
  Finset.sum_eq_zero fun x hx => by rw [mem_range] at hx; rw [A.DS_eq_zero (by omega)]

/-- The block's operands are the arguments' reals. -/
structure GoodEnv (e : Env Ideal) : Prop where
  hh : e.h.val = h
  q : Is2 e.q fun r d => A.q h (b * 1024 + r) d * A.σ
  k : Is2 e.k fun j d => A.k h j d
  v : Is2 e.v fun j d => A.v h j d
  g : Is2 e.g fun i j => A.c i j
  cq : Is2 e.cq fun r _ => A.c h (b * 1024 + r)
  lse : Is2 e.lse fun r _ => A.LSE h (b * 1024 + r)
  ct : Is2 e.ct fun r d => A.t h (b * 1024 + r) d
  rs : Is2 e.rs fun r _ => A.DSUM h (b * 1024 + r)
  top : e.top ≠ ⊥

/-- The state once the key blocks from `n` to the diagonal are done, from accumulators `fk`, `fv`, `fg`. -/
structure GoodSt (n : ℕ) (fk fv fg : ℕ → ℕ → ℝ) (s : St Ideal) : Prop where
  dk : Is2 s.dk fun j d => fk j d + if n * 1024 ≤ j then KD A h b j d else 0
  dv : Is2 s.dv fun j d => fv j d + if n * 1024 ≤ j then VD A h b j d else 0
  dg : Is2 s.dg fun i j => fg i j - if i = h ∧ n * 1024 ≤ j then GD A h b j else 0
  mg : s.mg ≠ ⊥
  dq : Is2 s.dq fun r d => ∑ j ∈ Ico (n * 1024) ((b + 1) * 1024), A.DS h (b * 1024 + r) j * A.k h j d
  dcq : Is2 s.dcq fun r _ => ∑ j ∈ Ico (n * 1024) ((b + 1) * 1024), A.DS h (b * 1024 + r) j

variable {A h b}

/-- The block's exponentials are the softmax weights. -/
theorem expB_eq {n r l : ℕ} (hi : b * 1024 + r < 8192) (hj : n * 1024 + l ≤ b * 1024 + r) :
    expB (fun r d => A.q h (b * 1024 + r) d * A.σ) (fun l d => A.k h (n * 1024 + l) d) (fun r => A.c h (b * 1024 + r))
      (fun l => A.c h (n * 1024 + l)) (fun r => A.LSE h (b * 1024 + r)) r l = A.P h (b * 1024 + r) (n * 1024 + l) := by
  rw [← A.exp_sub_lse hi hj]
  unfold expB Data.S
  congr 1
  rw [Finset.sum_mul]
  have : ∑ d ∈ range 128, A.q h (b * 1024 + r) d * A.σ * A.k h (n * 1024 + l) d
      = ∑ d ∈ range 128, A.q h (b * 1024 + r) d * A.k h (n * 1024 + l) d * A.σ := sum_congr rfl fun d _ => by ring
  rw [this]; ring

theorem dpB_eq {n r l : ℕ} :
    dpB (fun r d => A.t h (b * 1024 + r) d) (fun l d => A.v h (n * 1024 + l) d) (fun r => A.DSUM h (b * 1024 + r)) r l
      = A.DP h (b * 1024 + r) (n * 1024 + l) - A.DSUM h (b * 1024 + r) := rfl

section
variable {e : Env Ideal} (G : GoodEnv A h b e) (hb : b < 8)
include G

theorem GoodEnv.row (n : Fin 8) : Is2 (a := 1) (b := 1024) (row e.g e.h n) fun _ l => A.c h (n.val * 1024 + l) := by
  have := is2_row G.g e.h n
  rwa [G.hh] at this

include hb

/-- The weights of a block before the diagonal. -/
theorem GoodEnv.P (n : Fin 8) (hn : n.val < b) :
    Is2 (k0_pay34 (F := Ideal) e.q e.cq e.lse (rows e.k n) (FoxI.row e.g e.h n)) fun r l => A.P h (b * 1024 + r) (n.val * 1024 + l) :=
  (is2_pay34 _ _ _ _ _ G.q G.cq G.lse (is2_rows G.k n) (G.row n)).congr fun r l hr hl => expB_eq (by omega) (by omega)

/-- The logits' gradients of a block before the diagonal. -/
theorem GoodEnv.DS (n : Fin 8) (hn : n.val < b) :
    Is2 (k0_pay35 (F := Ideal) e.q e.cq e.lse e.ct e.rs (rows e.k n) (rows e.v n) (FoxI.row e.g e.h n))
      fun r l => A.DS h (b * 1024 + r) (n.val * 1024 + l) :=
  (is2_pay35 _ _ _ _ _ _ _ _ G.q G.cq G.lse G.ct G.rs (is2_rows G.k n) (is2_rows G.v n) (G.row n)).congr fun r l hr hl => by
    rw [expB_eq (by omega) (by omega), dpB_eq]; rfl

/-- The diagonal block's exponentials below the diagonal, zero above it. -/
theorem GoodEnv.P' (n : Fin 8) (hn : n.val = b) :
    Is2 (k0_pay24 (F := Ideal) rowNo colNo (diagExp e n)) fun r l => A.P h (b * 1024 + r) (n.val * 1024 + l) :=
  (is2_pay24 (is2_pay23 _ _ _ _ _ G.q G.cq G.lse (is2_rows G.k n) (G.row n))).congr fun r l hr hl => by
    split
    · exact expB_eq (by omega) (by omega)
    · rw [A.P_eq_zero (by omega)]

/-- The diagonal block's logits' gradients. -/
theorem GoodEnv.DS' (n : Fin 8) (hn : n.val = b) :
    Is2 (k0_pay25 (F := Ideal) e.ct e.rs rowNo colNo (k0_pay22 (rows e.v n)) (diagExp e n))
      fun r l => A.DS h (b * 1024 + r) (n.val * 1024 + l) :=
  (is2_pay25 _ _ _ G.ct G.rs (is2_pay22 (is2_rows G.v n)) (is2_pay23 _ _ _ _ _ G.q G.cq G.lse (is2_rows G.k n) (G.row n))).congr
    fun r l hr hl => by
      split
      · rw [expB_eq (by omega) (by omega), dpB_eq]; rfl
      · rw [A.DS_eq_zero (by omega), zero_mul]
end

theorem sum_Ico_block (f : ℕ → ℝ) (n : ℕ) : ∑ j ∈ Ico (n * 1024) ((n + 1) * 1024), f j = ∑ x ∈ range 1024, f (n * 1024 + x) := by
  rw [Finset.sum_Ico_eq_sum_range, show (n + 1) * 1024 - n * 1024 = 1024 by omega]

theorem sum_Ico_step (f : ℕ → ℝ) {n : ℕ} (hn : n < b) :
    ∑ j ∈ Ico ((n + 1) * 1024) ((b + 1) * 1024), f j + ∑ x ∈ range 1024, f (n * 1024 + x) = ∑ j ∈ Ico (n * 1024) ((b + 1) * 1024), f j := by
  rw [← sum_Ico_block, add_comm]
  exact Finset.sum_Ico_consecutive f (by omega) (by omega)

variable {fk fv fg : ℕ → ℕ → ℝ}

/-- One more key block. -/
theorem good_step {e : Env Ideal} (G : GoodEnv A h b e) (hb : b < 8) (n : Fin 8) (hn : n.val < b) {s : St Ideal}
    (S : GoodSt A h b (n.val + 1) fk fv fg s) : GoodSt A h b n.val fk fv fg (step e n s) where
  dk := by
    refine (is2_putRows S.dk n (is2_pay37 _ _ _ _ _ _ _ _ (G.DS hb n hn) G.q (is2_rows S.dk n))).congr fun j d hj hd => ?_
    split
    · rename_i hc
      rw [Nat.add_sub_cancel' hc.1, if_neg (by omega), if_pos hc.1, add_zero]
      rfl
    · rename_i hc
      by_cases h1 : (n.val + 1) * 1024 ≤ j
      · rw [if_pos h1, if_pos (by omega)]
      · rw [if_neg h1, if_neg (by omega)]
  dv := by
    refine (is2_putRows S.dv n (is2_pay38 _ _ _ _ _ _ (G.P hb n hn) G.ct (is2_rows S.dv n))).congr fun j d hj hd => ?_
    split
    · rename_i hc
      rw [Nat.add_sub_cancel' hc.1, if_neg (by omega), if_pos hc.1, add_zero]
      rfl
    · rename_i hc
      by_cases h1 : (n.val + 1) * 1024 ≤ j
      · rw [if_pos h1, if_pos (by omega)]
      · rw [if_neg h1, if_neg (by omega)]
  dg := by
    refine (is2_putRow S.dg e.h n (is2_pay2 _ _ _ _ _ _ _ _ (G.DS hb n hn) (is2_row S.dg e.h n))).congr fun i j hi hj => ?_
    have hh := G.hh
    split
    · rename_i hc
      rw [Nat.add_sub_cancel' hc.2.1, if_neg (by omega), if_pos ⟨by omega, hc.2.1⟩, sub_zero, hc.1]
      rfl
    · rename_i hc
      by_cases h1 : i = h ∧ (n.val + 1) * 1024 ≤ j
      · rw [if_pos h1, if_pos ⟨h1.1, by omega⟩]
      · rw [if_neg h1, if_neg (by omega)]
  mg := pay5_ne_bot G.top (is2_row G.g e.h (prev n))
  dq := (is2_pay3 _ _ _ _ _ _ _ _ (G.DS hb n hn) (is2_rows G.k n) S.dq).congr fun r d hr hd =>
    sum_Ico_step (fun j => A.DS h (b * 1024 + r) j * A.k h j d) hn
  dcq := (is2_pay4 (G.DS hb n hn) S.dcq).congr fun r d hr hd => sum_Ico_step (fun j => A.DS h (b * 1024 + r) j) hn

/-- The loop does all blocks before the diagonal. -/
theorem good_walk {e : Env Ideal} (G : GoodEnv A h b e) (hb : b < 8) (n : ℕ) (h8 : n ≤ 8) (hn : n ≤ b) {s : St Ideal}
    (S : GoodSt A h b n fk fv fg s) : GoodSt A h b 0 fk fv fg (walk e n h8 s) := by
  induction n generalizing s with
  | zero => exact S
  | succ n ih =>
    show GoodSt A h b 0 fk fv fg (if goesOn s.mg then walk e n (Nat.le_of_succ_le h8) (step e ⟨n, h8⟩ s) else s)
    rw [if_pos (goesOn_of_ne_bot S.mg)]
    exact ih _ (by omega) (good_step G hb ⟨n, h8⟩ (by simpa using hn) S)

/-- The carried state is real. -/
structure GoodAcc (fk fv fg : ℕ → ℕ → ℝ) (a : Acc Ideal) : Prop where
  dk : Is2 a.dk fk
  dv : Is2 a.dv fv
  dg : Is2 a.dg fg
  km : ∀ i, 0 ≤ a.km i

/-- The diagonal block. -/
theorem good_diag {e : Env Ideal} (G : GoodEnv A h b e) (hb : b < 8) {x : In Ideal} {a : Acc Ideal} (C : GoodAcc fk fv fg a)
    (htop : k0_pay17 (F := Ideal) e.lse e.cq a.km (k0_pay16 x.q) ≠ ⊥) :
    GoodSt A h b b fk fv fg (diag x e ⟨b, hb⟩ a) where
  dk := by
    refine (is2_putRows C.dk ⟨b, hb⟩ (is2_pay27 _ _ _ _ (G.DS' hb ⟨b, hb⟩ rfl) G.q (is2_rows C.dk ⟨b, hb⟩))).congr fun j d hj hd => ?_
    dsimp only
    split
    · rename_i hc
      rw [Nat.add_sub_cancel' hc.1, if_pos hc.1]
      rfl
    · rename_i hc
      split
      · rw [KD_zero _ _ _ _ (by omega), add_zero]
      · rw [add_zero]
  dv := by
    refine (is2_putRows C.dv ⟨b, hb⟩ (is2_pay28 _ (G.P' hb ⟨b, hb⟩ rfl) G.ct (is2_rows C.dv ⟨b, hb⟩))).congr fun j d hj hd => ?_
    dsimp only
    split
    · rename_i hc
      rw [Nat.add_sub_cancel' hc.1, if_pos hc.1]
      rfl
    · rename_i hc
      split
      · rw [VD_zero _ _ _ _ (by omega), add_zero]
      · rw [add_zero]
  dg := by
    refine (is2_putRow C.dg e.h ⟨b, hb⟩ (is2_pay29 _ _ _ (G.DS' hb ⟨b, hb⟩ rfl) (is2_row C.dg e.h ⟨b, hb⟩))).congr fun i j hi hj => ?_
    have hh := G.hh
    dsimp only
    split
    · rename_i hc
      rw [Nat.add_sub_cancel' hc.2.1, if_pos ⟨by omega, hc.2.1⟩, hc.1]
      rfl
    · rename_i hc
      split
      · rw [GD_zero _ _ _ (by omega), sub_zero]
      · rw [sub_zero]
  mg := pay20_ne_bot _ _ _ htop (is2_row G.g e.h (prev ⟨b, hb⟩))
  dq := (is2_pay30 _ _ _ _ (G.DS' hb ⟨b, hb⟩ rfl) (is2_rows G.k ⟨b, hb⟩)).congr fun r d hr hd => by rw [sum_Ico_block]
  dcq := (is2_pay31 _ _ _ (G.DS' hb ⟨b, hb⟩ rfl)).congr fun r d hr hd => by rw [sum_Ico_block]

/-- The point's inputs are the arguments' reals, the output and the log-sum-exps those of the attention. -/
structure GoodIn (A : Data) (h b : ℕ) (x : In Ideal) : Prop where
  q : Is2 x.q fun r d => A.q h (b * 1024 + r) d * A.σ
  k : Is2 x.k fun j d => A.k h j d
  v : Is2 x.v fun j d => A.v h j d
  cl : ∃ f, Is2 x.cl f ∧ ∀ r, r < 1024 → f r h = A.c h (b * 1024 + r)
  g : Is2 x.g fun i j => A.c i j
  o : Is2 x.o fun r d => A.O h (b * 1024 + r) d
  ct : Is2 x.ct fun r d => A.t h (b * 1024 + r) d
  lse : ∀ r : Fin 1024, x.lse (ix3 0 r 0) = ((A.LSE h (b * 1024 + r.val) : ℝ) : EReal)

/-- What the loop reads of such inputs. -/
theorem good_env {i : grid0.Coords} (h0 : (i 0).val = h) (h1 : (i 1).val = b) {x : In Ideal} (I : GoodIn A h b x) {km : FVec Ideal S1x1 .f32}
    (hkm : ∀ i, 0 ≤ km i) : GoodEnv A h b (env i x km) where
  hh := h0
  q := is2_pay10 I.q
  k := I.k
  v := I.v
  g := I.g
  cq := by
    obtain ⟨f, hf, hc⟩ := I.cl
    exact (is2_pay15 i hf).congr fun r _ hr _ => by rw [h0, hc r hr]
  lse := is2_pay14 I.lse
  ct := is2_pay12 I.ct
  rs := is2_pay13 I.ct I.o
  top := by
    obtain ⟨f, hf, hc⟩ := I.cl
    exact pay17_ne_bot (fl := fun r => A.LSE h (b * 1024 + r)) (fc := fun r => f r (i 0).val) _ _ _ (is2_pay14 I.lse) (is2_pay15 i hf) hkm I.q

/-- The state a point leaves. -/
theorem good_point {i : grid0.Coords} (h0 : (i 0).val = h) (h1 : (i 1).val = b) (hb : b < 8) {x : In Ideal} (I : GoodIn A h b x)
    {a : Acc Ideal} (C : GoodAcc fk fv fg a) : GoodSt A h b 0 fk fv fg (point i x a) := by
  have G := good_env h0 h1 I C.km
  subst h1
  exact good_walk G hb _ _ le_rfl (good_diag G hb C G.top)

/-- The accumulators a point leaves. -/
theorem good_next {i : grid0.Coords} (h0 : (i 0).val = h) (h1 : (i 1).val = b) (hb : b < 8) {x : In Ideal} (I : GoodIn A h b x)
    {a : Acc Ideal} (C : GoodAcc fk fv fg (clear i x a)) :
    GoodAcc (fun j d => fk j d + KD A h b j d) (fun j d => fv j d + VD A h b j d)
      (fun i j => fg i j - if i = h then GD A h b j else 0) (next i x a) where
  dk := (good_point h0 h1 hb I C).dk.congr fun j d hj hd => by rw [if_pos (by omega)]
  dv := (good_point h0 h1 hb I C).dv.congr fun j d hj hd => by rw [if_pos (by omega)]
  dg := (good_point h0 h1 hb I C).dg.congr fun j d hj hd => by simp
  km := C.km

/-- A sum up to the diagonal block is the whole sum. -/
theorem sum_to_diag (f : ℕ → ℝ) {r : ℕ} (hb : b < 8) (hr : r < 1024) (hz : ∀ j, b * 1024 + r < j → f j = 0) :
    ∑ j ∈ Ico (0 * 1024) ((b + 1) * 1024), f j = ∑ j ∈ range 8192, f j := by
  rw [Nat.zero_mul, Nat.Ico_zero_eq_range]
  exact (Data.sum_range_of_zero f (by omega) fun x hx => hz x (by omega)).symm

/-- The query block's gradient. -/
theorem good_outQ {i : grid0.Coords} (h0 : (i 0).val = h) (h1 : (i 1).val = b) (hb : b < 8) {x : In Ideal} (I : GoodIn A h b x)
    (hσ : A.σ = scale) {a : Acc Ideal} (C : GoodAcc fk fv fg (clear i x a)) :
    Is2 (outQ i x a) fun r d => A.DQ h (b * 1024 + r) d :=
  (is2_pay32 (good_point h0 h1 hb I C).dq).congr fun r d hr hd => by
    rw [sum_to_diag _ hb hr (fun j hj => by rw [A.DS_eq_zero hj, zero_mul]), ← hσ]; rfl

/-- The query-side gates' gradient. -/
theorem good_outG {i : grid0.Coords} (h0 : (i 0).val = h) (h1 : (i 1).val = b) (hb : b < 8) {x : In Ideal} (I : GoodIn A h b x)
    {a : Acc Ideal} (C : GoodAcc fk fv fg (clear i x a)) (r : Fin 1024) :
    outG i x a (ix3 0 r 0) = ((∑ j ∈ range 8192, A.DS h (b * 1024 + r.val) j : ℝ) : EReal) := by
  rw [← sum_to_diag _ hb r.isLt (fun j hj => A.DS_eq_zero hj)]
  exact pay1_apply (fz := fun r => ∑ j ∈ Ico (0 * 1024) ((b + 1) * 1024), A.DS h (b * 1024 + r) j) (good_point h0 h1 hb I C).dcq r

end Cert.Proof.FoxV

end
-- ==== Proof.Fox.FrameI.lean ====
/-
  The region's run: what each window's buffer holds after each grid point, the body's obligation, the run of the whole
  program, and the frame.
-/
module

public import proofs.«01_k».proof.Proof.Fox.BodyI
public import Idealize.ShloMosaic.Lib.Claim

@[expose] public section

set_option maxRecDepth 16384

noncomputable section

namespace Cert.Proof.FoxI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Fox

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The run's contents -/

/-- What the body reads at point `t`: the windows' blocks. -/
def inAt (c : Dev nD) (t : Fin (cfg0 (F := F)).N) : In F where
  q := iblk m c 0 t
  k := iblk m c 1 t
  v := iblk m c 2 t
  cl := iblk m c 3 t
  g := iblk m c 4 t
  o := iblk m c 5 t
  ct := iblk m c 6 t
  lse := iblk m c 7 t

/-- The carried state before point `n` (after point `n - 1`). -/
def accAt (c : Dev nD) : ℕ → Acc F
  | 0 => ⟨k0_pay6, k0_pay7, k0_pay9, k0_pay8 (iblk m c 1 ⟨0, by rw [show (cfg0 (F := F)).N = 64 from N_0]; omega⟩)⟩
  | n + 1 => if h : n < (cfg0 (F := F)).N then next (grid0.coords ⟨n, h⟩) (inAt m c ⟨n, h⟩) (accAt c n) else accAt c n

theorem accAt_succ (c : Dev nD) (t : Fin (cfg0 (F := F)).N) :
    accAt m c (t.val + 1) = next (grid0.coords t) (inAt m c t) (accAt m c t.val) :=
  dif_pos t.isLt

/-- What the scratch cell and the generator register hold before point `n`: anything before the first. -/
def PhiAt (c : Dev nD) : ℕ → sProp 𝕄
  | 0 => Pipeline.ΦA spec0 c
  | n + 1 => iprop(owns (c : Thread nD τ) scM0_0 fullShare (accAt m c (n + 1)).km ∗ (∃ r, prngReg c r))

theorem PhiAt_succ (c : Dev nD) (n : ℕ) :
    PhiAt m c (n + 1) = iprop(owns (c : Thread nD τ) scM0_0 fullShare (accAt m c (n + 1)).km ∗ (∃ r, prngReg c r)) := rfl

/-- The proof data: the arrays as the region finds them, the buffers after each point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (grid0.coords t) (inAt m c t) (accAt m c t.val)
    | ⟨9, _⟩ => (accAt m c (t.val + 1)).dk
    | ⟨10, _⟩ => (accAt m c (t.val + 1)).dv
    | ⟨11, _⟩ => (accAt m c (t.val + 1)).dg
    | ⟨12, _⟩ => outG (grid0.coords t) (inAt m c t) (accAt m c t.val)
  Φ k := PhiAt m c k.val
  q w := Pipeline.shareOf spec0 w
  owed _ := 0

theorem A_eq (c : Dev nD) (w : Fin (cfg0 (F := F)).W) : (dats m 0 c).A w = V m c (Pipeline.arrRef spec0 w) := by
  dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = iblk m c 7 t := by dsimp only [dats]; rfl
theorem after0_8 (c : Dev nD) (t : Fin (cfg0 (F := F)).N) : (dats m 0 c).after 8 t = outQ (grid0.coords t) (inAt m c t) (accAt m c t.val) := by dsimp only [dats]; rfl
theorem after0_9 (c : Dev nD) (t : Fin (cfg0 (F := F)).N) : (dats m 0 c).after 9 t = (accAt m c (t.val + 1)).dk := by dsimp only [dats]; rfl
theorem after0_10 (c : Dev nD) (t : Fin (cfg0 (F := F)).N) : (dats m 0 c).after 10 t = (accAt m c (t.val + 1)).dv := by dsimp only [dats]; rfl
theorem after0_11 (c : Dev nD) (t : Fin (cfg0 (F := F)).N) : (dats m 0 c).after 11 t = (accAt m c (t.val + 1)).dg := by dsimp only [dats]; rfl
theorem after0_12 (c : Dev nD) (t : Fin (cfg0 (F := F)).N) : (dats m 0 c).after 12 t = outG (grid0.coords t) (inAt m c t) (accAt m c t.val) := by dsimp only [dats]; rfl
theorem Phi_eq (c : Dev nD) (k) : (dats m 0 c).Φ k = PhiAt m c k.val := by dsimp only [dats]

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d
theorem before0_7 (c : Dev nD) (t : Fin (cfg0 (F := F)).N) (d) : (dats m 0 c).before 7 t d = iblk m c 7 t :=
  before0_7_of m (dats m 0 c) (A_eq m c 7) (after0_7 m c) t d

/-- Output 9's buffer holds what the point before left, unless the head has just changed. -/
theorem before0_9 (c : Dev nD) (t : Fin (cfg0 (F := F)).N) (h0 : ¬t.val % 8 = 0) (d) :
    (dats m 0 c).before 9 t d = (accAt m c t.val).dk := by
  have hN : t.val < 64 := lt_of_lt_of_eq t.isLt (show (cfg0 (F := F)).N = 64 from N_0)
  rw [Dat.before_out_kept _ 9 rfl t (by omega) (Bool.eq_false_iff.mpr fun h => by have := (flush0_9 _).mp h; dsimp only at this; omega)
    (fun _ => rfl) (fun _ _ => rfl), after0_9]
  dsimp only
  rw [Nat.sub_add_cancel (by omega)]

/-- Output 10's buffer holds what the point before left, unless the head has just changed. -/
theorem before0_10 (c : Dev nD) (t : Fin (cfg0 (F := F)).N) (h0 : ¬t.val % 8 = 0) (d) :
    (dats m 0 c).before 10 t d = (accAt m c t.val).dv := by
  have hN : t.val < 64 := lt_of_lt_of_eq t.isLt (show (cfg0 (F := F)).N = 64 from N_0)
  rw [Dat.before_out_kept _ 10 rfl t (by omega) (Bool.eq_false_iff.mpr fun h => by have := (flush0_10 _).mp h; dsimp only at this; omega)
    (fun _ => rfl) (fun _ _ => rfl), after0_10]
  dsimp only
  rw [Nat.sub_add_cancel (by omega)]

/-- Output 11's buffer holds what the point before left, unless the point is the first. -/
theorem before0_11 (c : Dev nD) (t : Fin (cfg0 (F := F)).N) (h0 : ¬t.val % 64 = 0) (d) :
    (dats m 0 c).before 11 t d = (accAt m c t.val).dg := by
  have hN : t.val < 64 := lt_of_lt_of_eq t.isLt (show (cfg0 (F := F)).N = 64 from N_0)
  rw [Dat.before_out_kept _ 11 rfl t (by omega) (Bool.eq_false_iff.mpr fun h => by have := (flush0_11 _).mp h; dsimp only at this; omega)
    (fun _ => rfl) (fun _ _ => rfl), after0_11]
  dsimp only
  rw [Nat.sub_add_cancel (by omega)]

/-- What a point clears it does not depend on: the carried state may be anything there. -/
theorem clear_congr (t : Fin (cfg0 (F := F)).N) (x : In F) (a b : Acc F) (h8 : ¬t.val % 8 = 0 → a.dk = b.dk ∧ a.dv = b.dv ∧ a.km = b.km)
    (h64 : ¬t.val % 64 = 0 → a.dg = b.dg) : clear (grid0.coords t) x a = clear (grid0.coords t) x b := by
  unfold clear
  congr 1
  · by_cases h : cond0_0 (grid0.coords t)
    · rw [if_pos h, if_pos h]
    · rw [if_neg h, if_neg h, (h8 fun e => h ((hcond0_0 (F := F) t).mpr e)).1]
  · by_cases h : cond0_0 (grid0.coords t)
    · rw [if_pos h, if_pos h]
    · rw [if_neg h, if_neg h, (h8 fun e => h ((hcond0_0 (F := F) t).mpr e)).2.1]
  · by_cases h : cond0_1 (grid0.coords t)
    · rw [if_pos h, if_pos h]
    · rw [if_neg h, if_neg h, h64 fun e => h ((hcond0_1 (F := F) t).mpr e)]
  · by_cases h : cond0_0 (grid0.coords t)
    · rw [if_pos h, if_pos h]
    · rw [if_neg h, if_neg h, (h8 fun e => h ((hcond0_0 (F := F) t).mpr e)).2.2]

/-- The scratch cell before point `n`: at the carried contents, or at the first point at anything. -/
theorem PhiAt_open (c : Dev nD) (n : ℕ) :
    PhiAt m c n ⊢ iprop(∃ d, ⌜n ≠ 0 → d = (accAt m c n).km⌝ ∗ owns (c : Thread nD τ) scM0_0 fullShare d ∗ (∃ r, prngReg c r)) := by
  cases n with
  | zero =>
    rw [PhiAt, PhiA0_eq]
    iintro ⟨⟨%d, H⟩, Hr⟩
    iexists d
    isplitr
    · ipureintro; intro h; exact absurd rfl h
    · isplitl [H]; · iexact H
      iexact Hr
  | succ n =>
    rw [PhiAt]
    iintro ⟨H, Hr⟩
    iexists _
    isplitr
    · ipureintro; intro _; rfl
    · isplitl [H]; · iexact H
      iexact Hr

/-- After the last point the scratch cell may be forgotten. -/
theorem PhiAt_close (c : Dev nD) (n : ℕ) : PhiAt m c n ⊢ (Pipeline.ΦA spec0 c : sProp 𝕄) := by
  rw [PhiA0_eq]
  iintro H
  ihave H := (PhiAt_open m c n) $$ H
  icases H with ⟨%d, %hd, H, Hr⟩
  isplitl [H]
  · iexists d; iexact H
  · iexact Hr

/-! ## The body's obligation -/

/-- What the body is called with at point `t`: the scratch, the core's debts and the windows' buffers, the outputs' at
    anything the point need not know. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 (F := F) t) fullShare ((dats m 0 c).before 0 t d))
    ∗ (∃ d, owns (c : Thread nD τ) (ms0_1 (F := F) t) fullShare ((dats m 0 c).before 1 t d))
    ∗ (∃ d, owns (c : Thread nD τ) (ms0_2 (F := F) t) fullShare ((dats m 0 c).before 2 t d))
    ∗ (∃ d, owns (c : Thread nD τ) (ms0_3 (F := F) t) fullShare ((dats m 0 c).before 3 t d))
    ∗ (∃ d, owns (c : Thread nD τ) (ms0_4 (F := F) t) fullShare ((dats m 0 c).before 4 t d))
    ∗ (∃ d, owns (c : Thread nD τ) (ms0_5 (F := F) t) fullShare ((dats m 0 c).before 5 t d))
    ∗ (∃ d, owns (c : Thread nD τ) (ms0_6 (F := F) t) fullShare ((dats m 0 c).before 6 t d))
    ∗ (∃ d, owns (c : Thread nD τ) (ms0_7 (F := F) t) fullShare ((dats m 0 c).before 7 t d))
    ∗ (∃ d, owns (c : Thread nD τ) (ms0_8 (F := F) t) fullShare ((dats m 0 c).before 8 t d))
    ∗ (∃ d, owns (c : Thread nD τ) (ms0_9 (F := F) t) fullShare ((dats m 0 c).before 9 t d))
    ∗ (∃ d, owns (c : Thread nD τ) (ms0_10 (F := F) t) fullShare ((dats m 0 c).before 10 t d))
    ∗ (∃ d, owns (c : Thread nD τ) (ms0_11 (F := F) t) fullShare ((dats m 0 c).before 11 t d))
    ∗ (∃ d, owns (c : Thread nD τ) (ms0_12 (F := F) t) fullShare ((dats m 0 c).before 12 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 (F := F) t) fullShare ((dats m 0 c).after 0 t)
    ∗ owns (c : Thread nD τ) (ms0_1 (F := F) t) fullShare ((dats m 0 c).after 1 t)
    ∗ owns (c : Thread nD τ) (ms0_2 (F := F) t) fullShare ((dats m 0 c).after 2 t)
    ∗ owns (c : Thread nD τ) (ms0_3 (F := F) t) fullShare ((dats m 0 c).after 3 t)
    ∗ owns (c : Thread nD τ) (ms0_4 (F := F) t) fullShare ((dats m 0 c).after 4 t)
    ∗ owns (c : Thread nD τ) (ms0_5 (F := F) t) fullShare ((dats m 0 c).after 5 t)
    ∗ owns (c : Thread nD τ) (ms0_6 (F := F) t) fullShare ((dats m 0 c).after 6 t)
    ∗ owns (c : Thread nD τ) (ms0_7 (F := F) t) fullShare ((dats m 0 c).after 7 t)
    ∗ owns (c : Thread nD τ) (ms0_8 (F := F) t) fullShare ((dats m 0 c).after 8 t)
    ∗ owns (c : Thread nD τ) (ms0_9 (F := F) t) fullShare ((dats m 0 c).after 9 t)
    ∗ owns (c : Thread nD τ) (ms0_10 (F := F) t) fullShare ((dats m 0 c).after 10 t)
    ∗ owns (c : Thread nD τ) (ms0_11 (F := F) t) fullShare ((dats m 0 c).after 11 t)
    ∗ owns (c : Thread nD τ) (ms0_12 (F := F) t) fullShare ((dats m 0 c).after 12 t))

set_option maxHeartbeats 3600000 in
/-- The body at any point takes the buffers from the one to the other. -/
theorem sound_body (c : Dev nD) (t : Fin (cfg0 (F := F)).N) :
    bodyPre m c t ⊢ wp Idealize.ShloMosaic.frame (wpE (defs₀ (F := F)) 𝒱₀ (c : Thread nD τ) none) Set.univ (bodyAt0 t) (fun _ => bodyPost m c t) := by
  unfold bodyPre
  simp only [before0_0, before0_1, before0_2, before0_3, before0_4, before0_5, before0_6, before0_7, Phi_eq, Fin.val_castSucc]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HΦ := (PhiAt_open m c t.val) $$ HΦ
  icases HΦ with ⟨%km, %hkm, HS, HR⟩
  have hN : t.val < 64 := lt_of_lt_of_eq t.isLt (show (cfg0 (F := F)).N = 64 from N_0)
  have hc := clear_congr t (inAt m c t) ⟨(dats m 0 c).before 9 t d9, (dats m 0 c).before 10 t d10, (dats m 0 c).before 11 t d11, km⟩ (accAt m c t.val)
    (fun h => ⟨before0_9 m c t h d9, before0_10 m c t h d10, hkm (by omega)⟩) (fun h => before0_11 m c t h d11)
  have hn : next (grid0.coords t) (inAt m c t) ⟨(dats m 0 c).before 9 t d9, (dats m 0 c).before 10 t d10, (dats m 0 c).before 11 t d11, km⟩
      = accAt m c (t.val + 1) := by rw [accAt_succ]; unfold next; rw [hc]
  have hq : outQ (grid0.coords t) (inAt m c t) ⟨(dats m 0 c).before 9 t d9, (dats m 0 c).before 10 t d10, (dats m 0 c).before 11 t d11, km⟩
      = outQ (grid0.coords t) (inAt m c t) (accAt m c t.val) := by unfold outQ; rw [hc]
  have hg : outG (grid0.coords t) (inAt m c t) ⟨(dats m 0 c).before 9 t d9, (dats m 0 c).before 10 t d10, (dats m 0 c).before 11 t d11, km⟩
      = outG (grid0.coords t) (inAt m c t) (accAt m c t.val) := by unfold outG; rw [hc]
  iapply (body_wp c (grid0.coords t) (inAt m c t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    ⟨(dats m 0 c).before 9 t d9, (dats m 0 c).before 10 t d10, (dats m 0 c).before 11 t d11, km⟩ ((dats m 0 c).before 8 t d8) ((dats m 0 c).before 12 t d12))
  rw [hn, hq, hg]
  unfold inOwns accOwns
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H9 H10 H11 HS]
  · isplitl [H9]; · iexact H9
    isplitl [H10]; · iexact H10
    isplitl [H11]; · iexact H11
    iexact HS
  isplitl [H8]; · iexact H8
  isplitl [H12]; · iexact H12
  iintro ⟨⟨H0, H1, H2, H3, H4, H5, H6, H7⟩, ⟨H9, H10, H11, HS⟩, H8, H12⟩
  unfold bodyPost
  rw [after0_0, after0_1, after0_2, after0_3, after0_4, after0_5, after0_6, after0_7, after0_8, after0_9, after0_10, after0_11, after0_12, Phi_eq]
  isplitl [HS HR]
  · rw [Fin.val_succ, PhiAt_succ]
    isplitl [HS]; · iexact HS
    iexact HR
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body meets the region's obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run of the whole program: the region's arrays end as the proof data say, every other buffer as the lines after
    the region leave it, every semaphore at zero. -/
theorem run_main_quiescent : θ_run defs (onTc (τ := τ) (main (F := F))) (s₀ m ρ)
    (fun r => (Pipeline.FramePost (cfgs (F := F)) (dats m) 0 (Pipeline.afterTail₀ (cfgs (F := F)) (dats m) 0 (V0 m) [hostOps1])) r ∧ r.2.sem = fun _ => 0) :=
  Pipeline.θ_run_frame_around_track_shared (Q' := _) (cfgs (F := F)) (dats m) (0 : Fin 1) launch₀0 defs₀ 𝒱₀ m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m 𝒱₀) (hA := A_eq m)
    (hin := fun c => by rw [Phi_eq]; exact .rfl)
    (hout := fun c => by rw [Phi_eq]; exact PhiAt_close m c _)

theorem run_main : θ_run defs (onTc (τ := τ) (main (F := F))) (s₀ m ρ)
    (Pipeline.FramePost (cfgs (F := F)) (dats m) 0 (Pipeline.afterTail₀ (cfgs (F := F)) (dats m) 0 (V0 m) [hostOps1])) :=
  (θ_run defs _ _).mono (fun _ h => h.1) (run_main_quiescent m ρ)

/-- The frame: every argument ends as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.FoxI

end
-- ==== Proof.Fox.HostV.lean ====
/-
  What the host lines before the kernel's region compute, over the reals: the packed queries, keys and values, the summed
  log gates with the heads across, the attention's output and its log-sum-exps.
-/
module

public import proofs.«01_k».proof.Proof.Fox.PointV
public import proofs.«01_k».proof.Proof.Fox.FrameI
public import Idealize.ShloMosaic.Lib.Claim

@[expose] public section

set_option maxRecDepth 16384

noncomputable section

namespace Cert.Proof.FoxV

open Idealize.ShloMosaic Cert.KernelIdeal Cert.KernelIdeal.Gen
open Idealize.ShloMosaic.TcCoe Idealize.ShloMosaic.Tactic
open Idealize.ShloMosaic.Pointwise
open Cert.Proof.FoxI
open scoped BigOperators
open Finset (range)

/-! ## The host lines' values, as functions of the arguments -/

variable (q k v : FVec Ideal S8x8192x128 .f32) (g : FVec Ideal S8x8192 .f32) (t : FVec Ideal S8x8192x128 .f32)

/-- The masked logits. -/
abbrev hLog : FVec Ideal S8x8192x8192 .f32 := ReferenceIdeal.Read.val_main_v15_0 (F := Ideal) q k g
/-- Their maxima. -/
abbrev hMax : FVec Ideal S8x8192 .f32 := ReferenceIdeal.Read.val_main_v16 (F := Ideal) q k g
/-- The maxima as columns. -/
def hMaxC : FVec Ideal S8x8192x1 .f32 := broadcastInDim S8x8192x1 ![0, 1] bcast_S8x8192_S8x8192x1_0_1 (hMax q k g)
/-- The exponentials. -/
def hExp : FVec Ideal S8x8192x8192 .f32 :=
  Host.exp (subf (hLog q k g) (broadcastInDim S8x8192x8192 ![0, 1, 2] bcast_S8x8192x1_S8x8192x8192_0_1_2 (hMaxC q k g)))
/-- Their sums as columns. -/
def hSum : FVec Ideal S8x8192x1 .f32 :=
  broadcastInDim S8x8192x1 ![0, 1] bcast_S8x8192_S8x8192x1_0_1
    (Host.reduceAdd (hExp q k g) (constant S_ .f32 0x00000000#32) reducesTo_S8x8192x8192_S8x8192_d2 h_S_)
/-- The softmax weights. -/
def hP : FVec Ideal S8x8192x8192 .f32 :=
  Host.divf (hExp q k g) (broadcastInDim S8x8192x8192 ![0, 1, 2] bcast_S8x8192x1_S8x8192x8192_0_1_2 (hSum q k g))
/-- The output. -/
def hOut : FVec Ideal S8x8192x128 .f32 :=
  Host.dotGeneral dot_S8x8192x8192_S8x8192x128_S8x8192x128_2_1_1_2_0_0 none (hP q k g) v
/-- The log-sum-exps. -/
def hLse : FVec Ideal S8x8192x1 .f32 := addf (hMaxC q k g) (Host.log (hSum q k g))
/-- The heads side by side. -/
def hRows (x : FVec Ideal S8x8192x128 .f32) : FVec Ideal S8192x1024 .f32 :=
  shapeCast S8192x1024 (transpose S8192x8x128 [1, 0, 2] x transposes_S8x8192x128_S8192x8x128_1_0_2) shapeCasts_S8192x8x128_S8192x1024
/-- The scaled queries. -/
def hScaled : FVec Ideal S8x8192x128 .f32 := mulf q (broadcastInDim S8x8192x128 ![] bcast_S_S8x8192x128 (constant S_ .f32 0x3DB504F3#32))
/-- The three packed, in the low precision. -/
def hCat : FVec Ideal S8192x3072 .bf16 :=
  truncf .bf16 (concatenate S8192x3072 1 [⟨S8192x1024, hRows (hScaled q)⟩, ⟨S8192x1024, hRows k⟩, ⟨S8192x1024, hRows v⟩]
    concatenates_S8192x1024_S8192x1024_S8192x1024_S8192x3072_d1) bitsLt_bf16_f32
/-- The packed array. -/
def hPack : FVec Ideal S8192x6144 .bf16 :=
  pad S8192x6144 ![0, 0] ![0, 3072] ![0, 0] (hCat q k v) (sitofp .bf16 (constantI S_ 32 0#32)) pads_S8192x3072_S8192x6144_000_030720 h_S_
/-- The summed log gates with the heads across. -/
def hGates : FVec Ideal S8192x128 .f32 :=
  pad S8192x128 ![0, 0] ![0, 120] ![0, 0] (transpose S8192x8 [1, 0] g transposes_S8x8192_S8192x8_1_0) (sitofp .f32 (constantI S_ 32 0#32))
    pads_S8192x8_S8192x128_000_01200 h_S_

/-! ## The buffers hold them -/

section Buffers
variable (m : (ℓ : Loc nD τ sig) → Buf (Elt Ideal) ℓ) (c : Dev nD)

abbrev aq : FVec Ideal S8x8192x128 .f32 := m ((c : Thread nD τ).loc main_arg0)
abbrev ak : FVec Ideal S8x8192x128 .f32 := m ((c : Thread nD τ).loc main_arg1)
abbrev av : FVec Ideal S8x8192x128 .f32 := m ((c : Thread nD τ).loc main_arg2)
abbrev ag : FVec Ideal S8x8192 .f32 := m ((c : Thread nD τ).loc main_arg3)
abbrev at' : FVec Ideal S8x8192x128 .f32 := m ((c : Thread nD τ).loc main_arg4)

theorem V_gates : V m c main_v40 = hGates (ag m c) := by
  entry_read
  rfl
theorem V_pack : V m c main_v38 = hPack (aq m c) (ak m c) (av m c) := by
  entry_read
  rfl
theorem V_ct : V m c main_v44 = hRows (at' m c) := by
  entry_read
  rfl
/-- The contents once the masked logits are there. -/
def mid : Valuation τ sig (Elt Ideal) := StableHlo.after (hostOps0 ++ hostOps0_1) (fun b => m (c, b))

theorem mid_log : mid m c (Proc.devRef .tc main_v15) = hLog (aq m c) (ak m c) (ag m c) := by
  show StableHlo.after (hostOps0 ++ hostOps0_1) (fun b => m (c, b)) (Proc.devRef .tc main_v15) = _
  simp only [hostOps0, hostOps0_1, List.cons_append, List.nil_append]
  entry_read
  rfl
theorem mid_v : mid m c (Proc.devRef .tc main_arg2) = av m c := by
  show StableHlo.after (hostOps0 ++ hostOps0_1) (fun b => m (c, b)) (Proc.devRef .tc main_arg2) = _
  simp only [hostOps0, hostOps0_1, List.cons_append, List.nil_append]
  entry_read
  rfl
theorem V_mid (b : Ref sig .tc) : V m c b = StableHlo.after (hostOps0_2 ++ (hostOps0_3 ++ (hostOps0_4 ++ (hostOps0_5 ++ hostOps0_6)))) (mid m c) (Proc.devRef .tc b) := rfl

theorem tail_lse (σ : Valuation τ sig (Elt Ideal)) (hσ : σ (Proc.devRef .tc main_v15) = hLog q k g) :
    StableHlo.after (hostOps0_2 ++ (hostOps0_3 ++ (hostOps0_4 ++ (hostOps0_5 ++ hostOps0_6)))) σ (Proc.devRef .tc main_v27) = hLse q k g := by
  simp only [hostOps0_2, hostOps0_3, hostOps0_4, hostOps0_5, hostOps0_6, List.cons_append, List.nil_append]
  entry_read
  rw [hσ]
  rfl
theorem tail_out (σ : Valuation τ sig (Elt Ideal)) (hσ : σ (Proc.devRef .tc main_v15) = hLog q k g) (hv : σ (Proc.devRef .tc main_arg2) = v) :
    StableHlo.after (hostOps0_2 ++ (hostOps0_3 ++ (hostOps0_4 ++ (hostOps0_5 ++ hostOps0_6)))) σ (Proc.devRef .tc main_v42) = hRows (hOut q k v g) := by
  simp only [hostOps0_2, hostOps0_3, hostOps0_4, hostOps0_5, hostOps0_6, List.cons_append, List.nil_append]
  entry_read
  rw [hσ, hv]
  rfl
theorem V_out : V m c main_v42 = hRows (hOut (aq m c) (ak m c) (av m c) (ag m c)) := by
  rw [V_mid]; exact tail_out _ _ _ _ _ (mid_log m c) (mid_v m c)
theorem V_lse : V m c main_v27 = hLse (aq m c) (ak m c) (ag m c) := by
  rw [V_mid]; exact tail_lse _ _ _ _ (mid_log m c)
end Buffers

/-! ## Their values over the reals -/

section Values
variable {q k v g t} (h0 : Fin' q) (h1 : Fin' k) (h2 : Fin' v) (h3 : Fin' g) (h4 : Fin' t)

theorem hMax_eq : hMax q k g = ReferenceIdeal.Read.val_main_v23 (F := Ideal) q k g := by
  funext i
  rw [ReferenceIdeal.Read.val_main_v23_apply, ReferenceIdeal.Read.val_main_v22_apply, ReferenceIdeal.Read.val_main_cst_3_apply,
    Ideal.ofBits_def, ofBits_neg_inf, Ideal.maximumf_def, max_eq_right bot_le]

theorem hExp_eq : hExp q k g = ReferenceIdeal.Read.val_main_v36 (F := Ideal) q k g := by
  unfold hExp hMaxC
  rw [hMax_eq]
  rfl

theorem hSum_eq : hSum q k g = ReferenceIdeal.Read.val_main_v38 (F := Ideal) q k g := by
  unfold hSum
  rw [hExp_eq]
  rfl

theorem hP_eq : hP q k g = ReferenceIdeal.Read.val_main_v40 (F := Ideal) q k g := by
  unfold hP
  rw [hExp_eq, hSum_eq]
  rfl

include h0 h1 h2 h3 in
/-- The output. -/
theorem hOut_apply (t : FVec Ideal S8x8192x128 .f32) (h : Fin 8) (n : Fin 8192) (d : Fin 128) :
    hOut q k v g (ix3 h n d) = (((data q k v g t).O h.val n.val d.val : ℝ) : EReal) := by
  unfold hOut
  rw [hP_eq]
  pointwise
  refine sum_fin _ (fun j => (data q k v g t).P h.val n.val j * (data q k v g t).v h.val j d.val) (fun j => ?_)
  rw [EReal.coe_mul, ref_P h0 h1 h3 (x2 := v) (x4 := t)]
  exact congrArg _ (nat3_eq h2 _ rfl rfl rfl)

theorem column_apply (f : FVec Ideal S8x8192 .f32) (h : Fin 8) (n : Fin 8192) (z : Fin 1) :
    broadcastInDim S8x8192x1 ![0, 1] bcast_S8x8192_S8x8192x1_0_1 f (ix3 h n z) = f (ix2 h n) := by
  pointwise

include h0 h1 h3 in
/-- The maxima, as columns. -/
theorem hMaxC_val (v t : FVec Ideal S8x8192x128 .f32) (h : Fin 8) (n : Fin 8192) (z : Fin 1) :
    hMaxC q k g (ix3 h n z) = ((refMax q k g h.val n.val : ℝ) : EReal) := by
  unfold hMaxC
  rw [column_apply, hMax_eq, refMax_eq h0 h1 h3 v t]; rfl

include h0 h1 h3 in
/-- The sums, as columns. -/
theorem hSum_val (v t : FVec Ideal S8x8192x128 .f32) (i : S8x8192x1.Idx) :
    hSum q k g i = ((refL q k v g t (i 0).val (i 1).val : ℝ) : EReal) := by
  rw [hSum_eq, ReferenceIdeal.Read.val_main_v38_apply, ref_sum h0 h1 h3 (x2 := v) (x4 := t)]

theorem add_log {a b : EReal} {x y z : ℝ} (ha : a = x) (hb : b = y) (hy : 0 < y) (hz : x + Real.log y = z) :
    FloatOps.addf (F := Ideal) (φ := .f32) a (FloatOps.hostUnary (F := Ideal) .log (φ := .f32) b) = (z : EReal) := by
  subst ha hb hz
  rw [Ideal.addf_def, Ideal.hostUnary_log_def, log_coe hy, EReal.coe_add]

theorem add_log_apply (a b : FVec Ideal S8x8192x1 .f32) (i : S8x8192x1.Idx) : addf a (Host.log b) i
    = FloatOps.addf (F := Ideal) (φ := .f32) (a i) (FloatOps.hostUnary (F := Ideal) .log (φ := .f32) (b i)) := rfl

include h0 h1 h3 in
/-- The log-sum-exps. -/
theorem hLse_apply (v t : FVec Ideal S8x8192x128 .f32) (h : Fin 8) (n : Fin 8192) (z : Fin 1) :
    hLse q k g (ix3 h n z) = (((data q k v g t).LSE h.val n.val : ℝ) : EReal) := by
  unfold hLse
  rw [add_log_apply]
  exact add_log (hMaxC_val h0 h1 h3 v t h n z) (hSum_val h0 h1 h3 v t _) ((data q k v g t).sum_E_pos n.isLt _)
    ((data q k v g t).lse_shift n.isLt _)

/-- The heads side by side, at an index. -/
theorem hRows_apply (x : FVec Ideal S8x8192x128 .f32) (n : Fin 8192) (j : Fin 1024) :
    hRows x (ix2 n j) = x (ix3 ⟨j.val / 128, by omega⟩ n ⟨j.val % 128, by omega⟩) := by
  unfold hRows
  pointwise

/-- The heads side by side, over the reals. -/
theorem hRows_nat {x : FVec Ideal S8x8192x128 .f32} {f : ℕ → ℕ → ℕ → ℝ}
    (hx : ∀ (h : Fin 8) (n : Fin 8192) (d : Fin 128), x (ix3 h n d) = ((f h.val n.val d.val : ℝ) : EReal)) :
    Is2 (hRows x) fun n j => f (j / 128) n (j % 128) := fun n j => by
  rw [hRows_apply, hx]

theorem fin_nat {x : FVec Ideal S8x8192x128 .f32} (hx : Fin' x) (h : Fin 8) (n : Fin 8192) (d : Fin 128) :
    x (ix3 h n d) = ((nat3 x h.val n.val d.val : ℝ) : EReal) := nat3_eq hx _ rfl rfl rfl

include h0 in
theorem hScaled_nat (h : Fin 8) (n : Fin 8192) (d : Fin 128) :
    hScaled q (ix3 h n d) = ((nat3 q h.val n.val d.val * scale : ℝ) : EReal) := by
  unfold hScaled
  pointwise
  rw [ofBits_scale, fin_nat h0, EReal.coe_mul]

include h3 in
/-- The summed log gates, at a head's lane. -/
theorem hGates_apply (n : Fin 8192) (l : Fin 128) (hl : l.val < 8) : hGates g (ix2 n l) = ((nat2 g l.val n.val : ℝ) : EReal) := by
  unfold hGates
  pointwise
  rw [dif_pos hl]
  exact nat2_eq h3 _ rfl rfl

/-- Beyond the heads' lanes there are zeros. -/
theorem hGates_pad (n : Fin 8192) (l : Fin 128) (hl : ¬ l.val < 8) : hGates g (ix2 n l) = ((0 : ℝ) : EReal) := by
  unfold hGates
  pointwise
  rw [dif_neg hl]
  simp [FloatOps.sitofp]

/-- The packed arrays. -/
theorem hPack_apply (n : Fin 8192) (j : Fin 6144) (hl : j.val < 3072) : hPack q k v (ix2 n j) = hCat q k v (ix2 n ⟨j.val, hl⟩) := by
  unfold hPack
  pointwise
  rw [dif_pos hl]

include h0 in
theorem hPack_q (n : Fin 8192) (j : Fin 6144) {h d : ℕ} (hh : h < 8) (hd : d < 128) (hj : j.val = h * 128 + d) :
    hPack q k v (ix2 n j) = ((nat3 q h n.val d * scale : ℝ) : EReal) := by
  rw [hPack_apply n j (by omega)]
  unfold hCat
  pointwise
  rw [dif_pos (by omega), hRows_nat (f := fun h n d => nat3 q h n d * scale) (hScaled_nat h0)]
  simp only [hj, show (h * 128 + d) / 128 = h by omega, show (h * 128 + d) % 128 = d by omega]

include h1 in
theorem hPack_k (n : Fin 8192) (j : Fin 6144) {h d : ℕ} (hh : h < 8) (hd : d < 128) (hj : j.val = (8 + h) * 128 + d) :
    hPack q k v (ix2 n j) = ((nat3 k h n.val d : ℝ) : EReal) := by
  rw [hPack_apply n j (by omega)]
  unfold hCat
  pointwise
  rw [dif_neg (by omega), dif_pos (by omega), hRows_nat (fin_nat h1)]
  simp only [hj, show ((8 + h) * 128 + d - 1024) / 128 = h by omega, show ((8 + h) * 128 + d - 1024) % 128 = d by omega]

include h2 in
theorem hPack_v (n : Fin 8192) (j : Fin 6144) {h d : ℕ} (hh : h < 8) (hd : d < 128) (hj : j.val = (16 + h) * 128 + d) :
    hPack q k v (ix2 n j) = ((nat3 v h n.val d : ℝ) : EReal) := by
  rw [hPack_apply n j (by omega)]
  unfold hCat
  pointwise
  rw [dif_neg (by omega), dif_neg (by omega), hRows_nat (fin_nat h2)]
  simp only [hj, show ((16 + h) * 128 + d - 1024 - 1024) / 128 = h by omega, show ((16 + h) * 128 + d - 1024 - 1024) % 128 = d by omega]
end Values

end Cert.Proof.FoxV

end
-- ==== Proof.Fox.BlockV.lean ====
/-
  Where the windows' blocks lie, and what the kernel reads at a grid point, over the reals.
-/
module

public import proofs.«01_k».proof.Proof.Fox.HostV
public import Idealize.ShloMosaic.Lib.Pipeline.ValueKit.Geometry
public import Idealize.ShloMosaic.Lib.Pipeline.ValueKit.Point

@[expose] public section

set_option maxRecDepth 16384

noncomputable section

namespace Cert.Proof.FoxV

open Idealize.ShloMosaic Cert.KernelIdeal Cert.KernelIdeal.Gen
open Idealize.ShloMosaic.TcCoe Idealize.ShloMosaic.Tactic
open Idealize.ShloMosaic.Pointwise
open Cert.Proof.FoxI
open scoped BigOperators
open Finset (range)

/-! ## The index maps over the grid: the head is the point over 8, the query block the rest -/

theorem coord_0 : ∀ t : Fin (cfg0 (F := Ideal)).N, (grid0.coords t 0).val = t.val / 8 := (by decide +kernel : ∀ t : Fin grid0.N, (grid0.coords t 0).val = t.val / 8)
theorem coord_1 : ∀ t : Fin (cfg0 (F := Ideal)).N, (grid0.coords t 1).val = t.val % 8 := (by decide +kernel : ∀ t : Fin grid0.N, (grid0.coords t 1).val = t.val % 8)
theorem idx_0 : ∀ t : Fin (cfg0 (F := Ideal)).N, win0_0.index t = ![t.val % 8, t.val / 8] := (by decide +kernel : ∀ t : Fin grid0.N, win0_0.index t = ![t.val % 8, t.val / 8])
theorem idx_1 : ∀ t : Fin (cfg0 (F := Ideal)).N, win0_1.index t = ![0, 8 + t.val / 8] := (by decide +kernel : ∀ t : Fin grid0.N, win0_1.index t = ![0, 8 + t.val / 8])
theorem idx_2 : ∀ t : Fin (cfg0 (F := Ideal)).N, win0_2.index t = ![0, 16 + t.val / 8] := (by decide +kernel : ∀ t : Fin grid0.N, win0_2.index t = ![0, 16 + t.val / 8])
theorem idx_3 : ∀ t : Fin (cfg0 (F := Ideal)).N, win0_3.index t = ![t.val % 8, 0] := (by decide +kernel : ∀ t : Fin grid0.N, win0_3.index t = ![t.val % 8, 0])
theorem idx_4 : ∀ t : Fin (cfg0 (F := Ideal)).N, win0_4.index t = ![0, 0] := (by decide +kernel : ∀ t : Fin grid0.N, win0_4.index t = ![0, 0])
theorem idx_5 : ∀ t : Fin (cfg0 (F := Ideal)).N, win0_5.index t = ![t.val % 8, t.val / 8] := (by decide +kernel : ∀ t : Fin grid0.N, win0_5.index t = ![t.val % 8, t.val / 8])
theorem idx_6 : ∀ t : Fin (cfg0 (F := Ideal)).N, win0_6.index t = ![t.val % 8, t.val / 8] := (by decide +kernel : ∀ t : Fin grid0.N, win0_6.index t = ![t.val % 8, t.val / 8])
theorem idx_7 : ∀ t : Fin (cfg0 (F := Ideal)).N, win0_7.index t = ![t.val / 8, t.val % 8, 0] := (by decide +kernel : ∀ t : Fin grid0.N, win0_7.index t = ![t.val / 8, t.val % 8, 0])
theorem idx_8 : ∀ t : Fin (cfg0 (F := Ideal)).N, win0_8.index t = ![t.val % 8, t.val / 8] := (by decide +kernel : ∀ t : Fin grid0.N, win0_8.index t = ![t.val % 8, t.val / 8])
theorem idx_9 : ∀ t : Fin (cfg0 (F := Ideal)).N, win0_9.index t = ![0, t.val / 8] := (by decide +kernel : ∀ t : Fin grid0.N, win0_9.index t = ![0, t.val / 8])
theorem idx_10 : ∀ t : Fin (cfg0 (F := Ideal)).N, win0_10.index t = ![0, t.val / 8] := (by decide +kernel : ∀ t : Fin grid0.N, win0_10.index t = ![0, t.val / 8])
theorem idx_11 : ∀ t : Fin (cfg0 (F := Ideal)).N, win0_11.index t = ![0, 0] := (by decide +kernel : ∀ t : Fin grid0.N, win0_11.index t = ![0, 0])
theorem idx_12 : ∀ t : Fin (cfg0 (F := Ideal)).N, win0_12.index t = ![t.val / 8, t.val % 8, 0] := (by decide +kernel : ∀ t : Fin grid0.N, win0_12.index t = ![t.val / 8, t.val % 8, 0])

theorem lt64 (t : Fin (cfg0 (F := Ideal)).N) : t.val < 64 := t.isLt

/-! ## What a point reads -/

section Reads
variable (m : (ℓ : Loc nD τ sig) → Buf (Elt Ideal) ℓ) (c : Dev nD) (t : Fin (cfg0 (F := Ideal)).N)

theorem read_0 (r : Fin 1024) (l : Fin 128) :
    iblk m c 0 t (ix2 r l) = V m c main_v38 (ix2 ⟨(t.val % 8) * 1024 + r.val, by omega⟩ ⟨(t.val / 8) * 128 + l.val, by have := lt64 t; omega⟩) := by
  blk_ext [iblk, idx_0 t]
theorem read_1 (r : Fin 8192) (l : Fin 128) :
    iblk m c 1 t (ix2 r l) = V m c main_v38 (ix2 r ⟨(8 + t.val / 8) * 128 + l.val, by have := lt64 t; omega⟩) := by
  blk_ext [iblk, idx_1 t]
theorem read_2 (r : Fin 8192) (l : Fin 128) :
    iblk m c 2 t (ix2 r l) = V m c main_v38 (ix2 r ⟨(16 + t.val / 8) * 128 + l.val, by have := lt64 t; omega⟩) := by
  blk_ext [iblk, idx_2 t]
theorem read_3 (r : Fin 1024) (l : Fin 128) :
    iblk m c 3 t (ix2 r l) = V m c main_v40 (ix2 ⟨(t.val % 8) * 1024 + r.val, by omega⟩ l) := by
  blk_ext [iblk, idx_3 t]
theorem read_4 (r : Fin 8) (l : Fin 8192) : iblk m c 4 t (ix2 r l) = V m c main_arg3 (ix2 r l) := by
  blk_ext [iblk, idx_4 t]
theorem read_5 (r : Fin 1024) (l : Fin 128) :
    iblk m c 5 t (ix2 r l) = V m c main_v42 (ix2 ⟨(t.val % 8) * 1024 + r.val, by omega⟩ ⟨(t.val / 8) * 128 + l.val, by have := lt64 t; omega⟩) := by
  blk_ext [iblk, idx_5 t]
theorem read_6 (r : Fin 1024) (l : Fin 128) :
    iblk m c 6 t (ix2 r l) = V m c main_v44 (ix2 ⟨(t.val % 8) * 1024 + r.val, by omega⟩ ⟨(t.val / 8) * 128 + l.val, by have := lt64 t; omega⟩) := by
  blk_ext [iblk, idx_6 t]
theorem emb_7 (z : Fin 1) (r : Fin 1024) (z' : Fin 1) (a : Fin 3) :
    ((win0_7.rect t).emb (ix3 z r z') a : Nat) = win0_7.index t a * win0_7.size a + (ix3 z r z' a : Nat) :=
  Pipeline.Window.rect_emb_val win0_7 t (ix3 z r z') a
theorem place_7 (z : Fin 1) (r : Fin 1024) (z' : Fin 1) (n : Fin 8) (hn : n.val = t.val / 8) (j : Fin 8192) (hj : j.val = (t.val % 8) * 1024 + r.val) :
    (win0_7.rect t).emb (ix3 z r z') = ix3 n j z' := by
  funext a
  refine Fin.ext ((emb_7 t z r z' a).trans ?_)
  rw [idx_7 t]
  match a with
  | 0 => show t.val / 8 * 1 + z.val = n.val; omega
  | 1 => show t.val % 8 * 1024 + r.val = j.val; omega
  | 2 => show 0 * 1 + z'.val = z'.val; omega

theorem read_7' (W : (b : Ref sig .tc) → b.ty.Contents (Elt Ideal)) (x : S1x1024x1.Idx) :
    (((cfg0 (F := Ideal)).win 7).blk t).view.read (Elt Ideal) (W (Pipeline.arrRef spec0 7)) x = W main_v27 ((win0_7.rect t).emb x) := rfl

theorem read_7 (z : Fin 1) (r : Fin 1024) (z' : Fin 1) (n : Fin 8) (hn : n.val = t.val / 8) (j : Fin 8192) (hj : j.val = (t.val % 8) * 1024 + r.val) :
    iblk m c 7 t (ix3 z r z') = V m c main_v27 (ix3 n j z') := by
  unfold iblk
  exact (read_7' t (V m c) (ix3 z r z')).trans (congrArg (V m c main_v27) (place_7 t z r z' n hn j hj))
end Reads

/-! ## The same over the reals -/

section Good
variable (m : (ℓ : Loc nD τ sig) → Buf (Elt Ideal) ℓ) (c : Dev nD)

/-- The arguments, over the reals. -/
def argData : Data := data (aq m c) (ak m c) (av m c) (ag m c) (at' m c)

/-- Every argument's elements are reals. -/
structure FinArgs : Prop where
  q : Fin' (aq m c)
  k : Fin' (ak m c)
  v : Fin' (av m c)
  g : Fin' (ag m c)
  t : Fin' (at' m c)

variable {m c} (H : FinArgs m c) (t : Fin (cfg0 (F := Ideal)).N)

include H in
theorem good_cl : ∃ f, Is2 (iblk m c 3 t) f ∧ ∀ r, r < 1024 → f r (t.val / 8) = nat2 (ag m c) (t.val / 8) (t.val % 8 * 1024 + r) := by
  have hb := lt64 t
  refine ⟨fun r l => if l < 8 then nat2 (ag m c) l (t.val % 8 * 1024 + r) else 0, fun r l => ?_, fun r _ => if_pos (by omega)⟩
  rw [read_3, V_gates]
  by_cases hl : l.val < 8
  · rw [hGates_apply H.g _ l hl]; exact congrArg _ (if_pos hl).symm
  · rw [hGates_pad _ l hl]; exact congrArg _ (if_neg hl).symm

include H in
theorem good_q : Is2 (iblk m c 0 t) fun r d => nat3 (aq m c) (t.val / 8) (t.val % 8 * 1024 + r) d * scale := fun r l => by
  have hb := lt64 t
  rw [read_0, V_pack, hPack_q H.q _ _ (h := t.val / 8) (d := l.val) (by omega) l.isLt rfl]

include H in
theorem good_k : Is2 (iblk m c 1 t) fun j d => nat3 (ak m c) (t.val / 8) j d := fun r l => by
  have hb := lt64 t
  rw [read_1, V_pack, hPack_k H.k _ _ (h := t.val / 8) (d := l.val) (by omega) l.isLt rfl]

include H in
theorem good_v : Is2 (iblk m c 2 t) fun j d => nat3 (av m c) (t.val / 8) j d := fun r l => by
  have hb := lt64 t
  rw [read_2, V_pack, hPack_v H.v _ _ (h := t.val / 8) (d := l.val) (by omega) l.isLt rfl]

include H in
theorem good_g : Is2 (iblk m c 4 t) fun i j => nat2 (ag m c) i j := fun r l => by
  have hb := lt64 t
  rw [read_4, V_main_arg3]; exact nat2_eq H.g _ rfl rfl

include H in
theorem good_o : Is2 (iblk m c 5 t) fun r d => (argData m c).O (t.val / 8) (t.val % 8 * 1024 + r) d := fun r l => by
  have hb := lt64 t
  rw [read_5, V_out, hRows_nat (fun h n d => hOut_apply H.q H.k H.v H.g (at' m c) h n d)]
  simp only [show (t.val / 8 * 128 + l.val) / 128 = t.val / 8 by omega, show (t.val / 8 * 128 + l.val) % 128 = l.val by omega, argData]

include H in
theorem good_ct : Is2 (iblk m c 6 t) fun r d => nat3 (at' m c) (t.val / 8) (t.val % 8 * 1024 + r) d := fun r l => by
  have hb := lt64 t
  rw [read_6, V_ct, hRows_nat (fin_nat H.t)]
  simp only [show (t.val / 8 * 128 + l.val) / 128 = t.val / 8 by omega, show (t.val / 8 * 128 + l.val) % 128 = l.val by omega]

include H in
theorem good_lse (r : Fin 1024) : iblk m c 7 t (ix3 0 r 0) = (((argData m c).LSE (t.val / 8) (t.val % 8 * 1024 + r.val) : ℝ) : EReal) := by
  have hb := lt64 t
  rw [read_7 m c t 0 r 0 ⟨t.val / 8, by omega⟩ rfl ⟨t.val % 8 * 1024 + r.val, by omega⟩ rfl, V_lse]
  exact hLse_apply H.q H.k H.g (av m c) (at' m c) _ _ _

include H in
theorem in_q : Is2 (inAt m c t).q fun r d => (argData m c).q (t.val / 8) (t.val % 8 * 1024 + r) d * (argData m c).σ := good_q H t

include H in
theorem in_k : Is2 (inAt m c t).k fun j d => (argData m c).k (t.val / 8) j d := good_k H t

include H in
theorem in_v : Is2 (inAt m c t).v fun j d => (argData m c).v (t.val / 8) j d := good_v H t

include H in
theorem in_cl : ∃ f, Is2 (inAt m c t).cl f ∧ ∀ r, r < 1024 → f r (t.val / 8) = (argData m c).c (t.val / 8) (t.val % 8 * 1024 + r) := good_cl H t

include H in
theorem in_g : Is2 (inAt m c t).g fun i j => (argData m c).c i j := good_g H t

include H in
theorem in_o : Is2 (inAt m c t).o fun r d => (argData m c).O (t.val / 8) (t.val % 8 * 1024 + r) d := good_o H t

include H in
theorem in_ct : Is2 (inAt m c t).ct fun r d => (argData m c).t (t.val / 8) (t.val % 8 * 1024 + r) d := good_ct H t

include H in
theorem in_lse : ∀ r : Fin 1024, (inAt m c t).lse (ix3 0 r 0) = (((argData m c).LSE (t.val / 8) (t.val % 8 * 1024 + r.val) : ℝ) : EReal) := good_lse H t

include H in
/-- What the point reads, over the reals. -/
theorem goodIn : GoodIn (argData m c) (t.val / 8) (t.val % 8) (inAt m c t) :=
  ⟨in_q H t, in_k H t, in_v H t, in_cl H t, in_g H t, in_o H t, in_ct H t, in_lse H t⟩
end Good

end Cert.Proof.FoxV

end
-- ==== Proof.Fox.AccV.lean ====
/-
  What the carried accumulators hold after each grid point, over the reals: of a head's keys and values, the sums over the
  query blocks gone through; of the gates, what every point so far has taken.
-/
module

public import proofs.«01_k».proof.Proof.Fox.BlockV

@[expose] public section

set_option maxRecDepth 16384

noncomputable section

namespace Cert.Proof.FoxV

open Idealize.ShloMosaic Cert.KernelIdeal Cert.KernelIdeal.Gen
open Idealize.ShloMosaic.TcCoe Idealize.ShloMosaic.Tactic
open Idealize.ShloMosaic.Pointwise
open Cert.Proof.FoxI
open scoped BigOperators
open Finset (range)

/-! ## Sums by blocks -/

/-- A sum taken in blocks of `K`. -/
theorem sum_blocks (K : ℕ) (f : ℕ → ℝ) (B : ℕ) : ∑ b ∈ range B, ∑ r ∈ range K, f (b * K + r) = ∑ i ∈ range (B * K), f i := by
  induction B with
  | zero => simp
  | succ B ih => rw [Finset.sum_range_succ, ih, Nat.add_mul, Nat.one_mul, Finset.sum_range_add]

variable (A : Data)

theorem sum_KD (h j d : ℕ) : ∑ b ∈ range 8, KD A h b j d = A.DK h j d :=
  sum_blocks 1024 (fun i => A.DS h i j * (A.q h i d * A.σ)) 8
theorem sum_VD (h j d : ℕ) : ∑ b ∈ range 8, VD A h b j d = A.DV h j d :=
  sum_blocks 1024 (fun i => A.P h i j * A.t h i d) 8
theorem sum_GD (h j : ℕ) : ∑ b ∈ range 8, GD A h b j = ∑ i ∈ range 8192, A.DS h i j :=
  sum_blocks 1024 (fun i => A.DS h i j) 8

/-- What the gates' accumulator holds after `n` points. -/
def fgAt (n i j : ℕ) : ℝ := -(∑ x ∈ range n, if i = x / 8 then GD A (x / 8) (x % 8) j else 0)

theorem fgAt_succ (n i j : ℕ) : fgAt A (n + 1) i j = fgAt A n i j - if i = n / 8 then GD A (n / 8) (n % 8) j else 0 := by
  unfold fgAt; rw [Finset.sum_range_succ]; ring

theorem fgAt_last (i j : ℕ) (hi : i < 8) : fgAt A 64 i j = -(∑ n ∈ range 8192, A.DS i n j) := by
  unfold fgAt
  rw [← sum_GD, show (64 : ℕ) = 8 * 8 from rfl, ← sum_blocks 8 _ 8]
  congr 1
  have e : ∀ h ∈ range 8, (∑ r ∈ range 8, if i = (h * 8 + r) / 8 then GD A ((h * 8 + r) / 8) ((h * 8 + r) % 8) j else 0)
      = if i = h then ∑ b ∈ range 8, GD A h b j else 0 := fun h _ => by
    split
    · refine Finset.sum_congr rfl fun r hr => ?_
      rw [Finset.mem_range] at hr
      rw [show (h * 8 + r) / 8 = h by omega, show (h * 8 + r) % 8 = r by omega, if_pos (by assumption)]
    · refine Finset.sum_eq_zero fun r hr => ?_
      rw [Finset.mem_range] at hr
      exact if_neg (by omega)
  rw [Finset.sum_congr rfl e, Finset.sum_ite_eq, if_pos (Finset.mem_range.2 hi)]

/-! ## The accumulators after each point -/

section Acc
variable {m : (ℓ : Loc nD τ sig) → Buf (Elt Ideal) ℓ} {c : Dev nD} (H : FinArgs m c)

/-- The keys' sums a head's first `b` query blocks add up to. -/
def fkAt (h b j d : ℕ) : ℝ := ∑ x ∈ range b, KD A h x j d
/-- The values' sums. -/
def fvAt (h b j d : ℕ) : ℝ := ∑ x ∈ range b, VD A h x j d

/-- The state point `t` works on, if the point before it left the sums so far. -/
theorem good_clear (H : FinArgs m c) (t : Fin (cfg0 (F := Ideal)).N)
    (ih : t.val ≠ 0 → GoodAcc (fkAt (argData m c) ((t.val - 1) / 8) ((t.val - 1) % 8 + 1)) (fvAt (argData m c) ((t.val - 1) / 8) ((t.val - 1) % 8 + 1))
      (fgAt (argData m c) t.val) (accAt m c t.val)) :
    GoodAcc (fkAt (argData m c) (t.val / 8) (t.val % 8)) (fvAt (argData m c) (t.val / 8) (t.val % 8)) (fgAt (argData m c) t.val)
      (clear (grid0.coords t) (inAt m c t) (accAt m c t.val)) := by
  have ht := lt64 t
  have e0 := hcond0_0 (F := Ideal) t
  have e1 := hcond0_1 (F := Ideal) t
  by_cases h0 : t.val % 8 = 0
  · refine ⟨?_, ?_, ?_, ?_⟩
    · show Is2 (if cond0_0 (grid0.coords t) then k0_pay6 (F := Ideal) else (accAt m c t.val).dk) _
      rw [if_pos (e0.2 h0), h0]
      exact is2_pay6.congr fun _ _ _ _ => by simp [fkAt]
    · show Is2 (if cond0_0 (grid0.coords t) then k0_pay7 (F := Ideal) else (accAt m c t.val).dv) _
      rw [if_pos (e0.2 h0), h0]
      exact is2_pay7.congr fun _ _ _ _ => by simp [fvAt]
    · show Is2 (if cond0_1 (grid0.coords t) then k0_pay9 (F := Ideal) else (accAt m c t.val).dg) _
      by_cases hz : t.val = 0
      · rw [if_pos (e1.2 (by omega)), hz]
        exact is2_pay9.congr fun _ _ _ _ => by simp [fgAt]
      · rw [if_neg (fun h => hz (by have := e1.1 h; omega))]
        exact (ih hz).dg
    · intro i
      show 0 ≤ (if cond0_0 (grid0.coords t) then k0_pay8 (inAt m c t).k else (accAt m c t.val).km) i
      rw [if_pos (e0.2 h0)]
      exact pay8_nonneg (in_k H t) i
  · have hz : t.val ≠ 0 := fun h => h0 (by omega)
    have I := ih hz
    rw [show (t.val - 1) / 8 = t.val / 8 by omega, show (t.val - 1) % 8 + 1 = t.val % 8 by omega] at I
    refine ⟨?_, ?_, ?_, ?_⟩
    · show Is2 (if cond0_0 (grid0.coords t) then k0_pay6 (F := Ideal) else (accAt m c t.val).dk) _
      rw [if_neg (fun h => h0 (e0.1 h))]; exact I.dk
    · show Is2 (if cond0_0 (grid0.coords t) then k0_pay7 (F := Ideal) else (accAt m c t.val).dv) _
      rw [if_neg (fun h => h0 (e0.1 h))]; exact I.dv
    · show Is2 (if cond0_1 (grid0.coords t) then k0_pay9 (F := Ideal) else (accAt m c t.val).dg) _
      rw [if_neg (fun h => h0 (by have := e1.1 h; omega))]; exact I.dg
    · intro i
      show 0 ≤ (if cond0_0 (grid0.coords t) then k0_pay8 (inAt m c t).k else (accAt m c t.val).km) i
      rw [if_neg (fun h => h0 (e0.1 h))]; exact I.km i

/-- What a point leaves. -/
theorem good_after (H : FinArgs m c) (t : Fin (cfg0 (F := Ideal)).N)
    (C : GoodAcc (fkAt (argData m c) (t.val / 8) (t.val % 8)) (fvAt (argData m c) (t.val / 8) (t.val % 8)) (fgAt (argData m c) t.val)
      (clear (grid0.coords t) (inAt m c t) (accAt m c t.val))) :
    GoodAcc (fkAt (argData m c) (t.val / 8) (t.val % 8 + 1)) (fvAt (argData m c) (t.val / 8) (t.val % 8 + 1)) (fgAt (argData m c) (t.val + 1))
      (accAt m c (t.val + 1)) := by
  have N := good_next (coord_0 t) (coord_1 t) (by omega) (goodIn H t) C
  rw [accAt_succ]
  refine ⟨N.dk.congr fun j d _ _ => ?_, N.dv.congr fun j d _ _ => ?_, N.dg.congr fun i j _ _ => ?_, N.km⟩
  · exact (Finset.sum_range_succ _ _).symm
  · exact (Finset.sum_range_succ _ _).symm
  · exact (fgAt_succ _ _ _ _).symm

theorem good_acc (H : FinArgs m c) : ∀ (n : ℕ) (hn : n < (cfg0 (F := Ideal)).N),
    GoodAcc (fkAt (argData m c) (n / 8) (n % 8 + 1)) (fvAt (argData m c) (n / 8) (n % 8 + 1)) (fgAt (argData m c) (n + 1)) (accAt m c (n + 1))
  | 0, hn => good_after H ⟨0, hn⟩ (good_clear H ⟨0, hn⟩ fun h => absurd rfl h)
  | n + 1, hn => good_after H ⟨n + 1, hn⟩ (good_clear H ⟨n + 1, hn⟩ fun _ => good_acc H n (by omega))

/-- The state a point works on. -/
theorem good_at (H : FinArgs m c) (t : Fin (cfg0 (F := Ideal)).N) :
    GoodAcc (fkAt (argData m c) (t.val / 8) (t.val % 8)) (fvAt (argData m c) (t.val / 8) (t.val % 8)) (fgAt (argData m c) t.val)
      (clear (grid0.coords t) (inAt m c t) (accAt m c t.val)) :=
  good_clear H t fun h => by
    have := good_acc H (t.val - 1) (by have := t.isLt; omega)
    rwa [show t.val - 1 + 1 = t.val by omega] at this

/-! ## What the points write back -/

theorem out_q (H : FinArgs m c) (t : Fin (cfg0 (F := Ideal)).N) :
    Is2 (outQ (grid0.coords t) (inAt m c t) (accAt m c t.val)) fun r d => (argData m c).DQ (t.val / 8) (t.val % 8 * 1024 + r) d :=
  good_outQ (coord_0 t) (coord_1 t) (by omega) (goodIn H t) rfl (good_at H t)

theorem out_g (H : FinArgs m c) (t : Fin (cfg0 (F := Ideal)).N) (r : Fin 1024) :
    outG (grid0.coords t) (inAt m c t) (accAt m c t.val) (ix3 0 r 0)
      = ((∑ j ∈ range 8192, (argData m c).DS (t.val / 8) (t.val % 8 * 1024 + r.val) j : ℝ) : EReal) :=
  good_outG (coord_0 t) (coord_1 t) (by omega) (goodIn H t) (good_at H t) r

theorem out_k (H : FinArgs m c) (t : Fin (cfg0 (F := Ideal)).N) (h7 : t.val % 8 = 7) :
    Is2 (accAt m c (t.val + 1)).dk fun j d => (argData m c).DK (t.val / 8) j d :=
  (good_acc H t.val t.isLt).dk.congr fun j d _ _ => by rw [h7]; exact sum_KD _ _ _ _

theorem out_v (H : FinArgs m c) (t : Fin (cfg0 (F := Ideal)).N) (h7 : t.val % 8 = 7) :
    Is2 (accAt m c (t.val + 1)).dv fun j d => (argData m c).DV (t.val / 8) j d :=
  (good_acc H t.val t.isLt).dv.congr fun j d _ _ => by rw [h7]; exact sum_VD _ _ _ _

theorem out_c (H : FinArgs m c) (t : Fin (cfg0 (F := Ideal)).N) (h63 : t.val % 64 = 63) :
    Is2 (accAt m c (t.val + 1)).dg fun i j => -(∑ n ∈ range 8192, (argData m c).DS i n j) :=
  (good_acc H t.val t.isLt).dg.congr fun i j hi _ => by
    have ht := lt64 t
    rw [show t.val + 1 = 64 by omega]; exact fgAt_last _ _ _ hi
end Acc

end Cert.Proof.FoxV

end
-- ==== Proof.Fox.FinalV.lean ====
/-
  The result arrays after the run, over the reals.
-/
module

public import proofs.«01_k».proof.Proof.Fox.AccV

@[expose] public section

set_option maxRecDepth 16384

noncomputable section

namespace Cert.Proof.FoxV

open Idealize.ShloMosaic Cert.KernelIdeal Cert.KernelIdeal.Gen
open Idealize.ShloMosaic.TcCoe Idealize.ShloMosaic.Tactic
open Idealize.ShloMosaic.Pointwise
open Cert.Proof.FoxI
open scoped BigOperators
open Finset (range)

/-! ## The arrays the region leaves -/

/-- The queries' gradient, the heads side by side. -/
def G8 (A : Data) : S8192x1024.Idx → EReal := fun i => ((A.DQ ((i 1).val / 128) (i 0).val ((i 1).val % 128) : ℝ) : EReal)
/-- The keys' gradient. -/
def G9 (A : Data) : S8192x1024.Idx → EReal := fun i => ((A.DK ((i 1).val / 128) (i 0).val ((i 1).val % 128) : ℝ) : EReal)
/-- The values' gradient. -/
def G10 (A : Data) : S8192x1024.Idx → EReal := fun i => ((A.DV ((i 1).val / 128) (i 0).val ((i 1).val % 128) : ℝ) : EReal)
/-- The key side of the gates' gradient. -/
def G11 (A : Data) : S8x8192.Idx → EReal := fun i => ((-(∑ n ∈ range 8192, A.DS (i 0).val n (i 1).val) : ℝ) : EReal)
/-- The query side of the gates' gradient. -/
def G12 (A : Data) : S8x8192x1.Idx → EReal := fun i => ((∑ j ∈ range 8192, A.DS (i 0).val (i 1).val j : ℝ) : EReal)

section Place
variable (t : Fin (cfg0 (F := Ideal)).N)

theorem val_8 (y : S1024x128.Idx) (a : Fin 2) : ((win0_8.rect t).emb y a : Nat) = win0_8.index t a * win0_8.size a + (y a : Nat) :=
  Pipeline.Window.rect_emb_val win0_8 t y a
theorem val_9 (y : S8192x128.Idx) (a : Fin 2) : ((win0_9.rect t).emb y a : Nat) = win0_9.index t a * win0_9.size a + (y a : Nat) :=
  Pipeline.Window.rect_emb_val win0_9 t y a
theorem val_10 (y : S8192x128.Idx) (a : Fin 2) : ((win0_10.rect t).emb y a : Nat) = win0_10.index t a * win0_10.size a + (y a : Nat) :=
  Pipeline.Window.rect_emb_val win0_10 t y a
theorem val_11 (y : S8x8192.Idx) (a : Fin 2) : ((win0_11.rect t).emb y a : Nat) = win0_11.index t a * win0_11.size a + (y a : Nat) :=
  Pipeline.Window.rect_emb_val win0_11 t y a
theorem val_12 (y : S1x1024x1.Idx) (a : Fin 3) : ((win0_12.rect t).emb y a : Nat) = win0_12.index t a * win0_12.size a + (y a : Nat) :=
  Pipeline.Window.rect_emb_val win0_12 t y a

theorem G8_place (A : Data) (r : Fin 1024) (l : Fin 128) :
    G8 A ((win0_8.rect t).emb (ix2 r l)) = ((A.DQ (t.val / 8) (t.val % 8 * 1024 + r.val) l.val : ℝ) : EReal) := by
  have e0 : ((win0_8.rect t).emb (ix2 r l) 0 : Nat) = t.val % 8 * 1024 + r.val := by
    rw [val_8, idx_8]; rfl
  have e1 : ((win0_8.rect t).emb (ix2 r l) 1 : Nat) = t.val / 8 * 128 + l.val := by
    rw [val_8, idx_8]; rfl
  unfold G8
  rw [e0, e1, show (t.val / 8 * 128 + l.val) / 128 = t.val / 8 by omega, show (t.val / 8 * 128 + l.val) % 128 = l.val by omega]
theorem G9_place (A : Data) (r : Fin 8192) (l : Fin 128) :
    G9 A ((win0_9.rect t).emb (ix2 r l)) = ((A.DK (t.val / 8) r.val l.val : ℝ) : EReal) := by
  have e0 : ((win0_9.rect t).emb (ix2 r l) 0 : Nat) = 0 * 8192 + r.val := by
    rw [val_9, idx_9]; rfl
  have e1 : ((win0_9.rect t).emb (ix2 r l) 1 : Nat) = t.val / 8 * 128 + l.val := by
    rw [val_9, idx_9]; rfl
  unfold G9
  rw [e0, e1, Nat.zero_mul, Nat.zero_add, show (t.val / 8 * 128 + l.val) / 128 = t.val / 8 by omega, show (t.val / 8 * 128 + l.val) % 128 = l.val by omega]
theorem G10_place (A : Data) (r : Fin 8192) (l : Fin 128) :
    G10 A ((win0_10.rect t).emb (ix2 r l)) = ((A.DV (t.val / 8) r.val l.val : ℝ) : EReal) := by
  have e0 : ((win0_10.rect t).emb (ix2 r l) 0 : Nat) = 0 * 8192 + r.val := by
    rw [val_10, idx_10]; rfl
  have e1 : ((win0_10.rect t).emb (ix2 r l) 1 : Nat) = t.val / 8 * 128 + l.val := by
    rw [val_10, idx_10]; rfl
  unfold G10
  rw [e0, e1, Nat.zero_mul, Nat.zero_add, show (t.val / 8 * 128 + l.val) / 128 = t.val / 8 by omega, show (t.val / 8 * 128 + l.val) % 128 = l.val by omega]
theorem G11_place (A : Data) (r : Fin 8) (l : Fin 8192) :
    G11 A ((win0_11.rect t).emb (ix2 r l)) = ((-(∑ n ∈ range 8192, A.DS r.val n l.val) : ℝ) : EReal) := by
  have e0 : ((win0_11.rect t).emb (ix2 r l) 0 : Nat) = 0 * 8 + r.val := by
    rw [val_11, idx_11]; rfl
  have e1 : ((win0_11.rect t).emb (ix2 r l) 1 : Nat) = 0 * 8192 + l.val := by
    rw [val_11, idx_11]; rfl
  unfold G11
  rw [e0, e1]; simp only [Nat.zero_mul, Nat.zero_add]
theorem G12_place (A : Data) (z : Fin 1) (r : Fin 1024) (z' : Fin 1) :
    G12 A ((win0_12.rect t).emb (ix3 z r z')) = ((∑ j ∈ range 8192, A.DS (t.val / 8) (t.val % 8 * 1024 + r.val) j : ℝ) : EReal) := by
  have e0 : ((win0_12.rect t).emb (ix3 z r z') 0 : Nat) = t.val / 8 * 1 + z.val := by
    rw [val_12, idx_12]; rfl
  have e1 : ((win0_12.rect t).emb (ix3 z r z') 1 : Nat) = t.val % 8 * 1024 + r.val := by
    rw [val_12, idx_12]; rfl
  unfold G12
  rw [e0, e1, show t.val / 8 * 1 + z.val = t.val / 8 by omega]
end Place

section Arrays
variable {m : (ℓ : Loc nD τ sig) → Buf (Elt Ideal) ℓ} {c : Dev nD} (H : FinArgs m c)

include H in
theorem flushed_8 (t : Fin (cfg0 (F := Ideal)).N) (y : S1024x128.Idx) :
    outQ (grid0.coords t) (inAt m c t) (accAt m c t.val) y = G8 (argData m c) ((win0_8.rect t).emb y) := by
  obtain ⟨r, l, rfl⟩ : ∃ (r : Fin 1024) (l : Fin 128), y = ix2 r l := ⟨y 0, y 1, eq_ix2 y⟩
  rw [G8_place]
  exact out_q H t _ _
include H in
theorem final_8 : (dats (F := Ideal) m 0 c).arrAt 8 (cfg0 (F := Ideal)).N = G8 (argData m c) := by
  refine (dats (F := Ideal) m 0 c).arrAt_eq_of_covers 8 _ (by decide +kernel) fun t hf y => ?_
  blk_simp
  rw [after0_8]
  exact flushed_8 H t y

include H in
theorem flushed_9 (t : Fin (cfg0 (F := Ideal)).N) (h : t.val % 8 = 7) (y : S8192x128.Idx) :
    (accAt m c (t.val + 1)).dk y = G9 (argData m c) ((win0_9.rect t).emb y) := by
  obtain ⟨r, l, rfl⟩ : ∃ (r : Fin 8192) (l : Fin 128), y = ix2 r l := ⟨y 0, y 1, eq_ix2 y⟩
  rw [G9_place]
  exact out_k H t h _ _
include H in
theorem final_9 : (dats (F := Ideal) m 0 c).arrAt 9 (cfg0 (F := Ideal)).N = G9 (argData m c) := by
  refine (dats (F := Ideal) m 0 c).arrAt_eq_of_covers 9 _ (by decide +kernel) fun t hf y => ?_
  blk_simp
  rw [after0_9]
  exact flushed_9 H t ((flush0_9 t).1 hf) y

include H in
theorem flushed_10 (t : Fin (cfg0 (F := Ideal)).N) (h : t.val % 8 = 7) (y : S8192x128.Idx) :
    (accAt m c (t.val + 1)).dv y = G10 (argData m c) ((win0_10.rect t).emb y) := by
  obtain ⟨r, l, rfl⟩ : ∃ (r : Fin 8192) (l : Fin 128), y = ix2 r l := ⟨y 0, y 1, eq_ix2 y⟩
  rw [G10_place]
  exact out_v H t h _ _
include H in
theorem final_10 : (dats (F := Ideal) m 0 c).arrAt 10 (cfg0 (F := Ideal)).N = G10 (argData m c) := by
  refine (dats (F := Ideal) m 0 c).arrAt_eq_of_covers 10 _ (by decide +kernel) fun t hf y => ?_
  blk_simp
  rw [after0_10]
  exact flushed_10 H t ((flush0_10 t).1 hf) y

include H in
theorem flushed_11 (t : Fin (cfg0 (F := Ideal)).N) (h : t.val % 64 = 63) (y : S8x8192.Idx) :
    (accAt m c (t.val + 1)).dg y = G11 (argData m c) ((win0_11.rect t).emb y) := by
  obtain ⟨r, l, rfl⟩ : ∃ (r : Fin 8) (l : Fin 8192), y = ix2 r l := ⟨y 0, y 1, eq_ix2 y⟩
  rw [G11_place]
  exact out_c H t h _ _
include H in
theorem final_11 : (dats (F := Ideal) m 0 c).arrAt 11 (cfg0 (F := Ideal)).N = G11 (argData m c) := by
  refine (dats (F := Ideal) m 0 c).arrAt_eq_of_covers 11 _ (by decide +kernel) fun t hf y => ?_
  blk_simp
  rw [after0_11]
  exact flushed_11 H t ((flush0_11 t).1 hf) y

theorem eq_ix3 (y : S1x1024x1.Idx) : ∃ r : Fin 1024, y = ix3 0 r 0 := ⟨y 1, by
  funext a
  match a with
  | 0 => exact Subsingleton.elim (α := Fin 1) _ _
  | 1 => rfl
  | 2 => exact Subsingleton.elim (α := Fin 1) _ _⟩

include H in
theorem flushed_12 (t : Fin (cfg0 (F := Ideal)).N) (y : S1x1024x1.Idx) :
    outG (grid0.coords t) (inAt m c t) (accAt m c t.val) y = G12 (argData m c) ((win0_12.rect t).emb y) := by
  obtain ⟨r, rfl⟩ := eq_ix3 y
  rw [G12_place]
  exact out_g H t _
include H in
theorem final_12 : (dats (F := Ideal) m 0 c).arrAt 12 (cfg0 (F := Ideal)).N = G12 (argData m c) := by
  refine (dats (F := Ideal) m 0 c).arrAt_eq_of_covers 12 _ (by decide +kernel) fun t hf y => ?_
  blk_simp
  rw [after0_12]
  exact flushed_12 H t y
end Arrays

end Cert.Proof.FoxV

end
-- ==== Proof.Fox.ResultV.lean ====
/-
  What the precondition says, what the line after the kernel's region computes, and the run of the idealized program at
  the results' values.
-/
module

public import proofs.«01_k».proof.Proof.Fox.FinalV
public import proofs.«01_k».proof.Proof.Gen.Pre_finite
public import Idealize.ShloMosaic.Lib.ReduceAll

@[expose] public section

set_option maxRecDepth 16384

noncomputable section

namespace Cert.Proof.FoxV

open Idealize.ShloMosaic Cert.KernelIdeal Cert.KernelIdeal.Gen
open Idealize.ShloMosaic.TcCoe Idealize.ShloMosaic.Tactic
open Idealize.ShloMosaic.Pointwise
open Idealize.SL.Sem
open Cert.Proof.FoxI
open scoped BigOperators
open Finset (range)

/-! ## The precondition -/

/-- An element whose absolute value is less than infinity is a real. -/
theorem real_of_abs_lt {x : EReal} (h : Ideal.cmp .olt (max x (-x)) ⊤ = 1#1) : x ≠ ⊥ ∧ x ≠ ⊤ := by
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine ⟨fun e => ?_, fun e => ?_⟩
  · rw [e] at hlt; simp at hlt
  · rw [e] at hlt; simp at hlt

theorem fin3 (x : FVec Ideal Pre_finite.S8x8192x128 .f32) (z : Pre_finite.S_.Idx)
    (h : Host.reduce IntOp.andi (cmpf .olt (Host.absf x) (broadcastInDim Pre_finite.S8x8192x128 ![] Pre_finite.Gen.bcast_S_S8x8192x128
      (constant Pre_finite.S_ .f32 0x7F800000#32))) (constantI Pre_finite.S_ 1 1#1) Pre_finite.Gen.reducesTo_S8x8192x128_S_d0_1_2 Pre_finite.Gen.h_S_ z = 1#1) :
    Fin' x := fun i => by
  haveI : Subsingleton Pre_finite.S_.Idx := ⟨fun a b => funext fun j => j.elim0⟩
  have e := Host.reduce_andi_all _ _ _ _ z h i
  have e' : Ideal.cmp .olt (max (x i) (-(x i))) (Ideal.ofBits .f32 0x7F800000#32) = 1#1 := e
  rw [ofBits_inf] at e'
  exact real_of_abs_lt e'

theorem fin2 (x : FVec Ideal Pre_finite.S8x8192 .f32) (z : Pre_finite.S_.Idx)
    (h : Host.reduce IntOp.andi (cmpf .olt (Host.absf x) (broadcastInDim Pre_finite.S8x8192 ![] Pre_finite.Gen.bcast_S_S8x8192
      (constant Pre_finite.S_ .f32 0x7F800000#32))) (constantI Pre_finite.S_ 1 1#1) Pre_finite.Gen.reducesTo_S8x8192_S_d0_1 Pre_finite.Gen.h_S_ z = 1#1) :
    Fin' x := fun i => by
  haveI : Subsingleton Pre_finite.S_.Idx := ⟨fun a b => funext fun j => j.elim0⟩
  have e := Host.reduce_andi_all _ _ _ _ z h i
  have e' : Ideal.cmp .olt (max (x i) (-(x i))) (Ideal.ofBits .f32 0x7F800000#32) = 1#1 := e
  rw [ofBits_inf] at e'
  exact real_of_abs_lt e'

theorem fin_of_pre (x0 x1 x2 : FVec Ideal Pre_finite.S8x8192x128 .f32) (x3 : FVec Ideal Pre_finite.S8x8192 .f32) (x4 : FVec Ideal Pre_finite.S8x8192x128 .f32)
    (h : Pre_finite.fn (F := Ideal) x0 x1 x2 x3 x4 = fun _ => 1#1) : Fin' x0 ∧ Fin' x1 ∧ Fin' x2 ∧ Fin' x3 ∧ Fin' x4 := by
  have z : Pre_finite.S_.Idx := fun j => j.elim0
  have e := congrFun h z
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fin3 x0 z e0, fin3 x1 z e1, fin3 x2 z e2, fin2 x3 z e3, fin3 x4 z e4⟩

/-! ## The line after the region -/

theorem tail_apply (a : FVec Ideal S8x8192 .f32) (b : FVec Ideal S8x8192x1 .f32) (h : Fin 8) (n : Fin 8192) :
    addf a (shapeCast S8x8192 b shapeCasts_S8x8192x1_S8x8192) (ix2 h n) = (a (ix2 h n) + b (ix3 h n 0) : EReal) := by
  pointwise

theorem tail_line (σ : Valuation τ sig (Elt Ideal)) :
    StableHlo.after [hostOps1].flatten σ (Proc.devRef .tc main_v47)
      = addf (F := Ideal) (φ := .f32) (σ (Proc.devRef .tc main_v45_3)) (shapeCast S8x8192 (σ (Proc.devRef .tc main_v45_4)) shapeCasts_S8x8192x1_S8x8192) := by
  entry_read
  rfl

/-- The gates' gradient, a head to a row. -/
def GC (A : Data) : S8x8192.Idx → EReal := fun i => ((A.DC (i 0).val (i 1).val : ℝ) : EReal)

theorem tail_sum (A : Data) : addf (F := Ideal) (φ := .f32) (G11 A) (shapeCast S8x8192 (G12 A) shapeCasts_S8x8192x1_S8x8192) = GC A := by
  funext i
  obtain ⟨h, n, rfl⟩ : ∃ (h : Fin 8) (n : Fin 8192), i = ix2 h n := ⟨i 0, i 1, eq_ix2 i⟩
  exact (tail_apply _ _ h n).trans (EReal.coe_add _ _).symm

section Run
variable {m : (ℓ : Loc nD τ sig) → Buf (Elt Ideal) ℓ}

theorem exit_3 {c : Dev nD} (H : FinArgs m c) : Pipeline.withArrays spec0 c (V0 m c) (fun w => (dats (F := Ideal) m 0 c).arrAt w (cfg0 (F := Ideal)).N) (Proc.devRef .tc main_v45_3)
    = G11 (argData m c) :=
  (Pipeline.withArrays_arr_shared spec0 c (V0 m c) _ ((dats (F := Ideal) m 0 c).arrAt_sharedIn sharedIn0 (V0 m c) (A_eq m c) _) 11).trans (final_11 H)
theorem exit_4 {c : Dev nD} (H : FinArgs m c) : Pipeline.withArrays spec0 c (V0 m c) (fun w => (dats (F := Ideal) m 0 c).arrAt w (cfg0 (F := Ideal)).N) (Proc.devRef .tc main_v45_4)
    = G12 (argData m c) :=
  (Pipeline.withArrays_arr_shared spec0 c (V0 m c) _ ((dats (F := Ideal) m 0 c).arrAt_sharedIn sharedIn0 (V0 m c) (A_eq m c) _) 12).trans (final_12 H)

theorem tail_v47 {c : Dev nD} (H : FinArgs m c) :
    Pipeline.afterTail₀ (cfgs (F := Ideal)) (dats m) 0 (V0 m) [hostOps1] c main_v47 = GC (argData m c) := by
  refine (tail_line _).trans ?_
  rw [exit_3 H, exit_4 H]
  exact tail_sum _

/-- The run of the idealized program. -/
theorem run_values (ρ : Dev nD → PrngReg) (H : ∀ c, FinArgs m c) :
    θ_run defs (onTc (τ := τ) (main (F := Ideal))) ⟨m, fun _ => 0, ρ⟩ fun r => ∀ c : Dev nD,
      r.2.mem ((c.tc : Thread nD τ).loc main_v45_0) = G8 (argData m c)
      ∧ r.2.mem ((c.tc : Thread nD τ).loc main_v45_1) = G9 (argData m c)
      ∧ r.2.mem ((c.tc : Thread nD τ).loc main_v45_2) = G10 (argData m c)
      ∧ r.2.mem ((c.tc : Thread nD τ).loc main_v47) = GC (argData m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h.1 c).1 8).trans (final_8 (H c)), ((h.1 c).1 9).trans (final_9 (H c)), ((h.1 c).1 10).trans (final_10 (H c)),
      ((h.1 c).2 main_v47 (by decide)).trans (tail_v47 (H c)), h.2.1 c⟩)
    (θ_run_and (run_main m ρ) (frame m ρ))
end Run

end Cert.Proof.FoxV

end
-- ==== Proof.Up.WeightV.lean ====
/-
  The gradient of the up projection's weight: what the blocked product over the positions leaves in its accumulator,
  and so in the result.
-/
module

public import proofs.«01_k».proof.Proof.Gen.Kernel2Ideal.Value
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.UpW

open Idealize.ShloMosaic Cert.Kernel2Ideal Cert.Kernel2Ideal.Gen
open Idealize.ShloMosaic.TcCoe Idealize.ShloMosaic.Tactic
open Idealize.ShloMosaic.Pointwise
open scoped BigOperators
open Finset (range)

/-! ## What one point of the grid leaves, case by case -/

theorem off0 : (![0, 0] : Fin 2 → Nat) = fun _ => 0 := funext fun a => by fin_cases a <;> rfl

section Cases
variable {F : FTy → Type} [FloatOps F]
variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1024x1408 .bf16) (h5 : a5.IsWhole)
  (a6 : Memref sig .tc .vmem S1024x1408 .f32) (h6 : a6.IsWhole) (x : Vec F S1024x1024 .bf16) (y : Vec F S1024x1408 .bf16)
  (acc : Vec F S1024x1408 .f32)

/-- The first point of a run starts its sum from zero. -/
theorem first_acc (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1408) off0, View.readCov_unit_zero (S := S1024x1408) _ off0]
  simp only [View.readAt_eq_ld, h3.read_unread, h4.read_unread, View.ld_unit_zero (S := S1024x1408) off0, View.ld_unit_zero (S := S1024x1024) off0]

/-- A point in the middle of a run adds its product. -/
theorem next_acc (hc0 : ¬cond0_0 i) (hc1 : ¬cond0_1 i) : sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  rw [View.canon_unit_zero off0]
  simp only [View.readAt_eq_ld, h3.read_unread, h4.read_unread, h6.read_unread, View.ld_unit_zero (S := S1024x1408) off0, View.ld_unit_zero (S := S1024x1024) off0]

/-- So does the last point of a run, -/
theorem last_acc (hc0 : ¬cond0_0 i) (hc1 : cond0_1 i) : sout0_C_0 c i a3 h3 a4 h4 a5 h5 a6 h6 hc0 hc1 x y acc = k0_pay2 acc x y := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero off0]
  simp only [View.readAt_eq_ld, h3.read_unread, h4.read_unread, h6.read_unread, View.ld_unit_zero (S := S1024x1408) off0, View.ld_unit_zero (S := S1024x1024) off0]

/-- and it stores the sum. -/
theorem last_out (hc0 : ¬cond0_0 i) (hc1 : cond0_1 i) : out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero off0, View.readCov_unit_zero (S := S1024x1408) _ off0]
  simp only [View.readAt_eq_ld, h3.read_unread, h4.read_unread, h6.read_unread, View.ld_unit_zero (S := S1024x1408) off0, View.ld_unit_zero (S := S1024x1024) off0]
end Cases

/-! ## The same over the extended reals -/

theorem zero_apply (r : Fin 1024) (l : Fin 1408) : k0_pay1 (F := Ideal) (ix2 r l) = 0 := by
  pointwise [k0_pay1]

theorem add_apply (acc : Vec Ideal S1024x1408 .f32) (x : Vec Ideal S1024x1024 .bf16) (y : Vec Ideal S1024x1408 .bf16) (r : Fin 1024) (l : Fin 1408) :
    k0_pay2 acc x y (ix2 r l) = (acc (ix2 r l) + ∑ s : Fin 1024, x (ix2 s r) * y (ix2 s l) : EReal) := by
  pointwise [k0_pay2]

theorem store_apply (acc : Vec Ideal S1024x1408 .f32) (r : Fin 1024) (l : Fin 1408) : k0_pay3 acc (ix2 r l) = acc (ix2 r l) := by
  pointwise [k0_pay3]

/-! ## The blocks -/

theorem idx_0 : ∀ t : Fin cfg0.N, win0_0.index t = ![t.val % 8, t.val / 64] := (by decide +kernel : ∀ t : Fin grid0.N, win0_0.index t = ![t.val % 8, t.val / 64])
theorem idx_1 : ∀ t : Fin cfg0.N, win0_1.index t = ![t.val % 8, t.val / 8 % 8] := (by decide +kernel : ∀ t : Fin grid0.N, win0_1.index t = ![t.val % 8, t.val / 8 % 8])

theorem lt128 (t : Fin cfg0.N) : t.val < 128 := t.isLt

section Point
variable (m : (ℓ : Loc nD τ sig) → Buf (Elt Ideal) ℓ) (c : Dev nD)

theorem read_0 (t : Fin cfg0.N) (r : Fin 1024) (l : Fin 1024) :
    iblk m c 0 t (ix2 r l) = V m c main_v14 (ix2 ⟨(t.val % 8) * 1024 + r.val, by omega⟩ ⟨(t.val / 64) * 1024 + l.val, by have := lt128 t; omega⟩) := by
  blk_ext [iblk, idx_0 t]
theorem read_1 (t : Fin cfg0.N) (r : Fin 1024) (l : Fin 1408) :
    iblk m c 1 t (ix2 r l) = V m c main_v15 (ix2 ⟨(t.val % 8) * 1024 + r.val, by omega⟩ ⟨(t.val / 8 % 8) * 1408 + l.val, by omega⟩) := by
  blk_ext [iblk, idx_1 t]

/-- The product's left factor, the normalised rows, -/
def left (s : Fin 8192) (R : Fin 2048) : EReal := V m c main_v14 (ix2 s R)

/-- and its right factor, the cotangent. -/
def right (s : Fin 8192) (L : Fin 11264) : EReal := V m c main_v15 (ix2 s L)

/-- The product of position `s` to the weight's gradient at row `R`, column `L`. -/
def term (R : Fin 2048) (L : Fin 11264) (s : ℕ) : EReal :=
  if h : s < 8192 then left m c ⟨s, h⟩ R * right m c ⟨s, h⟩ L else 0

theorem block_sum (t : Fin cfg0.N) (x : Vec Ideal S1024x1024 .bf16) (hx : x = iblk m c 0 t) (y : Vec Ideal S1024x1408 .bf16) (hy : y = iblk m c 1 t) (r : Fin 1024) (l : Fin 1408) (R : Fin 2048) (hR : R.val = t.val / 64 * 1024 + r.val)
    (L : Fin 11264) (hL : L.val = t.val / 8 % 8 * 1408 + l.val) :
    (∑ s : Fin 1024, x (ix2 s r) * y (ix2 s l) : EReal) = ∑ s ∈ range 1024, term m c R L (t.val % 8 * 1024 + s) := by
  rw [Finset.sum_range]
  refine Finset.sum_congr rfl fun s _ => ?_
  rw [hx, hy, read_0, read_1]
  unfold term
  rw [dif_pos (show t.val % 8 * 1024 + s.val < 8192 by omega)]
  have eR : (⟨t.val / 64 * 1024 + r.val, by have := lt128 t; omega⟩ : Fin 2048) = R := Fin.ext hR.symm
  have eL : (⟨t.val / 8 % 8 * 1408 + l.val, by omega⟩ : Fin 11264) = L := Fin.ext hL.symm
  rw [eR, eL]
  rfl

/-- After a point the accumulator holds the sum over the positions of the run's blocks so far. -/
theorem acc_eq (n : ℕ) (h : n < cfg0.N) (r : Fin 1024) (l : Fin 1408) (R : Fin 2048) (hR : R.val = n / 64 * 1024 + r.val)
    (L : Fin 11264) (hL : L.val = n / 8 % 8 * 1408 + l.val) :
    (outsAt0 m c n h).2 (ix2 r l) = (∑ s ∈ range (n % 8 * 1024 + 1024), term m c R L s : EReal) := by
  induction n with
  | zero =>
    rw [outsAt0_A m c ⟨0, h⟩ rfl (show ¬(0 % 8 = 7) by decide)]
    dsimp only
    rw [first_acc, add_apply, zero_apply, zero_add, block_sum m c ⟨0, h⟩ _ rfl _ rfl r l R hR L hL]
    exact Finset.sum_congr rfl fun s _ => by congr 1; dsimp only; omega
  | succ n ih =>
    rw [Finset.sum_range_add]
    by_cases h0 : (n + 1) % 8 = 0
    · rw [outsAt0_A m c ⟨n + 1, h⟩ h0 (by dsimp only; omega)]
      dsimp only
      rw [first_acc, add_apply, zero_apply, block_sum m c ⟨n + 1, h⟩ _ rfl _ rfl r l R hR L hL]
      simp only [h0, Nat.zero_mul, Finset.range_zero, Finset.sum_empty]
    · have e := ih (by omega) (by omega) (by omega)
      rw [show n % 8 * 1024 + 1024 = (n + 1) % 8 * 1024 by omega] at e
      by_cases h1 : (n + 1) % 8 = 7
      · rw [outsAt0_C m c ⟨n + 1, h⟩ h0 h1]
        dsimp only
        rw [last_acc, add_apply, block_sum m c ⟨n + 1, h⟩ _ rfl _ rfl r l R hR L hL]
        exact congrArg (· + _) e
      · rw [outsAt0_B m c ⟨n + 1, h⟩ h0 h1]
        dsimp only
        rw [next_acc, add_apply, block_sum m c ⟨n + 1, h⟩ _ rfl _ rfl r l R hR L hL]
        exact congrArg (· + _) e

/-- What the last point of a run stores. -/
theorem out_eq (n : ℕ) (h : n < cfg0.N) (h1 : n % 8 = 7) (r : Fin 1024) (l : Fin 1408) (R : Fin 2048) (hR : R.val = n / 64 * 1024 + r.val)
    (L : Fin 11264) (hL : L.val = n / 8 % 8 * 1408 + l.val) :
    (outsAt0 m c n h).1 (ix2 r l) = (∑ s ∈ range 8192, term m c R L s : EReal) := by
  have e := acc_eq m c n h r l R hR L hL
  rw [outsAt0_C m c ⟨n, h⟩ (by dsimp only; omega) h1] at e ⊢
  dsimp only at e ⊢
  rw [last_acc] at e
  rw [last_out, store_apply, e, h1]

/-- The result array: at every row and column the sum over all positions. -/
theorem result (R : Fin 2048) (L : Fin 11264) : Value.G2 m c (ix2 R L) = (∑ s ∈ range 8192, term m c R L s : EReal) := by
  have hp : Value.pt2Of (ix2 R L) < cfg0.N := by
    show 8 * (8 * (R.val / 1024 - 0) + 1 * (L.val / 1408 - 0)) + 7 < 128
    omega
  unfold Value.G2
  rw [dif_pos hp]
  refine (congrFun (congrArg Prod.fst (Value.outsAt0_sweep m c _ hp)) _).symm.trans ?_
  rw [eq_ix2 (Value.loc2Of (ix2 R L))]
  refine out_eq m c _ hp ?_ _ _ R ?_ L ?_
  · show (8 * (8 * (R.val / 1024 - 0) + 1 * (L.val / 1408 - 0)) + 7) % 8 = 7; omega
  · show R.val = (8 * (8 * (R.val / 1024 - 0) + 1 * (L.val / 1408 - 0)) + 7) / 64 * 1024 + R.val % 1024; omega
  · show L.val = (8 * (8 * (R.val / 1024 - 0) + 1 * (L.val / 1408 - 0)) + 7) / 8 % 8 * 1408 + L.val % 1408; omega
end Point

end Cert.Proof.UpW

end
-- ==== Proof.Up.WeightR.lean ====
/-
  The gradient of the up projection's weight: the host lines before the kernel, and the equality with the reference.
-/
module

public import proofs.«01_k».proof.Proof.Up.WeightV
public import proofs.«01_k».proof.Proof.Gen.Reference2Ideal.Read
public import Idealize.ShloMosaic.Lib.Claim

@[expose] public section

set_option maxRecDepth 16384

noncomputable section

namespace Cert.Proof.UpW

open Idealize.ShloMosaic Cert.Kernel2Ideal Cert.Kernel2Ideal.Gen
open Idealize.ShloMosaic.TcCoe Idealize.ShloMosaic.Tactic
open Idealize.ShloMosaic.Pointwise
open scoped BigOperators
open Finset (range)

section Host
variable (m : (ℓ : Loc nD τ sig) → Buf (Elt Ideal) ℓ) (c : Dev nD)

abbrev ax : FVec Ideal S8192x2048 .f32 := m ((c : Thread nD τ).loc main_arg0)
abbrev ag : FVec Ideal S1x2048 .f32 := m ((c : Thread nD τ).loc main_arg1)
abbrev at' : FVec Ideal S8192x11264 .f32 := m ((c : Thread nD τ).loc main_arg2)

/-- The left factor is the reference's normalised rows, -/
theorem V_rows : V m c main_v14 = (truncf .bf16 (Reference2Ideal.Read.val_main_v14 (F := Ideal) (ax m c) (ag m c) : FVec Ideal S8192x2048 .f32) bitsLt_bf16_f32 : FVec Ideal S8192x2048 .bf16) := by
  entry_read
  rfl

/-- the right one the cotangent. -/
theorem V_ct : V m c main_v15 = (truncf .bf16 (at' m c) bitsLt_bf16_f32 : FVec Ideal S8192x11264 .bf16) := by
  entry_read
  rfl

/-- The kernel's result is the reference's: the reference writes each product the other way round. -/
theorem result_eq : Value.G2 m c = Reference2Ideal.Read.val_main_v18 (F := Ideal) (ax m c) (ag m c) (at' m c) := by
  funext i
  obtain ⟨R, L, rfl⟩ : ∃ (R : Fin 2048) (L : Fin 11264), i = ix2 R L := ⟨i 0, i 1, eq_ix2 i⟩
  refine (result m c R L).trans (Eq.symm ?_)
  refine (Reference2Ideal.Read.val_main_v17_apply _ _ _ _).trans ((Reference2Ideal.Read.val_main_v16_apply _ _ _ _).trans ?_)
  rw [Finset.sum_range]
  refine Finset.sum_congr rfl fun s _ => ?_
  unfold term left right
  rw [dif_pos s.isLt, V_rows, V_ct, mul_comm]
  generalize Reference2Ideal.Read.val_main_v14 (F := Ideal) (ax m c) (ag m c) = y
  rw [eq_ix2 (Reference2Ideal.Read.lidx_main_v16 _ s), eq_ix2 (Reference2Ideal.Read.ridx_main_v16 _ s)]
  rfl
end Host

end Cert.Proof.UpW

end
-- ==== Proof.Up.Frames.lean ====
/-
  The frames of the two up-projection programs at the machine's floats: each has the idealized program's text, so that one
  run serves for both.
-/
module

public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame

@[expose] public section

set_option maxRecDepth 16384

noncomputable section

namespace Cert.Proof.UpFrames

open Idealize.ShloMosaic Idealize.SL.Sem

/-- The weight gradient's kernel body, printed in either program. -/
theorem body2 : Kernel2.defs₀ (F := Bits) = Kernel2Ideal.defs₀ (F := Bits) := by
  unfold Kernel2.defs₀ Kernel2Ideal.defs₀
  congr 1
  funext l a
  match l, a with
  | 0, (t, s) => rfl

/-- The rows' gradient's kernel body, printed in either program. -/
theorem body3 : Kernel3.defs₀ (F := Bits) = Kernel3Ideal.defs₀ (F := Bits) := by
  unfold Kernel3.defs₀ Kernel3Ideal.defs₀
  congr 1
  funext l a
  match l, a with
  | 0, (t, s) => rfl

theorem defs2 : Kernel2.defs (F := Bits) = Kernel2Ideal.defs (F := Bits) := congrArg (Pipeline.defs Kernel2Ideal.pcfgs) body2
theorem defs3 : Kernel3.defs (F := Bits) = Kernel3Ideal.defs (F := Bits) := congrArg (Pipeline.defs Kernel3Ideal.pcfgs) body3

/-- The weight gradient's frame. -/
theorem frame2 : Cert.quiescent_Kernel2 := fun m g _ => by
  rw [defs2]
  exact Kernel2Ideal.Gen.frame (F := Bits) m g

/-- The rows' gradient's frame. -/
theorem frame3 : Cert.quiescent_Kernel3 := fun m g _ => by
  rw [defs3]
  exact Kernel3Ideal.Gen.frame (F := Bits) m g

end Cert.Proof.UpFrames

end
-- ==== Proof.Mm.Kept.lean ====
/-
  A result's staging buffer that the body fills at the first point of a run of points and leaves alone at the others: at
  every later point of the run it still holds what the first one stored, and the last one writes that back.
-/
module

public import Idealize.ShloMosaic.Lib.Pipeline.FrameBody
public import Idealize.ShloMosaic.Lib.Pipeline.Frame
public import Idealize.ShloMosaic.Lib.Tactic

@[expose] public section

noncomputable section

namespace Cert.Proof.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : Nat} {τ : Topo} {sig : RefSig} {Val : EltTy → Type} {Ix : Type} [DecidableEq Ix] {Name : Type} [DecidableEq Name]
  {U : Type} [URA U] {Lvl : Type} {Λ₀ : Labels} {cfg : Cfg sig Λ₀} {c : Dev nD} (dat : Dat τ Val Ix Name U Lvl cfg c) (w : Fin cfg.W) (p : ℕ)

/-- The run's later points find the buffer at what its first point left, if that is what `after` names at each of them. -/
theorem before_of_idle (hp : 0 < p) (hw : (cfg.win w).isOut = true) (hclip : ∀ (i : cfg.grid.Coords) a, (cfg.win w).clip i a = none)
    (hidle : ∀ t : Fin cfg.N, cfg.idle w (cfg.grid.coords t) = true ↔ t.val % p ≠ 0)
    (hflush : ∀ t : Fin cfg.N, (cfg.win w).flush t = true ↔ t.val % p = p - 1)
    (hsame : ∀ (n : ℕ) (h : n + 1 < cfg.N), (n + 1) % p ≠ 0 → dat.after w ⟨n + 1, h⟩ = dat.after w ⟨n, Nat.lt_of_succ_lt h⟩)
    (n : ℕ) (h : n < cfg.N) (h0 : n % p ≠ 0) (d) : dat.before w ⟨n, h⟩ d = dat.after w ⟨n, h⟩ := by
  induction n with
  | zero => exact absurd (Nat.zero_mod p) h0
  | succ n ih =>
    have hnf : (cfg.win w).flush ⟨n, Nat.lt_of_succ_lt h⟩ = false := Bool.eq_false_iff.mpr fun hf => by
      have e : n % p = p - 1 := (hflush ⟨n, Nat.lt_of_succ_lt h⟩).mp hf
      apply h0
      rw [Nat.add_mod, e]
      rcases Nat.eq_or_lt_of_le (Nat.succ_le_of_lt hp) with h1 | h1
      · rw [← h1]
      · rw [Nat.mod_eq_of_lt h1, Nat.sub_add_cancel (Nat.succ_le_of_lt hp), Nat.mod_self]
    rw [dat.before_of_pos w ⟨n + 1, h⟩ (Nat.succ_ne_zero n) ((cfg.win w).fetch_out hw _), hsame n h h0]
    rw [show (⟨(⟨n + 1, h⟩ : Fin cfg.N).val - 1, Nat.lt_of_le_of_lt (Nat.sub_le _ _) (⟨n + 1, h⟩ : Fin cfg.N).isLt⟩ : Fin cfg.N) = ⟨n, Nat.lt_of_succ_lt h⟩ from rfl,
      hnf, if_neg Bool.false_ne_true]
    unfold Dat.left
    by_cases hz : n % p = 0
    · rw [show cfg.idle w (cfg.grid.coords ⟨n, Nat.lt_of_succ_lt h⟩) = false from Bool.eq_false_iff.mpr fun hi => (hidle _).mp hi hz]
      dsimp only
      unfold Dat.kept
      rw [Pipeline.fill_of_clip_none w _ (hclip _) d (dat.after w _), Window.fill_cut]
    · rw [(hidle ⟨n, Nat.lt_of_succ_lt h⟩).mpr hz]
      exact ih (Nat.lt_of_succ_lt h) hz

/-- So a body that leaves the buffer at `after` leaves it as its obligation asks. -/
theorem leaves_of_kept (hp : 0 < p) (hw : (cfg.win w).isOut = true) (hclip : ∀ (i : cfg.grid.Coords) a, (cfg.win w).clip i a = none)
    (hidle : ∀ t : Fin cfg.N, cfg.idle w (cfg.grid.coords t) = true ↔ t.val % p ≠ 0)
    (hflush : ∀ t : Fin cfg.N, (cfg.win w).flush t = true ↔ t.val % p = p - 1)
    (hsame : ∀ (n : ℕ) (h : n + 1 < cfg.N), (n + 1) % p ≠ 0 → dat.after w ⟨n + 1, h⟩ = dat.after w ⟨n, Nat.lt_of_succ_lt h⟩)
    (t : Fin cfg.N) :
    (owns (c : Thread nD τ) ((cfg.win w).stage (cfg.slots t w)) fullShare (dat.after w t) : sProp (MT nD τ sig Ix Val Name U Lvl)) ⊢ dat.leavesExact w t := by
  unfold Dat.leavesExact
  cases hi : cfg.idle w (cfg.grid.coords t)
  · exact .rfl
  · cases hf : (cfg.win w).flush t
    · dsimp only
      iintro H
      iexists dat.after w t
      rw [before_of_idle dat w p hp hw hclip hidle hflush hsame t.val t.isLt ((hidle t).mp hi) _]
      iexact H
    · exact .rfl

end Cert.Proof.Mm

end
-- ==== Proof.Mm.UpF.lean ====
/-
  The up projection of the normalised rows, as a program: at the first of each run of points over a block of rows the
  body normalises the block and stores it, at every point it multiplies the stored block by its block of the weight. The
  run, and the frame.
-/
module

public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Mm.Kept
public import Idealize.ShloMosaic.Lib.Pipeline.ValueKit.Geometry
public import Idealize.ShloMosaic.Lib.Pipeline.ValueKit.Point
public import Idealize.ShloMosaic.Lib.Claim
public import Idealize.ShloMosaic.Lib.Ring
public import Idealize.ShloMosaic.Lib.WordCmp

@[expose] public section

set_option maxRecDepth 16384

noncomputable section

namespace Cert.Proof.UpF

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one point -/

theorem off0 : (![0, 0] : Fin 2 → Nat) = fun _ => 0 := funext fun a => by fin_cases a <;> rfl

set_option maxHeartbeats 1000000 in
/-- The first point of a run stores the normalised block and its product. -/
theorem body_first (c : Dev nD) (E : Set ℕ) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (x : Vec F S1024x2048 .f32) (g : Vec F S1x2048 .f32) (w : Vec F S2048x1024 .bf16) (K : PUnit → sProp 𝕄) (hc : k0_cond1 i = 1#1) :
    iprop(owns (c : Thread nD τ) a2 fullShare x ∗ owns (c : Thread nD τ) a3 fullShare g ∗ owns (c : Thread nD τ) a4 fullShare w
        ∗ (∃ d, owns (c : Thread nD τ) a5 fullShare d) ∗ (∃ d, owns (c : Thread nD τ) a6 fullShare d)
        ∗ (iprop(owns (c : Thread nD τ) a2 fullShare x ∗ owns (c : Thread nD τ) a3 fullShare g ∗ owns (c : Thread nD τ) a4 fullShare w
            ∗ owns (c : Thread nD τ) a5 fullShare (k0_pay2 (k0_pay1 x g) w) ∗ owns (c : Thread nD τ) a6 fullShare (k0_pay1 x g)) -∗ K ⟨⟩))
      ⊢ wp frame (wpE (defs₀ (F := F)) Variants.none c none) E (cc0_up_proj i a2 h2 a3 h3 a4 h4 a5 h5 a6 h6) K := by
  simp only [cc0_up_proj_eq_skeleton]; unfold cc0_up_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    rw [View.read_writes_eq_canon _ _ _ (View.cover_of_tiledL _ S1024x1024.size (by sl_kernel_rfl))]
    sl_unfold_words
    rw [View.canon_unit_zero off0, View.readCov_unit_zero (S := S1024x2048) _ off0]
    simp only [View.readAt_eq_ld, h2.read_unread, h3.read_unread, h4.read_unread, View.ld_unit_zero (S := S1024x2048) off0,
      View.ld_unit_zero (S := S1x2048) off0, View.ld_unit_zero (S := S2048x1024) off0]
  · iexists _; isplitr
    swap; · iexact H4
    ipureintro
    rw [View.read_writes_eq_canon _ _ _ (View.cover_of_tiledL _ S1024x2048.size (by sl_kernel_rfl))]
    sl_unfold_words
    rw [View.canon_unit_zero off0]
    simp only [View.readAt_eq_ld, h2.read_unread, h3.read_unread, View.ld_unit_zero (S := S1024x2048) off0,
      View.ld_unit_zero (S := S1x2048) off0]

set_option maxHeartbeats 1000000 in
/-- Any other point stores the product of the block stored before. -/
theorem body_later (c : Dev nD) (E : Set ℕ) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (x : Vec F S1024x2048 .f32) (g : Vec F S1x2048 .f32) (w : Vec F S2048x1024 .bf16) (h : Vec F S1024x2048 .bf16) (K : PUnit → sProp 𝕄) (hc : ¬k0_cond1 i = 1#1) :
    iprop(owns (c : Thread nD τ) a2 fullShare x ∗ owns (c : Thread nD τ) a3 fullShare g ∗ owns (c : Thread nD τ) a4 fullShare w
        ∗ (∃ d, owns (c : Thread nD τ) a5 fullShare d) ∗ owns (c : Thread nD τ) a6 fullShare h
        ∗ (iprop(owns (c : Thread nD τ) a2 fullShare x ∗ owns (c : Thread nD τ) a3 fullShare g ∗ owns (c : Thread nD τ) a4 fullShare w
            ∗ owns (c : Thread nD τ) a5 fullShare (k0_pay2 h w) ∗ owns (c : Thread nD τ) a6 fullShare h) -∗ K ⟨⟩))
      ⊢ wp frame (wpE (defs₀ (F := F)) Variants.none c none) E (cc0_up_proj i a2 h2 a3 h3 a4 h4 a5 h5 a6 h6) K := by
  simp only [cc0_up_proj_eq_skeleton]; unfold cc0_up_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h2.eq_unread hf0; obtain rfl := h3.eq_unread hf1; obtain rfl := h4.eq_unread hf2; obtain rfl := h6.eq_unread hf4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    rw [View.read_writes_eq_canon _ _ _ (View.cover_of_tiledL _ S1024x1024.size (by sl_kernel_rfl)), View.canon_unit_zero off0]
    simp only [View.readAt_eq_ld, h4.read_unread, h6.read_unread, View.ld_unit_zero (S := S1024x2048) off0,
      View.ld_unit_zero (S := S2048x1024) off0]
  · iexists _; isplitr; · ipureintro; exact h6.read_unread _
    iexact H4
/-! ## What the region finds -/

/-- A core's buffers when the region is entered: after the line that rounds the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is that line and then the region. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- The line writes its own result only. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of a point's run. -/
def start (t : Fin cfg0.N) : Fin cfg0.N := ⟨t.val / 11 * 11, Nat.lt_of_le_of_lt (Nat.div_mul_le_self _ _) t.isLt⟩

/-- The normalised block stored at the first point of the run. -/
def hid (c : Dev nD) (t : Fin cfg0.N) : Vec F S1024x2048 .bf16 := k0_pay1 (iblk m c 0 (start t)) (iblk m c 1 (start t))

/-! ## The proof data -/

/-- After a point: the inputs' buffers at their blocks, the product's at the stored block times the weight's block, the
    normalised block's at the stored block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (hid m c t) (iblk m c 2 t)
    | ⟨4, _⟩ => hid m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (hid m c t) (iblk m c 2 t) := by dsimp only [dats]
theorem after_4 (c : Dev nD) (t : Fin cfg0.N) : (dats m 0 c).after 4 t = hid m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)

/-- The body's condition holds at the first points of the runs. -/
theorem cond_iff : ∀ t : Fin cfg0.N, k0_cond1 (grid0.coords t) = 1#1 ↔ t.val % 11 = 0 :=
  (by decide +kernel : ∀ t : Fin grid0.N, k0_cond1 (grid0.coords t) = 1#1 ↔ t.val % 11 = 0)

theorem idle_iff (t : Fin cfg0.N) : cfg0.idle 4 (cfg0.grid.coords t) = true ↔ t.val % 11 ≠ 0 := by
  show (!(k0_cond1 (grid0.coords t) == 1#1)) = true ↔ _
  rw [Bool.not_eq_true', beq_eq_false_iff_ne, Ne, cond_iff]

theorem start_succ (n : ℕ) (h : n + 1 < cfg0.N) (h0 : (n + 1) % 11 ≠ 0) : start ⟨n + 1, h⟩ = start ⟨n, Nat.lt_of_succ_lt h⟩ :=
  Fin.ext (show (n + 1) / 11 * 11 = n / 11 * 11 by omega)

theorem start_first (t : Fin cfg0.N) (h0 : t.val % 11 = 0) : start t = t :=
  Fin.ext (show t.val / 11 * 11 = t.val by omega)

theorem same (c : Dev nD) (n : ℕ) (h : n + 1 < cfg0.N) (h0 : (n + 1) % 11 ≠ 0) :
    (dats m 0 c).after 4 ⟨n + 1, h⟩ = (dats m 0 c).after 4 ⟨n, Nat.lt_of_succ_lt h⟩ := by
  rw [after_4, after_4]
  unfold hid
  rw [start_succ n h h0]

/-- At a later point of a run the normalised block's buffer holds the stored block, -/
theorem before_4 (c : Dev nD) (t : Fin cfg0.N) (h0 : t.val % 11 ≠ 0) (d) : (dats m 0 c).before 4 t d = hid m c t :=
  (Mm.before_of_idle (dats m 0 c) 4 11 (by decide) rfl (fun _ _ => rfl) idle_iff flush0_4 (same m c) t.val t.isLt h0 d).trans (after_4 m c t)

/-- and at every point it is left so. -/
theorem leaves_4 (c : Dev nD) (t : Fin cfg0.N) :
    (owns (c : Thread nD τ) (st0_4 t) fullShare (hid m c t) : sProp 𝕄) ⊢ (dats m 0 c).leavesExact 4 t :=
  (show _ ⊢ _ by rw [after_4] : (owns (c : Thread nD τ) (st0_4 t) fullShare (hid m c t) : sProp 𝕄) ⊢ owns (c : Thread nD τ) (st0_4 t) fullShare ((dats m 0 c).after 4 t)).trans
    (Mm.leaves_of_kept (dats m 0 c) 4 11 (by decide) rfl (fun _ _ => rfl) idle_iff flush0_4 (same m c) t)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 11 = 0
  · have e : hid m c t = k0_pay1 (iblk m c 0 t) (iblk m c 1 t) := by unfold hid; rw [start_first t h0]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ (iblk m c 0 t) (iblk m c 1 t) (iblk m c 2 t) _ ((cond_iff t).mpr h0))
    isplitl [H0]; · iexact H0
    isplitl [H1]; · iexact H1
    isplitl [H2]; · iexact H2
    isplitl [H3]; · iexists _; iexact H3
    isplitl [H4]; · iexists _; iexact H4
    rw [← e]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4
  · simp only [before_4 m c t h0]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (iblk m c 0 t) (iblk m c 1 t) (iblk m c 2 t) (hid m c t) _ (fun h => h0 ((cond_iff t).mp h)))
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
set_option maxHeartbeats 800000 in
/-- Every run ends, with every array as the proof data names it and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

/-- With the two results at the arrays the proof data names and the arguments unchanged. -/
theorem run_arrays : θ_run defs (onTc (τ := τ) (main (F := F))) ⟨m, fun _ => 0, ρ⟩ (fun r => (∀ c : Dev nD,
      (r.2.mem ((c : Thread nD τ).loc main_v1_0) = (dats m 0 c).arrAt 3 cfg0.N ∧ r.2.mem ((c : Thread nD τ).loc main_v1_1) = (dats m 0 c).arrAt 4 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨⟨(h.1 c).1 3, (h.1 c).1 4⟩,
      ((h.1 c).1 0).trans (((dats m 0 c).arrAt_in 0 rfl _).trans ((A_eq m c 0).trans (V_arg m c main_arg0 (by decide)))),
      ((h.1 c).1 1).trans (((dats m 0 c).arrAt_in 1 rfl _).trans ((A_eq m c 1).trans (V_arg m c main_arg1 (by decide)))),
      ((h.1 c).2 main_arg2 (Pipeline.mem_restRefs_of main_arg2 (by decide) (by decide))).trans (V_arg m c main_arg2 (by decide))⟩, h.2⟩) (run_main m ρ)

/-- The frame. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => (h.1 c).2, h.2⟩) (run_arrays m ρ)

end Cert.Proof.UpF

end
-- ==== Proof.Mm.InF.lean ====
/-
  The input projection of the normalised rows, as a program: at the first of each run of points over a block of rows the
  body normalises the block and stores it, at every point it multiplies the stored block by its block of the weight. The
  run, and the frame.
-/
module

public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Mm.Kept
public import Idealize.ShloMosaic.Lib.Pipeline.ValueKit.Geometry
public import Idealize.ShloMosaic.Lib.Pipeline.ValueKit.Point
public import Idealize.ShloMosaic.Lib.Claim
public import Idealize.ShloMosaic.Lib.Ring
public import Idealize.ShloMosaic.Lib.WordCmp

@[expose] public section

set_option maxRecDepth 16384

noncomputable section

namespace Cert.Proof.InF

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one point -/

theorem off0 : (![0, 0] : Fin 2 → Nat) = fun _ => 0 := funext fun a => by fin_cases a <;> rfl

set_option maxHeartbeats 1000000 in
/-- The first point of a run stores the normalised block and its product. -/
theorem body_first (c : Dev nD) (E : Set ℕ) (i : grid0.Coords) (a2 : Memref sig .tc .vmem S1024x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S1024x896 .f32) (h5 : a5.IsWhole) (a6 : Memref sig .tc .vmem S1024x2048 .bf16) (h6 : a6.IsWhole)
    (x : Vec F S1024x2048 .f32) (g : Vec F S1x2048 .f32) (w : Vec F S2048x896 .bf16) (K : PUnit → sProp 𝕄) (hc : k0_cond1 i = 1#1) :
    iprop(owns (c : Thread nD τ) a2 fullShare x ∗ owns (c : Thread nD τ) a3 fullShare g ∗ owns (c : Thread nD τ) a4 fullShare w
        ∗ (∃ d, owns (c : Thread nD τ) a5 fullShare d) ∗ (∃ d, owns (c : Thread nD τ) a6 fullShare d)
        ∗ (iprop(owns (c : Thread nD τ) a2 fullShare x ∗ owns (c : Thread nD τ) a3 fullShare g ∗ owns (c : Thread nD τ) a4 fullShare w
            ∗ owns (c : Thread nD τ) a5 fullShare (k0_pay2 (k0_pay1 x g) w) ∗ owns (c : Thread nD τ) a6 fullShare (k0_pay1 x g)) -∗ K ⟨⟩))
      ⊢ wp frame (wpE (defs₀ (F := F)) Variants.none c none) E (cc0_in_proj i a2 h2 a3 h3 a4 h4 a5 h5 a6 h6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    rw [View.read_writes_eq_canon _ _ _ (View.cover_of_tiledL _ S1024x896.size (by sl_kernel_rfl))]
    sl_unfold_words
    rw [View.canon_unit_zero off0, View.readCov_unit_zero (S := S1024x2048) _ off0]
    simp only [View.readAt_eq_ld, h2.read_unread, h3.read_unread, h4.read_unread, View.ld_unit_zero (S := S1024x2048) off0,
      View.ld_unit_zero (S := S1x2048) off0, View.ld_unit_zero (S := S2048x896) off0]
  · iexists _; isplitr
    swap; · iexact H4
    ipureintro
    rw [View.read_writes_eq_canon _ _ _ (View.cover_of_tiledL _ S1024x2048.size (by sl_kernel_rfl))]
    sl_unfold_words
    rw [View.canon_unit_zero off0]
    simp only [View.readAt_eq_ld, h2.read_unread, h3.read_unread, View.ld_unit_zero (S := S1024x2048) off0,
      View.ld_unit_zero (S := S1x2048) off0]

set_option maxHeartbeats 1000000 in
/-- Any other point stores the product of the block stored before. -/
theorem body_later (c : Dev nD) (E : Set ℕ) (i : grid0.Coords) (a2 : Memref sig .tc .vmem S1024x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S1024x896 .f32) (h5 : a5.IsWhole) (a6 : Memref sig .tc .vmem S1024x2048 .bf16) (h6 : a6.IsWhole)
    (x : Vec F S1024x2048 .f32) (g : Vec F S1x2048 .f32) (w : Vec F S2048x896 .bf16) (h : Vec F S1024x2048 .bf16) (K : PUnit → sProp 𝕄) (hc : ¬k0_cond1 i = 1#1) :
    iprop(owns (c : Thread nD τ) a2 fullShare x ∗ owns (c : Thread nD τ) a3 fullShare g ∗ owns (c : Thread nD τ) a4 fullShare w
        ∗ (∃ d, owns (c : Thread nD τ) a5 fullShare d) ∗ owns (c : Thread nD τ) a6 fullShare h
        ∗ (iprop(owns (c : Thread nD τ) a2 fullShare x ∗ owns (c : Thread nD τ) a3 fullShare g ∗ owns (c : Thread nD τ) a4 fullShare w
            ∗ owns (c : Thread nD τ) a5 fullShare (k0_pay2 h w) ∗ owns (c : Thread nD τ) a6 fullShare h) -∗ K ⟨⟩))
      ⊢ wp frame (wpE (defs₀ (F := F)) Variants.none c none) E (cc0_in_proj i a2 h2 a3 h3 a4 h4 a5 h5 a6 h6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h2.eq_unread hf0; obtain rfl := h3.eq_unread hf1; obtain rfl := h4.eq_unread hf2; obtain rfl := h6.eq_unread hf4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    rw [View.read_writes_eq_canon _ _ _ (View.cover_of_tiledL _ S1024x896.size (by sl_kernel_rfl)), View.canon_unit_zero off0]
    simp only [View.readAt_eq_ld, h4.read_unread, h6.read_unread, View.ld_unit_zero (S := S1024x2048) off0,
      View.ld_unit_zero (S := S2048x896) off0]
  · iexists _; isplitr; · ipureintro; exact h6.read_unread _
    iexact H4
/-! ## What the region finds -/

/-- A core's buffers when the region is entered: after the line that rounds the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is that line and then the region. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- The line writes its own result only. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of a point's run. -/
def start (t : Fin cfg0.N) : Fin cfg0.N := ⟨t.val / 7 * 7, Nat.lt_of_le_of_lt (Nat.div_mul_le_self _ _) t.isLt⟩

/-- The normalised block stored at the first point of the run. -/
def hid (c : Dev nD) (t : Fin cfg0.N) : Vec F S1024x2048 .bf16 := k0_pay1 (iblk m c 0 (start t)) (iblk m c 1 (start t))

/-! ## The proof data -/

/-- After a point: the inputs' buffers at their blocks, the product's at the stored block times the weight's block, the
    normalised block's at the stored block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (hid m c t) (iblk m c 2 t)
    | ⟨4, _⟩ => hid m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (hid m c t) (iblk m c 2 t) := by dsimp only [dats]
theorem after_4 (c : Dev nD) (t : Fin cfg0.N) : (dats m 0 c).after 4 t = hid m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)

/-- The body's condition holds at the first points of the runs. -/
theorem cond_iff : ∀ t : Fin cfg0.N, k0_cond1 (grid0.coords t) = 1#1 ↔ t.val % 7 = 0 :=
  (by decide +kernel : ∀ t : Fin grid0.N, k0_cond1 (grid0.coords t) = 1#1 ↔ t.val % 7 = 0)

theorem idle_iff (t : Fin cfg0.N) : cfg0.idle 4 (cfg0.grid.coords t) = true ↔ t.val % 7 ≠ 0 := by
  show (!(k0_cond1 (grid0.coords t) == 1#1)) = true ↔ _
  rw [Bool.not_eq_true', beq_eq_false_iff_ne, Ne, cond_iff]

theorem start_succ (n : ℕ) (h : n + 1 < cfg0.N) (h0 : (n + 1) % 7 ≠ 0) : start ⟨n + 1, h⟩ = start ⟨n, Nat.lt_of_succ_lt h⟩ :=
  Fin.ext (show (n + 1) / 7 * 7 = n / 7 * 7 by omega)

theorem start_first (t : Fin cfg0.N) (h0 : t.val % 7 = 0) : start t = t :=
  Fin.ext (show t.val / 7 * 7 = t.val by omega)

theorem same (c : Dev nD) (n : ℕ) (h : n + 1 < cfg0.N) (h0 : (n + 1) % 7 ≠ 0) :
    (dats m 0 c).after 4 ⟨n + 1, h⟩ = (dats m 0 c).after 4 ⟨n, Nat.lt_of_succ_lt h⟩ := by
  rw [after_4, after_4]
  unfold hid
  rw [start_succ n h h0]

/-- At a later point of a run the normalised block's buffer holds the stored block, -/
theorem before_4 (c : Dev nD) (t : Fin cfg0.N) (h0 : t.val % 7 ≠ 0) (d) : (dats m 0 c).before 4 t d = hid m c t :=
  (Mm.before_of_idle (dats m 0 c) 4 7 (by decide) rfl (fun _ _ => rfl) idle_iff flush0_4 (same m c) t.val t.isLt h0 d).trans (after_4 m c t)

/-- and at every point it is left so. -/
theorem leaves_4 (c : Dev nD) (t : Fin cfg0.N) :
    (owns (c : Thread nD τ) (st0_4 t) fullShare (hid m c t) : sProp 𝕄) ⊢ (dats m 0 c).leavesExact 4 t :=
  (show _ ⊢ _ by rw [after_4] : (owns (c : Thread nD τ) (st0_4 t) fullShare (hid m c t) : sProp 𝕄) ⊢ owns (c : Thread nD τ) (st0_4 t) fullShare ((dats m 0 c).after 4 t)).trans
    (Mm.leaves_of_kept (dats m 0 c) 4 7 (by decide) rfl (fun _ _ => rfl) idle_iff flush0_4 (same m c) t)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 7 = 0
  · have e : hid m c t = k0_pay1 (iblk m c 0 t) (iblk m c 1 t) := by unfold hid; rw [start_first t h0]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ (iblk m c 0 t) (iblk m c 1 t) (iblk m c 2 t) _ ((cond_iff t).mpr h0))
    isplitl [H0]; · iexact H0
    isplitl [H1]; · iexact H1
    isplitl [H2]; · iexact H2
    isplitl [H3]; · iexists _; iexact H3
    isplitl [H4]; · iexists _; iexact H4
    rw [← e]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4
  · simp only [before_4 m c t h0]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (iblk m c 0 t) (iblk m c 1 t) (iblk m c 2 t) (hid m c t) _ (fun h => h0 ((cond_iff t).mp h)))
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
set_option maxHeartbeats 800000 in
/-- Every run ends, with every array as the proof data names it and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

/-- With the two results at the arrays the proof data names and the arguments unchanged. -/
theorem run_arrays : θ_run defs (onTc (τ := τ) (main (F := F))) ⟨m, fun _ => 0, ρ⟩ (fun r => (∀ c : Dev nD,
      (r.2.mem ((c : Thread nD τ).loc main_v1_0) = (dats m 0 c).arrAt 3 cfg0.N ∧ r.2.mem ((c : Thread nD τ).loc main_v1_1) = (dats m 0 c).arrAt 4 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨⟨(h.1 c).1 3, (h.1 c).1 4⟩,
      ((h.1 c).1 0).trans (((dats m 0 c).arrAt_in 0 rfl _).trans ((A_eq m c 0).trans (V_arg m c main_arg0 (by decide)))),
      ((h.1 c).1 1).trans (((dats m 0 c).arrAt_in 1 rfl _).trans ((A_eq m c 1).trans (V_arg m c main_arg1 (by decide)))),
      ((h.1 c).2 main_arg2 (Pipeline.mem_restRefs_of main_arg2 (by decide) (by decide))).trans (V_arg m c main_arg2 (by decide))⟩, h.2⟩) (run_main m ρ)

/-- The frame. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => (h.1 c).2, h.2⟩) (run_arrays m ρ)

end Cert.Proof.InF

end
-- ==== Proof.Mm.OutF.lean ====
/-
  The output projection of the two groups of normalised rows, as a program: at the first of each run of points over a
  block of rows the body normalises the two blocks and stores them side by side, at every point it multiplies the stored
  block by its block of the weight and adds its block of the residual rows. The run, and the frame.
-/
module

public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Mm.Kept
public import Idealize.ShloMosaic.Lib.Pipeline.ValueKit.Geometry
public import Idealize.ShloMosaic.Lib.Pipeline.ValueKit.Point
public import Idealize.ShloMosaic.Lib.Claim
public import Idealize.ShloMosaic.Lib.Ring
public import Idealize.ShloMosaic.Lib.WordCmp
public import Idealize.ShloMosaic.Lib.Pointwise

@[expose] public section

set_option maxRecDepth 16384

noncomputable section

namespace Cert.Proof.OutF

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one point -/

theorem off0 : (![0, 0] : Fin 2 → Nat) = fun _ => 0 := funext fun a => by fin_cases a <;> rfl

/-- Two blocks side by side. -/
def joined (y z : Vec F S1024x1024 .bf16) : Vec F S1024x2048 .bf16 := fun j =>
  if h : (j 1).val < 1024 then y (ix2 (j 0) (⟨(j 1).val, h⟩ : Fin 1024))
  else z (ix2 (j 0) (⟨(j 1).val - 1024, by have e : (j 1).val < 2048 := (j 1).isLt; omega⟩ : Fin 1024))

/-- A buffer written in two halves holds the two blocks side by side. -/
theorem canon_joined (i0 i1) (y z : Vec F S1024x1024 .bf16) :
    View.canon (Val := Elt F) (s := S1024x2048) (e := .bf16)
      [⟨Rect.unit (s := S1024x2048) ![0, 1024] S1024x1024.size i1, z⟩, ⟨Rect.unit (s := S1024x2048) ![0, 0] S1024x1024.size i0, y⟩] = joined y z := by
  funext j
  refine View.canon_apply_of_pieces (joined y z) _ ?_ j (View.cover_of_tiledL (s := S1024x2048) _ S1024x1024.size (by sl_kernel_rfl) j)
  intro p hp
  simp only [List.mem_cons, List.not_mem_nil, or_false] at hp
  rcases hp with rfl | rfl
  · intro q
    have e1 : (((Rect.unit (s := S1024x2048) ![0, 1024] S1024x1024.size i1).emb q) 1).val = 1024 + (q 1).val := ValueKit.rect_emb_unit_val _ _ _ _ _
    have e0 : (((Rect.unit (s := S1024x2048) ![0, 1024] S1024x1024.size i1).emb q) 0).val = (q 0).val := (ValueKit.rect_emb_unit_val _ _ _ _ _).trans (Nat.zero_add _)
    have hn : ¬(((Rect.unit (s := S1024x2048) ![0, 1024] S1024x1024.size i1).emb q) 1).val < 1024 := by rw [e1]; exact Nat.not_lt.mpr (Nat.le_add_right _ _)
    refine Eq.trans ?_ (dif_neg hn).symm
    refine (congrArg z (eq_ix2 q)).trans (congrArg z (congrArg₂ ix2 (Fin.ext e0.symm) (Fin.ext ?_)))
    exact ((congrArg (· - 1024) e1).trans (Nat.add_sub_cancel_left _ _)).symm
  · intro q
    have e1 : (((Rect.unit (s := S1024x2048) ![0, 0] S1024x1024.size i0).emb q) 1).val = (q 1).val := (ValueKit.rect_emb_unit_val _ _ _ _ _).trans (Nat.zero_add _)
    have e0 : (((Rect.unit (s := S1024x2048) ![0, 0] S1024x1024.size i0).emb q) 0).val = (q 0).val := (ValueKit.rect_emb_unit_val _ _ _ _ _).trans (Nat.zero_add _)
    have hp : (((Rect.unit (s := S1024x2048) ![0, 0] S1024x1024.size i0).emb q) 1).val < 1024 := e1.trans_lt (q 1).isLt
    refine Eq.trans ?_ (dif_pos hp).symm
    exact (congrArg y (eq_ix2 q)).trans (congrArg y (congrArg₂ ix2 (Fin.ext e0.symm) (Fin.ext e1.symm)))

set_option maxHeartbeats 2000000 in
/-- The first point of a run stores the two normalised blocks and its product. -/
theorem body_first (c : Dev nD) (E : Set ℕ) (i : grid0.Coords)
    (a2 : Memref sig .tc .vmem S1024x1024 .f32) (h2 : a2.IsWhole)
    (a3 : Memref sig .tc .vmem S1024x1024 .f32) (h3 : a3.IsWhole)
    (a4 : Memref sig .tc .vmem S1x1024 .f32) (h4 : a4.IsWhole)
    (a5 : Memref sig .tc .vmem S1x1024 .f32) (h5 : a5.IsWhole)
    (a6 : Memref sig .tc .vmem S2048x1024 .bf16) (h6 : a6.IsWhole)
    (a7 : Memref sig .tc .vmem S1024x1024 .f32) (h7 : a7.IsWhole)
    (a8 : Memref sig .tc .vmem S1024x1024 .f32) (h8 : a8.IsWhole) (a9 : Memref sig .tc .vmem S1024x2048 .bf16) (h9 : a9.IsWhole)
    (a : Vec F S1024x1024 .f32) (b : Vec F S1024x1024 .f32) (ga : Vec F S1x1024 .f32) (gb : Vec F S1x1024 .f32) (w : Vec F S2048x1024 .bf16) (x : Vec F S1024x1024 .f32) (K : PUnit → sProp 𝕄) (hc : k0_cond1 i = 1#1) :
    iprop(owns (c : Thread nD τ) a2 fullShare a ∗ owns (c : Thread nD τ) a3 fullShare b ∗ owns (c : Thread nD τ) a4 fullShare ga ∗ owns (c : Thread nD τ) a5 fullShare gb ∗ owns (c : Thread nD τ) a6 fullShare w ∗ owns (c : Thread nD τ) a7 fullShare x
        ∗ (∃ d, owns (c : Thread nD τ) a8 fullShare d) ∗ (∃ d, owns (c : Thread nD τ) a9 fullShare d)
        ∗ (iprop(owns (c : Thread nD τ) a2 fullShare a ∗ owns (c : Thread nD τ) a3 fullShare b ∗ owns (c : Thread nD τ) a4 fullShare ga ∗ owns (c : Thread nD τ) a5 fullShare gb ∗ owns (c : Thread nD τ) a6 fullShare w ∗ owns (c : Thread nD τ) a7 fullShare x
            ∗ owns (c : Thread nD τ) a8 fullShare (k0_pay3 (joined (k0_pay1 a ga) (k0_pay2 b gb)) w x) ∗ owns (c : Thread nD τ) a9 fullShare (joined (k0_pay1 a ga) (k0_pay2 b gb))) -∗ K ⟨⟩))
      ⊢ wp frame (wpE (defs₀ (F := F)) Variants.none c none) E (cc0_out_proj i a2 h2 a3 h3 a4 h4 a5 h5 a6 h6 a7 h7 a8 h8 a9 h9) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr
    swap; · iexact H6
    ipureintro
    rw [View.read_writes_eq_canon _ _ _ (View.cover_of_tiledL _ S1024x1024.size (by sl_kernel_rfl))]
    sl_unfold_words
    rw [View.canon_unit_zero off0]
    rw [View.readCov_eq_canon_ld _ _ _ (View.cover_of_tiledL (s := S1024x2048) _ S1024x1024.size (by sl_kernel_rfl)), canon_joined]
    simp only [View.readAt_eq_ld, h2.read_unread, h3.read_unread, h4.read_unread, h5.read_unread, h6.read_unread, h7.read_unread, View.ld_unit_zero (S := S1024x1024) off0, View.ld_unit_zero (S := S1x1024) off0,
      View.ld_unit_zero (S := S2048x1024) off0, View.ld_unit_zero (S := S1024x2048) off0]
  · iexists _; isplitr
    swap; · iexact H7
    ipureintro
    rw [View.read_writes_eq_canon _ _ _ (View.cover_of_tiledL (s := S1024x2048) _ S1024x1024.size (by sl_kernel_rfl))]
    sl_unfold_words
    rw [canon_joined]
    simp only [View.readAt_eq_ld, h2.read_unread, h3.read_unread, h4.read_unread, h5.read_unread, h6.read_unread, h7.read_unread, View.ld_unit_zero (S := S1024x1024) off0, View.ld_unit_zero (S := S1x1024) off0,
      View.ld_unit_zero (S := S2048x1024) off0, View.ld_unit_zero (S := S1024x2048) off0]

set_option maxHeartbeats 2000000 in
/-- Any other point stores the product of the block stored before. -/
theorem body_later (c : Dev nD) (E : Set ℕ) (i : grid0.Coords)
    (a2 : Memref sig .tc .vmem S1024x1024 .f32) (h2 : a2.IsWhole)
    (a3 : Memref sig .tc .vmem S1024x1024 .f32) (h3 : a3.IsWhole)
    (a4 : Memref sig .tc .vmem S1x1024 .f32) (h4 : a4.IsWhole)
    (a5 : Memref sig .tc .vmem S1x1024 .f32) (h5 : a5.IsWhole)
    (a6 : Memref sig .tc .vmem S2048x1024 .bf16) (h6 : a6.IsWhole)
    (a7 : Memref sig .tc .vmem S1024x1024 .f32) (h7 : a7.IsWhole)
    (a8 : Memref sig .tc .vmem S1024x1024 .f32) (h8 : a8.IsWhole) (a9 : Memref sig .tc .vmem S1024x2048 .bf16) (h9 : a9.IsWhole)
    (a : Vec F S1024x1024 .f32) (b : Vec F S1024x1024 .f32) (ga : Vec F S1x1024 .f32) (gb : Vec F S1x1024 .f32) (w : Vec F S2048x1024 .bf16) (x : Vec F S1024x1024 .f32) (h : Vec F S1024x2048 .bf16) (K : PUnit → sProp 𝕄) (hc : ¬k0_cond1 i = 1#1) :
    iprop(owns (c : Thread nD τ) a2 fullShare a ∗ owns (c : Thread nD τ) a3 fullShare b ∗ owns (c : Thread nD τ) a4 fullShare ga ∗ owns (c : Thread nD τ) a5 fullShare gb ∗ owns (c : Thread nD τ) a6 fullShare w ∗ owns (c : Thread nD τ) a7 fullShare x
        ∗ (∃ d, owns (c : Thread nD τ) a8 fullShare d) ∗ owns (c : Thread nD τ) a9 fullShare h
        ∗ (iprop(owns (c : Thread nD τ) a2 fullShare a ∗ owns (c : Thread nD τ) a3 fullShare b ∗ owns (c : Thread nD τ) a4 fullShare ga ∗ owns (c : Thread nD τ) a5 fullShare gb ∗ owns (c : Thread nD τ) a6 fullShare w ∗ owns (c : Thread nD τ) a7 fullShare x
            ∗ owns (c : Thread nD τ) a8 fullShare (k0_pay3 h w x) ∗ owns (c : Thread nD τ) a9 fullShare h) -∗ K ⟨⟩))
      ⊢ wp frame (wpE (defs₀ (F := F)) Variants.none c none) E (cc0_out_proj i a2 h2 a3 h3 a4 h4 a5 h5 a6 h6 a7 h7 a8 h8 a9 h9) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hf7
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr
    swap; · iexact H6
    ipureintro
    rw [View.read_writes_eq_canon _ _ _ (View.cover_of_tiledL _ S1024x1024.size (by sl_kernel_rfl))]
    rw [View.canon_unit_zero off0]
    simp only [View.readAt_eq_ld, h2.read_unread, h3.read_unread, h4.read_unread, h5.read_unread, h6.read_unread, h7.read_unread, h9.read_unread, View.ld_unit_zero (S := S1024x1024) off0, View.ld_unit_zero (S := S1x1024) off0,
      View.ld_unit_zero (S := S2048x1024) off0, View.ld_unit_zero (S := S1024x2048) off0]
  · iexists _; isplitr; · ipureintro; exact h9.read_unread _
    iexact H7

/-! ## What the region finds -/

/-- A core's buffers when the region is entered: after the line that rounds the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is that line and then the region. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- The line writes its own result only. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of a point's run. -/
def start (t : Fin cfg0.N) : Fin cfg0.N := ⟨t.val / 2 * 2, Nat.lt_of_le_of_lt (Nat.div_mul_le_self _ _) t.isLt⟩

/-- The normalised block stored at the first point of the run. -/
def hid (c : Dev nD) (t : Fin cfg0.N) : Vec F S1024x2048 .bf16 :=
  joined (k0_pay1 (iblk m c 0 (start t)) (iblk m c 2 (start t))) (k0_pay2 (iblk m c 1 (start t)) (iblk m c 3 (start t)))

/-! ## The proof data -/

/-- After a point: the inputs' buffers at their blocks, the product's at the stored block times the weight's block plus
    the residual's block, the normalised block's at the stored block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (hid m c t) (iblk m c 4 t) (iblk m c 5 t)
    | ⟨7, _⟩ => hid m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay3 (hid m c t) (iblk m c 4 t) (iblk m c 5 t) := by dsimp only [dats]
theorem after_7 (c : Dev nD) (t : Fin cfg0.N) : (dats m 0 c).after 7 t = hid m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; rfl)

/-- The body's condition holds at the first points of the runs. -/
theorem cond_iff : ∀ t : Fin cfg0.N, k0_cond1 (grid0.coords t) = 1#1 ↔ t.val % 2 = 0 :=
  (by decide +kernel : ∀ t : Fin grid0.N, k0_cond1 (grid0.coords t) = 1#1 ↔ t.val % 2 = 0)

theorem idle_iff (t : Fin cfg0.N) : cfg0.idle 7 (cfg0.grid.coords t) = true ↔ t.val % 2 ≠ 0 := by
  show (!(k0_cond1 (grid0.coords t) == 1#1)) = true ↔ _
  rw [Bool.not_eq_true', beq_eq_false_iff_ne, Ne, cond_iff]

theorem start_succ (n : ℕ) (h : n + 1 < cfg0.N) (h0 : (n + 1) % 2 ≠ 0) : start ⟨n + 1, h⟩ = start ⟨n, Nat.lt_of_succ_lt h⟩ :=
  Fin.ext (show (n + 1) / 2 * 2 = n / 2 * 2 by omega)

theorem start_first (t : Fin cfg0.N) (h0 : t.val % 2 = 0) : start t = t :=
  Fin.ext (show t.val / 2 * 2 = t.val by omega)

theorem same (c : Dev nD) (n : ℕ) (h : n + 1 < cfg0.N) (h0 : (n + 1) % 2 ≠ 0) :
    (dats m 0 c).after 7 ⟨n + 1, h⟩ = (dats m 0 c).after 7 ⟨n, Nat.lt_of_succ_lt h⟩ := by
  rw [after_7, after_7]
  unfold hid
  rw [start_succ n h h0]

/-- At a later point of a run the normalised block's buffer holds the stored block, -/
theorem before_7 (c : Dev nD) (t : Fin cfg0.N) (h0 : t.val % 2 ≠ 0) (d) : (dats m 0 c).before 7 t d = hid m c t :=
  (Mm.before_of_idle (dats m 0 c) 7 2 (by decide) rfl (fun _ _ => rfl) idle_iff flush0_7 (same m c) t.val t.isLt h0 d).trans (after_7 m c t)

/-- and at every point it is left so. -/
theorem leaves_7 (c : Dev nD) (t : Fin cfg0.N) :
    (owns (c : Thread nD τ) (st0_7 t) fullShare (hid m c t) : sProp 𝕄) ⊢ (dats m 0 c).leavesExact 7 t :=
  (show _ ⊢ _ by rw [after_7] : (owns (c : Thread nD τ) (st0_7 t) fullShare (hid m c t) : sProp 𝕄) ⊢ owns (c : Thread nD τ) (st0_7 t) fullShare ((dats m 0 c).after 7 t)).trans
    (Mm.leaves_of_kept (dats m 0 c) 7 2 (by decide) rfl (fun _ _ => rfl) idle_iff flush0_7 (same m c) t)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 2 = 0
  · have e : hid m c t = joined (k0_pay1 (iblk m c 0 t) (iblk m c 2 t)) (k0_pay2 (iblk m c 1 t) (iblk m c 3 t)) := by
      unfold hid; rw [start_first t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c Set.univ (grid0.coords t) _ _ _ _ _ _ _ _ _ _ _ _ _ _ _ _ (iblk m c 0 t) (iblk m c 1 t) (iblk m c 2 t) (iblk m c 3 t) (iblk m c 4 t) (iblk m c 5 t) _ ((cond_iff t).mpr h0))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    rw [← e]
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_7 m c t)
    iexact H7
  · simp only [before_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c Set.univ (grid0.coords t) _ _ _ _ _ _ _ _ _ _ _ _ _ _ _ _ (iblk m c 0 t) (iblk m c 1 t) (iblk m c 2 t) (iblk m c 3 t) (iblk m c 4 t) (iblk m c 5 t) (hid m c t) _ (fun h => h0 ((cond_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_7 m c t)
    iexact H7

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
set_option maxHeartbeats 800000 in
/-- Every run ends, with every array as the proof data names it and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

/-- With the two results at the arrays the proof data names and the arguments unchanged. -/
theorem run_arrays : θ_run defs (onTc (τ := τ) (main (F := F))) ⟨m, fun _ => 0, ρ⟩ (fun r => (∀ c : Dev nD,
      (r.2.mem ((c : Thread nD τ).loc main_v1_0) = (dats m 0 c).arrAt 6 cfg0.N ∧ r.2.mem ((c : Thread nD τ).loc main_v1_1) = (dats m 0 c).arrAt 7 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r h => ⟨fun c => ⟨⟨(h.1 c).1 6, (h.1 c).1 7⟩,
      ((h.1 c).1 0).trans (((dats m 0 c).arrAt_in 0 rfl _).trans ((A_eq m c 0).trans (V_arg m c main_arg0 (by decide)))),
      ((h.1 c).1 1).trans (((dats m 0 c).arrAt_in 1 rfl _).trans ((A_eq m c 1).trans (V_arg m c main_arg1 (by decide)))),
      ((h.1 c).1 2).trans (((dats m 0 c).arrAt_in 2 rfl _).trans ((A_eq m c 2).trans (V_arg m c main_arg2 (by decide)))),
      ((h.1 c).1 3).trans (((dats m 0 c).arrAt_in 3 rfl _).trans ((A_eq m c 3).trans (V_arg m c main_arg3 (by decide)))),
      ((h.1 c).2 main_arg4 (Pipeline.mem_restRefs_of main_arg4 (by decide) (by decide))).trans (V_arg m c main_arg4 (by decide)),
      ((h.1 c).1 5).trans (((dats m 0 c).arrAt_in 5 rfl _).trans ((A_eq m c 5).trans (V_arg m c main_arg5 (by decide))))⟩, h.2⟩) (run_main m ρ)

/-- The frame. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r h => ⟨fun c => (h.1 c).2, h.2⟩) (run_arrays m ρ)

end Cert.Proof.OutF

end
-- ==== Proof.Mm.Frames.lean ====
/-
  The frames of the other projections' and the optimiser's programs at the machine's floats: each has the idealized program's text, so that one
  run serves for both.
-/
module

public import proofs.«01_k».proof.Defs
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Mm.UpF
public import proofs.«01_k».proof.Proof.Gen.Kernel11
public import proofs.«01_k».proof.Proof.Mm.InF
public import proofs.«01_k».proof.Proof.Gen.Kernel12
public import proofs.«01_k».proof.Proof.Mm.OutF
public import proofs.«01_k».proof.Proof.Gen.Kernel13
public import proofs.«01_k».proof.Proof.Gen.Kernel13Ideal.Frame
public import proofs.«01_k».proof.Proof.Gen.Kernel14
public import proofs.«01_k».proof.Proof.Gen.Kernel14Ideal.Frame
public import proofs.«01_k».proof.Proof.Gen.Kernel15
public import proofs.«01_k».proof.Proof.Gen.Kernel15Ideal.Frame

@[expose] public section

set_option maxRecDepth 16384

noncomputable section

namespace Cert.Proof.MmFrames

open Idealize.ShloMosaic Idealize.SL.Sem

/-- The rows' gradient of the input projection: its body is printed the same in both programs, -/
theorem body4 : Kernel4.defs₀ (F := Bits) = Kernel4Ideal.defs₀ (F := Bits) := by
  unfold Kernel4.defs₀ Kernel4Ideal.defs₀
  congr 1
  funext l a
  match l, a with
  | 0, (t, s) => rfl

/-- and so the one's run is the other's. -/
theorem frame4 : Cert.quiescent_Kernel4 := fun m g _ => by
  rw [show Kernel4.defs (F := Bits) = Kernel4Ideal.defs (F := Bits) from congrArg (Pipeline.defs Kernel4Ideal.pcfgs) body4]
  exact Kernel4Ideal.Gen.frame (F := Bits) m g

/-- The input projection's weight gradient: its body is printed the same in both programs, -/
theorem body5 : Kernel5.defs₀ (F := Bits) = Kernel5Ideal.defs₀ (F := Bits) := by
  unfold Kernel5.defs₀ Kernel5Ideal.defs₀
  congr 1
  funext l a
  match l, a with
  | 0, (t, s) => rfl

/-- and so the one's run is the other's. -/
theorem frame5 : Cert.quiescent_Kernel5 := fun m g _ => by
  rw [show Kernel5.defs (F := Bits) = Kernel5Ideal.defs (F := Bits) from congrArg (Pipeline.defs Kernel5Ideal.pcfgs) body5]
  exact Kernel5Ideal.Gen.frame (F := Bits) m g

/-- The down projection's input gradient: its body is printed the same in both programs, -/
theorem body6 : Kernel6.defs₀ (F := Bits) = Kernel6Ideal.defs₀ (F := Bits) := by
  unfold Kernel6.defs₀ Kernel6Ideal.defs₀
  congr 1
  funext l a
  match l, a with
  | 0, (t, s) => rfl

/-- and so the one's run is the other's. -/
theorem frame6 : Cert.quiescent_Kernel6 := fun m g _ => by
  rw [show Kernel6.defs (F := Bits) = Kernel6Ideal.defs (F := Bits) from congrArg (Pipeline.defs Kernel6Ideal.pcfgs) body6]
  exact Kernel6Ideal.Gen.frame (F := Bits) m g

/-- The down projection's weight gradient: its body is printed the same in both programs, -/
theorem body7 : Kernel7.defs₀ (F := Bits) = Kernel7Ideal.defs₀ (F := Bits) := by
  unfold Kernel7.defs₀ Kernel7Ideal.defs₀
  congr 1
  funext l a
  match l, a with
  | 0, (t, s) => rfl

/-- and so the one's run is the other's. -/
theorem frame7 : Cert.quiescent_Kernel7 := fun m g _ => by
  rw [show Kernel7.defs (F := Bits) = Kernel7Ideal.defs (F := Bits) from congrArg (Pipeline.defs Kernel7Ideal.pcfgs) body7]
  exact Kernel7Ideal.Gen.frame (F := Bits) m g

/-- The output projection's weight gradient: its body is printed the same in both programs, -/
theorem body8 : Kernel8.defs₀ (F := Bits) = Kernel8Ideal.defs₀ (F := Bits) := by
  unfold Kernel8.defs₀ Kernel8Ideal.defs₀
  congr 1
  funext l a
  match l, a with
  | 0, (t, s) => rfl

/-- and so the one's run is the other's. -/
theorem frame8 : Cert.quiescent_Kernel8 := fun m g _ => by
  rw [show Kernel8.defs (F := Bits) = Kernel8Ideal.defs (F := Bits) from congrArg (Pipeline.defs Kernel8Ideal.pcfgs) body8]
  exact Kernel8Ideal.Gen.frame (F := Bits) m g

/-- The down projection: its body is printed the same in both programs, -/
theorem body9 : Kernel9.defs₀ (F := Bits) = Kernel9Ideal.defs₀ (F := Bits) := by
  unfold Kernel9.defs₀ Kernel9Ideal.defs₀
  congr 1
  funext l a
  match l, a with
  | 0, (t, s) => rfl

/-- and so the one's run is the other's. -/
theorem frame9 : Cert.quiescent_Kernel9 := fun m g _ => by
  rw [show Kernel9.defs (F := Bits) = Kernel9Ideal.defs (F := Bits) from congrArg (Pipeline.defs Kernel9Ideal.pcfgs) body9]
  exact Kernel9Ideal.Gen.frame (F := Bits) m g

/-- The up projection: its body is printed the same in both programs, -/
theorem body10 : Kernel10.defs₀ (F := Bits) = Kernel10Ideal.defs₀ (F := Bits) := by
  unfold Kernel10.defs₀ Kernel10Ideal.defs₀
  congr 1
  funext l a
  match l, a with
  | 0, (t, s) => rfl

/-- and so the one's run is the other's. -/
theorem frame10 : Cert.quiescent_Kernel10 := fun m g _ => by
  rw [show Kernel10.defs (F := Bits) = Kernel10Ideal.defs (F := Bits) from congrArg (Pipeline.defs Kernel10Ideal.pcfgs) body10]
  exact UpF.frame (F := Bits) m g

/-- The input projection: its body is printed the same in both programs, -/
theorem body11 : Kernel11.defs₀ (F := Bits) = Kernel11Ideal.defs₀ (F := Bits) := by
  unfold Kernel11.defs₀ Kernel11Ideal.defs₀
  congr 1
  funext l a
  match l, a with
  | 0, (t, s) => rfl

/-- and so the one's run is the other's. -/
theorem frame11 : Cert.quiescent_Kernel11 := fun m g _ => by
  rw [show Kernel11.defs (F := Bits) = Kernel11Ideal.defs (F := Bits) from congrArg (Pipeline.defs Kernel11Ideal.pcfgs) body11]
  exact InF.frame (F := Bits) m g

/-- The output projection: its body is printed the same in both programs, -/
theorem body12 : Kernel12.defs₀ (F := Bits) = Kernel12Ideal.defs₀ (F := Bits) := by
  unfold Kernel12.defs₀ Kernel12Ideal.defs₀
  congr 1
  funext l a
  match l, a with
  | 0, (t, s) => rfl

/-- and so the one's run is the other's. -/
theorem frame12 : Cert.quiescent_Kernel12 := fun m g _ => by
  rw [show Kernel12.defs (F := Bits) = Kernel12Ideal.defs (F := Bits) from congrArg (Pipeline.defs Kernel12Ideal.pcfgs) body12]
  exact OutF.frame (F := Bits) m g

/-- The gradient of the output projection's input: its body is printed the same in both programs, -/
theorem body13 : Kernel13.defs₀ (F := Bits) = Kernel13Ideal.defs₀ (F := Bits) := by
  unfold Kernel13.defs₀ Kernel13Ideal.defs₀
  congr 1
  funext l a
  match l, a with
  | 0, (t, s) => rfl

/-- and so the one's run is the other's. -/
theorem frame13 : Cert.quiescent_Kernel13 := fun m g _ => by
  rw [show Kernel13.defs (F := Bits) = Kernel13Ideal.defs (F := Bits) from congrArg (Pipeline.defs Kernel13Ideal.pcfgs) body13]
  exact Kernel13Ideal.Gen.frame (F := Bits) m g

/-- The optimiser's step of the small weights: its body is printed the same in both programs, -/
theorem body14 : Kernel14.defs₀ (F := Bits) = Kernel14Ideal.defs₀ (F := Bits) := by
  unfold Kernel14.defs₀ Kernel14Ideal.defs₀
  congr 1
  funext l a
  match l, a with
  | 0, (t, s) => rfl

/-- and so the one's run is the other's. -/
theorem frame14 : Cert.quiescent_Kernel14 := fun m g _ => by
  rw [show Kernel14.defs (F := Bits) = Kernel14Ideal.defs (F := Bits) from congrArg (Pipeline.defs Kernel14Ideal.pcfgs) body14]
  exact Kernel14Ideal.Gen.frame (F := Bits) m g

/-- The optimiser's step of the convolution's weight: its body is printed the same in both programs, -/
theorem body15 : Kernel15.defs₀ (F := Bits) = Kernel15Ideal.defs₀ (F := Bits) := by
  unfold Kernel15.defs₀ Kernel15Ideal.defs₀
  congr 1
  funext l a
  match l, a with
  | 0, (t, s) => rfl

/-- and so the one's run is the other's. -/
theorem frame15 : Cert.quiescent_Kernel15 := fun m g _ => by
  rw [show Kernel15.defs (F := Bits) = Kernel15Ideal.defs (F := Bits) from congrArg (Pipeline.defs Kernel15Ideal.pcfgs) body15]
  exact Kernel15Ideal.Gen.frame (F := Bits) m g

end Cert.Proof.MmFrames

end
-- ==== Proof.Up.RowV.lean ====
/-
  The gradient of the up projection's rows through their normalisation: what a point of the kernel's grid leaves in its
  accumulator and its two results, case by case, and those values over the extended reals.
-/
module

public import proofs.«01_k».proof.Proof.Gen.Kernel3Ideal.Value
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.UpX

open Idealize.ShloMosaic Cert.Kernel3Ideal Cert.Kernel3Ideal.Gen
open Idealize.ShloMosaic.TcCoe Idealize.ShloMosaic.Tactic
open Idealize.ShloMosaic.Pointwise
open scoped BigOperators
open Finset (range)

/-! ## What one point of the grid leaves, case by case -/

theorem off0 : (![0, 0] : Fin 2 → Nat) = fun _ => 0 := funext fun a => by fin_cases a <;> rfl

section Cases
variable {F : FTy → Type} [FloatOps F]
variable (c : Dev nD) (i : grid0.Coords) (a2 : Memref sig .tc .vmem S512x1408 .bf16) (h2 : a2.IsWhole)
  (a3 : Memref sig .tc .vmem S2048x1408 .bf16) (h3 : a3.IsWhole) (a4 : Memref sig .tc .vmem S512x2048 .f32) (h4 : a4.IsWhole)
  (a5 : Memref sig .tc .vmem S1x2048 .f32) (h5 : a5.IsWhole) (a6 : Memref sig .tc .vmem S512x2048 .f32) (h6 : a6.IsWhole)
  (a7 : Memref sig .tc .vmem S512x2048 .f32) (h7 : a7.IsWhole) (a8 : Memref sig .tc .vmem S1x2048 .f32) (h8 : a8.IsWhole)
  (a9 : Memref sig .tc .vmem S512x2048 .f32) (h9 : a9.IsWhole)
  (t : Vec F S512x1408 .bf16) (w : Vec F S2048x1408 .bf16) (x : Vec F S512x2048 .f32) (g : Vec F S1x2048 .f32) (e : Vec F S512x2048 .f32)
  (acc : Vec F S512x2048 .f32) (old : Vec F S1x2048 .f32)

/-- The first point of a run starts its sum from zero. -/
theorem first_acc (hc0 : cond0_0 i) (hc1 : ¬cond0_1 i) :
    sout0_A_0 c i a2 h2 a3 h3 a4 h4 a5 h5 a6 h6 a7 h7 a8 h8 a9 h9 hc0 hc1 t w x g e = k0_pay2 k0_pay1 t w := by
  unfold sout0_A_0
  rw [View.read_writes_eq_canon _ _ _ (scover0_A_0 c i a2 h2 a3 h3 a4 h4 a5 h5 a6 h6 a7 h7 a8 h8 a9 h9 hc0 hc1 t w x g e)]
  unfold kernelRun0_A
  dsimp only
  sl_unfold_words
  rw [View.canon_cons_unit_zero (S := S512x2048) off0, View.readCov_unit_zero (S := S512x2048) _ off0]
  simp only [View.readAt_eq_ld, h2.read_unread, h3.read_unread, View.ld_unit_zero (S := S512x1408) off0, View.ld_unit_zero (S := S2048x1408) off0]

/-- A point in the middle of a run adds its product. -/
theorem next_acc (hc0 : ¬cond0_0 i) (hc1 : ¬cond0_1 i) :
    sout0_B_0 c i a2 h2 a3 h3 a4 h4 a5 h5 a6 h6 a7 h7 a8 h8 a9 h9 hc0 hc1 t w x g e acc = k0_pay2 acc t w := by
  unfold sout0_B_0
  rw [View.read_writes_eq_canon _ _ _ (scover0_B_0 c i a2 h2 a3 h3 a4 h4 a5 h5 a6 h6 a7 h7 a8 h8 a9 h9 hc0 hc1 t w x g e acc)]
  unfold kernelRun0_B
  dsimp only
  rw [View.canon_unit_zero off0]
  simp only [View.readAt_eq_ld, h2.read_unread, h3.read_unread, h9.read_unread, View.ld_unit_zero (S := S512x2048) off0,
    View.ld_unit_zero (S := S512x1408) off0, View.ld_unit_zero (S := S2048x1408) off0]

/-- The last point of the first run adds its product, -/
theorem last_acc (hc0 : ¬cond0_0 i) (hc1 : cond0_1 i) (hc2 : cond0_2 i) :
    sout0_C_0 c i a2 h2 a3 h3 a4 h4 a5 h5 a6 h6 a7 h7 a8 h8 a9 h9 hc0 hc1 hc2 t w x g e acc = k0_pay2 acc t w := by
  unfold sout0_C_0
  rw [View.read_writes_eq_canon _ _ _ (scover0_C_0 c i a2 h2 a3 h3 a4 h4 a5 h5 a6 h6 a7 h7 a8 h8 a9 h9 hc0 hc1 hc2 t w x g e acc)]
  unfold kernelRun0_C
  dsimp only
  sl_unfold_words
  rw [View.canon_unit_zero off0]
  simp only [View.readAt_eq_ld, h2.read_unread, h3.read_unread, h9.read_unread, View.ld_unit_zero (S := S512x2048) off0,
    View.ld_unit_zero (S := S512x1408) off0, View.ld_unit_zero (S := S2048x1408) off0]

/-- takes the sum back through the normalisation, -/
theorem last_out (hc0 : ¬cond0_0 i) (hc1 : cond0_1 i) (hc2 : cond0_2 i) :
    out0_C_5 c i a2 h2 a3 h3 a4 h4 a5 h5 a6 h6 a7 h7 a8 h8 a9 h9 hc0 hc1 hc2 t w x g e acc = k0_pay6 (k0_pay2 acc t w) x g e := by
  unfold out0_C_5
  rw [View.read_writes_eq_canon _ _ _ (cover0_C_5 c i a2 h2 a3 h3 a4 h4 a5 h5 a6 h6 a7 h7 a8 h8 a9 h9 hc0 hc1 hc2 t w x g e acc)]
  unfold kernelRun0_C
  dsimp only
  sl_unfold_words
  rw [View.canon_unit_zero off0, View.readCov_unit_zero (S := S512x2048) _ off0]
  simp only [View.readAt_eq_ld, h2.read_unread, h3.read_unread, h4.read_unread, h5.read_unread, h6.read_unread, h9.read_unread,
    View.ld_unit_zero (S := S512x2048) off0, View.ld_unit_zero (S := S1x2048) off0, View.ld_unit_zero (S := S512x1408) off0,
    View.ld_unit_zero (S := S2048x1408) off0]

/-- and starts the scale's gradient from zero. -/
theorem last_scale (hc0 : ¬cond0_0 i) (hc1 : cond0_1 i) (hc2 : cond0_2 i) :
    out0_C_6 c i a2 h2 a3 h3 a4 h4 a5 h5 a6 h6 a7 h7 a8 h8 a9 h9 hc0 hc1 hc2 t w x g e acc = k0_pay7 (k0_pay2 acc t w) x k0_pay3 := by
  unfold out0_C_6
  rw [View.read_writes_eq_canon _ _ _ (cover0_C_6 c i a2 h2 a3 h3 a4 h4 a5 h5 a6 h6 a7 h7 a8 h8 a9 h9 hc0 hc1 hc2 t w x g e acc)]
  unfold kernelRun0_C
  dsimp only
  sl_unfold_words
  rw [View.canon_cons_unit_zero (S := S1x2048) off0, View.readCov_unit_zero (S := S512x2048) _ off0, View.readCov_unit_zero (S := S1x2048) _ off0]
  simp only [View.readAt_eq_ld, h2.read_unread, h3.read_unread, h4.read_unread, h9.read_unread,
    View.ld_unit_zero (S := S512x2048) off0, View.ld_unit_zero (S := S512x1408) off0, View.ld_unit_zero (S := S2048x1408) off0]

/-- The last point of a later run does the same, -/
theorem later_acc (hc0 : ¬cond0_0 i) (hc1 : cond0_1 i) (hc2 : ¬cond0_2 i) :
    sout0_D_0 c i a2 h2 a3 h3 a4 h4 a5 h5 a6 h6 a7 h7 a8 h8 a9 h9 hc0 hc1 hc2 t w x g e old acc = k0_pay2 acc t w := by
  unfold sout0_D_0
  rw [View.read_writes_eq_canon _ _ _ (scover0_D_0 c i a2 h2 a3 h3 a4 h4 a5 h5 a6 h6 a7 h7 a8 h8 a9 h9 hc0 hc1 hc2 t w x g e old acc)]
  unfold kernelRun0_D
  dsimp only
  sl_unfold_words
  rw [View.canon_unit_zero off0]
  simp only [View.readAt_eq_ld, h2.read_unread, h3.read_unread, h9.read_unread, View.ld_unit_zero (S := S512x2048) off0,
    View.ld_unit_zero (S := S512x1408) off0, View.ld_unit_zero (S := S2048x1408) off0]

theorem later_out (hc0 : ¬cond0_0 i) (hc1 : cond0_1 i) (hc2 : ¬cond0_2 i) :
    out0_D_5 c i a2 h2 a3 h3 a4 h4 a5 h5 a6 h6 a7 h7 a8 h8 a9 h9 hc0 hc1 hc2 t w x g e old acc = k0_pay6 (k0_pay2 acc t w) x g e := by
  unfold out0_D_5
  rw [View.read_writes_eq_canon _ _ _ (cover0_D_5 c i a2 h2 a3 h3 a4 h4 a5 h5 a6 h6 a7 h7 a8 h8 a9 h9 hc0 hc1 hc2 t w x g e old acc)]
  unfold kernelRun0_D
  dsimp only
  sl_unfold_words
  rw [View.canon_unit_zero off0, View.readCov_unit_zero (S := S512x2048) _ off0]
  simp only [View.readAt_eq_ld, h2.read_unread, h3.read_unread, h4.read_unread, h5.read_unread, h6.read_unread, h9.read_unread,
    View.ld_unit_zero (S := S512x2048) off0, View.ld_unit_zero (S := S1x2048) off0, View.ld_unit_zero (S := S512x1408) off0,
    View.ld_unit_zero (S := S2048x1408) off0]

/-- and adds to the scale's gradient. -/
theorem later_scale (hc0 : ¬cond0_0 i) (hc1 : cond0_1 i) (hc2 : ¬cond0_2 i) :
    out0_D_6 c i a2 h2 a3 h3 a4 h4 a5 h5 a6 h6 a7 h7 a8 h8 a9 h9 hc0 hc1 hc2 t w x g e old acc = k0_pay7 (k0_pay2 acc t w) x old := by
  unfold out0_D_6
  rw [View.read_writes_eq_canon _ _ _ (cover0_D_6 c i a2 h2 a3 h3 a4 h4 a5 h5 a6 h6 a7 h7 a8 h8 a9 h9 hc0 hc1 hc2 t w x g e old acc)]
  unfold kernelRun0_D
  dsimp only
  sl_unfold_words
  rw [View.canon_unit_zero off0, View.readCov_unit_zero (S := S512x2048) _ off0]
  simp only [View.readAt_eq_ld, h2.read_unread, h3.read_unread, h4.read_unread, h8.read_unread, h9.read_unread, View.ld_unit_zero (S := S1x2048) off0,
    View.ld_unit_zero (S := S512x2048) off0, View.ld_unit_zero (S := S512x1408) off0, View.ld_unit_zero (S := S2048x1408) off0]
end Cases

/-! ## The same over the extended reals -/

theorem zero_apply (r : Fin 512) (l : Fin 2048) : k0_pay1 (F := Ideal) (ix2 r l) = 0 := by
  pointwise [k0_pay1]

theorem zero_row_apply (l : Fin 2048) : k0_pay3 (F := Ideal) (ix2 0 l) = 0 := by
  pointwise [k0_pay3]

theorem add_apply (acc : Vec Ideal S512x2048 .f32) (t : Vec Ideal S512x1408 .bf16) (w : Vec Ideal S2048x1408 .bf16) (r : Fin 512) (l : Fin 2048) :
    k0_pay2 acc t w (ix2 r l) = (acc (ix2 r l) + ∑ s : Fin 1408, t (ix2 r s) * w (ix2 l s) : EReal) := by
  pointwise [k0_pay2]

/-- A row's reciprocal root mean square. -/
def rootOf (y : Fin 2048 → EReal) : EReal :=
  Ideal.rsqrt (Ideal.div (∑ k, y k * y k) (Ideal.ofBits .f32 0x45000000#32) + Ideal.ofBits .f32 0x358637BD#32)

theorem root_apply (x : Vec Ideal S512x2048 .f32) (r : Fin 512) : k0_pay4 x (ix2 r 0) = rootOf fun l => x (ix2 r l) := by
  unfold rootOf
  pointwise [k0_pay4]

theorem unit_apply (x : Vec Ideal S512x2048 .f32) (r : Fin 512) (l : Fin 2048) :
    k0_pay5 x (ix2 r l) = (x (ix2 r l) * rootOf fun l => x (ix2 r l) : EReal) := by
  rw [← root_apply]
  pointwise [k0_pay5]

/-- A row's gradient through its normalisation: `d` the gradient of the scaled row, `g` the scale. -/
def backOf (d g y : Fin 2048 → EReal) (l : Fin 2048) : EReal :=
  rootOf y * (d l * g l - y l * rootOf y * Ideal.div (∑ k, d k * g k * (y k * rootOf y)) (Ideal.ofBits .f32 0x45000000#32))

theorem back_apply (d x e : Vec Ideal S512x2048 .f32) (g : Vec Ideal S1x2048 .f32) (r : Fin 512) (l : Fin 2048) :
    k0_pay6 d x g e (ix2 r l) = (backOf (fun l => d (ix2 r l)) (fun l => g (ix2 0 l)) (fun l => x (ix2 r l)) l + e (ix2 r l) : EReal) := by
  refine Eq.trans (b := (k0_pay4 x (ix2 r 0) * (d (ix2 r l) * g (ix2 0 l) - k0_pay5 x (ix2 r l) *
    Ideal.div (∑ k, d (ix2 r k) * g (ix2 0 k) * k0_pay5 x (ix2 r k)) (Ideal.ofBits .f32 0x45000000#32)) + e (ix2 r l) : EReal)) ?_ ?_
  · pointwise [k0_pay6]
  · simp only [unit_apply, root_apply]
    rfl

theorem scale_apply (d x : Vec Ideal S512x2048 .f32) (old : Vec Ideal S1x2048 .f32) (l : Fin 2048) :
    k0_pay7 d x old (ix2 0 l) = (old (ix2 0 l) + ∑ r : Fin 512, d (ix2 r l) * (x (ix2 r l) * rootOf fun l => x (ix2 r l)) : EReal) := by
  refine Eq.trans (b := (old (ix2 0 l) + ∑ r : Fin 512, d (ix2 r l) * k0_pay5 x (ix2 r l) : EReal)) ?_ ?_
  · pointwise [k0_pay7]
  · simp only [unit_apply]

end Cert.Proof.UpX

end
-- ==== Proof.Up.Rms.lean ====
/-
  A row's normalisation by its root mean square, at any width, and the gradient through it, written two ways: the kernels
  take the mean of the gradient along the normalised row away from it, the references add twice the row times the derivative
  of its reciprocal root. Both are the same extended real, whatever the entries.
-/
module

public import Idealize.ShloMosaic.Lib.Pointwise
public import Idealize.ShloMosaic.Lib.Tactic

@[expose] public section

set_option maxRecDepth 16384

noncomputable section

namespace Cert.Proof.Rms

open Idealize.ShloMosaic
open scoped BigOperators

/-! ## The constants -/

theorem ofBits_half : Ideal.ofBits .f32 0xBF000000#32 = ((-(1 / 2) : ℝ) : EReal) := by
  simp only [Ideal.ofBits, Ideal.ieee, show (BitVec.extractLsb' 0 23 0xBF000000#32).toNat = 0 by decide, show (BitVec.extractLsb' 23 8 0xBF000000#32).toNat = 126 by decide,
    show (BitVec.extractLsb' (8 + 23) 1 0xBF000000#32 == 1#1) = true by decide]
  rw [if_neg (by decide), if_neg (by decide)]
  refine congrArg _ ?_
  norm_num

theorem ofBits_eps : ∃ e : ℝ, 0 < e ∧ Ideal.ofBits .f32 0x358637BD#32 = (e : EReal) := by
  simp only [Ideal.ofBits, Ideal.ieee, show (BitVec.extractLsb' 23 8 0x358637BD#32).toNat = 107 by decide,
    show (BitVec.extractLsb' (8 + 23) 1 0x358637BD#32 == 1#1) = false by decide]
  rw [if_neg (by decide), if_neg (by decide)]
  refine ⟨_, ?_, rfl⟩
  rw [if_neg (by decide)]
  positivity

/-! ## Sums over the extended reals -/

/-- A nonnegative real goes into a sum of extended reals. -/
theorem mul_sum_of_nonneg {ι : Type*} (s : Finset ι) (f : ι → EReal) {r : ℝ} (hr : 0 ≤ r) : (r : EReal) * ∑ k ∈ s, f k = ∑ k ∈ s, (r : EReal) * f k := by
  classical
  induction s using Finset.induction_on with
  | empty => simp only [Finset.sum_empty, mul_zero]
  | insert a s ha ih =>
    rw [Finset.sum_insert ha, Finset.sum_insert ha, EReal.left_distrib_of_nonneg_of_ne_top (by exact_mod_cast hr) (EReal.coe_ne_top r), ih]

theorem sq_nonneg' (x : EReal) : 0 ≤ x * x := by
  rcases le_total 0 x with h | h
  · exact EReal.mul_nonneg h h
  · exact EReal.mul_nonneg_iff.2 (Or.inr ⟨h, h⟩)

theorem add_self (x : EReal) : x + x = ((2 : ℝ) : EReal) * x := by
  rw [show ((2 : ℝ) : EReal) = 1 + 1 by norm_cast, EReal.right_distrib_of_nonneg zero_le_one zero_le_one, one_mul]

theorem div_real (x : EReal) {r : ℝ} (hr : r ≠ 0) : Ideal.div x (r : EReal) = x * ((r⁻¹ : ℝ) : EReal) := by
  unfold Ideal.div
  rw [if_neg (by exact_mod_cast hr), EReal.coe_inv]

/-! ## The two gradients -/

section Width
variable {n : ℕ} (b : BitVec 32) (d g y : Fin n → EReal)

/-- The mean of a row's squares, and the small constant under the root; `b` is the constant the sum is divided by. -/
def meanOf : EReal := Ideal.div (∑ k, y k * y k) (Ideal.ofBits .f32 b) + Ideal.ofBits .f32 0x358637BD#32

/-- A row's reciprocal root mean square. -/
def rootOf : EReal := Ideal.rsqrt (meanOf b y)

/-- A row's gradient through its normalisation: `d` the gradient of the scaled row, `g` the scale. -/
def backOf (l : Fin n) : EReal :=
  rootOf b y * (d l * g l - y l * rootOf b y * Ideal.div (∑ k, d k * g k * (y k * rootOf b y)) (Ideal.ofBits .f32 b))

/-- The derivative of the row's reciprocal root, times the gradient along the row, spread over its entries. -/
def spreadOf : EReal :=
  Ideal.div ((∑ k, y k * (d k * g k)) * (Ideal.ofBits .f32 0xBF000000#32 * Ideal.div (rootOf b y) (meanOf b y))) (Ideal.ofBits .f32 b)

variable {b} {N : ℝ} (hN : 0 < N) (hb : Ideal.ofBits .f32 b = (N : EReal))
include hN hb

/-- Either the row's mean square is infinite and its reciprocal root zero, or the root is a positive real whose square is
    the mean's inverse. -/
theorem root_cases : (rootOf b y = 0 ∧ meanOf b y = ⊤) ∨
    ∃ w s : ℝ, w ≠ 0 ∧ 0 ≤ s ∧ s * s = w⁻¹ ∧ meanOf b y = (w : EReal) ∧ rootOf b y = (s : EReal) := by
  obtain ⟨e, he, hE⟩ := ofBits_eps
  have hM : 0 ≤ ∑ k, y k * y k := Finset.sum_nonneg fun k _ => sq_nonneg' (y k)
  show (Ideal.rsqrt (meanOf b y) = 0 ∧ meanOf b y = ⊤) ∨ ∃ w s : ℝ, w ≠ 0 ∧ 0 ≤ s ∧ s * s = w⁻¹ ∧ meanOf b y = (w : EReal) ∧ Ideal.rsqrt (meanOf b y) = (s : EReal)
  have hm : meanOf b y = (∑ k, y k * y k) * ((N⁻¹ : ℝ) : EReal) + (e : EReal) := by
    unfold meanOf
    rw [hb, hE, div_real _ hN.ne']
  generalize (∑ k, y k * y k) = M at hM hm
  induction M using EReal.rec with
  | bot => simp at hM
  | top =>
    left
    have : meanOf b y = ⊤ := by rw [hm, EReal.top_mul_coe_of_pos (inv_pos.2 hN), EReal.top_add_coe]
    rw [this]
    exact ⟨Ideal.rsqrt_top, rfl⟩
  | coe μ =>
    right
    have hμ : 0 ≤ μ := by exact_mod_cast hM
    have hw : 0 < μ * N⁻¹ + e := by positivity
    have : meanOf b y = ((μ * N⁻¹ + e : ℝ) : EReal) := by rw [hm]; norm_cast
    refine ⟨_, (Real.sqrt (μ * N⁻¹ + e))⁻¹, hw.ne', by positivity, ?_, this, ?_⟩
    · rw [← mul_inv, Real.mul_self_sqrt hw.le]
    · rw [this, Ideal.rsqrt_coe, if_neg (not_lt.2 hw.le), if_neg hw.ne']

/-- The kernels' gradient of an entry is the references'. -/
theorem back_eq_spread (l : Fin n) :
    backOf b d g y l = d l * g l * rootOf b y + y l * spreadOf b d g y + spreadOf b d g y * y l := by
  unfold backOf spreadOf
  rw [hb, ofBits_half, div_real _ hN.ne', div_real _ hN.ne']
  rcases root_cases y hN hb with ⟨h0, ht⟩ | ⟨w, s, hw, hs, hss, hm, hr⟩
  · rw [h0, ht]
    unfold Ideal.div
    rw [if_neg (by simp)]
    simp only [zero_mul, mul_zero, add_zero]
  · rw [hr, hm, div_real _ hw, add_assoc, mul_comm (_ * _) (y l), add_self]
    have hS : (∑ k, d k * g k * (y k * (s : EReal))) = (s : EReal) * ∑ k, y k * (d k * g k) := by
      rw [mul_sum_of_nonneg _ _ hs]
      refine Finset.sum_congr rfl fun k _ => ?_
      rw [← mul_assoc, mul_comm, mul_comm (d k * g k)]
    rw [hS, sub_eq_add_neg, EReal.left_distrib_of_nonneg_of_ne_top (by exact_mod_cast hs) (EReal.coe_ne_top s), mul_comm (s : EReal) (d l * g l)]
    refine congrArg _ ?_
    generalize (∑ k, y k * (d k * g k)) = S
    have e1 : (s : EReal) * -(y l * (s : EReal) * ((s : EReal) * S * ((N⁻¹ : ℝ) : EReal))) = (y l * S) * (((-1 : ℝ) : EReal) * ((s : EReal) * (s : EReal) * (s : EReal) * ((N⁻¹ : ℝ) : EReal))) := by
      rw [show ∀ x : EReal, -x = ((-1 : ℝ) : EReal) * x from fun x => by rw [EReal.coe_neg, EReal.coe_one, EReal.neg_mul, one_mul]]
      ac_rfl
    have e2 : ((2 : ℝ) : EReal) * (y l * (S * (((-(1 / 2) : ℝ) : EReal) * ((s : EReal) * ((w⁻¹ : ℝ) : EReal))) * ((N⁻¹ : ℝ) : EReal))) =
        (y l * S) * (((2 : ℝ) : EReal) * ((-(1 / 2) : ℝ) : EReal) * ((s : EReal) * ((w⁻¹ : ℝ) : EReal) * ((N⁻¹ : ℝ) : EReal))) := by
      ac_rfl
    rw [e1, e2]
    refine congrArg _ ?_
    norm_cast
    rw [← hss]
    push_cast
    ring_nf
end Width

end Cert.Proof.Rms

end
-- ==== Proof.Up.RowMath.lean ====
/-
  The gradient through the normalisation of a row of 2048 entries, in the kernel's form and the reference's: the two forms at
  any width, at this one.
-/
module

public import proofs.«01_k».proof.Proof.Up.RowV
public import proofs.«01_k».proof.Proof.Up.Rms

@[expose] public section

set_option maxRecDepth 16384

noncomputable section

namespace Cert.Proof.UpX

open Idealize.ShloMosaic
open scoped BigOperators

theorem ofBits_width : Ideal.ofBits .f32 0x45000000#32 = ((2048 : ℝ) : EReal) := by
  simp only [Ideal.ofBits, Ideal.ieee, show (BitVec.extractLsb' 0 23 0x45000000#32).toNat = 0 by decide, show (BitVec.extractLsb' 23 8 0x45000000#32).toNat = 138 by decide,
    show (BitVec.extractLsb' (8 + 23) 1 0x45000000#32 == 1#1) = false by decide]
  rw [if_neg (by decide), if_neg (by decide)]
  norm_num

/-- The mean of a row's squares, and the small constant under the root. -/
def meanOf (y : Fin 2048 → EReal) : EReal := Ideal.div (∑ k, y k * y k) (Ideal.ofBits .f32 0x45000000#32) + Ideal.ofBits .f32 0x358637BD#32

/-- The derivative of the row's reciprocal root, times the gradient along the row, spread over its entries. -/
def spreadOf (d g y : Fin 2048 → EReal) : EReal :=
  Ideal.div ((∑ k, y k * (d k * g k)) * (Ideal.ofBits .f32 0xBF000000#32 * Ideal.div (rootOf y) (meanOf y))) (Ideal.ofBits .f32 0x45000000#32)

/-- The kernel's gradient of an entry is the reference's. -/
theorem back_eq_spread (d g y : Fin 2048 → EReal) (l : Fin 2048) :
    backOf d g y l = d l * g l * rootOf y + y l * spreadOf d g y + spreadOf d g y * y l :=
  Rms.back_eq_spread d g y (by norm_num) ofBits_width l

end Cert.Proof.UpX

end
-- ==== Proof.Mm.InXV.lean ====
/-
  The gradient of the input projection's rows through their normalisation: what a point of the kernel's grid leaves in its
  accumulator and its two results, case by case, and those values over the extended reals.
-/
module

public import proofs.«01_k».proof.Proof.Gen.Kernel4Ideal.Value
public import proofs.«01_k».proof.Proof.Up.RowMath
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.InX

open Idealize.ShloMosaic Cert.Kernel4Ideal Cert.Kernel4Ideal.Gen
open Idealize.ShloMosaic.TcCoe Idealize.ShloMosaic.Tactic
open Idealize.ShloMosaic.Pointwise
open Cert.Proof.UpX (rootOf backOf meanOf spreadOf back_eq_spread)
open scoped BigOperators
open Finset (range)

/-! ## What one point of the grid leaves, case by case -/

theorem off0 : (![0, 0] : Fin 2 → Nat) = fun _ => 0 := funext fun a => by fin_cases a <;> rfl

section Cases
variable {F : FTy → Type} [FloatOps F]
variable (c : Dev nD) (i : grid0.Coords) (a2 : Memref sig .tc .vmem S512x896 .bf16) (h2 : a2.IsWhole)
  (a3 : Memref sig .tc .vmem S2048x896 .bf16) (h3 : a3.IsWhole) (a4 : Memref sig .tc .vmem S512x2048 .f32) (h4 : a4.IsWhole)
  (a5 : Memref sig .tc .vmem S1x2048 .f32) (h5 : a5.IsWhole) (a6 : Memref sig .tc .vmem S512x2048 .f32) (h6 : a6.IsWhole)
  (a7 : Memref sig .tc .vmem S512x2048 .f32) (h7 : a7.IsWhole) (a8 : Memref sig .tc .vmem S1x2048 .f32) (h8 : a8.IsWhole)
  (a9 : Memref sig .tc .vmem S512x2048 .f32) (h9 : a9.IsWhole)
  (t : Vec F S512x896 .bf16) (w : Vec F S2048x896 .bf16) (x : Vec F S512x2048 .f32) (g : Vec F S1x2048 .f32) (e : Vec F S512x2048 .f32)
  (acc : Vec F S512x2048 .f32) (old : Vec F S1x2048 .f32)

/-- The first point of a run starts its sum from zero. -/
theorem first_acc (hc0 : cond0_0 i) (hc1 : ¬cond0_1 i) :
    sout0_A_0 c i a2 h2 a3 h3 a4 h4 a5 h5 a6 h6 a7 h7 a8 h8 a9 h9 hc0 hc1 t w x g e = k0_pay2 k0_pay1 t w := by
  unfold sout0_A_0
  rw [View.read_writes_eq_canon _ _ _ (scover0_A_0 c i a2 h2 a3 h3 a4 h4 a5 h5 a6 h6 a7 h7 a8 h8 a9 h9 hc0 hc1 t w x g e)]
  unfold kernelRun0_A
  dsimp only
  sl_unfold_words
  rw [View.canon_cons_unit_zero (S := S512x2048) off0, View.readCov_unit_zero (S := S512x2048) _ off0]
  simp only [View.readAt_eq_ld, h2.read_unread, h3.read_unread, View.ld_unit_zero (S := S512x896) off0, View.ld_unit_zero (S := S2048x896) off0]

/-- A point in the middle of a run adds its product. -/
theorem next_acc (hc0 : ¬cond0_0 i) (hc1 : ¬cond0_1 i) :
    sout0_B_0 c i a2 h2 a3 h3 a4 h4 a5 h5 a6 h6 a7 h7 a8 h8 a9 h9 hc0 hc1 t w x g e acc = k0_pay2 acc t w := by
  unfold sout0_B_0
  rw [View.read_writes_eq_canon _ _ _ (scover0_B_0 c i a2 h2 a3 h3 a4 h4 a5 h5 a6 h6 a7 h7 a8 h8 a9 h9 hc0 hc1 t w x g e acc)]
  unfold kernelRun0_B
  dsimp only
  rw [View.canon_unit_zero off0]
  simp only [View.readAt_eq_ld, h2.read_unread, h3.read_unread, h9.read_unread, View.ld_unit_zero (S := S512x2048) off0,
    View.ld_unit_zero (S := S512x896) off0, View.ld_unit_zero (S := S2048x896) off0]

/-- The last point of the first run adds its product, -/
theorem last_acc (hc0 : ¬cond0_0 i) (hc1 : cond0_1 i) (hc2 : cond0_2 i) :
    sout0_C_0 c i a2 h2 a3 h3 a4 h4 a5 h5 a6 h6 a7 h7 a8 h8 a9 h9 hc0 hc1 hc2 t w x g e acc = k0_pay2 acc t w := by
  unfold sout0_C_0
  rw [View.read_writes_eq_canon _ _ _ (scover0_C_0 c i a2 h2 a3 h3 a4 h4 a5 h5 a6 h6 a7 h7 a8 h8 a9 h9 hc0 hc1 hc2 t w x g e acc)]
  unfold kernelRun0_C
  dsimp only
  sl_unfold_words
  rw [View.canon_unit_zero off0]
  simp only [View.readAt_eq_ld, h2.read_unread, h3.read_unread, h9.read_unread, View.ld_unit_zero (S := S512x2048) off0,
    View.ld_unit_zero (S := S512x896) off0, View.ld_unit_zero (S := S2048x896) off0]

/-- takes the sum back through the normalisation, -/
theorem last_out (hc0 : ¬cond0_0 i) (hc1 : cond0_1 i) (hc2 : cond0_2 i) :
    out0_C_5 c i a2 h2 a3 h3 a4 h4 a5 h5 a6 h6 a7 h7 a8 h8 a9 h9 hc0 hc1 hc2 t w x g e acc = k0_pay6 (k0_pay2 acc t w) x g e := by
  unfold out0_C_5
  rw [View.read_writes_eq_canon _ _ _ (cover0_C_5 c i a2 h2 a3 h3 a4 h4 a5 h5 a6 h6 a7 h7 a8 h8 a9 h9 hc0 hc1 hc2 t w x g e acc)]
  unfold kernelRun0_C
  dsimp only
  sl_unfold_words
  rw [View.canon_unit_zero off0, View.readCov_unit_zero (S := S512x2048) _ off0]
  simp only [View.readAt_eq_ld, h2.read_unread, h3.read_unread, h4.read_unread, h5.read_unread, h6.read_unread, h9.read_unread,
    View.ld_unit_zero (S := S512x2048) off0, View.ld_unit_zero (S := S1x2048) off0, View.ld_unit_zero (S := S512x896) off0,
    View.ld_unit_zero (S := S2048x896) off0]

/-- and starts the scale's gradient from zero. -/
theorem last_scale (hc0 : ¬cond0_0 i) (hc1 : cond0_1 i) (hc2 : cond0_2 i) :
    out0_C_6 c i a2 h2 a3 h3 a4 h4 a5 h5 a6 h6 a7 h7 a8 h8 a9 h9 hc0 hc1 hc2 t w x g e acc = k0_pay7 (k0_pay2 acc t w) x k0_pay3 := by
  unfold out0_C_6
  rw [View.read_writes_eq_canon _ _ _ (cover0_C_6 c i a2 h2 a3 h3 a4 h4 a5 h5 a6 h6 a7 h7 a8 h8 a9 h9 hc0 hc1 hc2 t w x g e acc)]
  unfold kernelRun0_C
  dsimp only
  sl_unfold_words
  rw [View.canon_cons_unit_zero (S := S1x2048) off0, View.readCov_unit_zero (S := S512x2048) _ off0, View.readCov_unit_zero (S := S1x2048) _ off0]
  simp only [View.readAt_eq_ld, h2.read_unread, h3.read_unread, h4.read_unread, h9.read_unread,
    View.ld_unit_zero (S := S512x2048) off0, View.ld_unit_zero (S := S512x896) off0, View.ld_unit_zero (S := S2048x896) off0]

/-- The last point of a later run does the same, -/
theorem later_acc (hc0 : ¬cond0_0 i) (hc1 : cond0_1 i) (hc2 : ¬cond0_2 i) :
    sout0_D_0 c i a2 h2 a3 h3 a4 h4 a5 h5 a6 h6 a7 h7 a8 h8 a9 h9 hc0 hc1 hc2 t w x g e old acc = k0_pay2 acc t w := by
  unfold sout0_D_0
  rw [View.read_writes_eq_canon _ _ _ (scover0_D_0 c i a2 h2 a3 h3 a4 h4 a5 h5 a6 h6 a7 h7 a8 h8 a9 h9 hc0 hc1 hc2 t w x g e old acc)]
  unfold kernelRun0_D
  dsimp only
  sl_unfold_words
  rw [View.canon_unit_zero off0]
  simp only [View.readAt_eq_ld, h2.read_unread, h3.read_unread, h9.read_unread, View.ld_unit_zero (S := S512x2048) off0,
    View.ld_unit_zero (S := S512x896) off0, View.ld_unit_zero (S := S2048x896) off0]

theorem later_out (hc0 : ¬cond0_0 i) (hc1 : cond0_1 i) (hc2 : ¬cond0_2 i) :
    out0_D_5 c i a2 h2 a3 h3 a4 h4 a5 h5 a6 h6 a7 h7 a8 h8 a9 h9 hc0 hc1 hc2 t w x g e old acc = k0_pay6 (k0_pay2 acc t w) x g e := by
  unfold out0_D_5
  rw [View.read_writes_eq_canon _ _ _ (cover0_D_5 c i a2 h2 a3 h3 a4 h4 a5 h5 a6 h6 a7 h7 a8 h8 a9 h9 hc0 hc1 hc2 t w x g e old acc)]
  unfold kernelRun0_D
  dsimp only
  sl_unfold_words
  rw [View.canon_unit_zero off0, View.readCov_unit_zero (S := S512x2048) _ off0]
  simp only [View.readAt_eq_ld, h2.read_unread, h3.read_unread, h4.read_unread, h5.read_unread, h6.read_unread, h9.read_unread,
    View.ld_unit_zero (S := S512x2048) off0, View.ld_unit_zero (S := S1x2048) off0, View.ld_unit_zero (S := S512x896) off0,
    View.ld_unit_zero (S := S2048x896) off0]

/-- and adds to the scale's gradient. -/
theorem later_scale (hc0 : ¬cond0_0 i) (hc1 : cond0_1 i) (hc2 : ¬cond0_2 i) :
    out0_D_6 c i a2 h2 a3 h3 a4 h4 a5 h5 a6 h6 a7 h7 a8 h8 a9 h9 hc0 hc1 hc2 t w x g e old acc = k0_pay7 (k0_pay2 acc t w) x old := by
  unfold out0_D_6
  rw [View.read_writes_eq_canon _ _ _ (cover0_D_6 c i a2 h2 a3 h3 a4 h4 a5 h5 a6 h6 a7 h7 a8 h8 a9 h9 hc0 hc1 hc2 t w x g e old acc)]
  unfold kernelRun0_D
  dsimp only
  sl_unfold_words
  rw [View.canon_unit_zero off0, View.readCov_unit_zero (S := S512x2048) _ off0]
  simp only [View.readAt_eq_ld, h2.read_unread, h3.read_unread, h4.read_unread, h8.read_unread, h9.read_unread, View.ld_unit_zero (S := S1x2048) off0,
    View.ld_unit_zero (S := S512x2048) off0, View.ld_unit_zero (S := S512x896) off0, View.ld_unit_zero (S := S2048x896) off0]
end Cases

/-! ## The same over the extended reals: all but the product are the up projection's -/

theorem zero_apply (r : Fin 512) (l : Fin 2048) : k0_pay1 (F := Ideal) (ix2 r l) = 0 := UpX.zero_apply r l

theorem zero_row_apply (l : Fin 2048) : k0_pay3 (F := Ideal) (ix2 0 l) = 0 := UpX.zero_row_apply l

theorem add_apply (acc : Vec Ideal S512x2048 .f32) (t : Vec Ideal S512x896 .bf16) (w : Vec Ideal S2048x896 .bf16) (r : Fin 512) (l : Fin 2048) :
    k0_pay2 acc t w (ix2 r l) = (acc (ix2 r l) + ∑ s : Fin 896, t (ix2 r s) * w (ix2 l s) : EReal) := by
  pointwise [k0_pay2]

theorem back_apply (d x e : Vec Ideal S512x2048 .f32) (g : Vec Ideal S1x2048 .f32) (r : Fin 512) (l : Fin 2048) :
    k0_pay6 d x g e (ix2 r l) = (backOf (fun l => d (ix2 r l)) (fun l => g (ix2 0 l)) (fun l => x (ix2 r l)) l + e (ix2 r l) : EReal) :=
  UpX.back_apply d x e g r l

theorem scale_apply (d x : Vec Ideal S512x2048 .f32) (old : Vec Ideal S1x2048 .f32) (l : Fin 2048) :
    k0_pay7 d x old (ix2 0 l) = (old (ix2 0 l) + ∑ r : Fin 512, d (ix2 r l) * (x (ix2 r l) * rootOf fun l => x (ix2 r l)) : EReal) :=
  UpX.scale_apply d x old l

end Cert.Proof.InX

end
-- ==== Proof.Mm.Sum.lean ====
/-
  A sum taken block by block: over a run of `J` grid points an accumulator is started with the first block's part and has
  each later block's part added. After a point it holds the sum over all blocks of the run so far.
-/
module

public import Idealize.ShloMosaic.Lib.Pointwise

@[expose] public section

noncomputable section

namespace Cert.Proof.Mm

open scoped BigOperators
open Finset (range)

/-- `out n` is what the accumulator holds after point `n`, `P n` says that point `n` lies in the run looked at, `f` is the
    term of a place of the summed axis, `B` the block's width. -/
theorem acc_sum {N : ℕ} (J B : ℕ) (out : (n : ℕ) → n < N → EReal) (P : ℕ → Prop) (f : ℕ → EReal)
    (hm : ∀ n, (n + 1) % J ≠ 0 → (n + 1) % J = n % J + 1)
    (hP : ∀ n, (n + 1) % J ≠ 0 → P (n + 1) → P n)
    (h0 : ∀ n h, n % J = 0 → P n → out n h = ∑ s ∈ range B, f (n % J * B + s))
    (h1 : ∀ n (h : n + 1 < N), (n + 1) % J ≠ 0 → P (n + 1) →
      out (n + 1) h = out n (Nat.lt_of_succ_lt h) + ∑ s ∈ range B, f ((n + 1) % J * B + s))
    (n : ℕ) (h : n < N) (p : P n) : out n h = ∑ s ∈ range (n % J * B + B), f s := by
  have base : ∀ n h, n % J = 0 → P n → out n h = ∑ s ∈ range (n % J * B + B), f s := fun n h e p => by
    rw [h0 n h e p, e, Nat.zero_mul, Nat.zero_add]
    simp only [Nat.zero_add]
  induction n with
  | zero => exact base 0 h (Nat.zero_mod J) p
  | succ n ih =>
    by_cases e : (n + 1) % J = 0
    · exact base (n + 1) h e p
    · rw [h1 n h e p, ih (Nat.lt_of_succ_lt h) (hP n e p), hm n e, Nat.add_mul, Nat.one_mul, ← Finset.sum_range_add]

end Cert.Proof.Mm

end
-- ==== Proof.Mm.InXR.lean ====
/-
  The gradient of the input projection's rows through their normalisation: the accumulated sums over the kernel's grid and
  the two result arrays.
-/
module

public import proofs.«01_k».proof.Proof.Mm.InXV
public import proofs.«01_k».proof.Proof.Mm.Sum

@[expose] public section

set_option maxRecDepth 16384

noncomputable section

namespace Cert.Proof.InX

open Idealize.ShloMosaic Cert.Kernel4Ideal Cert.Kernel4Ideal.Gen
open Idealize.ShloMosaic.TcCoe Idealize.ShloMosaic.Tactic
open Idealize.ShloMosaic.Pointwise
open Cert.Proof.UpX (rootOf backOf meanOf spreadOf back_eq_spread)
open scoped BigOperators
open Finset (range)

/-! ## The blocks -/

theorem idx_0 : ∀ t : Fin cfg0.N, win0_0.index t = ![t.val / 7, t.val % 7] := (by decide +kernel : ∀ t : Fin grid0.N, win0_0.index t = ![t.val / 7, t.val % 7])
theorem idx_1 : ∀ t : Fin cfg0.N, win0_1.index t = ![0, t.val % 7] := (by decide +kernel : ∀ t : Fin grid0.N, win0_1.index t = ![0, t.val % 7])
theorem idx_2 : ∀ t : Fin cfg0.N, win0_2.index t = ![t.val / 7, 0] := (by decide +kernel : ∀ t : Fin grid0.N, win0_2.index t = ![t.val / 7, 0])
theorem idx_3 : ∀ t : Fin cfg0.N, win0_3.index t = ![0, 0] := (by decide +kernel : ∀ t : Fin grid0.N, win0_3.index t = ![0, 0])
theorem idx_4 : ∀ t : Fin cfg0.N, win0_4.index t = ![t.val / 7, 0] := (by decide +kernel : ∀ t : Fin grid0.N, win0_4.index t = ![t.val / 7, 0])

theorem lt112 (t : Fin cfg0.N) : t.val < 112 := t.isLt

section Point
variable (m : (ℓ : Loc nD τ sig) → Buf (Elt Ideal) ℓ) (c : Dev nD)

theorem read_0 (t : Fin cfg0.N) (r : Fin 512) (s : Fin 896) :
    iblk m c 0 t (ix2 r s) = V m c main_v0 (ix2 ⟨(t.val / 7) * 512 + r.val, by have := lt112 t; omega⟩ ⟨(t.val % 7) * 896 + s.val, by omega⟩) := by
  blk_ext [iblk, idx_0 t]
theorem read_1 (t : Fin cfg0.N) (l : Fin 2048) (s : Fin 896) :
    iblk m c 1 t (ix2 l s) = V m c main_v1 (ix2 l ⟨(t.val % 7) * 896 + s.val, by omega⟩) := by
  blk_ext [iblk, idx_1 t]
theorem read_2 (t : Fin cfg0.N) (r : Fin 512) (l : Fin 2048) :
    iblk m c 2 t (ix2 r l) = V m c main_arg0 (ix2 ⟨(t.val / 7) * 512 + r.val, by have := lt112 t; omega⟩ l) := by
  blk_ext [iblk, idx_2 t]
theorem read_3 (t : Fin cfg0.N) (l : Fin 2048) :
    iblk m c 3 t (ix2 0 l) = V m c main_arg1 (ix2 0 l) := by
  blk_ext [iblk, idx_3 t]
theorem read_4 (t : Fin cfg0.N) (r : Fin 512) (l : Fin 2048) :
    iblk m c 4 t (ix2 r l) = V m c main_arg4 (ix2 ⟨(t.val / 7) * 512 + r.val, by have := lt112 t; omega⟩ l) := by
  blk_ext [iblk, idx_4 t]

/-! ## The arrays the kernel reads, and the sums -/

/-- The cotangent, the weight, the rows, the scale and the gradient added at the end. -/
def ct (R : Fin 8192) (s : Fin 6272) : EReal := V m c main_v0 (ix2 R s)
def wt (l : Fin 2048) (s : Fin 6272) : EReal := V m c main_v1 (ix2 l s)
def row (R : Fin 8192) (l : Fin 2048) : EReal := V m c main_arg0 (ix2 R l)
def scl (l : Fin 2048) : EReal := V m c main_arg1 (ix2 0 l)
def res (R : Fin 8192) (l : Fin 2048) : EReal := V m c main_arg4 (ix2 R l)

/-- The product of the projection's column `s` to the gradient of row `R`'s normalised entry `l`. -/
def term (R : Fin 8192) (l : Fin 2048) (s : ℕ) : EReal := if h : s < 6272 then ct m c R ⟨s, h⟩ * wt m c l ⟨s, h⟩ else 0

/-- The gradient of the normalised entry. -/
def dh (R : Fin 8192) (l : Fin 2048) : EReal := ∑ s ∈ range 6272, term m c R l s

/-- A row's part of the scale's gradient. -/
def part (l : Fin 2048) (R : ℕ) : EReal := if h : R < 8192 then dh m c ⟨R, h⟩ l * (row m c ⟨R, h⟩ l * rootOf (row m c ⟨R, h⟩)) else 0

theorem block_sum (t : Fin cfg0.N) (x : Vec Ideal S512x896 .bf16) (hx : x = iblk m c 0 t) (y : Vec Ideal S2048x896 .bf16) (hy : y = iblk m c 1 t)
    (r : Fin 512) (l : Fin 2048) (R : Fin 8192) (hR : R.val = t.val / 7 * 512 + r.val) :
    (∑ s : Fin 896, x (ix2 r s) * y (ix2 l s) : EReal) = ∑ s ∈ range 896, term m c R l (t.val % 7 * 896 + s) := by
  rw [Finset.sum_range]
  refine Finset.sum_congr rfl fun s _ => ?_
  rw [hx, hy, read_0, read_1]
  unfold term
  rw [dif_pos (show t.val % 7 * 896 + s.val < 6272 by omega)]
  have eR : (⟨t.val / 7 * 512 + r.val, by have := lt112 t; omega⟩ : Fin 8192) = R := Fin.ext hR.symm
  rw [eR]
  rfl

/-- After a point the accumulator holds the sum over the columns of the run's blocks so far. -/
theorem acc_eq (n : ℕ) (h : n < cfg0.N) (r : Fin 512) (l : Fin 2048) (R : Fin 8192) (hR : R.val = n / 7 * 512 + r.val) :
    (outsAt0 m c n h).2.2 (ix2 r l) = (∑ s ∈ range (n % 7 * 896 + 896), term m c R l s : EReal) := by
  refine Mm.acc_sum 7 896 (fun n h => (outsAt0 m c n h).2.2 (ix2 r l)) (fun n => R.val = n / 7 * 512 + r.val) (term m c R l)
    (fun n e => by omega) (fun n e p => by omega) (fun n h e p => ?_) (fun n h e p => ?_) n h hR
  · rw [outsAt0_A m c ⟨n, h⟩ e (by dsimp only; omega)]
    dsimp only
    rw [first_acc, add_apply, zero_apply, zero_add, block_sum m c ⟨n, h⟩ _ rfl _ rfl r l R p]
  · by_cases h1 : (n + 1) % 7 = 6
    · by_cases h2 : n + 1 < 7
      · rw [outsAt0_C m c ⟨n + 1, h⟩ e h1 h2]
        dsimp only
        rw [last_acc, add_apply, block_sum m c ⟨n + 1, h⟩ _ rfl _ rfl r l R p]
        rfl
      · rw [outsAt0_D m c ⟨n + 1, h⟩ e h1 h2]
        dsimp only
        rw [later_acc, add_apply, block_sum m c ⟨n + 1, h⟩ _ rfl _ rfl r l R p]
        rfl
    · rw [outsAt0_B m c ⟨n + 1, h⟩ e h1]
      dsimp only
      rw [next_acc, add_apply, block_sum m c ⟨n + 1, h⟩ _ rfl _ rfl r l R p]
      rfl

/-- At the end of a run the accumulator holds the gradients of the normalised entries, as a vector. -/
theorem acc_last (n : ℕ) (h : n < cfg0.N) (h1 : n % 7 = 6) (r : Fin 512) (l : Fin 2048) (R : Fin 8192) (hR : R.val = n / 7 * 512 + r.val) :
    (outsAt0 m c n h).2.2 (ix2 r l) = dh m c R l := by
  rw [acc_eq m c n h r l R hR, h1]
  rfl

theorem row_eq (t : Fin cfg0.N) (x : Vec Ideal S512x2048 .f32) (hx : x = iblk m c 2 t) (r : Fin 512) (R : Fin 8192) (hR : R.val = t.val / 7 * 512 + r.val) :
    (fun l => x (ix2 r l)) = row m c R := by
  funext l
  rw [hx, read_2]
  have eR : (⟨t.val / 7 * 512 + r.val, by have := lt112 t; omega⟩ : Fin 8192) = R := Fin.ext hR.symm
  rw [eR]
  rfl

theorem res_eq (t : Fin cfg0.N) (x : Vec Ideal S512x2048 .f32) (hx : x = iblk m c 4 t) (r : Fin 512) (l : Fin 2048) (R : Fin 8192) (hR : R.val = t.val / 7 * 512 + r.val) :
    x (ix2 r l) = res m c R l := by
  rw [hx, read_4]
  have eR : (⟨t.val / 7 * 512 + r.val, by have := lt112 t; omega⟩ : Fin 8192) = R := Fin.ext hR.symm
  rw [eR]
  rfl

theorem scl_eq (t : Fin cfg0.N) (x : Vec Ideal S1x2048 .f32) (hx : x = iblk m c 3 t) : (fun l => x (ix2 0 l)) = scl m c := by
  funext l
  rw [hx, read_3]
  rfl

/-- What the last point of a run takes back through the normalisation. -/
theorem back_eq (t : Fin cfg0.N) (d : Vec Ideal S512x2048 .f32) (x : Vec Ideal S512x2048 .f32) (hx : x = iblk m c 2 t) (g : Vec Ideal S1x2048 .f32)
    (hg : g = iblk m c 3 t) (e : Vec Ideal S512x2048 .f32) (he : e = iblk m c 4 t) (r : Fin 512) (l : Fin 2048) (R : Fin 8192)
    (hR : R.val = t.val / 7 * 512 + r.val) (hd : ∀ l, d (ix2 r l) = dh m c R l) :
    k0_pay6 d x g e (ix2 r l) = (backOf (dh m c R) (scl m c) (row m c R) l + res m c R l : EReal) := by
  rw [back_apply, row_eq m c t x hx r R hR, scl_eq m c t g hg, res_eq m c t e he r l R hR, show (fun l => d (ix2 r l)) = dh m c R from funext hd]

/-- What a run adds to the scale's gradient. -/
theorem scale_eq (t : Fin cfg0.N) (d : Vec Ideal S512x2048 .f32) (x : Vec Ideal S512x2048 .f32) (hx : x = iblk m c 2 t) (old : Vec Ideal S1x2048 .f32)
    (l : Fin 2048) (hd : ∀ (r : Fin 512) (l : Fin 2048) (R : Fin 8192), R.val = t.val / 7 * 512 + r.val → d (ix2 r l) = dh m c R l) :
    k0_pay7 d x old (ix2 0 l) = (old (ix2 0 l) + ∑ r ∈ range 512, part m c l (t.val / 7 * 512 + r) : EReal) := by
  rw [scale_apply, Finset.sum_range]
  refine congrArg _ (Finset.sum_congr rfl fun r _ => ?_)
  have hlt : t.val / 7 * 512 + r.val < 8192 := by have := lt112 t; omega
  unfold part
  rw [dif_pos hlt, hd r l ⟨_, hlt⟩ rfl, row_eq m c t x hx r ⟨_, hlt⟩ rfl]
  exact congrArg (fun y => dh m c ⟨_, hlt⟩ l * (y * rootOf (row m c ⟨_, hlt⟩))) (congrFun (row_eq m c t x hx r ⟨_, hlt⟩ rfl) l)

/-- The rows' gradients stored at the end of a run. -/
theorem out_eq (n : ℕ) (h : n < cfg0.N) (h1 : n % 7 = 6) (r : Fin 512) (l : Fin 2048) (R : Fin 8192) (hR : R.val = n / 7 * 512 + r.val) :
    (outsAt0 m c n h).1 (ix2 r l) = (backOf (dh m c R) (scl m c) (row m c R) l + res m c R l : EReal) := by
  have e := fun l => acc_last m c n h h1 r l R hR
  by_cases h2 : n < 7
  · rw [outsAt0_C m c ⟨n, h⟩ (by dsimp only; omega) h1 h2] at e ⊢
    dsimp only at e ⊢
    simp only [last_acc] at e
    rw [last_out]
    exact back_eq m c ⟨n, h⟩ _ _ rfl _ rfl _ rfl r l R hR e
  · rw [outsAt0_D m c ⟨n, h⟩ (by dsimp only; omega) h1 h2] at e ⊢
    dsimp only at e ⊢
    simp only [later_acc] at e
    rw [later_out]
    exact back_eq m c ⟨n, h⟩ _ _ rfl _ rfl _ rfl r l R hR e

/-- After a point at or past the end of the first run, the scale's gradient over the rows of the runs ended so far. -/
theorem scale_acc (n : ℕ) (h : n < cfg0.N) (h7 : 6 ≤ n) (l : Fin 2048) :
    (outsAt0 m c n h).2.1 (ix2 0 l) = (∑ R ∈ range ((n + 1) / 7 * 512), part m c l R : EReal) := by
  induction n with
  | zero => omega
  | succ n ih =>
    have e := fun (h1 : (n + 1) % 7 = 6) r l R hR => acc_last m c (n + 1) h h1 r l R hR
    by_cases h0 : (n + 1) % 7 = 0
    · rw [outsAt0_A m c ⟨n + 1, h⟩ h0 (by dsimp only; omega), show (n + 1 + 1) / 7 = (n + 1) / 7 by omega]
      dsimp only
      unfold out0_A_6
      exact ih (by omega) (by omega)
    by_cases h1 : (n + 1) % 7 = 6
    · by_cases h2 : n + 1 < 7
      · have e := e h1
        rw [outsAt0_C m c ⟨n + 1, h⟩ h0 h1 h2] at e ⊢
        dsimp only at e ⊢
        simp only [last_acc] at e
        rw [last_scale, scale_eq m c ⟨n + 1, h⟩ _ _ rfl _ l e, zero_row_apply, zero_add]
        rw [show (n + 1 + 1) / 7 * 512 = 512 by omega]
        exact Finset.sum_congr rfl fun s _ => by congr 1; dsimp only; omega
      · have e := e h1
        rw [outsAt0_D m c ⟨n + 1, h⟩ h0 h1 h2] at e ⊢
        dsimp only at e ⊢
        simp only [later_acc] at e
        rw [later_scale, scale_eq m c ⟨n + 1, h⟩ _ _ rfl _ l e]
        rw [show (n + 1 + 1) / 7 * 512 = (n + 1) / 7 * 512 + 512 by omega, Finset.sum_range_add]
        exact congrArg (· + _) (ih (by omega) (by omega))
    · rw [outsAt0_B m c ⟨n + 1, h⟩ h0 h1, show (n + 1 + 1) / 7 = (n + 1) / 7 by omega]
      dsimp only
      unfold out0_B_6
      exact ih (by omega) (by omega)

/-! ## The result arrays -/

/-- The rows' gradients. -/
theorem result_rows (R : Fin 8192) (l : Fin 2048) :
    Value.G5 m c (ix2 R l) = (backOf (dh m c R) (scl m c) (row m c R) l + res m c R l : EReal) := by
  have hp : Value.pt5Of (ix2 R l) < cfg0.N := by
    show 7 * (1 * (R.val / 512 - 0) + 1 * (l.val / 2048 - 0)) + 6 < 112
    omega
  unfold Value.G5
  rw [dif_pos hp]
  refine (congrFun (congrArg Prod.fst (Value.outsAt0_sweep m c _ hp)) _).symm.trans ?_
  rw [eq_ix2 (Value.loc5Of (ix2 R l))]
  refine (out_eq m c _ hp ?_ _ _ R ?_).trans ?_
  · show (7 * (1 * (R.val / 512 - 0) + 1 * (l.val / 2048 - 0)) + 6) % 7 = 6; omega
  · show R.val = (7 * (1 * (R.val / 512 - 0) + 1 * (l.val / 2048 - 0)) + 6) / 7 * 512 + R.val % 512; omega
  · have el : (Value.loc5Of (ix2 R l) 1 : Fin 2048) = l := Fin.ext (by show l.val % 2048 = l.val; omega)
    rw [el]

/-- The scale's gradient. -/
theorem result_scale (l : Fin 2048) : Value.G6 m c (ix2 0 l) = (∑ R ∈ range 8192, part m c l R : EReal) := by
  have hp : Value.pt6Of (ix2 0 l) < cfg0.N := by
    show 112 * (1 * (0 / 1 - 0) + 1 * (l.val / 2048 - 0)) + 111 < 112
    omega
  have e111 : Value.pt6Of (ix2 0 l) = 111 := by
    show 112 * (1 * (0 / 1 - 0) + 1 * (l.val / 2048 - 0)) + 111 = 111
    omega
  unfold Value.G6
  rw [dif_pos hp]
  refine (congrFun (congrArg (fun y => y.2.1) (Value.outsAt0_sweep m c _ hp)) _).symm.trans ?_
  have el : Value.loc6Of (ix2 0 l) = ix2 0 l := by
    rw [eq_ix2 (Value.loc6Of (ix2 0 l))]
    exact congrArg₂ ix2 (Subsingleton.elim (α := Fin 1) _ _) (Fin.ext (by show l.val % 2048 = l.val; omega))
  rw [el]
  refine (scale_acc m c _ hp (by omega) l).trans ?_
  rw [e111]
end Point

end Cert.Proof.InX

end
-- ==== Proof.Up.RowR.lean ====
/-
  The gradient of the up projection's rows through their normalisation: the accumulated sums over the kernel's grid and
  the two result arrays.
-/
module

public import proofs.«01_k».proof.Proof.Up.RowV

@[expose] public section

set_option maxRecDepth 16384

noncomputable section

namespace Cert.Proof.UpX

open Idealize.ShloMosaic Cert.Kernel3Ideal Cert.Kernel3Ideal.Gen
open Idealize.ShloMosaic.TcCoe Idealize.ShloMosaic.Tactic
open Idealize.ShloMosaic.Pointwise
open scoped BigOperators
open Finset (range)

/-! ## The blocks -/

theorem idx_0 : ∀ t : Fin cfg0.N, win0_0.index t = ![t.val / 8, t.val % 8] := (by decide +kernel : ∀ t : Fin grid0.N, win0_0.index t = ![t.val / 8, t.val % 8])
theorem idx_1 : ∀ t : Fin cfg0.N, win0_1.index t = ![0, t.val % 8] := (by decide +kernel : ∀ t : Fin grid0.N, win0_1.index t = ![0, t.val % 8])
theorem idx_2 : ∀ t : Fin cfg0.N, win0_2.index t = ![t.val / 8, 0] := (by decide +kernel : ∀ t : Fin grid0.N, win0_2.index t = ![t.val / 8, 0])
theorem idx_3 : ∀ t : Fin cfg0.N, win0_3.index t = ![0, 0] := (by decide +kernel : ∀ t : Fin grid0.N, win0_3.index t = ![0, 0])
theorem idx_4 : ∀ t : Fin cfg0.N, win0_4.index t = ![t.val / 8, 0] := (by decide +kernel : ∀ t : Fin grid0.N, win0_4.index t = ![t.val / 8, 0])

theorem lt128 (t : Fin cfg0.N) : t.val < 128 := t.isLt

section Point
variable (m : (ℓ : Loc nD τ sig) → Buf (Elt Ideal) ℓ) (c : Dev nD)

theorem read_0 (t : Fin cfg0.N) (r : Fin 512) (s : Fin 1408) :
    iblk m c 0 t (ix2 r s) = V m c main_v0 (ix2 ⟨(t.val / 8) * 512 + r.val, by have := lt128 t; omega⟩ ⟨(t.val % 8) * 1408 + s.val, by omega⟩) := by
  blk_ext [iblk, idx_0 t]
theorem read_1 (t : Fin cfg0.N) (l : Fin 2048) (s : Fin 1408) :
    iblk m c 1 t (ix2 l s) = V m c main_v1 (ix2 l ⟨(t.val % 8) * 1408 + s.val, by omega⟩) := by
  blk_ext [iblk, idx_1 t]
theorem read_2 (t : Fin cfg0.N) (r : Fin 512) (l : Fin 2048) :
    iblk m c 2 t (ix2 r l) = V m c main_arg0 (ix2 ⟨(t.val / 8) * 512 + r.val, by have := lt128 t; omega⟩ l) := by
  blk_ext [iblk, idx_2 t]
theorem read_3 (t : Fin cfg0.N) (l : Fin 2048) :
    iblk m c 3 t (ix2 0 l) = V m c main_arg1 (ix2 0 l) := by
  blk_ext [iblk, idx_3 t]
theorem read_4 (t : Fin cfg0.N) (r : Fin 512) (l : Fin 2048) :
    iblk m c 4 t (ix2 r l) = V m c main_arg4 (ix2 ⟨(t.val / 8) * 512 + r.val, by have := lt128 t; omega⟩ l) := by
  blk_ext [iblk, idx_4 t]

/-! ## The arrays the kernel reads, and the sums -/

/-- The cotangent, the weight, the rows, the scale and the gradient added at the end. -/
def ct (R : Fin 8192) (s : Fin 11264) : EReal := V m c main_v0 (ix2 R s)
def wt (l : Fin 2048) (s : Fin 11264) : EReal := V m c main_v1 (ix2 l s)
def row (R : Fin 8192) (l : Fin 2048) : EReal := V m c main_arg0 (ix2 R l)
def scl (l : Fin 2048) : EReal := V m c main_arg1 (ix2 0 l)
def res (R : Fin 8192) (l : Fin 2048) : EReal := V m c main_arg4 (ix2 R l)

/-- The product of the projection's column `s` to the gradient of row `R`'s normalised entry `l`. -/
def term (R : Fin 8192) (l : Fin 2048) (s : ℕ) : EReal := if h : s < 11264 then ct m c R ⟨s, h⟩ * wt m c l ⟨s, h⟩ else 0

/-- The gradient of the normalised entry. -/
def dh (R : Fin 8192) (l : Fin 2048) : EReal := ∑ s ∈ range 11264, term m c R l s

/-- A row's part of the scale's gradient. -/
def part (l : Fin 2048) (R : ℕ) : EReal := if h : R < 8192 then dh m c ⟨R, h⟩ l * (row m c ⟨R, h⟩ l * rootOf (row m c ⟨R, h⟩)) else 0

theorem block_sum (t : Fin cfg0.N) (x : Vec Ideal S512x1408 .bf16) (hx : x = iblk m c 0 t) (y : Vec Ideal S2048x1408 .bf16) (hy : y = iblk m c 1 t)
    (r : Fin 512) (l : Fin 2048) (R : Fin 8192) (hR : R.val = t.val / 8 * 512 + r.val) :
    (∑ s : Fin 1408, x (ix2 r s) * y (ix2 l s) : EReal) = ∑ s ∈ range 1408, term m c R l (t.val % 8 * 1408 + s) := by
  rw [Finset.sum_range]
  refine Finset.sum_congr rfl fun s _ => ?_
  rw [hx, hy, read_0, read_1]
  unfold term
  rw [dif_pos (show t.val % 8 * 1408 + s.val < 11264 by omega)]
  have eR : (⟨t.val / 8 * 512 + r.val, by have := lt128 t; omega⟩ : Fin 8192) = R := Fin.ext hR.symm
  rw [eR]
  rfl

/-- After a point the accumulator holds the sum over the columns of the run's blocks so far. -/
theorem acc_eq (n : ℕ) (h : n < cfg0.N) (r : Fin 512) (l : Fin 2048) (R : Fin 8192) (hR : R.val = n / 8 * 512 + r.val) :
    (outsAt0 m c n h).2.2 (ix2 r l) = (∑ s ∈ range (n % 8 * 1408 + 1408), term m c R l s : EReal) := by
  induction n with
  | zero =>
    rw [outsAt0_A m c ⟨0, h⟩ rfl (show ¬(0 % 8 = 7) by decide)]
    dsimp only
    rw [first_acc, add_apply, zero_apply, zero_add, block_sum m c ⟨0, h⟩ _ rfl _ rfl r l R hR]
    exact Finset.sum_congr rfl fun s _ => by congr 1; dsimp only; omega
  | succ n ih =>
    rw [Finset.sum_range_add]
    by_cases h0 : (n + 1) % 8 = 0
    · rw [outsAt0_A m c ⟨n + 1, h⟩ h0 (by dsimp only; omega)]
      dsimp only
      rw [first_acc, add_apply, zero_apply, block_sum m c ⟨n + 1, h⟩ _ rfl _ rfl r l R hR]
      simp only [h0, Nat.zero_mul, Finset.range_zero, Finset.sum_empty]
    · have e := ih (by omega) (by omega)
      rw [show n % 8 * 1408 + 1408 = (n + 1) % 8 * 1408 by omega] at e
      by_cases h1 : (n + 1) % 8 = 7
      · by_cases h2 : n + 1 < 8
        · rw [outsAt0_C m c ⟨n + 1, h⟩ h0 h1 h2]
          dsimp only
          rw [last_acc, add_apply, block_sum m c ⟨n + 1, h⟩ _ rfl _ rfl r l R hR]
          exact congrArg (· + _) e
        · rw [outsAt0_D m c ⟨n + 1, h⟩ h0 h1 h2]
          dsimp only
          rw [later_acc, add_apply, block_sum m c ⟨n + 1, h⟩ _ rfl _ rfl r l R hR]
          exact congrArg (· + _) e
      · rw [outsAt0_B m c ⟨n + 1, h⟩ h0 h1]
        dsimp only
        rw [next_acc, add_apply, block_sum m c ⟨n + 1, h⟩ _ rfl _ rfl r l R hR]
        exact congrArg (· + _) e

/-- At the end of a run the accumulator holds the gradients of the normalised entries, as a vector. -/
theorem acc_last (n : ℕ) (h : n < cfg0.N) (h1 : n % 8 = 7) (r : Fin 512) (l : Fin 2048) (R : Fin 8192) (hR : R.val = n / 8 * 512 + r.val) :
    (outsAt0 m c n h).2.2 (ix2 r l) = dh m c R l := by
  rw [acc_eq m c n h r l R hR, h1]
  rfl

theorem row_eq (t : Fin cfg0.N) (x : Vec Ideal S512x2048 .f32) (hx : x = iblk m c 2 t) (r : Fin 512) (R : Fin 8192) (hR : R.val = t.val / 8 * 512 + r.val) :
    (fun l => x (ix2 r l)) = row m c R := by
  funext l
  rw [hx, read_2]
  have eR : (⟨t.val / 8 * 512 + r.val, by have := lt128 t; omega⟩ : Fin 8192) = R := Fin.ext hR.symm
  rw [eR]
  rfl

theorem res_eq (t : Fin cfg0.N) (x : Vec Ideal S512x2048 .f32) (hx : x = iblk m c 4 t) (r : Fin 512) (l : Fin 2048) (R : Fin 8192) (hR : R.val = t.val / 8 * 512 + r.val) :
    x (ix2 r l) = res m c R l := by
  rw [hx, read_4]
  have eR : (⟨t.val / 8 * 512 + r.val, by have := lt128 t; omega⟩ : Fin 8192) = R := Fin.ext hR.symm
  rw [eR]
  rfl

theorem scl_eq (t : Fin cfg0.N) (x : Vec Ideal S1x2048 .f32) (hx : x = iblk m c 3 t) : (fun l => x (ix2 0 l)) = scl m c := by
  funext l
  rw [hx, read_3]
  rfl

/-- What the last point of a run takes back through the normalisation. -/
theorem back_eq (t : Fin cfg0.N) (d : Vec Ideal S512x2048 .f32) (x : Vec Ideal S512x2048 .f32) (hx : x = iblk m c 2 t) (g : Vec Ideal S1x2048 .f32)
    (hg : g = iblk m c 3 t) (e : Vec Ideal S512x2048 .f32) (he : e = iblk m c 4 t) (r : Fin 512) (l : Fin 2048) (R : Fin 8192)
    (hR : R.val = t.val / 8 * 512 + r.val) (hd : ∀ l, d (ix2 r l) = dh m c R l) :
    k0_pay6 d x g e (ix2 r l) = (backOf (dh m c R) (scl m c) (row m c R) l + res m c R l : EReal) := by
  rw [back_apply, row_eq m c t x hx r R hR, scl_eq m c t g hg, res_eq m c t e he r l R hR, show (fun l => d (ix2 r l)) = dh m c R from funext hd]

/-- What a run adds to the scale's gradient. -/
theorem scale_eq (t : Fin cfg0.N) (d : Vec Ideal S512x2048 .f32) (x : Vec Ideal S512x2048 .f32) (hx : x = iblk m c 2 t) (old : Vec Ideal S1x2048 .f32)
    (l : Fin 2048) (hd : ∀ (r : Fin 512) (l : Fin 2048) (R : Fin 8192), R.val = t.val / 8 * 512 + r.val → d (ix2 r l) = dh m c R l) :
    k0_pay7 d x old (ix2 0 l) = (old (ix2 0 l) + ∑ r ∈ range 512, part m c l (t.val / 8 * 512 + r) : EReal) := by
  rw [scale_apply, Finset.sum_range]
  refine congrArg _ (Finset.sum_congr rfl fun r _ => ?_)
  have hlt : t.val / 8 * 512 + r.val < 8192 := by have := lt128 t; omega
  unfold part
  rw [dif_pos hlt, hd r l ⟨_, hlt⟩ rfl, row_eq m c t x hx r ⟨_, hlt⟩ rfl]
  exact congrArg (fun y => dh m c ⟨_, hlt⟩ l * (y * rootOf (row m c ⟨_, hlt⟩))) (congrFun (row_eq m c t x hx r ⟨_, hlt⟩ rfl) l)

/-- The rows' gradients stored at the end of a run. -/
theorem out_eq (n : ℕ) (h : n < cfg0.N) (h1 : n % 8 = 7) (r : Fin 512) (l : Fin 2048) (R : Fin 8192) (hR : R.val = n / 8 * 512 + r.val) :
    (outsAt0 m c n h).1 (ix2 r l) = (backOf (dh m c R) (scl m c) (row m c R) l + res m c R l : EReal) := by
  have e := fun l => acc_last m c n h h1 r l R hR
  by_cases h2 : n < 8
  · rw [outsAt0_C m c ⟨n, h⟩ (by dsimp only; omega) h1 h2] at e ⊢
    dsimp only at e ⊢
    simp only [last_acc] at e
    rw [last_out]
    exact back_eq m c ⟨n, h⟩ _ _ rfl _ rfl _ rfl r l R hR e
  · rw [outsAt0_D m c ⟨n, h⟩ (by dsimp only; omega) h1 h2] at e ⊢
    dsimp only at e ⊢
    simp only [later_acc] at e
    rw [later_out]
    exact back_eq m c ⟨n, h⟩ _ _ rfl _ rfl _ rfl r l R hR e

/-- After a point at or past the end of the first run, the scale's gradient over the rows of the runs ended so far. -/
theorem scale_acc (n : ℕ) (h : n < cfg0.N) (h7 : 7 ≤ n) (l : Fin 2048) :
    (outsAt0 m c n h).2.1 (ix2 0 l) = (∑ R ∈ range ((n + 1) / 8 * 512), part m c l R : EReal) := by
  induction n with
  | zero => omega
  | succ n ih =>
    have e := fun (h1 : (n + 1) % 8 = 7) r l R hR => acc_last m c (n + 1) h h1 r l R hR
    by_cases h0 : (n + 1) % 8 = 0
    · rw [outsAt0_A m c ⟨n + 1, h⟩ h0 (by dsimp only; omega), show (n + 1 + 1) / 8 = (n + 1) / 8 by omega]
      dsimp only
      unfold out0_A_6
      exact ih (by omega) (by omega)
    by_cases h1 : (n + 1) % 8 = 7
    · by_cases h2 : n + 1 < 8
      · have e := e h1
        rw [outsAt0_C m c ⟨n + 1, h⟩ h0 h1 h2] at e ⊢
        dsimp only at e ⊢
        simp only [last_acc] at e
        rw [last_scale, scale_eq m c ⟨n + 1, h⟩ _ _ rfl _ l e, zero_row_apply, zero_add]
        rw [show (n + 1 + 1) / 8 * 512 = 512 by omega]
        exact Finset.sum_congr rfl fun s _ => by congr 1; dsimp only; omega
      · have e := e h1
        rw [outsAt0_D m c ⟨n + 1, h⟩ h0 h1 h2] at e ⊢
        dsimp only at e ⊢
        simp only [later_acc] at e
        rw [later_scale, scale_eq m c ⟨n + 1, h⟩ _ _ rfl _ l e]
        rw [show (n + 1 + 1) / 8 * 512 = (n + 1) / 8 * 512 + 512 by omega, Finset.sum_range_add]
        exact congrArg (· + _) (ih (by omega) (by omega))
    · rw [outsAt0_B m c ⟨n + 1, h⟩ h0 h1, show (n + 1 + 1) / 8 = (n + 1) / 8 by omega]
      dsimp only
      unfold out0_B_6
      exact ih (by omega) (by omega)

/-! ## The result arrays -/

/-- The rows' gradients. -/
theorem result_rows (R : Fin 8192) (l : Fin 2048) :
    Value.G5 m c (ix2 R l) = (backOf (dh m c R) (scl m c) (row m c R) l + res m c R l : EReal) := by
  have hp : Value.pt5Of (ix2 R l) < cfg0.N := by
    show 8 * (1 * (R.val / 512 - 0) + 1 * (l.val / 2048 - 0)) + 7 < 128
    omega
  unfold Value.G5
  rw [dif_pos hp]
  refine (congrFun (congrArg Prod.fst (Value.outsAt0_sweep m c _ hp)) _).symm.trans ?_
  rw [eq_ix2 (Value.loc5Of (ix2 R l))]
  refine (out_eq m c _ hp ?_ _ _ R ?_).trans ?_
  · show (8 * (1 * (R.val / 512 - 0) + 1 * (l.val / 2048 - 0)) + 7) % 8 = 7; omega
  · show R.val = (8 * (1 * (R.val / 512 - 0) + 1 * (l.val / 2048 - 0)) + 7) / 8 * 512 + R.val % 512; omega
  · have el : (Value.loc5Of (ix2 R l) 1 : Fin 2048) = l := Fin.ext (by show l.val % 2048 = l.val; omega)
    rw [el]

/-- The scale's gradient. -/
theorem result_scale (l : Fin 2048) : Value.G6 m c (ix2 0 l) = (∑ R ∈ range 8192, part m c l R : EReal) := by
  have hp : Value.pt6Of (ix2 0 l) < cfg0.N := by
    show 128 * (1 * (0 / 1 - 0) + 1 * (l.val / 2048 - 0)) + 127 < 128
    omega
  have e127 : Value.pt6Of (ix2 0 l) = 127 := by
    show 128 * (1 * (0 / 1 - 0) + 1 * (l.val / 2048 - 0)) + 127 = 127
    omega
  unfold Value.G6
  rw [dif_pos hp]
  refine (congrFun (congrArg (fun y => y.2.1) (Value.outsAt0_sweep m c _ hp)) _).symm.trans ?_
  have el : Value.loc6Of (ix2 0 l) = ix2 0 l := by
    rw [eq_ix2 (Value.loc6Of (ix2 0 l))]
    exact congrArg₂ ix2 (Subsingleton.elim (α := Fin 1) _ _) (Fin.ext (by show l.val % 2048 = l.val; omega))
  rw [el]
  refine (scale_acc m c _ hp (by omega) l).trans ?_
  rw [e127]
end Point

end Cert.Proof.UpX

end
-- ==== Proof.Up.RowH.lean ====
/-
  The gradient of the up projection's rows through their normalisation: the host lines before the kernel, the reference's
  values, and the equality of the two.
-/
module

public import proofs.«01_k».proof.Proof.Up.RowR
public import proofs.«01_k».proof.Proof.Up.RowMath
public import proofs.«01_k».proof.Proof.Gen.Reference3Ideal.Read
public import Idealize.ShloMosaic.Lib.Claim

@[expose] public section

set_option maxRecDepth 16384

noncomputable section

namespace Cert.Proof.UpX

open Idealize.ShloMosaic
open Idealize.ShloMosaic.Pointwise
open scoped BigOperators
open Finset (range)

/-! ## The reference's values -/

section Reference
open Cert.Reference3Ideal Cert.Reference3Ideal.Gen Cert.Reference3Ideal.Read
variable (x : FVec Ideal S8192x2048 .f32) (g : FVec Ideal S1x2048 .f32) (w : FVec Ideal S2048x11264 .f32) (t : FVec Ideal S8192x11264 .f32)
  (e : FVec Ideal S8192x2048 .f32)

/-- A row, the scale, and the gradient of a row's normalised entries. -/
def rX (R : Fin 8192) (l : Fin 2048) : EReal := x (ix2 R l)
def rG (l : Fin 2048) : EReal := g (ix2 0 l)
def rD (R : Fin 8192) (l : Fin 2048) : EReal := ∑ s : Fin 11264, (t (ix2 R s) * w (ix2 l s) : EReal)

theorem ref_dh (i : S8192x2048.Idx) : val_main_v18 (F := Ideal) w t i = rD w t (i 0) (i 1) := by
  rw [val_main_v18_apply]
  exact Finset.sum_congr rfl fun s _ => congrArg₂ (fun a b => (t a * w b : EReal)) (eq_ix2 _) (eq_ix2 _)

theorem ref_mean (i : S8192x1.Idx) : val_main_v7 (F := Ideal) x i = meanOf (rX x (i 0)) := by
  have e2 : val_main_v2 (F := Ideal) x (idx_main_v3 i) = ∑ k, rX x (i 0) k * rX x (i 0) k := by
    rw [val_main_v2_apply]
    refine (congrArg (· + _) (?_ : val_main_cst (F := Ideal) _ = (0 : EReal))).trans ((zero_add _).trans ?_)
    · exact Ideal.ofBits_zero .f32
    · refine Finset.sum_congr rfl fun k _ => ?_
      rw [eq_ix2 (idx_main_v2 _ k)]
      rfl
  unfold meanOf
  rw [← e2]
  rw [val_main_v7_apply, val_main_v5_apply, val_main_v3_apply, val_main_v4_apply, val_main_v6_apply]
  rfl

theorem ref_root (i : S8192x1.Idx) : val_main_v8 (F := Ideal) x i = rootOf (rX x (i 0)) := by
  rw [val_main_v8_apply, ref_mean]
  rfl

theorem ref_scale (i : S8192x2048.Idx) : val_main_v22 (F := Ideal) g i = rG g (i 1) := by
  rw [val_main_v22_apply, val_main_v14_apply, val_main_v0_apply, eq_ix2 (idx_main_v0 _)]
  refine congrArg₂ (fun a b => (g (ix2 a b) : EReal)) (Subsingleton.elim (α := Fin 1) _ _) (Fin.ext ?_)
  exact Nat.mod_eq_of_lt (i 1).isLt

theorem ref_dg (i : S8192x2048.Idx) : val_main_v23 (F := Ideal) g w t i = rD w t (i 0) (i 1) * rG g (i 1) := by
  rw [val_main_v23_apply, ref_dh, ref_scale]
  rfl

theorem ref_unit (i : S8192x2048.Idx) : val_main_v13 (F := Ideal) x i = rX x (i 0) (i 1) * rootOf (rX x (i 0)) := by
  rw [val_main_v13_apply, val_main_v12_apply, ref_root]
  exact congrArg₂ (fun a b => (x a * b : EReal)) (eq_ix2 i) rfl

theorem ref_spread (i : S8192x2048.Idx) : val_main_v34 (F := Ideal) x g w t i = spreadOf (rD w t (i 0)) (rG g) (rX x (i 0)) := by
  have e26 : ∀ j : S8192.Idx, val_main_v26 (F := Ideal) x g w t j = ∑ k, rX x (j 0) k * (rD w t (j 0) k * rG g k) := fun j => by
    rw [val_main_v26_apply]
    refine (congrArg (· + _) (?_ : val_main_cst_5 (F := Ideal) _ = (0 : EReal))).trans ((zero_add _).trans ?_)
    · exact Ideal.ofBits_zero .f32
    · refine Finset.sum_congr rfl fun k _ => ?_
      rw [val_main_v25_apply, ref_dg]
      exact congrArg₂ (fun a b => (x a * b : EReal)) (eq_ix2 _) rfl
  have e32 : ∀ j : S8192x1.Idx, val_main_v32 (F := Ideal) x g w t j = spreadOf (rD w t (j 0)) (rG g) (rX x (j 0)) := fun j => by
    rw [val_main_v32_apply, val_main_v30_apply, val_main_v27_apply, e26, val_main_v11_apply, val_main_v9_apply, ref_root, ref_mean, val_main_v10_apply, val_main_v31_apply]
    have ej : (idx_main_v27 j 0 : Fin 8192) = j 0 := Fin.ext (by
      have h1 : (j 1).val < 1 := (j 1).isLt
      show (j 0).val * 1 + (j 1).val = (j 0).val
      omega)
    rw [ej]
    rfl
  rw [val_main_v34_apply, val_main_v33_apply]
  refine (congrArg (· + _) (?_ : val_main_cst_7 (F := Ideal) _ = (0 : EReal))).trans ((zero_add _).trans ?_)
  · exact Ideal.ofBits_zero .f32
  · rw [Fin.sum_univ_one, e32]
    rfl

/-- The reference's first result. -/
theorem ref_rows (R : Fin 8192) (l : Fin 2048) : val_main_v40 (F := Ideal) x g w t e (ix2 R l) =
    (backOf (rD w t R) (rG g) (rX x R) l + e (ix2 R l) : EReal) := by
  rw [back_eq_spread, val_main_v40_apply, val_main_v38_apply, val_main_v36_apply, val_main_v37_apply, val_main_v35_apply, val_main_v29_apply,
    val_main_v28_apply, ref_root, ref_dg, ref_spread]
  rfl

/-- The reference's second result. -/
theorem ref_scl (l : Fin 2048) : val_main_v39 (F := Ideal) x w t (ix2 0 l) =
    (∑ R, rD w t R l * (rX x R l * rootOf (rX x R)) : EReal) := by
  have e20 : ∀ j : S2048.Idx, val_main_v20 (F := Ideal) x w t j = ∑ R, rD w t R (j 0) * (rX x R (j 0) * rootOf (rX x R)) := fun j => by
    rw [val_main_v20_apply]
    refine (congrArg (· + _) (?_ : val_main_cst_3 (F := Ideal) _ = (0 : EReal))).trans ((zero_add _).trans ?_)
    · exact Ideal.ofBits_zero .f32
    · refine Finset.sum_congr rfl fun k _ => ?_
      rw [val_main_v19_apply, ref_unit, ref_dh]
      exact mul_comm (G := EReal) _ _
  rw [val_main_v39_apply, val_main_v24_apply]
  refine (congrArg (· + _) (?_ : val_main_cst_4 (F := Ideal) _ = (0 : EReal))).trans ((zero_add _).trans ?_)
  · exact Ideal.ofBits_zero .f32
  · rw [Fin.sum_univ_one, val_main_v21_apply, e20]
    have ej : (idx_main_v21 (idx_main_v24 (idx_main_v39 (ix2 0 l)) 0) 0 : Fin 2048) = l := Fin.ext (by
      show 0 * 2048 + l.val = l.val
      omega)
    rw [ej]
end Reference

/-! ## The kernel's -/

section Host
open Cert.Kernel3Ideal Cert.Kernel3Ideal.Gen Idealize.ShloMosaic.TcCoe Idealize.ShloMosaic.Tactic
variable (m : (ℓ : Loc nD τ sig) → Buf (Elt Ideal) ℓ) (c : Dev nD)

abbrev ax : FVec Ideal S8192x2048 .f32 := m ((c : Thread nD τ).loc main_arg0)
abbrev ag : FVec Ideal S1x2048 .f32 := m ((c : Thread nD τ).loc main_arg1)
abbrev aw : FVec Ideal S2048x11264 .f32 := m ((c : Thread nD τ).loc main_arg2)
abbrev at' : FVec Ideal S8192x11264 .f32 := m ((c : Thread nD τ).loc main_arg3)
abbrev ae : FVec Ideal S8192x2048 .f32 := m ((c : Thread nD τ).loc main_arg4)

theorem V_ct : V m c main_v0 = (truncf .bf16 (at' m c) bitsLt_bf16_f32 : FVec Ideal S8192x11264 .bf16) := by
  entry_read
  rfl
theorem V_wt : V m c main_v1 = (truncf .bf16 (aw m c) bitsLt_bf16_f32 : FVec Ideal S2048x11264 .bf16) := by
  entry_read
  rfl

theorem row_arg (R : Fin 8192) : row m c R = rX (ax m c) R := by
  funext l
  unfold row
  rw [V_main_arg0]
  rfl
theorem scl_arg : scl m c = rG (ag m c) := by
  funext l
  unfold scl
  rw [V_main_arg1]
  rfl
theorem res_arg (R : Fin 8192) (l : Fin 2048) : res m c R l = ae m c (ix2 R l) := by
  unfold res
  rw [V_main_arg4]
theorem dh_arg (R : Fin 8192) : dh m c R = rD (aw m c) (at' m c) R := by
  funext l
  unfold dh rD
  rw [Finset.sum_range]
  refine Finset.sum_congr rfl fun s _ => ?_
  unfold term ct wt
  rw [dif_pos s.isLt, V_ct, V_wt]
  rfl

/-- The kernel's first result is the reference's. -/
theorem rows_eq : Value.G5 m c = Reference3Ideal.Read.val_main_v40 (F := Ideal) (ax m c) (ag m c) (aw m c) (at' m c) (ae m c) := by
  funext i
  obtain ⟨R, l, rfl⟩ : ∃ (R : Fin 8192) (l : Fin 2048), i = ix2 R l := ⟨i 0, i 1, eq_ix2 i⟩
  refine (result_rows m c R l).trans (Eq.trans ?_ (ref_rows _ _ _ _ _ R l).symm)
  rw [row_arg, scl_arg, res_arg, dh_arg]

/-- The kernel's second result is the reference's. -/
theorem scale_grad_eq : Value.G6 m c = Reference3Ideal.Read.val_main_v39 (F := Ideal) (ax m c) (aw m c) (at' m c) := by
  funext i
  obtain ⟨z, l, rfl⟩ : ∃ (z : Fin 1) (l : Fin 2048), i = ix2 z l := ⟨i 0, i 1, eq_ix2 i⟩
  obtain rfl : z = 0 := Subsingleton.elim _ _
  refine (result_scale m c l).trans (Eq.trans ?_ (ref_scl _ _ _ l).symm)
  have e : (∑ R ∈ range 8192, part m c l R) = ∑ R, rD (aw m c) (at' m c) R l * (rX (ax m c) R l * rootOf (rX (ax m c) R)) := by
    rw [Finset.sum_range]
    refine Finset.sum_congr rfl fun R _ => ?_
    unfold part
    rw [dif_pos R.isLt]
    show dh m c R l * (row m c R l * rootOf (row m c R)) = _
    rw [row_arg, dh_arg]
  exact e
end Host

end Cert.Proof.UpX

end
-- ==== Proof.Mm.InXH.lean ====
/-
  The gradient of the input projection's rows through their normalisation: the host lines before the kernel, the reference's
  values, and the equality of the two.
-/
module

public import proofs.«01_k».proof.Proof.Mm.InXR
public import proofs.«01_k».proof.Proof.Up.RowH
public import proofs.«01_k».proof.Proof.Gen.Reference4Ideal.Read
public import Idealize.ShloMosaic.Lib.Claim

@[expose] public section

set_option maxRecDepth 16384

noncomputable section

namespace Cert.Proof.InX

open Idealize.ShloMosaic
open Idealize.ShloMosaic.Pointwise
open Cert.Proof.UpX (rootOf backOf meanOf spreadOf back_eq_spread rX rG)
open scoped BigOperators
open Finset (range)

/-! ## The reference's values -/

section Reference
open Cert.Reference4Ideal Cert.Reference4Ideal.Gen Cert.Reference4Ideal.Read
variable (x : FVec Ideal S8192x2048 .f32) (g : FVec Ideal S1x2048 .f32) (w : FVec Ideal S2048x6272 .f32) (t : FVec Ideal S8192x6272 .f32)
  (e : FVec Ideal S8192x2048 .f32)

/-- The gradient of a row's normalised entries. -/
def rD (R : Fin 8192) (l : Fin 2048) : EReal := ∑ s : Fin 6272, (t (ix2 R s) * w (ix2 l s) : EReal)

theorem ref_dh (i : S8192x2048.Idx) : val_main_v18 (F := Ideal) w t i = rD w t (i 0) (i 1) := by
  rw [val_main_v18_apply]
  exact Finset.sum_congr rfl fun s _ => congrArg₂ (fun a b => (t a * w b : EReal)) (eq_ix2 _) (eq_ix2 _)

theorem ref_mean (i : S8192x1.Idx) : val_main_v7 (F := Ideal) x i = meanOf (rX x (i 0)) := UpX.ref_mean x i

theorem ref_root (i : S8192x1.Idx) : val_main_v8 (F := Ideal) x i = rootOf (rX x (i 0)) := UpX.ref_root x i

theorem ref_scale (i : S8192x2048.Idx) : val_main_v22 (F := Ideal) g i = rG g (i 1) := UpX.ref_scale g i

theorem ref_dg (i : S8192x2048.Idx) : val_main_v23 (F := Ideal) g w t i = rD w t (i 0) (i 1) * rG g (i 1) := by
  rw [val_main_v23_apply, ref_dh, ref_scale]
  rfl

theorem ref_unit (i : S8192x2048.Idx) : val_main_v13 (F := Ideal) x i = rX x (i 0) (i 1) * rootOf (rX x (i 0)) := UpX.ref_unit x i

theorem ref_spread (i : S8192x2048.Idx) : val_main_v34 (F := Ideal) x g w t i = spreadOf (rD w t (i 0)) (rG g) (rX x (i 0)) := by
  have e26 : ∀ j : S8192.Idx, val_main_v26 (F := Ideal) x g w t j = ∑ k, rX x (j 0) k * (rD w t (j 0) k * rG g k) := fun j => by
    rw [val_main_v26_apply]
    refine (congrArg (· + _) (?_ : val_main_cst_5 (F := Ideal) _ = (0 : EReal))).trans ((zero_add _).trans ?_)
    · exact Ideal.ofBits_zero .f32
    · refine Finset.sum_congr rfl fun k _ => ?_
      rw [val_main_v25_apply, ref_dg]
      exact congrArg₂ (fun a b => (x a * b : EReal)) (eq_ix2 _) rfl
  have e32 : ∀ j : S8192x1.Idx, val_main_v32 (F := Ideal) x g w t j = spreadOf (rD w t (j 0)) (rG g) (rX x (j 0)) := fun j => by
    rw [val_main_v32_apply, val_main_v30_apply, val_main_v27_apply, e26, val_main_v11_apply, val_main_v9_apply, ref_root, ref_mean, val_main_v10_apply, val_main_v31_apply]
    have ej : (idx_main_v27 j 0 : Fin 8192) = j 0 := Fin.ext (by
      have h1 : (j 1).val < 1 := (j 1).isLt
      show (j 0).val * 1 + (j 1).val = (j 0).val
      omega)
    rw [ej]
    rfl
  rw [val_main_v34_apply, val_main_v33_apply]
  refine (congrArg (· + _) (?_ : val_main_cst_7 (F := Ideal) _ = (0 : EReal))).trans ((zero_add _).trans ?_)
  · exact Ideal.ofBits_zero .f32
  · rw [Fin.sum_univ_one, e32]
    rfl

/-- The reference's first result. -/
theorem ref_rows (R : Fin 8192) (l : Fin 2048) : val_main_v40 (F := Ideal) x g w t e (ix2 R l) =
    (backOf (rD w t R) (rG g) (rX x R) l + e (ix2 R l) : EReal) := by
  rw [back_eq_spread, val_main_v40_apply, val_main_v38_apply, val_main_v36_apply, val_main_v37_apply, val_main_v35_apply, val_main_v29_apply,
    val_main_v28_apply, ref_root, ref_dg, ref_spread]
  rfl

/-- The reference's second result. -/
theorem ref_scl (l : Fin 2048) : val_main_v39 (F := Ideal) x w t (ix2 0 l) =
    (∑ R, rD w t R l * (rX x R l * rootOf (rX x R)) : EReal) := by
  have e20 : ∀ j : S2048.Idx, val_main_v20 (F := Ideal) x w t j = ∑ R, rD w t R (j 0) * (rX x R (j 0) * rootOf (rX x R)) := fun j => by
    rw [val_main_v20_apply]
    refine (congrArg (· + _) (?_ : val_main_cst_3 (F := Ideal) _ = (0 : EReal))).trans ((zero_add _).trans ?_)
    · exact Ideal.ofBits_zero .f32
    · refine Finset.sum_congr rfl fun k _ => ?_
      rw [val_main_v19_apply, ref_unit, ref_dh]
      exact mul_comm (G := EReal) _ _
  rw [val_main_v39_apply, val_main_v24_apply]
  refine (congrArg (· + _) (?_ : val_main_cst_4 (F := Ideal) _ = (0 : EReal))).trans ((zero_add _).trans ?_)
  · exact Ideal.ofBits_zero .f32
  · rw [Fin.sum_univ_one, val_main_v21_apply, e20]
    have ej : (idx_main_v21 (idx_main_v24 (idx_main_v39 (ix2 0 l)) 0) 0 : Fin 2048) = l := Fin.ext (by
      show 0 * 2048 + l.val = l.val
      omega)
    rw [ej]
end Reference

/-! ## The kernel's -/

section Host
open Cert.Kernel4Ideal Cert.Kernel4Ideal.Gen Idealize.ShloMosaic.TcCoe Idealize.ShloMosaic.Tactic
variable (m : (ℓ : Loc nD τ sig) → Buf (Elt Ideal) ℓ) (c : Dev nD)

abbrev ax : FVec Ideal S8192x2048 .f32 := m ((c : Thread nD τ).loc main_arg0)
abbrev ag : FVec Ideal S1x2048 .f32 := m ((c : Thread nD τ).loc main_arg1)
abbrev aw : FVec Ideal S2048x6272 .f32 := m ((c : Thread nD τ).loc main_arg2)
abbrev at' : FVec Ideal S8192x6272 .f32 := m ((c : Thread nD τ).loc main_arg3)
abbrev ae : FVec Ideal S8192x2048 .f32 := m ((c : Thread nD τ).loc main_arg4)

theorem V_ct : V m c main_v0 = (truncf .bf16 (at' m c) bitsLt_bf16_f32 : FVec Ideal S8192x6272 .bf16) := by
  entry_read
  rfl
theorem V_wt : V m c main_v1 = (truncf .bf16 (aw m c) bitsLt_bf16_f32 : FVec Ideal S2048x6272 .bf16) := by
  entry_read
  rfl

theorem row_arg (R : Fin 8192) : row m c R = rX (ax m c) R := by
  funext l
  unfold row
  rw [V_main_arg0]
  rfl
theorem scl_arg : scl m c = rG (ag m c) := by
  funext l
  unfold scl
  rw [V_main_arg1]
  rfl
theorem res_arg (R : Fin 8192) (l : Fin 2048) : res m c R l = ae m c (ix2 R l) := by
  unfold res
  rw [V_main_arg4]
theorem dh_arg (R : Fin 8192) : dh m c R = rD (aw m c) (at' m c) R := by
  funext l
  unfold dh rD
  rw [Finset.sum_range]
  refine Finset.sum_congr rfl fun s _ => ?_
  unfold term ct wt
  rw [dif_pos s.isLt, V_ct, V_wt]
  rfl

/-- The kernel's first result is the reference's. -/
theorem rows_eq : Value.G5 m c = Reference4Ideal.Read.val_main_v40 (F := Ideal) (ax m c) (ag m c) (aw m c) (at' m c) (ae m c) := by
  funext i
  obtain ⟨R, l, rfl⟩ : ∃ (R : Fin 8192) (l : Fin 2048), i = ix2 R l := ⟨i 0, i 1, eq_ix2 i⟩
  refine (result_rows m c R l).trans (Eq.trans ?_ (ref_rows _ _ _ _ _ R l).symm)
  rw [row_arg, scl_arg, res_arg, dh_arg]

/-- The kernel's second result is the reference's. -/
theorem scale_grad_eq : Value.G6 m c = Reference4Ideal.Read.val_main_v39 (F := Ideal) (ax m c) (aw m c) (at' m c) := by
  funext i
  obtain ⟨z, l, rfl⟩ : ∃ (z : Fin 1) (l : Fin 2048), i = ix2 z l := ⟨i 0, i 1, eq_ix2 i⟩
  obtain rfl : z = 0 := Subsingleton.elim _ _
  refine (result_scale m c l).trans (Eq.trans ?_ (ref_scl _ _ _ l).symm)
  have e : (∑ R ∈ range 8192, part m c l R) = ∑ R, rD (aw m c) (at' m c) R l * (rX (ax m c) R l * rootOf (rX (ax m c) R)) := by
    rw [Finset.sum_range]
    refine Finset.sum_congr rfl fun R _ => ?_
    unfold part
    rw [dif_pos R.isLt]
    show dh m c R l * (row m c R l * rootOf (row m c R)) = _
    rw [row_arg, dh_arg]
  exact e
end Host

end Cert.Proof.InX

end
-- ==== Proof.Mm.InW.lean ====
/-
  The gradient of the input projection's weight: what the blocked product over the positions leaves in its accumulator and in the
  result, and the equality with the reference.
-/
module

public import proofs.«01_k».proof.Proof.Gen.Kernel5Ideal.Value
public import proofs.«01_k».proof.Proof.Gen.Reference5Ideal.Read
public import proofs.«01_k».proof.Proof.Mm.Sum
public import Idealize.ShloMosaic.Lib.Pipeline.ValueKit.Geometry
public import Idealize.ShloMosaic.Lib.Pipeline.ValueKit.Point
public import Idealize.ShloMosaic.Lib.Tactic
public import Idealize.ShloMosaic.Lib.Claim

@[expose] public section

set_option maxRecDepth 16384

noncomputable section

namespace Cert.Proof.InW

open Idealize.ShloMosaic Cert.Kernel5Ideal Cert.Kernel5Ideal.Gen
open Idealize.ShloMosaic.TcCoe Idealize.ShloMosaic.Tactic
open Idealize.ShloMosaic.Pointwise
open scoped BigOperators
open Finset (range)

/-! ## What one point of the grid leaves, case by case -/

theorem off0 : (![0, 0] : Fin 2 → Nat) = fun _ => 0 := funext fun a => by fin_cases a <;> rfl

section Cases
variable {F : FTy → Type} [FloatOps F]
variable (c : Dev nD) (i : grid0.Coords) (a3 : Memref sig .tc .vmem S1024x1024 .bf16) (h3 : a3.IsWhole)
  (a4 : Memref sig .tc .vmem S1024x896 .bf16) (h4 : a4.IsWhole) (a5 : Memref sig .tc .vmem S1024x896 .bf16) (h5 : a5.IsWhole)
  (a6 : Memref sig .tc .vmem S1024x896 .f32) (h6 : a6.IsWhole) (x : Vec F S1024x1024 .bf16) (y : Vec F S1024x896 .bf16)
  (acc : Vec F S1024x896 .f32)

/-- The first point of a run starts its sum from zero. -/
theorem first_acc (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x896) off0, View.readCov_unit_zero (S := S1024x896) _ off0]
  simp only [View.readAt_eq_ld, h3.read_unread, h4.read_unread, View.ld_unit_zero (S := S1024x896) off0, View.ld_unit_zero (S := S1024x1024) off0]

/-- A point in the middle of a run adds its product. -/
theorem next_acc (hc0 : ¬cond0_0 i) (hc1 : ¬cond0_1 i) : sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  rw [View.canon_unit_zero off0]
  simp only [View.readAt_eq_ld, h3.read_unread, h4.read_unread, h6.read_unread, View.ld_unit_zero (S := S1024x896) off0, View.ld_unit_zero (S := S1024x896) off0, View.ld_unit_zero (S := S1024x1024) off0]

/-- So does the last point of a run, -/
theorem last_acc (hc0 : ¬cond0_0 i) (hc1 : cond0_1 i) : sout0_C_0 c i a3 h3 a4 h4 a5 h5 a6 h6 hc0 hc1 x y acc = k0_pay2 acc x y := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero off0]
  simp only [View.readAt_eq_ld, h3.read_unread, h4.read_unread, h6.read_unread, View.ld_unit_zero (S := S1024x896) off0, View.ld_unit_zero (S := S1024x896) off0, View.ld_unit_zero (S := S1024x1024) off0]

/-- and it stores the sum. -/
theorem last_out (hc0 : ¬cond0_0 i) (hc1 : cond0_1 i) : out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero off0, View.readCov_unit_zero (S := S1024x896) _ off0]
  simp only [View.readAt_eq_ld, h3.read_unread, h4.read_unread, h6.read_unread, View.ld_unit_zero (S := S1024x896) off0, View.ld_unit_zero (S := S1024x896) off0, View.ld_unit_zero (S := S1024x1024) off0]
end Cases

/-! ## The same over the extended reals -/

theorem zero_apply (r : Fin 1024) (l : Fin 896) : k0_pay1 (F := Ideal) (ix2 r l) = 0 := by
  pointwise [k0_pay1]

theorem add_apply (acc : Vec Ideal S1024x896 .f32) (x : Vec Ideal S1024x1024 .bf16) (y : Vec Ideal S1024x896 .bf16) (r : Fin 1024) (l : Fin 896) :
    k0_pay2 acc x y (ix2 r l) = (acc (ix2 r l) + ∑ s : Fin 1024, x (ix2 s r) * y (ix2 s l) : EReal) := by
  pointwise [k0_pay2]

theorem store_apply (acc : Vec Ideal S1024x896 .f32) (r : Fin 1024) (l : Fin 896) : k0_pay3 acc (ix2 r l) = acc (ix2 r l) := by
  pointwise [k0_pay3]

/-! ## The blocks and the sum over a run -/

theorem idx_0 : ∀ t : Fin cfg0.N, win0_0.index t = ![t.val % 8, t.val / 56] := (by decide +kernel : ∀ t : Fin grid0.N, win0_0.index t = ![t.val % 8, t.val / 56])
theorem idx_1 : ∀ t : Fin cfg0.N, win0_1.index t = ![t.val % 8, t.val / 8 % 7] := (by decide +kernel : ∀ t : Fin grid0.N, win0_1.index t = ![t.val % 8, t.val / 8 % 7])

theorem lt_N (t : Fin cfg0.N) : t.val < 112 := t.isLt

section Point
variable (m : (ℓ : Loc nD τ sig) → Buf (Elt Ideal) ℓ) (c : Dev nD)

theorem read_0 (t : Fin cfg0.N) (r : Fin 1024) (l : Fin 1024) :
    iblk m c 0 t (ix2 r l) = V m c main_v14 (ix2 ⟨(t.val % 8) * 1024 + r.val, by omega⟩ ⟨(t.val / 56) * 1024 + l.val, by have := lt_N t; omega⟩) := by
  blk_ext [iblk, idx_0 t]
theorem read_1 (t : Fin cfg0.N) (r : Fin 1024) (l : Fin 896) :
    iblk m c 1 t (ix2 r l) = V m c main_v15 (ix2 ⟨(t.val % 8) * 1024 + r.val, by omega⟩ ⟨(t.val / 8 % 7) * 896 + l.val, by omega⟩) := by
  blk_ext [iblk, idx_1 t]

/-- The product's left factor, the normalised rows, -/
def left (s : Fin 8192) (R : Fin 2048) : EReal := V m c main_v14 (ix2 s R)

/-- and its right factor, the cotangent. -/
def right (s : Fin 8192) (L : Fin 6272) : EReal := V m c main_v15 (ix2 s L)

/-- The product of position `s` to the weight's gradient at row `R`, column `L`. -/
def term (R : Fin 2048) (L : Fin 6272) (s : ℕ) : EReal :=
  if h : s < 8192 then left m c ⟨s, h⟩ R * right m c ⟨s, h⟩ L else 0

/-- Point `n` computes the block in which row `R` and column `L` are row `r` and column `l`. -/
def Here (R : Fin 2048) (L : Fin 6272) (r : Fin 1024) (l : Fin 896) (n : ℕ) : Prop :=
  R.val = n / 56 * 1024 + r.val ∧ L.val = n / 8 % 7 * 896 + l.val

theorem block_sum (t : Fin cfg0.N) (x : Vec Ideal S1024x1024 .bf16) (hx : x = iblk m c 0 t) (y : Vec Ideal S1024x896 .bf16) (hy : y = iblk m c 1 t)
    (r : Fin 1024) (l : Fin 896) (R : Fin 2048) (L : Fin 6272) (h : Here R L r l t.val) :
    (∑ s : Fin 1024, x (ix2 s r) * y (ix2 s l) : EReal) = ∑ s ∈ range 1024, term m c R L (t.val % 8 * 1024 + s) := by
  rw [Finset.sum_range]
  refine Finset.sum_congr rfl fun s _ => ?_
  rw [hx, hy, read_0, read_1]
  unfold term
  rw [dif_pos (show t.val % 8 * 1024 + s.val < 8192 by omega)]
  have eR : (⟨t.val / 56 * 1024 + r.val, by have := lt_N t; omega⟩ : Fin 2048) = R := Fin.ext h.1.symm
  have eL : (⟨t.val / 8 % 7 * 896 + l.val, by omega⟩ : Fin 6272) = L := Fin.ext h.2.symm
  rw [eR, eL]
  rfl

/-- After a point the accumulator holds the sum over the positions of the run's blocks so far. -/
theorem acc_eq (n : ℕ) (h : n < cfg0.N) (r : Fin 1024) (l : Fin 896) (R : Fin 2048) (L : Fin 6272) (p : Here R L r l n) :
    (outsAt0 m c n h).2 (ix2 r l) = (∑ s ∈ range (n % 8 * 1024 + 1024), term m c R L s : EReal) := by
  refine Mm.acc_sum 8 1024 (fun n h => (outsAt0 m c n h).2 (ix2 r l)) (Here R L r l) (term m c R L) (fun n e => by omega)
    (fun n e p => ?_) (fun n h e p => ?_) (fun n h e p => ?_) n h p
  · unfold Here at p ⊢
    exact ⟨by omega, by omega⟩
  · rw [outsAt0_A m c ⟨n, h⟩ e (by dsimp only; omega)]
    dsimp only
    rw [first_acc, add_apply, zero_apply, zero_add, block_sum m c ⟨n, h⟩ _ rfl _ rfl r l R L p]
  · by_cases e7 : (n + 1) % 8 = 7
    · rw [outsAt0_C m c ⟨n + 1, h⟩ e e7]
      dsimp only
      rw [last_acc, add_apply, block_sum m c ⟨n + 1, h⟩ _ rfl _ rfl r l R L p]
      rfl
    · rw [outsAt0_B m c ⟨n + 1, h⟩ e e7]
      dsimp only
      rw [next_acc, add_apply, block_sum m c ⟨n + 1, h⟩ _ rfl _ rfl r l R L p]
      rfl

/-- What the last point of a run stores. -/
theorem out_eq (n : ℕ) (h : n < cfg0.N) (h1 : n % 8 = 7) (r : Fin 1024) (l : Fin 896) (R : Fin 2048) (L : Fin 6272) (p : Here R L r l n) :
    (outsAt0 m c n h).1 (ix2 r l) = (∑ s ∈ range 8192, term m c R L s : EReal) := by
  have e := acc_eq m c n h r l R L p
  rw [outsAt0_C m c ⟨n, h⟩ (by dsimp only; omega) h1] at e ⊢
  dsimp only at e ⊢
  rw [last_acc] at e
  rw [last_out, store_apply, e, h1]

/-- The result array: at every row and column the sum over all positions. -/
theorem result (R : Fin 2048) (L : Fin 6272) : Value.G2 m c (ix2 R L) = (∑ s ∈ range 8192, term m c R L s : EReal) := by
  have hp : Value.pt2Of (ix2 R L) < cfg0.N := by
    show 8 * (7 * (R.val / 1024 - 0) + 1 * (L.val / 896 - 0)) + 7 < 112
    omega
  unfold Value.G2
  rw [dif_pos hp]
  refine (congrFun (congrArg Prod.fst (Value.outsAt0_sweep m c _ hp)) _).symm.trans ?_
  rw [eq_ix2 (Value.loc2Of (ix2 R L))]
  refine out_eq m c _ hp ?_ _ _ R L ⟨?_, ?_⟩
  · show (8 * (7 * (R.val / 1024 - 0) + 1 * (L.val / 896 - 0)) + 7) % 8 = 7; omega
  · show R.val = (8 * (7 * (R.val / 1024 - 0) + 1 * (L.val / 896 - 0)) + 7) / 56 * 1024 + R.val % 1024; omega
  · show L.val = (8 * (7 * (R.val / 1024 - 0) + 1 * (L.val / 896 - 0)) + 7) / 8 % 7 * 896 + L.val % 896; omega
end Point

/-! ## The host lines and the reference -/

section Host
variable (m : (ℓ : Loc nD τ sig) → Buf (Elt Ideal) ℓ) (c : Dev nD)

abbrev ax : FVec Ideal S8192x2048 .f32 := m ((c : Thread nD τ).loc main_arg0)
abbrev ag : FVec Ideal S1x2048 .f32 := m ((c : Thread nD τ).loc main_arg1)
abbrev at' : FVec Ideal S8192x6272 .f32 := m ((c : Thread nD τ).loc main_arg2)

/-- The left factor is the reference's normalised rows, -/
theorem V_rows : V m c main_v14 = (truncf .bf16 (Reference5Ideal.Read.val_main_v14 (F := Ideal) (ax m c) (ag m c) : FVec Ideal S8192x2048 .f32) bitsLt_bf16_f32 : FVec Ideal S8192x2048 .bf16) := by
  entry_read
  rfl

/-- the right one the cotangent. -/
theorem V_ct : V m c main_v15 = (truncf .bf16 (at' m c) bitsLt_bf16_f32 : FVec Ideal S8192x6272 .bf16) := by
  entry_read
  rfl

/-- The kernel's result is the reference's: the reference writes each product the other way round. -/
theorem result_eq : Value.G2 m c = Reference5Ideal.Read.val_main_v18 (F := Ideal) (ax m c) (ag m c) (at' m c) := by
  funext i
  obtain ⟨R, L, rfl⟩ : ∃ (R : Fin 2048) (L : Fin 6272), i = ix2 R L := ⟨i 0, i 1, eq_ix2 i⟩
  refine (result m c R L).trans (Eq.symm ?_)
  refine (Reference5Ideal.Read.val_main_v17_apply _ _ _ _).trans ((Reference5Ideal.Read.val_main_v16_apply _ _ _ _).trans ?_)
  rw [Finset.sum_range]
  refine Finset.sum_congr rfl fun s _ => ?_
  unfold term left right
  rw [dif_pos s.isLt, V_rows, V_ct, mul_comm]
  generalize Reference5Ideal.Read.val_main_v14 (F := Ideal) (ax m c) (ag m c) = y
  rw [eq_ix2 (Reference5Ideal.Read.lidx_main_v16 _ s), eq_ix2 (Reference5Ideal.Read.ridx_main_v16 _ s)]
  rfl
end Host

end Cert.Proof.InW

end
-- ==== Proof.Mm.DownX.lean ====
/-
  The gradient of the down projection's input: the product of the cotangent and the transposed weight, its two halves added up
  in the output block, and the equality with the reference.
-/
module

public import proofs.«01_k».proof.Proof.Gen.Kernel6Ideal.Value
public import proofs.«01_k».proof.Proof.Gen.Reference6Ideal.Read
public import Idealize.ShloMosaic.Lib.Pipeline.ValueKit.Geometry
public import Idealize.ShloMosaic.Lib.Pipeline.ValueKit.Point
public import Idealize.ShloMosaic.Lib.Tactic
public import Idealize.ShloMosaic.Lib.Claim

@[expose] public section

set_option maxRecDepth 16384

noncomputable section

namespace Cert.Proof.DownX

open Idealize.ShloMosaic Cert.Kernel6Ideal Cert.Kernel6Ideal.Gen
open Idealize.ShloMosaic.TcCoe Idealize.ShloMosaic.Tactic
open Idealize.ShloMosaic.Pointwise
open scoped BigOperators
open Finset (range)

theorem zero_apply (r : Fin 512) (l : Fin 5632) : k0_pay1 (F := Ideal) (ix2 r l) = 0 := by
  pointwise [k0_pay1]

theorem add_apply (acc : Vec Ideal S512x5632 .f32) (x : Vec Ideal S512x1024 .f32) (w : Vec Ideal S5632x1024 .bf16) (r : Fin 512) (l : Fin 5632) :
    k0_pay2 acc x w (ix2 r l) = (acc (ix2 r l) + ∑ s : Fin 1024, x (ix2 r s) * w (ix2 l s) : EReal) := by
  pointwise [k0_pay2]

theorem idx_0 : ∀ t : Fin cfg0.N, win0_0.index t = ![t.val / 2, t.val % 2] := (by decide +kernel : ∀ t : Fin grid0.N, win0_0.index t = ![t.val / 2, t.val % 2])
theorem idx_1 : ∀ t : Fin cfg0.N, win0_1.index t = ![0, t.val % 2] := (by decide +kernel : ∀ t : Fin grid0.N, win0_1.index t = ![0, t.val % 2])

theorem lt_N (t : Fin cfg0.N) : t.val < 32 := t.isLt

section Point
variable (m : (ℓ : Loc nD τ sig) → Buf (Elt Ideal) ℓ) (c : Dev nD)

theorem read_0 (t : Fin cfg0.N) (r : Fin 512) (l : Fin 1024) :
    iblk m c 0 t (ix2 r l) = V m c main_arg1 (ix2 ⟨(t.val / 2) * 512 + r.val, by have := lt_N t; omega⟩ ⟨(t.val % 2) * 1024 + l.val, by omega⟩) := by
  blk_ext [iblk, idx_0 t]
theorem read_1 (t : Fin cfg0.N) (r : Fin 5632) (l : Fin 1024) :
    iblk m c 1 t (ix2 r l) = V m c main_v0 (ix2 ⟨0 * 5632 + r.val, by omega⟩ ⟨(t.val % 2) * 1024 + l.val, by omega⟩) := by
  blk_ext [iblk, idx_1 t]

/-- The product's left factor, the cotangent, -/
def left (R : Fin 8192) (s : Fin 2048) : EReal := V m c main_arg1 (ix2 R s)

/-- and its right factor, the weight. -/
def right (L : Fin 5632) (s : Fin 2048) : EReal := V m c main_v0 (ix2 L s)

/-- The product at column `s` of the sum at row `R`, column `L`. -/
def term (R : Fin 8192) (L : Fin 5632) (s : ℕ) : EReal :=
  if h : s < 2048 then left m c R ⟨s, h⟩ * right m c L ⟨s, h⟩ else 0

/-- One point's product is the part of the sum over its half of the columns. -/
theorem block_sum (t : Fin cfg0.N) (x : Vec Ideal S512x1024 .f32) (hx : x = iblk m c 0 t) (w : Vec Ideal S5632x1024 .bf16) (hw : w = iblk m c 1 t)
    (r : Fin 512) (R : Fin 8192) (L : Fin 5632) (h : R.val = t.val / 2 * 512 + r.val) :
    (∑ s : Fin 1024, x (ix2 r s) * w (ix2 L s) : EReal) = ∑ s ∈ range 1024, term m c R L (t.val % 2 * 1024 + s) := by
  rw [Finset.sum_range]
  refine Finset.sum_congr rfl fun s _ => ?_
  rw [hx, hw, read_0, read_1]
  unfold term
  rw [dif_pos (show t.val % 2 * 1024 + s.val < 2048 by omega)]
  have eR : (⟨t.val / 2 * 512 + r.val, by have := lt_N t; omega⟩ : Fin 8192) = R := Fin.ext h.symm
  have eL : (⟨0 * 5632 + L.val, by omega⟩ : Fin 5632) = L := Fin.ext (by show 0 * 5632 + L.val = L.val; omega)
  rw [eR, eL]
  rfl

/-- The result array: at every row and column the sum over all columns of the cotangent. -/
theorem result (R : Fin 8192) (L : Fin 5632) : Value.G2 m c (ix2 R L) = (∑ s ∈ range 2048, term m c R L s : EReal) := by
  have hp : 2 * Value.run2Of (ix2 R L) + 1 < cfg0.N := by
    show 2 * (1 * (R.val / 512 - 0) + 1 * (L.val / 5632 - 0)) + 1 < 32
    omega
  unfold Value.G2
  rw [dif_pos hp]
  have e : Value.loc2Of (ix2 R L) = ix2 (⟨R.val % 512, by omega⟩ : Fin 512) L := by
    rw [eq_ix2 (Value.loc2Of (ix2 R L))]
    exact congrArg (ix2 _) (Fin.ext (by show L.val % 5632 = L.val; omega))
  rw [e]
  have hb : 2 * Value.run2Of (ix2 R L) = 2 * (R.val / 512) := by
    show 2 * (1 * (R.val / 512 - 0) + 1 * (L.val / 5632 - 0)) = _
    omega
  generalize 2 * Value.run2Of (ix2 R L) = b at hp hb
  show k0_pay2 (k0_pay2 (k0_pay1 (F := Ideal)) (iblk m c 0 ⟨b, _⟩) (iblk m c 1 ⟨b, _⟩)) (iblk m c 0 ⟨b + 1, hp⟩) (iblk m c 1 ⟨b + 1, hp⟩) _ = _
  rw [add_apply, add_apply, zero_apply, zero_add,
    block_sum m c ⟨b, by omega⟩ _ rfl _ rfl _ R L (by show R.val = b / 2 * 512 + R.val % 512; omega),
    block_sum m c ⟨b + 1, hp⟩ _ rfl _ rfl _ R L (by show R.val = (b + 1) / 2 * 512 + R.val % 512; omega)]
  dsimp only
  rw [show b % 2 = 0 by omega, show (b + 1) % 2 = 1 by omega, show 2048 = 1024 + 1024 from rfl, Finset.sum_range_add]
  simp only [Nat.zero_mul, Nat.zero_add, Nat.one_mul]
end Point

section Host
variable (m : (ℓ : Loc nD τ sig) → Buf (Elt Ideal) ℓ) (c : Dev nD)

abbrev aw : FVec Ideal S5632x2048 .f32 := m ((c : Thread nD τ).loc main_arg0)
abbrev at' : FVec Ideal S8192x2048 .f32 := m ((c : Thread nD τ).loc main_arg1)

/-- The right factor is the weight. -/
theorem V_w : V m c main_v0 = (truncf .bf16 (aw m c) bitsLt_bf16_f32 : FVec Ideal S5632x2048 .bf16) := by
  entry_read
  rfl

/-- The kernel's result is the reference's. -/
theorem result_eq : Value.G2 m c = Reference6Ideal.Read.val_main_v2 (F := Ideal) (aw m c) (at' m c) := by
  funext i
  obtain ⟨R, L, rfl⟩ : ∃ (R : Fin 8192) (L : Fin 5632), i = ix2 R L := ⟨i 0, i 1, eq_ix2 i⟩
  refine (result m c R L).trans (Eq.symm ?_)
  refine (Reference6Ideal.Read.val_main_v2_apply _ _ _).trans ?_
  rw [Finset.sum_range]
  refine Finset.sum_congr rfl fun s _ => ?_
  unfold term left right
  rw [dif_pos s.isLt, V_w, V_main_arg1]
  rw [eq_ix2 (Reference6Ideal.Read.lidx_main_v2 _ s), eq_ix2 (Reference6Ideal.Read.ridx_main_v2 _ s)]
  rfl
end Host

end Cert.Proof.DownX

end
-- ==== Proof.Mm.DownW.lean ====
/-
  The gradient of the down projection's weight: what the blocked product over the positions leaves in its accumulator and in the
  result, and the equality with the reference.
-/
module

public import proofs.«01_k».proof.Proof.Gen.Kernel7Ideal.Value
public import proofs.«01_k».proof.Proof.Gen.Reference7Ideal.Read
public import proofs.«01_k».proof.Proof.Mm.Sum
public import Idealize.ShloMosaic.Lib.Pipeline.ValueKit.Geometry
public import Idealize.ShloMosaic.Lib.Pipeline.ValueKit.Point
public import Idealize.ShloMosaic.Lib.Tactic
public import Idealize.ShloMosaic.Lib.Claim

@[expose] public section

set_option maxRecDepth 16384

noncomputable section

namespace Cert.Proof.DownW

open Idealize.ShloMosaic Cert.Kernel7Ideal Cert.Kernel7Ideal.Gen
open Idealize.ShloMosaic.TcCoe Idealize.ShloMosaic.Tactic
open Idealize.ShloMosaic.Pointwise
open scoped BigOperators
open Finset (range)

/-! ## What one point of the grid leaves, case by case -/

theorem off0 : (![0, 0] : Fin 2 → Nat) = fun _ => 0 := funext fun a => by fin_cases a <;> rfl

section Cases
variable {F : FTy → Type} [FloatOps F]
variable (c : Dev nD) (i : grid0.Coords) (a3 : Memref sig .tc .vmem S1024x512 .bf16) (h3 : a3.IsWhole)
  (a4 : Memref sig .tc .vmem S1024x2048 .f32) (h4 : a4.IsWhole) (a5 : Memref sig .tc .vmem S512x2048 .bf16) (h5 : a5.IsWhole)
  (a6 : Memref sig .tc .vmem S512x2048 .f32) (h6 : a6.IsWhole) (x : Vec F S1024x512 .bf16) (y : Vec F S1024x2048 .f32)
  (acc : Vec F S512x2048 .f32)

/-- The first point of a run starts its sum from zero. -/
theorem first_acc (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x2048) off0, View.readCov_unit_zero (S := S512x2048) _ off0]
  simp only [View.readAt_eq_ld, h3.read_unread, h4.read_unread, View.ld_unit_zero (S := S1024x2048) off0, View.ld_unit_zero (S := S1024x512) off0]

/-- A point in the middle of a run adds its product. -/
theorem next_acc (hc0 : ¬cond0_0 i) (hc1 : ¬cond0_1 i) : sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  rw [View.canon_unit_zero off0]
  simp only [View.readAt_eq_ld, h3.read_unread, h4.read_unread, h6.read_unread, View.ld_unit_zero (S := S512x2048) off0, View.ld_unit_zero (S := S1024x2048) off0, View.ld_unit_zero (S := S1024x512) off0]

/-- So does the last point of a run, -/
theorem last_acc (hc0 : ¬cond0_0 i) (hc1 : cond0_1 i) : sout0_C_0 c i a3 h3 a4 h4 a5 h5 a6 h6 hc0 hc1 x y acc = k0_pay2 acc x y := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero off0]
  simp only [View.readAt_eq_ld, h3.read_unread, h4.read_unread, h6.read_unread, View.ld_unit_zero (S := S512x2048) off0, View.ld_unit_zero (S := S1024x2048) off0, View.ld_unit_zero (S := S1024x512) off0]

/-- and it stores the sum. -/
theorem last_out (hc0 : ¬cond0_0 i) (hc1 : cond0_1 i) : out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero off0, View.readCov_unit_zero (S := S512x2048) _ off0]
  simp only [View.readAt_eq_ld, h3.read_unread, h4.read_unread, h6.read_unread, View.ld_unit_zero (S := S512x2048) off0, View.ld_unit_zero (S := S1024x2048) off0, View.ld_unit_zero (S := S1024x512) off0]
end Cases

/-! ## The same over the extended reals -/

theorem zero_apply (r : Fin 512) (l : Fin 2048) : k0_pay1 (F := Ideal) (ix2 r l) = 0 := by
  pointwise [k0_pay1]

theorem add_apply (acc : Vec Ideal S512x2048 .f32) (x : Vec Ideal S1024x512 .bf16) (y : Vec Ideal S1024x2048 .f32) (r : Fin 512) (l : Fin 2048) :
    k0_pay2 acc x y (ix2 r l) = (acc (ix2 r l) + ∑ s : Fin 1024, x (ix2 s r) * y (ix2 s l) : EReal) := by
  pointwise [k0_pay2]

theorem store_apply (acc : Vec Ideal S512x2048 .f32) (r : Fin 512) (l : Fin 2048) : k0_pay3 acc (ix2 r l) = acc (ix2 r l) := by
  pointwise [k0_pay3]

/-! ## The blocks and the sum over a run -/

theorem idx_0 : ∀ t : Fin cfg0.N, win0_0.index t = ![t.val % 8, t.val / 8] := (by decide +kernel : ∀ t : Fin grid0.N, win0_0.index t = ![t.val % 8, t.val / 8])
theorem idx_1 : ∀ t : Fin cfg0.N, win0_1.index t = ![t.val % 8, 0] := (by decide +kernel : ∀ t : Fin grid0.N, win0_1.index t = ![t.val % 8, 0])

theorem lt_N (t : Fin cfg0.N) : t.val < 88 := t.isLt

section Point
variable (m : (ℓ : Loc nD τ sig) → Buf (Elt Ideal) ℓ) (c : Dev nD)

theorem read_0 (t : Fin cfg0.N) (r : Fin 1024) (l : Fin 512) :
    iblk m c 0 t (ix2 r l) = V m c main_v0 (ix2 ⟨(t.val % 8) * 1024 + r.val, by omega⟩ ⟨(t.val / 8) * 512 + l.val, by have := lt_N t; omega⟩) := by
  blk_ext [iblk, idx_0 t]
theorem read_1 (t : Fin cfg0.N) (r : Fin 1024) (l : Fin 2048) :
    iblk m c 1 t (ix2 r l) = V m c main_arg1 (ix2 ⟨(t.val % 8) * 1024 + r.val, by omega⟩ ⟨(0) * 2048 + l.val, by omega⟩) := by
  blk_ext [iblk, idx_1 t]

/-- The product's left factor, the gate's output, -/
def left (s : Fin 8192) (R : Fin 5632) : EReal := V m c main_v0 (ix2 s R)

/-- and its right factor, the cotangent. -/
def right (s : Fin 8192) (L : Fin 2048) : EReal := V m c main_arg1 (ix2 s L)

/-- The product of position `s` to the weight's gradient at row `R`, column `L`. -/
def term (R : Fin 5632) (L : Fin 2048) (s : ℕ) : EReal :=
  if h : s < 8192 then left m c ⟨s, h⟩ R * right m c ⟨s, h⟩ L else 0

/-- Point `n` computes the block in which row `R` and column `L` are row `r` and column `l`. -/
def Here (R : Fin 5632) (L : Fin 2048) (r : Fin 512) (l : Fin 2048) (n : ℕ) : Prop :=
  R.val = (n / 8) * 512 + r.val ∧ L.val = 0 * 2048 + l.val

theorem block_sum (t : Fin cfg0.N) (x : Vec Ideal S1024x512 .bf16) (hx : x = iblk m c 0 t) (y : Vec Ideal S1024x2048 .f32) (hy : y = iblk m c 1 t)
    (r : Fin 512) (l : Fin 2048) (R : Fin 5632) (L : Fin 2048) (h : Here R L r l t.val) :
    (∑ s : Fin 1024, x (ix2 s r) * y (ix2 s l) : EReal) = ∑ s ∈ range 1024, term m c R L (t.val % 8 * 1024 + s) := by
  rw [Finset.sum_range]
  refine Finset.sum_congr rfl fun s _ => ?_
  rw [hx, hy, read_0, read_1]
  unfold term
  rw [dif_pos (show t.val % 8 * 1024 + s.val < 8192 by omega)]
  have eR : (⟨t.val / 8 * 512 + r.val, by have := lt_N t; omega⟩ : Fin 5632) = R := Fin.ext h.1.symm
  have eL : (⟨0 * 2048 + l.val, by omega⟩ : Fin 2048) = L := Fin.ext h.2.symm
  rw [eR, eL]
  rfl

/-- After a point the accumulator holds the sum over the positions of the run's blocks so far. -/
theorem acc_eq (n : ℕ) (h : n < cfg0.N) (r : Fin 512) (l : Fin 2048) (R : Fin 5632) (L : Fin 2048) (p : Here R L r l n) :
    (outsAt0 m c n h).2 (ix2 r l) = (∑ s ∈ range (n % 8 * 1024 + 1024), term m c R L s : EReal) := by
  refine Mm.acc_sum 8 1024 (fun n h => (outsAt0 m c n h).2 (ix2 r l)) (Here R L r l) (term m c R L) (fun n e => by omega)
    (fun n e p => ?_) (fun n h e p => ?_) (fun n h e p => ?_) n h p
  · unfold Here at p ⊢
    exact ⟨by omega, by omega⟩
  · rw [outsAt0_A m c ⟨n, h⟩ e (by dsimp only; omega)]
    dsimp only
    rw [first_acc, add_apply, zero_apply, zero_add, block_sum m c ⟨n, h⟩ _ rfl _ rfl r l R L p]
  · by_cases e7 : (n + 1) % 8 = 7
    · rw [outsAt0_C m c ⟨n + 1, h⟩ e e7]
      dsimp only
      rw [last_acc, add_apply, block_sum m c ⟨n + 1, h⟩ _ rfl _ rfl r l R L p]
      rfl
    · rw [outsAt0_B m c ⟨n + 1, h⟩ e e7]
      dsimp only
      rw [next_acc, add_apply, block_sum m c ⟨n + 1, h⟩ _ rfl _ rfl r l R L p]
      rfl

/-- What the last point of a run stores. -/
theorem out_eq (n : ℕ) (h : n < cfg0.N) (h1 : n % 8 = 7) (r : Fin 512) (l : Fin 2048) (R : Fin 5632) (L : Fin 2048) (p : Here R L r l n) :
    (outsAt0 m c n h).1 (ix2 r l) = (∑ s ∈ range 8192, term m c R L s : EReal) := by
  have e := acc_eq m c n h r l R L p
  rw [outsAt0_C m c ⟨n, h⟩ (by dsimp only; omega) h1] at e ⊢
  dsimp only at e ⊢
  rw [last_acc] at e
  rw [last_out, store_apply, e, h1]

/-- The result array: at every row and column the sum over all positions. -/
theorem result (R : Fin 5632) (L : Fin 2048) : Value.G2 m c (ix2 R L) = (∑ s ∈ range 8192, term m c R L s : EReal) := by
  have hp : Value.pt2Of (ix2 R L) < cfg0.N := by
    show 8 * (1 * (R.val / 512 - 0) + 1 * (L.val / 2048 - 0)) + 7 < 88
    omega
  unfold Value.G2
  rw [dif_pos hp]
  refine (congrFun (congrArg Prod.fst (Value.outsAt0_sweep m c _ hp)) _).symm.trans ?_
  rw [eq_ix2 (Value.loc2Of (ix2 R L))]
  refine out_eq m c _ hp ?_ _ _ R L ⟨?_, ?_⟩
  · show (8 * (1 * (R.val / 512 - 0) + 1 * (L.val / 2048 - 0)) + 7) % 8 = 7; omega
  · show R.val = ((8 * (1 * (R.val / 512 - 0) + 1 * (L.val / 2048 - 0)) + 7) / 8) * 512 + R.val % 512; omega
  · show L.val = 0 * 2048 + L.val % 2048; omega
end Point

/-! ## The host lines and the reference -/

section Host
variable (m : (ℓ : Loc nD τ sig) → Buf (Elt Ideal) ℓ) (c : Dev nD)

abbrev ah : FVec Ideal S8192x5632 .f32 := m ((c : Thread nD τ).loc main_arg0)
abbrev at' : FVec Ideal S8192x2048 .f32 := m ((c : Thread nD τ).loc main_arg1)

/-- The left factor is the gate's output, -/
theorem V_rows : V m c main_v0 = (truncf .bf16 (ah m c) bitsLt_bf16_f32 : FVec Ideal S8192x5632 .bf16) := by
  entry_read
  rfl

/-- The kernel's result is the reference's: the reference writes each product the other way round. -/
theorem result_eq : Value.G2 m c = Reference7Ideal.Read.val_main_v4 (F := Ideal) (ah m c) (at' m c) := by
  funext i
  obtain ⟨R, L, rfl⟩ : ∃ (R : Fin 5632) (L : Fin 2048), i = ix2 R L := ⟨i 0, i 1, eq_ix2 i⟩
  refine (result m c R L).trans (Eq.symm ?_)
  refine (Reference7Ideal.Read.val_main_v3_apply _ _ _).trans ((Reference7Ideal.Read.val_main_v2_apply _ _ _).trans ?_)
  rw [Finset.sum_range]
  refine Finset.sum_congr rfl fun s _ => ?_
  unfold term left right
  rw [dif_pos s.isLt, V_rows, V_main_arg1, mul_comm]
  rw [eq_ix2 (Reference7Ideal.Read.lidx_main_v2 _ s), eq_ix2 (Reference7Ideal.Read.ridx_main_v2 _ s)]
  rfl
end Host

end Cert.Proof.DownW

end
-- ==== Proof.Mm.OutW.lean ====
/-
  The gradient of the output projection's weight: what the blocked product over the positions leaves in its accumulator and in the
  result, and the equality with the reference.
-/
module

public import proofs.«01_k».proof.Proof.Gen.Kernel8Ideal.Value
public import proofs.«01_k».proof.Proof.Gen.Reference8Ideal.Read
public import proofs.«01_k».proof.Proof.Mm.Sum
public import Idealize.ShloMosaic.Lib.Pipeline.ValueKit.Geometry
public import Idealize.ShloMosaic.Lib.Pipeline.ValueKit.Point
public import Idealize.ShloMosaic.Lib.Tactic
public import Idealize.ShloMosaic.Lib.Claim

@[expose] public section

set_option maxRecDepth 16384

noncomputable section

namespace Cert.Proof.OutW

open Idealize.ShloMosaic Cert.Kernel8Ideal Cert.Kernel8Ideal.Gen
open Idealize.ShloMosaic.TcCoe Idealize.ShloMosaic.Tactic
open Idealize.ShloMosaic.Pointwise
open scoped BigOperators
open Finset (range)

/-! ## What one point of the grid leaves, case by case -/

theorem off0 : (![0, 0] : Fin 2 → Nat) = fun _ => 0 := funext fun a => by fin_cases a <;> rfl

section Cases
variable {F : FTy → Type} [FloatOps F]
variable (c : Dev nD) (i : grid0.Coords) (a3 : Memref sig .tc .vmem S1024x1024 .bf16) (h3 : a3.IsWhole)
  (a4 : Memref sig .tc .vmem S1024x2048 .f32) (h4 : a4.IsWhole) (a5 : Memref sig .tc .vmem S1024x2048 .bf16) (h5 : a5.IsWhole)
  (a6 : Memref sig .tc .vmem S1024x2048 .f32) (h6 : a6.IsWhole) (x : Vec F S1024x1024 .bf16) (y : Vec F S1024x2048 .f32)
  (acc : Vec F S1024x2048 .f32)

/-- The first point of a run starts its sum from zero. -/
theorem first_acc (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x2048) off0, View.readCov_unit_zero (S := S1024x2048) _ off0]
  simp only [View.readAt_eq_ld, h3.read_unread, h4.read_unread, View.ld_unit_zero (S := S1024x2048) off0, View.ld_unit_zero (S := S1024x1024) off0]

/-- A point in the middle of a run adds its product. -/
theorem next_acc (hc0 : ¬cond0_0 i) (hc1 : ¬cond0_1 i) : sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  rw [View.canon_unit_zero off0]
  simp only [View.readAt_eq_ld, h3.read_unread, h4.read_unread, h6.read_unread, View.ld_unit_zero (S := S1024x2048) off0, View.ld_unit_zero (S := S1024x2048) off0, View.ld_unit_zero (S := S1024x1024) off0]

/-- So does the last point of a run, -/
theorem last_acc (hc0 : ¬cond0_0 i) (hc1 : cond0_1 i) : sout0_C_0 c i a3 h3 a4 h4 a5 h5 a6 h6 hc0 hc1 x y acc = k0_pay2 acc x y := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero off0]
  simp only [View.readAt_eq_ld, h3.read_unread, h4.read_unread, h6.read_unread, View.ld_unit_zero (S := S1024x2048) off0, View.ld_unit_zero (S := S1024x2048) off0, View.ld_unit_zero (S := S1024x1024) off0]

/-- and it stores the sum. -/
theorem last_out (hc0 : ¬cond0_0 i) (hc1 : cond0_1 i) : out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero off0, View.readCov_unit_zero (S := S1024x2048) _ off0]
  simp only [View.readAt_eq_ld, h3.read_unread, h4.read_unread, h6.read_unread, View.ld_unit_zero (S := S1024x2048) off0, View.ld_unit_zero (S := S1024x2048) off0, View.ld_unit_zero (S := S1024x1024) off0]
end Cases

/-! ## The same over the extended reals -/

theorem zero_apply (r : Fin 1024) (l : Fin 2048) : k0_pay1 (F := Ideal) (ix2 r l) = 0 := by
  pointwise [k0_pay1]

theorem add_apply (acc : Vec Ideal S1024x2048 .f32) (x : Vec Ideal S1024x1024 .bf16) (y : Vec Ideal S1024x2048 .f32) (r : Fin 1024) (l : Fin 2048) :
    k0_pay2 acc x y (ix2 r l) = (acc (ix2 r l) + ∑ s : Fin 1024, x (ix2 s r) * y (ix2 s l) : EReal) := by
  pointwise [k0_pay2]

theorem store_apply (acc : Vec Ideal S1024x2048 .f32) (r : Fin 1024) (l : Fin 2048) : k0_pay3 acc (ix2 r l) = acc (ix2 r l) := by
  pointwise [k0_pay3]

/-! ## The blocks and the sum over a run -/

theorem idx_0 : ∀ t : Fin cfg0.N, win0_0.index t = ![t.val % 8, t.val / 8] := (by decide +kernel : ∀ t : Fin grid0.N, win0_0.index t = ![t.val % 8, t.val / 8])
theorem idx_1 : ∀ t : Fin cfg0.N, win0_1.index t = ![t.val % 8, 0] := (by decide +kernel : ∀ t : Fin grid0.N, win0_1.index t = ![t.val % 8, 0])

theorem lt_N (t : Fin cfg0.N) : t.val < 16 := t.isLt

section Point
variable (m : (ℓ : Loc nD τ sig) → Buf (Elt Ideal) ℓ) (c : Dev nD)

theorem read_0 (t : Fin cfg0.N) (r : Fin 1024) (l : Fin 1024) :
    iblk m c 0 t (ix2 r l) = V m c main_v29 (ix2 ⟨(t.val % 8) * 1024 + r.val, by omega⟩ ⟨(t.val / 8) * 1024 + l.val, by have := lt_N t; omega⟩) := by
  blk_ext [iblk, idx_0 t]
theorem read_1 (t : Fin cfg0.N) (r : Fin 1024) (l : Fin 2048) :
    iblk m c 1 t (ix2 r l) = V m c main_arg4 (ix2 ⟨(t.val % 8) * 1024 + r.val, by omega⟩ ⟨(0) * 2048 + l.val, by omega⟩) := by
  blk_ext [iblk, idx_1 t]

/-- The product's left factor, the merged rows, -/
def left (s : Fin 8192) (R : Fin 2048) : EReal := V m c main_v29 (ix2 s R)

/-- and its right factor, the cotangent. -/
def right (s : Fin 8192) (L : Fin 2048) : EReal := V m c main_arg4 (ix2 s L)

/-- The product of position `s` to the weight's gradient at row `R`, column `L`. -/
def term (R : Fin 2048) (L : Fin 2048) (s : ℕ) : EReal :=
  if h : s < 8192 then left m c ⟨s, h⟩ R * right m c ⟨s, h⟩ L else 0

/-- Point `n` computes the block in which row `R` and column `L` are row `r` and column `l`. -/
def Here (R : Fin 2048) (L : Fin 2048) (r : Fin 1024) (l : Fin 2048) (n : ℕ) : Prop :=
  R.val = (n / 8) * 1024 + r.val ∧ L.val = 0 * 2048 + l.val

theorem block_sum (t : Fin cfg0.N) (x : Vec Ideal S1024x1024 .bf16) (hx : x = iblk m c 0 t) (y : Vec Ideal S1024x2048 .f32) (hy : y = iblk m c 1 t)
    (r : Fin 1024) (l : Fin 2048) (R : Fin 2048) (L : Fin 2048) (h : Here R L r l t.val) :
    (∑ s : Fin 1024, x (ix2 s r) * y (ix2 s l) : EReal) = ∑ s ∈ range 1024, term m c R L (t.val % 8 * 1024 + s) := by
  rw [Finset.sum_range]
  refine Finset.sum_congr rfl fun s _ => ?_
  rw [hx, hy, read_0, read_1]
  unfold term
  rw [dif_pos (show t.val % 8 * 1024 + s.val < 8192 by omega)]
  have eR : (⟨t.val / 8 * 1024 + r.val, by have := lt_N t; omega⟩ : Fin 2048) = R := Fin.ext h.1.symm
  have eL : (⟨0 * 2048 + l.val, by omega⟩ : Fin 2048) = L := Fin.ext h.2.symm
  rw [eR, eL]
  rfl

/-- After a point the accumulator holds the sum over the positions of the run's blocks so far. -/
theorem acc_eq (n : ℕ) (h : n < cfg0.N) (r : Fin 1024) (l : Fin 2048) (R : Fin 2048) (L : Fin 2048) (p : Here R L r l n) :
    (outsAt0 m c n h).2 (ix2 r l) = (∑ s ∈ range (n % 8 * 1024 + 1024), term m c R L s : EReal) := by
  refine Mm.acc_sum 8 1024 (fun n h => (outsAt0 m c n h).2 (ix2 r l)) (Here R L r l) (term m c R L) (fun n e => by omega)
    (fun n e p => ?_) (fun n h e p => ?_) (fun n h e p => ?_) n h p
  · unfold Here at p ⊢
    exact ⟨by omega, by omega⟩
  · rw [outsAt0_A m c ⟨n, h⟩ e (by dsimp only; omega)]
    dsimp only
    rw [first_acc, add_apply, zero_apply, zero_add, block_sum m c ⟨n, h⟩ _ rfl _ rfl r l R L p]
  · by_cases e7 : (n + 1) % 8 = 7
    · rw [outsAt0_C m c ⟨n + 1, h⟩ e e7]
      dsimp only
      rw [last_acc, add_apply, block_sum m c ⟨n + 1, h⟩ _ rfl _ rfl r l R L p]
      rfl
    · rw [outsAt0_B m c ⟨n + 1, h⟩ e e7]
      dsimp only
      rw [next_acc, add_apply, block_sum m c ⟨n + 1, h⟩ _ rfl _ rfl r l R L p]
      rfl

/-- What the last point of a run stores. -/
theorem out_eq (n : ℕ) (h : n < cfg0.N) (h1 : n % 8 = 7) (r : Fin 1024) (l : Fin 2048) (R : Fin 2048) (L : Fin 2048) (p : Here R L r l n) :
    (outsAt0 m c n h).1 (ix2 r l) = (∑ s ∈ range 8192, term m c R L s : EReal) := by
  have e := acc_eq m c n h r l R L p
  rw [outsAt0_C m c ⟨n, h⟩ (by dsimp only; omega) h1] at e ⊢
  dsimp only at e ⊢
  rw [last_acc] at e
  rw [last_out, store_apply, e, h1]

/-- The result array: at every row and column the sum over all positions. -/
theorem result (R : Fin 2048) (L : Fin 2048) : Value.G2 m c (ix2 R L) = (∑ s ∈ range 8192, term m c R L s : EReal) := by
  have hp : Value.pt2Of (ix2 R L) < cfg0.N := by
    show 8 * (1 * (R.val / 1024 - 0) + 1 * (L.val / 2048 - 0)) + 7 < 16
    omega
  unfold Value.G2
  rw [dif_pos hp]
  refine (congrFun (congrArg Prod.fst (Value.outsAt0_sweep m c _ hp)) _).symm.trans ?_
  rw [eq_ix2 (Value.loc2Of (ix2 R L))]
  refine out_eq m c _ hp ?_ _ _ R L ⟨?_, ?_⟩
  · show (8 * (1 * (R.val / 1024 - 0) + 1 * (L.val / 2048 - 0)) + 7) % 8 = 7; omega
  · show R.val = ((8 * (1 * (R.val / 1024 - 0) + 1 * (L.val / 2048 - 0)) + 7) / 8) * 1024 + R.val % 1024; omega
  · show L.val = 0 * 2048 + L.val % 2048; omega
end Point

/-! ## The host lines and the reference -/

section Host
variable (m : (ℓ : Loc nD τ sig) → Buf (Elt Ideal) ℓ) (c : Dev nD)

abbrev aa : FVec Ideal S8192x1024 .f32 := m ((c : Thread nD τ).loc main_arg0)
abbrev ab : FVec Ideal S8192x1024 .f32 := m ((c : Thread nD τ).loc main_arg1)
abbrev aga : FVec Ideal S1x1024 .f32 := m ((c : Thread nD τ).loc main_arg2)
abbrev agb : FVec Ideal S1x1024 .f32 := m ((c : Thread nD τ).loc main_arg3)
abbrev at' : FVec Ideal S8192x2048 .f32 := m ((c : Thread nD τ).loc main_arg4)

/-- The left factor is the reference's merged rows, the two attentions' normalised outputs side by side, -/
theorem V_rows : V m c main_v29 = (truncf .bf16 (Reference8Ideal.Read.val_main_v28 (F := Ideal) (aa m c) (ab m c) (aga m c) (agb m c) : FVec Ideal S8192x2048 .f32) bitsLt_bf16_f32 : FVec Ideal S8192x2048 .bf16) := by
  entry_read
  rfl

/-- The kernel's result is the reference's: the reference writes each product the other way round. -/
theorem result_eq : Value.G2 m c = Reference8Ideal.Read.val_main_v33 (F := Ideal) (aa m c) (ab m c) (aga m c) (agb m c) (at' m c) := by
  funext i
  obtain ⟨R, L, rfl⟩ : ∃ (R : Fin 2048) (L : Fin 2048), i = ix2 R L := ⟨i 0, i 1, eq_ix2 i⟩
  refine (result m c R L).trans (Eq.symm ?_)
  refine (Reference8Ideal.Read.val_main_v32_apply _ _ _ _ _ _).trans ((Reference8Ideal.Read.val_main_v31_apply _ _ _ _ _ _).trans ?_)
  rw [Finset.sum_range]
  refine Finset.sum_congr rfl fun s _ => ?_
  unfold term left right
  rw [dif_pos s.isLt, V_rows, V_main_arg4, mul_comm]
  generalize Reference8Ideal.Read.val_main_v28 (F := Ideal) (aa m c) (ab m c) (aga m c) (agb m c) = y
  rw [eq_ix2 (Reference8Ideal.Read.lidx_main_v31 _ s), eq_ix2 (Reference8Ideal.Read.ridx_main_v31 _ s)]
  rfl
end Host

end Cert.Proof.OutW

end
-- ==== Proof.Mm.DownF.lean ====
/-
  The down projection with the residual added: the blocks of the product, the result array, and the equality with the
  reference.
-/
module

public import proofs.«01_k».proof.Proof.Gen.Kernel9Ideal.Value
public import proofs.«01_k».proof.Proof.Gen.Reference9Ideal.Read
public import Idealize.ShloMosaic.Lib.Pipeline.ValueKit.Geometry
public import Idealize.ShloMosaic.Lib.Pipeline.ValueKit.Point
public import Idealize.ShloMosaic.Lib.Tactic
public import Idealize.ShloMosaic.Lib.Claim

@[expose] public section

set_option maxRecDepth 16384

noncomputable section

namespace Cert.Proof.DownF

open Idealize.ShloMosaic Cert.Kernel9Ideal Cert.Kernel9Ideal.Gen
open Idealize.ShloMosaic.TcCoe Idealize.ShloMosaic.Tactic
open Idealize.ShloMosaic.Pointwise
open scoped BigOperators

theorem off0 : (![0, 0] : Fin 2 → Nat) = fun _ => 0 := funext fun a => by fin_cases a <;> rfl

/-- A point of the grid stores its block's value. -/
theorem out_eq {F : FTy → Type} [FloatOps F] (x : Vec F S1024x5632 .bf16) (w : Vec F S5632x512 .bf16) (e : Vec F S1024x512 .f32) :
    out0_3 x w e = k0_pay1 x w e := by
  unfold out0_3
  rw [View.canon_unit_zero off0, View.ld_unit_zero (S := S1024x5632) off0, View.ld_unit_zero (S := S5632x512) off0, View.ld_unit_zero (S := S1024x512) off0]

theorem value_apply (x : Vec Ideal S1024x5632 .bf16) (w : Vec Ideal S5632x512 .bf16) (e : Vec Ideal S1024x512 .f32) (r : Fin 1024) (l : Fin 512) :
    k0_pay1 x w e (ix2 r l) = ((∑ s : Fin 5632, x (ix2 r s) * w (ix2 s l)) + e (ix2 r l) : EReal) := by
  pointwise [k0_pay1]

theorem idx_0 : ∀ t : Fin cfg0.N, win0_0.index t = ![t.val / 4, 0] := (by decide +kernel : ∀ t : Fin grid0.N, win0_0.index t = ![t.val / 4, 0])
theorem idx_1 : ∀ t : Fin cfg0.N, win0_1.index t = ![0, t.val % 4] := (by decide +kernel : ∀ t : Fin grid0.N, win0_1.index t = ![0, t.val % 4])
theorem idx_2 : ∀ t : Fin cfg0.N, win0_2.index t = ![t.val / 4, t.val % 4] := (by decide +kernel : ∀ t : Fin grid0.N, win0_2.index t = ![t.val / 4, t.val % 4])
theorem idx_3 : ∀ t : Fin cfg0.N, win0_3.index t = ![t.val / 4, t.val % 4] := (by decide +kernel : ∀ t : Fin grid0.N, win0_3.index t = ![t.val / 4, t.val % 4])

theorem lt_N (t : Fin cfg0.N) : t.val < 32 := t.isLt

section Point
variable (m : (ℓ : Loc nD τ sig) → Buf (Elt Ideal) ℓ) (c : Dev nD)

theorem read_0 (t : Fin cfg0.N) (r : Fin 1024) (s : Fin 5632) :
    iblk m c 0 t (ix2 r s) = V m c main_v0 (ix2 ⟨(t.val / 4) * 1024 + r.val, by have := lt_N t; omega⟩ s) := by
  blk_ext [iblk, idx_0 t]
theorem read_1 (t : Fin cfg0.N) (s : Fin 5632) (l : Fin 512) :
    iblk m c 1 t (ix2 s l) = V m c main_v1 (ix2 s ⟨(t.val % 4) * 512 + l.val, by omega⟩) := by
  blk_ext [iblk, idx_1 t]
theorem read_2 (t : Fin cfg0.N) (r : Fin 1024) (l : Fin 512) :
    iblk m c 2 t (ix2 r l) = V m c main_arg2 (ix2 ⟨(t.val / 4) * 1024 + r.val, by have := lt_N t; omega⟩ ⟨(t.val % 4) * 512 + l.val, by omega⟩) := by
  blk_ext [iblk, idx_2 t]

abbrev ah : FVec Ideal S8192x5632 .f32 := m ((c : Thread nD τ).loc main_arg0)
abbrev aw : FVec Ideal S5632x2048 .f32 := m ((c : Thread nD τ).loc main_arg1)
abbrev ax : FVec Ideal S8192x2048 .f32 := m ((c : Thread nD τ).loc main_arg2)

theorem V_h : V m c main_v0 = (truncf .bf16 (ah m c) bitsLt_bf16_f32 : FVec Ideal S8192x5632 .bf16) := by
  entry_read
  rfl
theorem V_w : V m c main_v1 = (truncf .bf16 (aw m c) bitsLt_bf16_f32 : FVec Ideal S5632x2048 .bf16) := by
  entry_read
  rfl

/-- The reference at a row and a column. -/
theorem ref_apply (R : Fin 8192) (L : Fin 2048) : Reference9Ideal.Read.val_main_v1 (F := Ideal) (ah m c) (aw m c) (ax m c) (ix2 R L) =
    (ax m c (ix2 R L) + ∑ s : Fin 5632, ah m c (ix2 R s) * aw m c (ix2 s L) : EReal) := by
  refine (Reference9Ideal.Read.val_main_v1_apply _ _ _ _).trans ?_
  refine congrArg (fun y => (ax m c (ix2 R L) + y : EReal)) ((Reference9Ideal.Read.val_main_v0_apply _ _ _).trans ?_)
  refine Finset.sum_congr rfl fun s _ => ?_
  rw [eq_ix2 (Reference9Ideal.Read.lidx_main_v0 _ s), eq_ix2 (Reference9Ideal.Read.ridx_main_v0 _ s)]
  rfl

/-- The kernel's result is the reference's. -/
theorem result_eq : (dats m 0 c).arrAt 3 cfg0.N = Reference9Ideal.Read.val_main_v1 (F := Ideal) (ah m c) (aw m c) (ax m c) := by
  refine (dats m 0 c).arrAt_eq_of_covers 3 _ (by decide +kernel) fun t hf y => ?_
  blk_simp
  rw [after0_3, out_eq]
  obtain ⟨r, l, rfl⟩ : ∃ (r : Fin 1024) (l : Fin 512), y = ix2 r l := ⟨y 0, y 1, eq_ix2 y⟩
  have e0 : ((win0_3.rect t).emb (ix2 r l) 0 : Nat) = t.val / 4 * 1024 + r.val := by
    rw [Pipeline.Window.rect_emb_val win0_3 t (ix2 r l) 0, idx_3]; rfl
  have e1 : ((win0_3.rect t).emb (ix2 r l) 1 : Nat) = t.val % 4 * 512 + l.val := by
    rw [Pipeline.Window.rect_emb_val win0_3 t (ix2 r l) 1, idx_3]; rfl
  have hR : t.val / 4 * 1024 + r.val < 8192 := by have := lt_N t; omega
  have hL : t.val % 4 * 512 + l.val < 2048 := by omega
  have ei : (win0_3.rect t).emb (ix2 r l) = ix2 (⟨_, hR⟩ : Fin 8192) (⟨_, hL⟩ : Fin 2048) := by
    rw [eq_ix2 ((win0_3.rect t).emb (ix2 r l))]
    exact congrArg₂ ix2 (Fin.ext e0) (Fin.ext e1)
  refine Eq.trans ?_ (congrArg _ ei.symm)
  refine Eq.trans ?_ (ref_apply m c ⟨_, hR⟩ ⟨_, hL⟩).symm
  refine (value_apply _ _ _ r l).trans ?_
  rw [add_comm]
  refine congrArg₂ (fun a b => (a + b : EReal)) ?_ (Finset.sum_congr rfl fun s _ => ?_)
  · rw [read_2, V_main_arg2]
  · rw [read_0, read_1, V_h, V_w]
    rfl
end Point

/-- The run, with the result array at the reference's value and the arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v2) = Reference9Ideal.Read.val_main_v1 (F := Ideal) (ah m c) (aw m c) (ax m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (Value.run_blocks m g)

end Cert.Proof.DownF

end
-- ==== Proof.Mm.UpV.lean ====
/-
  The up projection of the normalised rows: the blocks over the extended reals, the two result arrays, and the equality
  with the reference.
-/
module

public import proofs.«01_k».proof.Proof.Mm.UpF
public import proofs.«01_k».proof.Proof.Up.RowH
public import proofs.«01_k».proof.Proof.Gen.Reference10Ideal.Read
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.UpV

open Idealize.ShloMosaic Cert.Kernel10Ideal Cert.Kernel10Ideal.Gen
open Idealize.ShloMosaic.TcCoe Idealize.ShloMosaic.Tactic
open Idealize.ShloMosaic.Pointwise
open scoped BigOperators
open Cert.Proof.UpF (V iblk start hid dats after_3 after_4 V_arg)
open Cert.Proof.UpX (rootOf)

/-! ## The body's two values -/

/-- The normalised block: a row times its reciprocal root mean square, times the scale. -/
theorem norm_apply (x : Vec Ideal S1024x2048 .f32) (g : Vec Ideal S1x2048 .f32) (r : Fin 1024) (l : Fin 2048) :
    k0_pay1 x g (ix2 r l) = (x (ix2 r l) * (rootOf fun k => x (ix2 r k)) * g (ix2 0 l) : EReal) := by
  unfold rootOf
  pointwise [k0_pay1]

/-- The product's block. -/
theorem product_apply (h : Vec Ideal S1024x2048 .bf16) (w : Vec Ideal S2048x1024 .bf16) (r : Fin 1024) (l : Fin 1024) :
    k0_pay2 h w (ix2 r l) = (∑ s : Fin 2048, h (ix2 r s) * w (ix2 s l) : EReal) := by
  pointwise [k0_pay2]

/-! ## The blocks -/

theorem idx_0 : ∀ t : Fin cfg0.N, win0_0.index t = ![t.val / 11, 0] := (by decide +kernel : ∀ t : Fin grid0.N, win0_0.index t = ![t.val / 11, 0])
theorem idx_1 : ∀ t : Fin cfg0.N, win0_1.index t = ![0, 0] := (by decide +kernel : ∀ t : Fin grid0.N, win0_1.index t = ![0, 0])
theorem idx_2 : ∀ t : Fin cfg0.N, win0_2.index t = ![0, t.val % 11] := (by decide +kernel : ∀ t : Fin grid0.N, win0_2.index t = ![0, t.val % 11])
theorem idx_3 : ∀ t : Fin cfg0.N, win0_3.index t = ![t.val / 11, t.val % 11] := (by decide +kernel : ∀ t : Fin grid0.N, win0_3.index t = ![t.val / 11, t.val % 11])
theorem idx_4 : ∀ t : Fin cfg0.N, win0_4.index t = ![t.val / 11, 0] := (by decide +kernel : ∀ t : Fin grid0.N, win0_4.index t = ![t.val / 11, 0])

theorem lt_N (t : Fin cfg0.N) : t.val < 88 := t.isLt

/-- The rows of a point are those of its run's first point. -/
theorem start_div (t : Fin cfg0.N) : (start t).val / 11 = t.val / 11 := show t.val / 11 * 11 / 11 = t.val / 11 by omega

section Point
variable (m : (ℓ : Loc nD τ sig) → Buf (Elt Ideal) ℓ) (c : Dev nD)

theorem read_0 (t : Fin cfg0.N) (r : Fin 1024) (s : Fin 2048) :
    iblk m c 0 t (ix2 r s) = V m c main_arg0 (ix2 ⟨(t.val / 11) * 1024 + r.val, by have := lt_N t; omega⟩ s) := by
  blk_ext [iblk, idx_0 t]
theorem read_1 (t : Fin cfg0.N) (l : Fin 2048) : iblk m c 1 t (ix2 0 l) = V m c main_arg1 (ix2 0 l) := by
  blk_ext [iblk, idx_1 t]
theorem read_2 (t : Fin cfg0.N) (s : Fin 2048) (l : Fin 1024) :
    iblk m c 2 t (ix2 s l) = V m c main_v0 (ix2 s ⟨(t.val % 11) * 1024 + l.val, by omega⟩) := by
  blk_ext [iblk, idx_2 t]

abbrev ax : FVec Ideal S8192x2048 .f32 := m ((c : Thread nD τ).loc main_arg0)
abbrev ag : FVec Ideal S1x2048 .f32 := m ((c : Thread nD τ).loc main_arg1)
abbrev aw : FVec Ideal S2048x11264 .f32 := m ((c : Thread nD τ).loc main_arg2)

theorem V_w : V m c main_v0 = (truncf .bf16 (aw m c) bitsLt_bf16_f32 : FVec Ideal S2048x11264 .bf16) := by
  entry_read
  rfl

/-- A row of the normalised array. -/
def normed (x : FVec Ideal S8192x2048 .f32) (g : FVec Ideal S1x2048 .f32) (R : Fin 8192) (l : Fin 2048) : EReal :=
  x (ix2 R l) * (rootOf fun k => x (ix2 R k)) * g (ix2 0 l)

/-- The block stored at the first point of a run, at every point of it. -/
theorem hid_apply (t : Fin cfg0.N) (r : Fin 1024) (l : Fin 2048) (hR : t.val / 11 * 1024 + r.val < 8192) :
    hid m c t (ix2 r l) = normed (ax m c) (ag m c) ⟨t.val / 11 * 1024 + r.val, hR⟩ l := by
  have e : ∀ k : Fin 2048, iblk m c 0 (start t) (ix2 r k) = ax m c (ix2 ⟨t.val / 11 * 1024 + r.val, hR⟩ k) := fun k => by
    rw [read_0, V_arg m c main_arg0 (by decide)]
    exact congrArg (fun R => ax m c (ix2 R k)) (Fin.ext (congrArg (fun q => q * 1024 + r.val) (start_div t)))
  refine (norm_apply _ _ r l).trans ?_
  rw [read_1, V_arg m c main_arg1 (by decide)]
  simp only [e]
  rfl

/-! ## The reference -/

theorem ref_scale (x : FVec Ideal S1x2048 .f32) (i : S8192x2048.Idx) : Reference10Ideal.Read.val_main_v12 (F := Ideal) x i = x (ix2 0 (i 1)) :=
  UpX.ref_scale x i

theorem ref_unit (x : FVec Ideal S8192x2048 .f32) (i : S8192x2048.Idx) :
    Reference10Ideal.Read.val_main_v10 (F := Ideal) x i = (x (ix2 (i 0) (i 1)) * rootOf fun k => x (ix2 (i 0) k) : EReal) :=
  UpX.ref_unit x i

theorem ref_norm (x : FVec Ideal S8192x2048 .f32) (g : FVec Ideal S1x2048 .f32) (i : S8192x2048.Idx) :
    Reference10Ideal.Read.val_main_v13 (F := Ideal) x g i = normed x g (i 0) (i 1) := by
  rw [Reference10Ideal.Read.val_main_v13_apply, ref_unit, ref_scale]
  rfl

theorem ref_hidden (R : Fin 8192) (l : Fin 2048) : Reference10Ideal.Read.val_main_v15 (F := Ideal) (ax m c) (ag m c) (ix2 R l) =
    normed (ax m c) (ag m c) R l :=
  (Reference10Ideal.Read.val_main_v15_apply _ _ _).trans (ref_norm (ax m c) (ag m c) (ix2 R l))

theorem ref_product (R : Fin 8192) (L : Fin 11264) : Reference10Ideal.Read.val_main_v14 (F := Ideal) (ax m c) (ag m c) (aw m c) (ix2 R L) =
    (∑ s : Fin 2048, normed (ax m c) (ag m c) R s * aw m c (ix2 s L) : EReal) := by
  refine (Reference10Ideal.Read.val_main_v14_apply _ _ _ _).trans ?_
  refine Finset.sum_congr rfl fun s _ => ?_
  rw [ref_norm, eq_ix2 (Reference10Ideal.Read.ridx_main_v14 _ s)]
  rfl

/-! ## The two results -/

/-- The kernel's product is the reference's. -/
theorem product_eq : (dats m 0 c).arrAt 3 cfg0.N = Reference10Ideal.Read.val_main_v14 (F := Ideal) (ax m c) (ag m c) (aw m c) := by
  refine (dats m 0 c).arrAt_eq_of_covers 3 _ (by decide +kernel) fun t hf y => ?_
  blk_simp
  rw [after_3]
  obtain ⟨r, l, rfl⟩ : ∃ (r : Fin 1024) (l : Fin 1024), y = ix2 r l := ⟨y 0, y 1, eq_ix2 y⟩
  have e0 : ((win0_3.rect t).emb (ix2 r l) 0 : Nat) = t.val / 11 * 1024 + r.val := by
    rw [Pipeline.Window.rect_emb_val win0_3 t (ix2 r l) 0, idx_3]; rfl
  have e1 : ((win0_3.rect t).emb (ix2 r l) 1 : Nat) = t.val % 11 * 1024 + l.val := by
    rw [Pipeline.Window.rect_emb_val win0_3 t (ix2 r l) 1, idx_3]; rfl
  have hR : t.val / 11 * 1024 + r.val < 8192 := by have := lt_N t; omega
  have hL : t.val % 11 * 1024 + l.val < 11264 := by omega
  have ei : (win0_3.rect t).emb (ix2 r l) = ix2 (⟨_, hR⟩ : Fin 8192) (⟨_, hL⟩ : Fin 11264) := by
    rw [eq_ix2 ((win0_3.rect t).emb (ix2 r l))]
    exact congrArg₂ ix2 (Fin.ext e0) (Fin.ext e1)
  refine Eq.trans ?_ (congrArg _ ei.symm)
  refine Eq.trans ?_ (ref_product m c ⟨_, hR⟩ ⟨_, hL⟩).symm
  refine (product_apply _ _ r l).trans ?_
  refine Finset.sum_congr rfl fun s _ => ?_
  rw [hid_apply m c t r s hR, read_2, V_w]
  rfl

/-- The kernel's normalised rows are the reference's. -/
theorem hidden_eq : (dats m 0 c).arrAt 4 cfg0.N = Reference10Ideal.Read.val_main_v15 (F := Ideal) (ax m c) (ag m c) := by
  refine (dats m 0 c).arrAt_eq_of_covers 4 _ (by decide +kernel) fun t hf y => ?_
  blk_simp
  rw [after_4]
  obtain ⟨r, l, rfl⟩ : ∃ (r : Fin 1024) (l : Fin 2048), y = ix2 r l := ⟨y 0, y 1, eq_ix2 y⟩
  have e0 : ((win0_4.rect t).emb (ix2 r l) 0 : Nat) = t.val / 11 * 1024 + r.val := by
    rw [Pipeline.Window.rect_emb_val win0_4 t (ix2 r l) 0, idx_4]; rfl
  have e1 : ((win0_4.rect t).emb (ix2 r l) 1 : Nat) = l.val := by
    rw [Pipeline.Window.rect_emb_val win0_4 t (ix2 r l) 1, idx_4]
    exact Nat.zero_add _
  have hR : t.val / 11 * 1024 + r.val < 8192 := by have := lt_N t; omega
  have ei : (win0_4.rect t).emb (ix2 r l) = ix2 (⟨_, hR⟩ : Fin 8192) l := by
    rw [eq_ix2 ((win0_4.rect t).emb (ix2 r l))]
    exact congrArg₂ ix2 (Fin.ext e0) (Fin.ext e1)
  refine Eq.trans ?_ (congrArg _ ei.symm)
  exact (hid_apply m c t r l hR).trans (ref_hidden m c ⟨_, hR⟩ l).symm
end Point

/-- The run, with the two result arrays at the reference's values and the arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v1_0) = Reference10Ideal.Read.val_main_v14 (F := Ideal) (ax m c) (ag m c) (aw m c)
      ∧ r.2.mem ((c : Thread nD τ).loc main_v1_1) = Reference10Ideal.Read.val_main_v15 (F := Ideal) (ax m c) (ag m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1.1.trans (product_eq m c), (h.1 c).1.2.trans (hidden_eq m c), (h.1 c).2⟩) (UpF.run_arrays m g)

end Cert.Proof.UpV

end
-- ==== Proof.Mm.InV.lean ====
/-
  The input projection of the normalised rows: the blocks over the extended reals, the two result arrays, and the equality
  with the reference.
-/
module

public import proofs.«01_k».proof.Proof.Mm.InF
public import proofs.«01_k».proof.Proof.Mm.UpV
public import proofs.«01_k».proof.Proof.Gen.Reference11Ideal.Read
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.InV

open Idealize.ShloMosaic Cert.Kernel11Ideal Cert.Kernel11Ideal.Gen
open Idealize.ShloMosaic.TcCoe Idealize.ShloMosaic.Tactic
open Idealize.ShloMosaic.Pointwise
open scoped BigOperators
open Cert.Proof.InF (V iblk start hid dats after_3 after_4 V_arg)
open Cert.Proof.UpX (rootOf)
open Cert.Proof.UpV (normed)

/-! ## The body's two values -/

/-- The normalised block: a row times its reciprocal root mean square, times the scale. -/
theorem norm_apply (x : Vec Ideal S1024x2048 .f32) (g : Vec Ideal S1x2048 .f32) (r : Fin 1024) (l : Fin 2048) :
    k0_pay1 x g (ix2 r l) = (x (ix2 r l) * (rootOf fun k => x (ix2 r k)) * g (ix2 0 l) : EReal) :=
  UpV.norm_apply x g r l

/-- The product's block. -/
theorem product_apply (h : Vec Ideal S1024x2048 .bf16) (w : Vec Ideal S2048x896 .bf16) (r : Fin 1024) (l : Fin 896) :
    k0_pay2 h w (ix2 r l) = (∑ s : Fin 2048, h (ix2 r s) * w (ix2 s l) : EReal) := by
  pointwise [k0_pay2]

/-! ## The blocks -/

theorem idx_0 : ∀ t : Fin cfg0.N, win0_0.index t = ![t.val / 7, 0] := (by decide +kernel : ∀ t : Fin grid0.N, win0_0.index t = ![t.val / 7, 0])
theorem idx_1 : ∀ t : Fin cfg0.N, win0_1.index t = ![0, 0] := (by decide +kernel : ∀ t : Fin grid0.N, win0_1.index t = ![0, 0])
theorem idx_2 : ∀ t : Fin cfg0.N, win0_2.index t = ![0, t.val % 7] := (by decide +kernel : ∀ t : Fin grid0.N, win0_2.index t = ![0, t.val % 7])
theorem idx_3 : ∀ t : Fin cfg0.N, win0_3.index t = ![t.val / 7, t.val % 7] := (by decide +kernel : ∀ t : Fin grid0.N, win0_3.index t = ![t.val / 7, t.val % 7])
theorem idx_4 : ∀ t : Fin cfg0.N, win0_4.index t = ![t.val / 7, 0] := (by decide +kernel : ∀ t : Fin grid0.N, win0_4.index t = ![t.val / 7, 0])

theorem lt_N (t : Fin cfg0.N) : t.val < 56 := t.isLt

/-- The rows of a point are those of its run's first point. -/
theorem start_div (t : Fin cfg0.N) : (start t).val / 7 = t.val / 7 := show t.val / 7 * 7 / 7 = t.val / 7 by omega

section Point
variable (m : (ℓ : Loc nD τ sig) → Buf (Elt Ideal) ℓ) (c : Dev nD)

theorem read_0 (t : Fin cfg0.N) (r : Fin 1024) (s : Fin 2048) :
    iblk m c 0 t (ix2 r s) = V m c main_arg0 (ix2 ⟨(t.val / 7) * 1024 + r.val, by have := lt_N t; omega⟩ s) := by
  blk_ext [iblk, idx_0 t]
theorem read_1 (t : Fin cfg0.N) (l : Fin 2048) : iblk m c 1 t (ix2 0 l) = V m c main_arg1 (ix2 0 l) := by
  blk_ext [iblk, idx_1 t]
theorem read_2 (t : Fin cfg0.N) (s : Fin 2048) (l : Fin 896) :
    iblk m c 2 t (ix2 s l) = V m c main_v0 (ix2 s ⟨(t.val % 7) * 896 + l.val, by omega⟩) := by
  blk_ext [iblk, idx_2 t]

abbrev ax : FVec Ideal S8192x2048 .f32 := m ((c : Thread nD τ).loc main_arg0)
abbrev ag : FVec Ideal S1x2048 .f32 := m ((c : Thread nD τ).loc main_arg1)
abbrev aw : FVec Ideal S2048x6272 .f32 := m ((c : Thread nD τ).loc main_arg2)

theorem V_w : V m c main_v0 = (truncf .bf16 (aw m c) bitsLt_bf16_f32 : FVec Ideal S2048x6272 .bf16) := by
  entry_read
  rfl

/-- The block stored at the first point of a run, at every point of it. -/
theorem hid_apply (t : Fin cfg0.N) (r : Fin 1024) (l : Fin 2048) (hR : t.val / 7 * 1024 + r.val < 8192) :
    hid m c t (ix2 r l) = normed (ax m c) (ag m c) ⟨t.val / 7 * 1024 + r.val, hR⟩ l := by
  have e : ∀ k : Fin 2048, iblk m c 0 (start t) (ix2 r k) = ax m c (ix2 ⟨t.val / 7 * 1024 + r.val, hR⟩ k) := fun k => by
    rw [read_0, V_arg m c main_arg0 (by decide)]
    exact congrArg (fun R => ax m c (ix2 R k)) (Fin.ext (congrArg (fun q => q * 1024 + r.val) (start_div t)))
  refine (norm_apply _ _ r l).trans ?_
  rw [read_1, V_arg m c main_arg1 (by decide)]
  simp only [e]
  rfl

/-! ## The reference -/

theorem ref_norm (x : FVec Ideal S8192x2048 .f32) (g : FVec Ideal S1x2048 .f32) (i : S8192x2048.Idx) :
    Reference11Ideal.Read.val_main_v13 (F := Ideal) x g i = normed x g (i 0) (i 1) :=
  UpV.ref_norm x g i

theorem ref_hidden (R : Fin 8192) (l : Fin 2048) : Reference11Ideal.Read.val_main_v15 (F := Ideal) (ax m c) (ag m c) (ix2 R l) =
    normed (ax m c) (ag m c) R l :=
  (Reference11Ideal.Read.val_main_v15_apply _ _ _).trans (ref_norm (ax m c) (ag m c) (ix2 R l))

theorem ref_product (R : Fin 8192) (L : Fin 6272) : Reference11Ideal.Read.val_main_v14 (F := Ideal) (ax m c) (ag m c) (aw m c) (ix2 R L) =
    (∑ s : Fin 2048, normed (ax m c) (ag m c) R s * aw m c (ix2 s L) : EReal) := by
  refine (Reference11Ideal.Read.val_main_v14_apply _ _ _ _).trans ?_
  refine Finset.sum_congr rfl fun s _ => ?_
  rw [ref_norm, eq_ix2 (Reference11Ideal.Read.ridx_main_v14 _ s)]
  rfl

/-! ## The two results -/

/-- The kernel's product is the reference's. -/
theorem product_eq : (dats m 0 c).arrAt 3 cfg0.N = Reference11Ideal.Read.val_main_v14 (F := Ideal) (ax m c) (ag m c) (aw m c) := by
  refine (dats m 0 c).arrAt_eq_of_covers 3 _ (by decide +kernel) fun t hf y => ?_
  blk_simp
  rw [after_3]
  obtain ⟨r, l, rfl⟩ : ∃ (r : Fin 1024) (l : Fin 896), y = ix2 r l := ⟨y 0, y 1, eq_ix2 y⟩
  have e0 : ((win0_3.rect t).emb (ix2 r l) 0 : Nat) = t.val / 7 * 1024 + r.val := by
    rw [Pipeline.Window.rect_emb_val win0_3 t (ix2 r l) 0, idx_3]; rfl
  have e1 : ((win0_3.rect t).emb (ix2 r l) 1 : Nat) = t.val % 7 * 896 + l.val := by
    rw [Pipeline.Window.rect_emb_val win0_3 t (ix2 r l) 1, idx_3]; rfl
  have hR : t.val / 7 * 1024 + r.val < 8192 := by have := lt_N t; omega
  have hL : t.val % 7 * 896 + l.val < 6272 := by omega
  have ei : (win0_3.rect t).emb (ix2 r l) = ix2 (⟨_, hR⟩ : Fin 8192) (⟨_, hL⟩ : Fin 6272) := by
    rw [eq_ix2 ((win0_3.rect t).emb (ix2 r l))]
    exact congrArg₂ ix2 (Fin.ext e0) (Fin.ext e1)
  refine Eq.trans ?_ (congrArg _ ei.symm)
  refine Eq.trans ?_ (ref_product m c ⟨_, hR⟩ ⟨_, hL⟩).symm
  refine (product_apply _ _ r l).trans ?_
  refine Finset.sum_congr rfl fun s _ => ?_
  rw [hid_apply m c t r s hR, read_2, V_w]
  rfl

/-- The kernel's normalised rows are the reference's. -/
theorem hidden_eq : (dats m 0 c).arrAt 4 cfg0.N = Reference11Ideal.Read.val_main_v15 (F := Ideal) (ax m c) (ag m c) := by
  refine (dats m 0 c).arrAt_eq_of_covers 4 _ (by decide +kernel) fun t hf y => ?_
  blk_simp
  rw [after_4]
  obtain ⟨r, l, rfl⟩ : ∃ (r : Fin 1024) (l : Fin 2048), y = ix2 r l := ⟨y 0, y 1, eq_ix2 y⟩
  have e0 : ((win0_4.rect t).emb (ix2 r l) 0 : Nat) = t.val / 7 * 1024 + r.val := by
    rw [Pipeline.Window.rect_emb_val win0_4 t (ix2 r l) 0, idx_4]; rfl
  have e1 : ((win0_4.rect t).emb (ix2 r l) 1 : Nat) = l.val := by
    rw [Pipeline.Window.rect_emb_val win0_4 t (ix2 r l) 1, idx_4]
    exact Nat.zero_add _
  have hR : t.val / 7 * 1024 + r.val < 8192 := by have := lt_N t; omega
  have ei : (win0_4.rect t).emb (ix2 r l) = ix2 (⟨_, hR⟩ : Fin 8192) l := by
    rw [eq_ix2 ((win0_4.rect t).emb (ix2 r l))]
    exact congrArg₂ ix2 (Fin.ext e0) (Fin.ext e1)
  refine Eq.trans ?_ (congrArg _ ei.symm)
  exact (hid_apply m c t r l hR).trans (ref_hidden m c ⟨_, hR⟩ l).symm
end Point

/-- The run, with the two result arrays at the reference's values and the arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v1_0) = Reference11Ideal.Read.val_main_v14 (F := Ideal) (ax m c) (ag m c) (aw m c)
      ∧ r.2.mem ((c : Thread nD τ).loc main_v1_1) = Reference11Ideal.Read.val_main_v15 (F := Ideal) (ax m c) (ag m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1.1.trans (product_eq m c), (h.1 c).1.2.trans (hidden_eq m c), (h.1 c).2⟩) (InF.run_arrays m g)

end Cert.Proof.InV

end
-- ==== Proof.Mm.OutV.lean ====
/-
  The output projection of the two groups of normalised rows: the blocks over the extended reals, the two result arrays, and the equality
  with the reference.
-/
module

public import proofs.«01_k».proof.Proof.Mm.OutF
public import proofs.«01_k».proof.Proof.Gen.Reference12Ideal.Read
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.OutV

open Idealize.ShloMosaic Cert.Kernel12Ideal Cert.Kernel12Ideal.Gen
open Idealize.ShloMosaic.TcCoe Idealize.ShloMosaic.Tactic
open Idealize.ShloMosaic.Pointwise
open scoped BigOperators
open Cert.Proof.OutF (V iblk start hid joined dats after_6 after_7 V_arg)

/-! ## The body's values -/

/-- A row's reciprocal root mean square. -/
def rootOf (y : Fin 1024 → EReal) : EReal :=
  Ideal.rsqrt (Ideal.div (∑ k, y k * y k) (Ideal.ofBits .f32 0x44800000#32) + Ideal.ofBits .f32 0x358637BD#32)

/-- A normalised block: a row times its reciprocal root mean square, times the scale. -/
theorem norm_apply (x : Vec Ideal S1024x1024 .f32) (g : Vec Ideal S1x1024 .f32) (r : Fin 1024) (l : Fin 1024) :
    k0_pay1 x g (ix2 r l) = (x (ix2 r l) * (rootOf fun k => x (ix2 r k)) * g (ix2 0 l) : EReal) := by
  unfold rootOf
  pointwise [k0_pay1]

/-- The other one is the same function of its rows and its scale. -/
theorem norm_same (x : Vec Ideal S1024x1024 .f32) (g : Vec Ideal S1x1024 .f32) : k0_pay2 x g = k0_pay1 x g := rfl

/-- The product's block, the residual added. -/
theorem product_apply (h : Vec Ideal S1024x2048 .bf16) (w : Vec Ideal S2048x1024 .bf16) (x : Vec Ideal S1024x1024 .f32) (r : Fin 1024) (l : Fin 1024) :
    k0_pay3 h w x (ix2 r l) = ((∑ s : Fin 2048, h (ix2 r s) * w (ix2 s l)) + x (ix2 r l) : EReal) := by
  pointwise [k0_pay3]

/-! ## The blocks -/

theorem idx_0 : ∀ t : Fin cfg0.N, win0_0.index t = ![t.val / 2, 0] := (by decide +kernel : ∀ t : Fin grid0.N, win0_0.index t = ![t.val / 2, 0])
theorem idx_1 : ∀ t : Fin cfg0.N, win0_1.index t = ![t.val / 2, 0] := (by decide +kernel : ∀ t : Fin grid0.N, win0_1.index t = ![t.val / 2, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, t.val % 2] := (by decide +kernel : ∀ t : Fin grid0.N, win0_4.index t = ![0, t.val % 2])
theorem idx_5 : ∀ t : Fin cfg0.N, win0_5.index t = ![t.val / 2, t.val % 2] := (by decide +kernel : ∀ t : Fin grid0.N, win0_5.index t = ![t.val / 2, t.val % 2])
theorem idx_6 : ∀ t : Fin cfg0.N, win0_6.index t = ![t.val / 2, t.val % 2] := (by decide +kernel : ∀ t : Fin grid0.N, win0_6.index t = ![t.val / 2, t.val % 2])
theorem idx_7 : ∀ t : Fin cfg0.N, win0_7.index t = ![t.val / 2, 0] := (by decide +kernel : ∀ t : Fin grid0.N, win0_7.index t = ![t.val / 2, 0])

theorem lt_N (t : Fin cfg0.N) : t.val < 16 := t.isLt

/-- The rows of a point are those of its run's first point. -/
theorem start_div (t : Fin cfg0.N) : (start t).val / 2 = t.val / 2 := show t.val / 2 * 2 / 2 = t.val / 2 by omega

section Point
variable (m : (ℓ : Loc nD τ sig) → Buf (Elt Ideal) ℓ) (c : Dev nD)

theorem read_0 (t : Fin cfg0.N) (r : Fin 1024) (s : Fin 1024) :
    iblk m c 0 t (ix2 r s) = V m c main_arg0 (ix2 ⟨(t.val / 2) * 1024 + r.val, by have := lt_N t; omega⟩ s) := by
  blk_ext [iblk, idx_0 t]
theorem read_1 (t : Fin cfg0.N) (r : Fin 1024) (s : Fin 1024) :
    iblk m c 1 t (ix2 r s) = V m c main_arg1 (ix2 ⟨(t.val / 2) * 1024 + r.val, by have := lt_N t; omega⟩ s) := by
  blk_ext [iblk, idx_1 t]
theorem read_2 (t : Fin cfg0.N) (l : Fin 1024) : iblk m c 2 t (ix2 0 l) = V m c main_arg2 (ix2 0 l) := by
  blk_ext [iblk, idx_2 t]
theorem read_3 (t : Fin cfg0.N) (l : Fin 1024) : iblk m c 3 t (ix2 0 l) = V m c main_arg3 (ix2 0 l) := by
  blk_ext [iblk, idx_3 t]
theorem read_4 (t : Fin cfg0.N) (s : Fin 2048) (l : Fin 1024) :
    iblk m c 4 t (ix2 s l) = V m c main_v0 (ix2 s ⟨(t.val % 2) * 1024 + l.val, by omega⟩) := by
  blk_ext [iblk, idx_4 t]
theorem read_5 (t : Fin cfg0.N) (r : Fin 1024) (l : Fin 1024) :
    iblk m c 5 t (ix2 r l) = V m c main_arg5 (ix2 ⟨(t.val / 2) * 1024 + r.val, by have := lt_N t; omega⟩ ⟨(t.val % 2) * 1024 + l.val, by omega⟩) := by
  blk_ext [iblk, idx_5 t]

abbrev aa : FVec Ideal S8192x1024 .f32 := m ((c : Thread nD τ).loc main_arg0)
abbrev ab : FVec Ideal S8192x1024 .f32 := m ((c : Thread nD τ).loc main_arg1)
abbrev aga : FVec Ideal S1x1024 .f32 := m ((c : Thread nD τ).loc main_arg2)
abbrev agb : FVec Ideal S1x1024 .f32 := m ((c : Thread nD τ).loc main_arg3)
abbrev aw : FVec Ideal S2048x2048 .f32 := m ((c : Thread nD τ).loc main_arg4)
abbrev ax : FVec Ideal S8192x2048 .f32 := m ((c : Thread nD τ).loc main_arg5)

theorem V_w : V m c main_v0 = (truncf .bf16 (aw m c) bitsLt_bf16_f32 : FVec Ideal S2048x2048 .bf16) := by
  entry_read
  rfl

/-- A row of a normalised array. -/
def normed (x : FVec Ideal S8192x1024 .f32) (g : FVec Ideal S1x1024 .f32) (R : Fin 8192) (l : Fin 1024) : EReal :=
  x (ix2 R l) * (rootOf fun k => x (ix2 R k)) * g (ix2 0 l)

/-- A row of the two of them side by side. -/
def both (a b : FVec Ideal S8192x1024 .f32) (ga gb : FVec Ideal S1x1024 .f32) (R : Fin 8192) (l : Fin 2048) : EReal :=
  if h : l.val < 1024 then normed a ga R ⟨l.val, h⟩ else normed b gb R ⟨l.val - 1024, by omega⟩

theorem both_left (a b : FVec Ideal S8192x1024 .f32) (ga gb : FVec Ideal S1x1024 .f32) (R : Fin 8192) (l : Fin 2048) (h : l.val < 1024) :
    both a b ga gb R l = normed a ga R ⟨l.val, h⟩ := by
  unfold both
  exact dif_pos h
theorem both_right (a b : FVec Ideal S8192x1024 .f32) (ga gb : FVec Ideal S1x1024 .f32) (R : Fin 8192) (l : Fin 2048) (h : ¬l.val < 1024) :
    both a b ga gb R l = normed b gb R ⟨l.val - 1024, by omega⟩ := by
  unfold both
  exact dif_neg h

theorem first_apply (t : Fin cfg0.N) (r : Fin 1024) (l : Fin 1024) (hR : t.val / 2 * 1024 + r.val < 8192) :
    k0_pay1 (iblk m c 0 (start t)) (iblk m c 2 (start t)) (ix2 r l) = normed (aa m c) (aga m c) ⟨t.val / 2 * 1024 + r.val, hR⟩ l := by
  have e : ∀ k : Fin 1024, iblk m c 0 (start t) (ix2 r k) = aa m c (ix2 ⟨t.val / 2 * 1024 + r.val, hR⟩ k) := fun k => by
    rw [read_0, V_arg m c main_arg0 (by decide)]
    exact congrArg (fun R => aa m c (ix2 R k)) (Fin.ext (congrArg (fun q => q * 1024 + r.val) (start_div t)))
  refine (norm_apply _ _ r l).trans ?_
  rw [read_2, V_arg m c main_arg2 (by decide)]
  simp only [e]
  rfl

theorem second_apply (t : Fin cfg0.N) (r : Fin 1024) (l : Fin 1024) (hR : t.val / 2 * 1024 + r.val < 8192) :
    k0_pay2 (iblk m c 1 (start t)) (iblk m c 3 (start t)) (ix2 r l) = normed (ab m c) (agb m c) ⟨t.val / 2 * 1024 + r.val, hR⟩ l := by
  have e : ∀ k : Fin 1024, iblk m c 1 (start t) (ix2 r k) = ab m c (ix2 ⟨t.val / 2 * 1024 + r.val, hR⟩ k) := fun k => by
    rw [read_1, V_arg m c main_arg1 (by decide)]
    exact congrArg (fun R => ab m c (ix2 R k)) (Fin.ext (congrArg (fun q => q * 1024 + r.val) (start_div t)))
  rw [norm_same]
  refine (norm_apply _ _ r l).trans ?_
  rw [read_3, V_arg m c main_arg3 (by decide)]
  simp only [e]
  rfl

/-- The block stored at the first point of a run, at every point of it. -/
theorem hid_apply (t : Fin cfg0.N) (r : Fin 1024) (l : Fin 2048) (hR : t.val / 2 * 1024 + r.val < 8192) :
    hid m c t (ix2 r l) = both (aa m c) (ab m c) (aga m c) (agb m c) ⟨t.val / 2 * 1024 + r.val, hR⟩ l := by
  by_cases hl : l.val < 1024
  · exact (dif_pos hl).trans ((first_apply m c t r ⟨l.val, hl⟩ hR).trans (both_left _ _ _ _ _ l hl).symm)
  · exact (dif_neg hl).trans ((second_apply m c t r ⟨l.val - 1024, by omega⟩ hR).trans (both_right _ _ _ _ _ l hl).symm)

/-! ## The reference -/

section Reference
open Cert.Reference12Ideal.Read

theorem ref_root (x : FVec Ideal S8192x1024 .f32) (i : Reference12Ideal.S8192x1.Idx) : val_main_v8 (F := Ideal) x i = rootOf fun k => x (ix2 (i 0) k) := by
  have e2 : val_main_v2 (F := Ideal) x (idx_main_v3 i) = (∑ k, x (ix2 (i 0) k) * x (ix2 (i 0) k) : EReal) := by
    rw [val_main_v2_apply]
    refine (congrArg (· + _) (?_ : val_main_cst (F := Ideal) _ = (0 : EReal))).trans ((zero_add _).trans ?_)
    · exact Ideal.ofBits_zero .f32
    · refine Finset.sum_congr rfl fun k _ => ?_
      rw [eq_ix2 (idx_main_v2 _ k)]
      rfl
  unfold rootOf
  rw [← e2]
  rw [val_main_v8_apply, val_main_v7_apply, val_main_v5_apply, val_main_v3_apply, val_main_v4_apply, val_main_v6_apply]
  rfl

theorem ref_scale (x : FVec Ideal S1x1024 .f32) (i : S8192x1024.Idx) : val_main_v12 (F := Ideal) x i = x (ix2 0 (i 1)) := by
  rw [val_main_v12_apply, val_main_v11_apply, val_main_v0_apply, eq_ix2 (idx_main_v0 _)]
  refine congrArg₂ (fun a b => (x (ix2 a b) : EReal)) (Subsingleton.elim (α := Fin 1) _ _) (Fin.ext ?_)
  exact Nat.mod_eq_of_lt (i 1).isLt

theorem ref_norm (x : FVec Ideal S8192x1024 .f32) (g : FVec Ideal S1x1024 .f32) (i : S8192x1024.Idx) :
    val_main_v13 (F := Ideal) x g i = normed x g (i 0) (i 1) := by
  rw [val_main_v13_apply, ref_scale, val_main_v10_apply, val_main_v9_apply, ref_root]
  exact congrArg₂ (fun a b => (x a * b * g (ix2 0 (i 1)) : EReal)) (eq_ix2 i) rfl

/-- The second group's rows are the same function of theirs. -/
theorem ref_same (x : FVec Ideal S8192x1024 .f32) (g : FVec Ideal S1x1024 .f32) :
    val_main_v27 (F := Ideal) x g = val_main_v13 (F := Ideal) x g := rfl

theorem ref_both (a b : FVec Ideal S8192x1024 .f32) (ga gb : FVec Ideal S1x1024 .f32) (R : Fin 8192) (l : Fin 2048) :
    val_main_v28 (F := Ideal) a b ga gb (ix2 R l) = both a b ga gb R l := by
  unfold val_main_v28
  by_cases hl : l.val < 1024
  · refine (concatenate_pair_apply_left (t := S8192x2048) (s₁ := S8192x1024) (s₂ := S8192x1024) 1 _ _ _ (ix2 R l) rfl
      (ix2 R (⟨l.val, hl⟩ : Fin 1024)) fun q => by match q with | ⟨0, _⟩ => rfl | ⟨1, _⟩ => rfl).trans ?_
    exact (ref_norm a ga _).trans (both_left _ _ _ _ _ l hl).symm
  · refine (concatenate_pair_apply_right (t := S8192x2048) (s₁ := S8192x1024) (s₂ := S8192x1024) 1 _ _ _ (ix2 R l) rfl rfl
      (ix2 R (⟨l.val - 1024, by omega⟩ : Fin 1024)) (fun q hq => by match q with | ⟨0, _⟩ => rfl | ⟨1, _⟩ => exact absurd rfl hq)
      (show l.val - 1024 + 1024 = l.val by omega)).trans ?_
    rw [ref_same]
    exact (ref_norm b gb _).trans (both_right _ _ _ _ _ l hl).symm

theorem ref_hidden (R : Fin 8192) (l : Fin 2048) : val_main_v31 (F := Ideal) (aa m c) (ab m c) (aga m c) (agb m c) (ix2 R l) =
    both (aa m c) (ab m c) (aga m c) (agb m c) R l :=
  (val_main_v31_apply _ _ _ _ _).trans (ref_both _ _ _ _ R l)

theorem ref_product (R : Fin 8192) (L : Fin 2048) :
    val_main_v30 (F := Ideal) (aa m c) (ab m c) (aga m c) (agb m c) (aw m c) (ax m c) (ix2 R L) =
    ((∑ s : Fin 2048, both (aa m c) (ab m c) (aga m c) (agb m c) R s * aw m c (ix2 s L)) + ax m c (ix2 R L) : EReal) := by
  refine (val_main_v30_apply _ _ _ _ _ _ _).trans ((add_comm (G := EReal) _ _).trans ?_)
  refine congrArg (fun z => (z + ax m c (ix2 R L) : EReal)) ?_
  refine (val_main_v29_apply _ _ _ _ _ _).trans ?_
  refine Finset.sum_congr rfl fun s _ => ?_
  rw [eq_ix2 (lidx_main_v29 _ s), eq_ix2 (ridx_main_v29 _ s)]
  exact congrArg (fun z => (z * aw m c (ix2 s L) : EReal)) (ref_both _ _ _ _ R s)
end Reference

/-! ## The two results -/

/-- The kernel's product is the reference's. -/
theorem product_eq : (dats m 0 c).arrAt 6 cfg0.N =
    Reference12Ideal.Read.val_main_v30 (F := Ideal) (aa m c) (ab m c) (aga m c) (agb m c) (aw m c) (ax m c) := by
  refine (dats m 0 c).arrAt_eq_of_covers 6 _ (by decide +kernel) fun t hf y => ?_
  blk_simp
  rw [after_6]
  obtain ⟨r, l, rfl⟩ : ∃ (r : Fin 1024) (l : Fin 1024), y = ix2 r l := ⟨y 0, y 1, eq_ix2 y⟩
  have e0 : ((win0_6.rect t).emb (ix2 r l) 0 : Nat) = t.val / 2 * 1024 + r.val := by
    rw [Pipeline.Window.rect_emb_val win0_6 t (ix2 r l) 0, idx_6]; rfl
  have e1 : ((win0_6.rect t).emb (ix2 r l) 1 : Nat) = t.val % 2 * 1024 + l.val := by
    rw [Pipeline.Window.rect_emb_val win0_6 t (ix2 r l) 1, idx_6]; rfl
  have hR : t.val / 2 * 1024 + r.val < 8192 := by have := lt_N t; omega
  have hL : t.val % 2 * 1024 + l.val < 2048 := by omega
  have ei : (win0_6.rect t).emb (ix2 r l) = ix2 (⟨_, hR⟩ : Fin 8192) (⟨_, hL⟩ : Fin 2048) := by
    rw [eq_ix2 ((win0_6.rect t).emb (ix2 r l))]
    exact congrArg₂ ix2 (Fin.ext e0) (Fin.ext e1)
  refine Eq.trans ?_ (congrArg _ ei.symm)
  refine Eq.trans ?_ (ref_product m c ⟨_, hR⟩ ⟨_, hL⟩).symm
  refine (product_apply _ _ _ r l).trans ?_
  rw [read_5, V_arg m c main_arg5 (by decide)]
  refine congrArg (fun z => (z + ax m c (ix2 ⟨_, hR⟩ ⟨_, hL⟩) : EReal)) ?_
  refine Finset.sum_congr rfl fun s _ => ?_
  rw [hid_apply m c t r s hR, read_4, V_w]
  rfl

/-- The kernel's normalised rows are the reference's. -/
theorem hidden_eq : (dats m 0 c).arrAt 7 cfg0.N = Reference12Ideal.Read.val_main_v31 (F := Ideal) (aa m c) (ab m c) (aga m c) (agb m c) := by
  refine (dats m 0 c).arrAt_eq_of_covers 7 _ (by decide +kernel) fun t hf y => ?_
  blk_simp
  rw [after_7]
  obtain ⟨r, l, rfl⟩ : ∃ (r : Fin 1024) (l : Fin 2048), y = ix2 r l := ⟨y 0, y 1, eq_ix2 y⟩
  have e0 : ((win0_7.rect t).emb (ix2 r l) 0 : Nat) = t.val / 2 * 1024 + r.val := by
    rw [Pipeline.Window.rect_emb_val win0_7 t (ix2 r l) 0, idx_7]; rfl
  have e1 : ((win0_7.rect t).emb (ix2 r l) 1 : Nat) = l.val := by
    rw [Pipeline.Window.rect_emb_val win0_7 t (ix2 r l) 1, idx_7]
    exact Nat.zero_add _
  have hR : t.val / 2 * 1024 + r.val < 8192 := by have := lt_N t; omega
  have ei : (win0_7.rect t).emb (ix2 r l) = ix2 (⟨_, hR⟩ : Fin 8192) l := by
    rw [eq_ix2 ((win0_7.rect t).emb (ix2 r l))]
    exact congrArg₂ ix2 (Fin.ext e0) (Fin.ext e1)
  refine Eq.trans ?_ (congrArg _ ei.symm)
  exact (hid_apply m c t r l hR).trans (ref_hidden m c ⟨_, hR⟩ l).symm
end Point

/-- The run, with the two result arrays at the reference's values and the arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v1_0) = Reference12Ideal.Read.val_main_v30 (F := Ideal) (aa m c) (ab m c) (aga m c) (agb m c) (aw m c) (ax m c)
      ∧ r.2.mem ((c : Thread nD τ).loc main_v1_1) = Reference12Ideal.Read.val_main_v31 (F := Ideal) (aa m c) (ab m c) (aga m c) (agb m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1.1.trans (product_eq m c), (h.1 c).1.2.trans (hidden_eq m c), (h.1 c).2⟩) (OutF.run_arrays m g)

end Cert.Proof.OutV

end
-- ==== Proof.Mm.OutXV.lean ====
/-
  The gradient of the output projection's two inputs through their normalisations: what a point of the kernel's grid leaves in
  its four results, case by case, and those values over the extended reals.
-/
module

public import proofs.«01_k».proof.Proof.Gen.Kernel13Ideal.Value
public import proofs.«01_k».proof.Proof.Up.Rms
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.OutX

open Idealize.ShloMosaic Cert.Kernel13Ideal Cert.Kernel13Ideal.Gen
open Idealize.ShloMosaic.TcCoe Idealize.ShloMosaic.Tactic
open Idealize.ShloMosaic.Pointwise
open scoped BigOperators
open Finset (range)

/-! ## What one point of the grid leaves, case by case -/

theorem off0 : (![0, 0] : Fin 2 → Nat) = fun _ => 0 := funext fun a => by fin_cases a <;> rfl

section Cases
variable {F : FTy → Type} [FloatOps F]

/-- The columns of the first input, and those of the second. -/
def left (d : Vec F S512x2048 .f32) : Vec F S512x1024 .f32 :=
  View.ld d (Rect.unit (s := S512x2048) ![0, 0] S512x1024.size inb_S512x2048_S512x1024_0_0)
def right (d : Vec F S512x2048 .f32) : Vec F S512x1024 .f32 :=
  View.ld d (Rect.unit (s := S512x2048) ![0, 1024] S512x1024.size inb_S512x2048_S512x1024_0_1024)

/-- The product of a block of the cotangent and the weight transposed. -/
def prod (t : Vec F S512x2048 .f32) (w : Vec F S2048x2048 .bf16) : Vec F S512x2048 .f32 := k0_pay2 k0_pay1 t w

variable {c : Dev nD} {i : grid0.Coords} {a2 : Memref sig .tc .vmem S512x2048 .f32} {h2 : a2.IsWhole}
  {a3 : Memref sig .tc .vmem S2048x2048 .bf16} {h3 : a3.IsWhole} {a4 : Memref sig .tc .vmem S512x1024 .f32} {h4 : a4.IsWhole}
  {a5 : Memref sig .tc .vmem S512x1024 .f32} {h5 : a5.IsWhole} {a6 : Memref sig .tc .vmem S1x1024 .f32} {h6 : a6.IsWhole}
  {a7 : Memref sig .tc .vmem S1x1024 .f32} {h7 : a7.IsWhole} {a8 : Memref sig .tc .vmem S512x1024 .f32} {h8 : a8.IsWhole}
  {a9 : Memref sig .tc .vmem S512x1024 .f32} {h9 : a9.IsWhole} {a10 : Memref sig .tc .vmem S1x1024 .f32} {h10 : a10.IsWhole}
  {a11 : Memref sig .tc .vmem S1x1024 .f32} {h11 : a11.IsWhole} {a12 : Memref sig .tc .vmem S512x2048 .f32} {h12 : a12.IsWhole}
  {t : Vec F S512x2048 .f32} {w : Vec F S2048x2048 .bf16} {x y : Vec F S512x1024 .f32} {g h : Vec F S1x1024 .f32} {o p : Vec F S1x1024 .f32}

/-- The first point takes each half of the product back through its normalisation, and starts each scale's gradient from zero. -/
theorem first_point (hc0 : cond0_0 i) (hc1 : cond0_1 i) (hc2 : cond0_2 i) :
    out0_A_6 c i a2 h2 a3 h3 a4 h4 a5 h5 a6 h6 a7 h7 a8 h8 a9 h9 a10 h10 a11 h11 a12 h12 hc0 hc1 hc2 t w x y g h = k0_pay11 (left (prod t w)) x g ∧
    out0_A_7 c i a2 h2 a3 h3 a4 h4 a5 h5 a6 h6 a7 h7 a8 h8 a9 h9 a10 h10 a11 h11 a12 h12 hc0 hc1 hc2 t w x y g h = k0_pay5 (right (prod t w)) y h ∧
    out0_A_8 c i a2 h2 a3 h3 a4 h4 a5 h5 a6 h6 a7 h7 a8 h8 a9 h9 a10 h10 a11 h11 a12 h12 hc0 hc1 hc2 t w x y g h = k0_pay12 (left (prod t w)) x k0_pay7 ∧
    out0_A_9 c i a2 h2 a3 h3 a4 h4 a5 h5 a6 h6 a7 h7 a8 h8 a9 h9 a10 h10 a11 h11 a12 h12 hc0 hc1 hc2 t w x y g h = k0_pay6 (right (prod t w)) y k0_pay8 := by
  refine ⟨(View.read_writes_eq_canon _ _ _ (cover0_A_6 c i a2 h2 a3 h3 a4 h4 a5 h5 a6 h6 a7 h7 a8 h8 a9 h9 a10 h10 a11 h11 a12 h12 hc0 hc1 hc2 t w x y g h)).trans ?_,
    (View.read_writes_eq_canon _ _ _ (cover0_A_7 c i a2 h2 a3 h3 a4 h4 a5 h5 a6 h6 a7 h7 a8 h8 a9 h9 a10 h10 a11 h11 a12 h12 hc0 hc1 hc2 t w x y g h)).trans ?_,
    (View.read_writes_eq_canon _ _ _ (cover0_A_8 c i a2 h2 a3 h3 a4 h4 a5 h5 a6 h6 a7 h7 a8 h8 a9 h9 a10 h10 a11 h11 a12 h12 hc0 hc1 hc2 t w x y g h)).trans ?_,
    (View.read_writes_eq_canon _ _ _ (cover0_A_9 c i a2 h2 a3 h3 a4 h4 a5 h5 a6 h6 a7 h7 a8 h8 a9 h9 a10 h10 a11 h11 a12 h12 hc0 hc1 hc2 t w x y g h)).trans ?_⟩ <;>
  · unfold kernelRun0_A
    dsimp only
    sl_unfold_words
    first
      | rw [View.canon_unit_zero off0]
      | rw [View.canon_cons_unit_zero (S := S1x1024) off0, View.readCov_unit_zero (S := S1x1024) _ off0]
    rw [View.readCov_eq_canon_ld _ _ _ (View.cover_of_tiledL (s := S512x2048) _ S512x2048.size (by sl_kernel_rfl)),
      View.canon_cons_unit_zero (S := S512x2048) off0, View.readCov_unit_zero (S := S512x2048) _ off0]
    simp only [View.readAt_eq_ld, h2.read_unread, h3.read_unread, h4.read_unread, h5.read_unread, h6.read_unread, h7.read_unread,
      h10.read_unread, h11.read_unread, View.ld_unit_zero (S := S512x2048) off0, View.ld_unit_zero (S := S2048x2048) off0,
      View.ld_unit_zero (S := S512x1024) off0, View.ld_unit_zero (S := S1x1024) off0]
    rfl

/-- A later point does the same, and adds to each scale's gradient. -/
theorem later_point (hc0 : cond0_0 i) (hc1 : cond0_1 i) (hc2 : ¬cond0_2 i) :
    out0_B_6 c i a2 h2 a3 h3 a4 h4 a5 h5 a6 h6 a7 h7 a8 h8 a9 h9 a10 h10 a11 h11 a12 h12 hc0 hc1 hc2 t w x y g h o p = k0_pay11 (left (prod t w)) x g ∧
    out0_B_7 c i a2 h2 a3 h3 a4 h4 a5 h5 a6 h6 a7 h7 a8 h8 a9 h9 a10 h10 a11 h11 a12 h12 hc0 hc1 hc2 t w x y g h o p = k0_pay5 (right (prod t w)) y h ∧
    out0_B_8 c i a2 h2 a3 h3 a4 h4 a5 h5 a6 h6 a7 h7 a8 h8 a9 h9 a10 h10 a11 h11 a12 h12 hc0 hc1 hc2 t w x y g h o p = k0_pay12 (left (prod t w)) x o ∧
    out0_B_9 c i a2 h2 a3 h3 a4 h4 a5 h5 a6 h6 a7 h7 a8 h8 a9 h9 a10 h10 a11 h11 a12 h12 hc0 hc1 hc2 t w x y g h o p = k0_pay6 (right (prod t w)) y p := by
  refine ⟨(View.read_writes_eq_canon _ _ _ (cover0_B_6 c i a2 h2 a3 h3 a4 h4 a5 h5 a6 h6 a7 h7 a8 h8 a9 h9 a10 h10 a11 h11 a12 h12 hc0 hc1 hc2 t w x y g h o p)).trans ?_,
    (View.read_writes_eq_canon _ _ _ (cover0_B_7 c i a2 h2 a3 h3 a4 h4 a5 h5 a6 h6 a7 h7 a8 h8 a9 h9 a10 h10 a11 h11 a12 h12 hc0 hc1 hc2 t w x y g h o p)).trans ?_,
    (View.read_writes_eq_canon _ _ _ (cover0_B_8 c i a2 h2 a3 h3 a4 h4 a5 h5 a6 h6 a7 h7 a8 h8 a9 h9 a10 h10 a11 h11 a12 h12 hc0 hc1 hc2 t w x y g h o p)).trans ?_,
    (View.read_writes_eq_canon _ _ _ (cover0_B_9 c i a2 h2 a3 h3 a4 h4 a5 h5 a6 h6 a7 h7 a8 h8 a9 h9 a10 h10 a11 h11 a12 h12 hc0 hc1 hc2 t w x y g h o p)).trans ?_⟩ <;>
  · unfold kernelRun0_B
    dsimp only
    sl_unfold_words
    first
      | rw [View.canon_unit_zero off0]
      | rw [View.canon_cons_unit_zero (S := S1x1024) off0, View.readCov_unit_zero (S := S1x1024) _ off0]
    rw [View.readCov_eq_canon_ld _ _ _ (View.cover_of_tiledL (s := S512x2048) _ S512x2048.size (by sl_kernel_rfl)),
      View.canon_cons_unit_zero (S := S512x2048) off0, View.readCov_unit_zero (S := S512x2048) _ off0]
    simp only [View.readAt_eq_ld, h2.read_unread, h3.read_unread, h4.read_unread, h5.read_unread, h6.read_unread, h7.read_unread,
      h10.read_unread, h11.read_unread, View.ld_unit_zero (S := S512x2048) off0, View.ld_unit_zero (S := S2048x2048) off0,
      View.ld_unit_zero (S := S512x1024) off0, View.ld_unit_zero (S := S1x1024) off0]
    rfl

end Cases

/-! ## The same over the extended reals -/

theorem left_apply (d : Vec Ideal S512x2048 .f32) (r : Fin 512) (l : Fin 1024) : left d (ix2 r l) = d (ix2 r ⟨l.val, by omega⟩) := by
  unfold left View.ld
  refine congrArg d ((eq_ix2 _).trans (congrArg₂ ix2 (Fin.ext ?_) (Fin.ext ?_)))
  · exact (ValueKit.rect_emb_unit_val _ _ _ _ _).trans (Nat.zero_add _)
  · exact (ValueKit.rect_emb_unit_val _ _ _ _ _).trans (Nat.zero_add _)

theorem right_apply (d : Vec Ideal S512x2048 .f32) (r : Fin 512) (l : Fin 1024) : right d (ix2 r l) = d (ix2 r ⟨1024 + l.val, by omega⟩) := by
  unfold right View.ld
  refine congrArg d ((eq_ix2 _).trans (congrArg₂ ix2 (Fin.ext ?_) (Fin.ext ?_)))
  · exact (ValueKit.rect_emb_unit_val _ _ _ _ _).trans (Nat.zero_add _)
  · exact ValueKit.rect_emb_unit_val _ _ _ _ _

theorem prod_apply (t : Vec Ideal S512x2048 .f32) (w : Vec Ideal S2048x2048 .bf16) (r : Fin 512) (l : Fin 2048) :
    prod t w (ix2 r l) = (∑ s : Fin 2048, t (ix2 r s) * w (ix2 l s) : EReal) := by
  have e1 : k0_pay1 (F := Ideal) (ix2 r l) = 0 := by pointwise [k0_pay1]
  have e2 : prod t w (ix2 r l) = (k0_pay1 (F := Ideal) (ix2 r l) + ∑ s : Fin 2048, t (ix2 r s) * w (ix2 l s) : EReal) := by
    unfold prod
    pointwise [k0_pay2]
  rw [e2, e1, zero_add]

theorem zero_row_apply (l : Fin 1024) : k0_pay7 (F := Ideal) (ix2 0 l) = 0 := by
  pointwise [k0_pay7]

/-- The reciprocal root mean square, and the gradient through the normalisation, of rows of 1024 entries. -/
abbrev rootOf (y : Fin 1024 → EReal) : EReal := Rms.rootOf 0x44800000#32 y
abbrev backOf (d g y : Fin 1024 → EReal) (l : Fin 1024) : EReal := Rms.backOf 0x44800000#32 d g y l

theorem root_apply (x : Vec Ideal S512x1024 .f32) (r : Fin 512) : k0_pay3 x (ix2 r 0) = rootOf fun l => x (ix2 r l) := by
  unfold rootOf Rms.rootOf Rms.meanOf
  pointwise [k0_pay3]

theorem unit_apply (x : Vec Ideal S512x1024 .f32) (r : Fin 512) (l : Fin 1024) :
    k0_pay4 x (ix2 r l) = (x (ix2 r l) * rootOf fun l => x (ix2 r l) : EReal) := by
  rw [← root_apply]
  pointwise [k0_pay4]

theorem back_apply (d x : Vec Ideal S512x1024 .f32) (g : Vec Ideal S1x1024 .f32) (r : Fin 512) (l : Fin 1024) :
    k0_pay5 d x g (ix2 r l) = backOf (fun l => d (ix2 r l)) (fun l => g (ix2 0 l)) (fun l => x (ix2 r l)) l := by
  refine Eq.trans (b := (k0_pay3 x (ix2 r 0) * (d (ix2 r l) * g (ix2 0 l) - k0_pay4 x (ix2 r l) *
    Ideal.div (∑ k, d (ix2 r k) * g (ix2 0 k) * k0_pay4 x (ix2 r k)) (Ideal.ofBits .f32 0x44800000#32)) : EReal)) ?_ ?_
  · pointwise [k0_pay5]
  · simp only [unit_apply, root_apply]
    rfl

theorem scale_apply (d x : Vec Ideal S512x1024 .f32) (old : Vec Ideal S1x1024 .f32) (l : Fin 1024) :
    k0_pay6 d x old (ix2 0 l) = (old (ix2 0 l) + ∑ r : Fin 512, d (ix2 r l) * (x (ix2 r l) * rootOf fun l => x (ix2 r l)) : EReal) := by
  refine Eq.trans (b := (old (ix2 0 l) + ∑ r : Fin 512, d (ix2 r l) * k0_pay4 x (ix2 r l) : EReal)) ?_ ?_
  · pointwise [k0_pay6]
  · simp only [unit_apply]

end Cert.Proof.OutX

end
-- ==== Proof.Mm.OutXR.lean ====
/-
  The gradient of the output projection's two inputs through their normalisations: the sums over the kernel's grid and the four
  result arrays.
-/
module

public import proofs.«01_k».proof.Proof.Mm.OutXV
public import proofs.«01_k».proof.Proof.Mm.Sum

@[expose] public section

set_option maxRecDepth 16384

noncomputable section

namespace Cert.Proof.OutX

open Idealize.ShloMosaic Cert.Kernel13Ideal Cert.Kernel13Ideal.Gen
open Idealize.ShloMosaic.TcCoe Idealize.ShloMosaic.Tactic
open Idealize.ShloMosaic.Pointwise
open scoped BigOperators
open Finset (range)

/-! ## The gradients, as functions of the arguments -/

/-- A row of an input, its scale, and the gradient of a row of the two normalised inputs side by side. -/
def rX (x : FVec Ideal S8192x1024 .f32) (R : Fin 8192) (l : Fin 1024) : EReal := x (ix2 R l)
def rG (g : FVec Ideal S1x1024 .f32) (l : Fin 1024) : EReal := g (ix2 0 l)
def rD (w : FVec Ideal S2048x2048 .f32) (t : FVec Ideal S8192x2048 .f32) (R : Fin 8192) (l : Fin 2048) : EReal :=
  ∑ s : Fin 2048, (t (ix2 R s) * w (ix2 l s) : EReal)

/-- The first input's columns and the second's. -/
def lo (l : Fin 1024) : Fin 2048 := ⟨l.val, by omega⟩
def hi (l : Fin 1024) : Fin 2048 := ⟨1024 + l.val, by omega⟩

section Arrays
variable (q : Fin 1024 → Fin 2048) (w : FVec Ideal S2048x2048 .f32) (t : FVec Ideal S8192x2048 .f32) (x : FVec Ideal S8192x1024 .f32)
  (g : FVec Ideal S1x1024 .f32)

/-- The gradient of an input whose columns are at `q`. -/
def rows : FVec Ideal S8192x1024 .f32 := fun i => backOf (fun l => rD w t (i 0) (q l)) (rG g) (rX x (i 0)) (i 1)

/-- The gradient of its scale. -/
def scales : FVec Ideal S1x1024 .f32 := fun i => (∑ R, rD w t R (q (i 1)) * (rX x R (i 1) * rootOf (rX x R)) : EReal)

/-- A row's part of the scale's gradient. -/
def part (l : Fin 1024) (R : ℕ) : EReal :=
  if h : R < 8192 then rD w t ⟨R, h⟩ (q l) * (rX x ⟨R, h⟩ l * rootOf (rX x ⟨R, h⟩)) else 0

theorem sum_part (l : Fin 1024) : (∑ R ∈ range 8192, part q w t x l R : EReal) = scales q w t x (ix2 0 l) := by
  rw [Finset.sum_range]
  refine Finset.sum_congr rfl fun R _ => ?_
  unfold part
  rw [dif_pos R.isLt]
  rfl
end Arrays

/-! ## The blocks -/

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![0, 0] := (by decide +kernel : ∀ t : Fin grid0.N, win0_8.index t = ![0, 0])
theorem idx_9 : ∀ t : Fin cfg0.N, win0_9.index t = ![0, 0] := (by decide +kernel : ∀ t : Fin grid0.N, win0_9.index t = ![0, 0])

theorem lt_N (t : Fin cfg0.N) : t.val < 16 := t.isLt

section Point
variable (m : (ℓ : Loc nD τ sig) → Buf (Elt Ideal) ℓ) (c : Dev nD)

abbrev aa : FVec Ideal S8192x1024 .f32 := m ((c : Thread nD τ).loc main_arg0)
abbrev ab : FVec Ideal S8192x1024 .f32 := m ((c : Thread nD τ).loc main_arg1)
abbrev aga : FVec Ideal S1x1024 .f32 := m ((c : Thread nD τ).loc main_arg2)
abbrev agb : FVec Ideal S1x1024 .f32 := m ((c : Thread nD τ).loc main_arg3)
abbrev aw : FVec Ideal S2048x2048 .f32 := m ((c : Thread nD τ).loc main_arg4)
abbrev at' : FVec Ideal S8192x2048 .f32 := m ((c : Thread nD τ).loc main_arg5)

theorem V_w : V m c main_v0 = (truncf .bf16 (aw m c) bitsLt_bf16_f32 : FVec Ideal S2048x2048 .bf16) := by
  entry_read
  rfl

theorem read_0 (t : Fin cfg0.N) (r : Fin 512) (s : Fin 2048) :
    iblk m c 0 t (ix2 r s) = V m c main_arg5 (ix2 ⟨t.val * 512 + r.val, by have := lt_N t; omega⟩ s) := by
  blk_ext [iblk, idx_0 t]
theorem read_1 (t : Fin cfg0.N) (l s : Fin 2048) : iblk m c 1 t (ix2 l s) = V m c main_v0 (ix2 l s) := by
  blk_ext [iblk, idx_1 t]
theorem read_2 (t : Fin cfg0.N) (r : Fin 512) (l : Fin 1024) :
    iblk m c 2 t (ix2 r l) = V m c main_arg0 (ix2 ⟨t.val * 512 + r.val, by have := lt_N t; omega⟩ l) := by
  blk_ext [iblk, idx_2 t]
theorem read_3 (t : Fin cfg0.N) (r : Fin 512) (l : Fin 1024) :
    iblk m c 3 t (ix2 r l) = V m c main_arg1 (ix2 ⟨t.val * 512 + r.val, by have := lt_N t; omega⟩ l) := by
  blk_ext [iblk, idx_3 t]
theorem read_4 (t : Fin cfg0.N) (l : Fin 1024) : iblk m c 4 t (ix2 0 l) = V m c main_arg2 (ix2 0 l) := by
  blk_ext [iblk, idx_4 t]
theorem read_5 (t : Fin cfg0.N) (l : Fin 1024) : iblk m c 5 t (ix2 0 l) = V m c main_arg3 (ix2 0 l) := by
  blk_ext [iblk, idx_5 t]

/-- The product at a point. -/
def P (t : Fin cfg0.N) : Vec Ideal S512x2048 .f32 := prod (iblk m c 0 t) (iblk m c 1 t)

theorem P_apply (t : Fin cfg0.N) (r : Fin 512) (l : Fin 2048) (R : Fin 8192) (hR : R.val = t.val * 512 + r.val) :
    P m c t (ix2 r l) = rD (aw m c) (at' m c) R l := by
  have eR : (⟨t.val * 512 + r.val, by have := lt_N t; omega⟩ : Fin 8192) = R := Fin.ext hR.symm
  refine (prod_apply _ _ r l).trans (Finset.sum_congr rfl fun s _ => ?_)
  rw [read_0, read_1, V_main_arg5, V_w, eR]
  rfl

theorem left_P (t : Fin cfg0.N) (r : Fin 512) (l : Fin 1024) (R : Fin 8192) (hR : R.val = t.val * 512 + r.val) :
    left (P m c t) (ix2 r l) = rD (aw m c) (at' m c) R (lo l) := (left_apply _ r l).trans (P_apply m c t r _ R hR)
theorem right_P (t : Fin cfg0.N) (r : Fin 512) (l : Fin 1024) (R : Fin 8192) (hR : R.val = t.val * 512 + r.val) :
    right (P m c t) (ix2 r l) = rD (aw m c) (at' m c) R (hi l) := (right_apply _ r l).trans (P_apply m c t r _ R hR)

theorem row_a (t : Fin cfg0.N) (r : Fin 512) (l : Fin 1024) (R : Fin 8192) (hR : R.val = t.val * 512 + r.val) :
    iblk m c 2 t (ix2 r l) = rX (aa m c) R l := by
  have eR : (⟨t.val * 512 + r.val, by have := lt_N t; omega⟩ : Fin 8192) = R := Fin.ext hR.symm
  rw [read_2, V_main_arg0, eR]
  rfl
theorem row_b (t : Fin cfg0.N) (r : Fin 512) (l : Fin 1024) (R : Fin 8192) (hR : R.val = t.val * 512 + r.val) :
    iblk m c 3 t (ix2 r l) = rX (ab m c) R l := by
  have eR : (⟨t.val * 512 + r.val, by have := lt_N t; omega⟩ : Fin 8192) = R := Fin.ext hR.symm
  rw [read_3, V_main_arg1, eR]
  rfl
theorem scl_a (t : Fin cfg0.N) (l : Fin 1024) : iblk m c 4 t (ix2 0 l) = rG (aga m c) l := by
  rw [read_4, V_main_arg2]
  rfl
theorem scl_b (t : Fin cfg0.N) (l : Fin 1024) : iblk m c 5 t (ix2 0 l) = rG (agb m c) l := by
  rw [read_5, V_main_arg3]
  rfl

/-! ## What the points leave -/

theorem outs_first (t : Fin cfg0.N) (e : t.val % 16 = 0) : outsAt0 m c t.val t.isLt =
    (k0_pay5 (left (P m c t)) (iblk m c 2 t) (iblk m c 4 t), k0_pay5 (right (P m c t)) (iblk m c 3 t) (iblk m c 5 t),
      k0_pay6 (left (P m c t)) (iblk m c 2 t) (k0_pay7 (F := Ideal)), k0_pay6 (right (P m c t)) (iblk m c 3 t) (k0_pay7 (F := Ideal))) := by
  rw [outsAt0_A m c t e, (first_point _ _ _).1, (first_point _ _ _).2.1, (first_point _ _ _).2.2.1, (first_point _ _ _).2.2.2]
  rfl

theorem outs_later (n : ℕ) (h : n + 1 < cfg0.N) (e : ¬(n + 1) % 16 = 0) : outsAt0 m c (n + 1) h =
    (k0_pay5 (left (P m c ⟨n + 1, h⟩)) (iblk m c 2 ⟨n + 1, h⟩) (iblk m c 4 ⟨n + 1, h⟩),
      k0_pay5 (right (P m c ⟨n + 1, h⟩)) (iblk m c 3 ⟨n + 1, h⟩) (iblk m c 5 ⟨n + 1, h⟩),
      k0_pay6 (left (P m c ⟨n + 1, h⟩)) (iblk m c 2 ⟨n + 1, h⟩) (outsAt0 m c n (Nat.lt_of_succ_lt h)).2.2.1,
      k0_pay6 (right (P m c ⟨n + 1, h⟩)) (iblk m c 3 ⟨n + 1, h⟩) (outsAt0 m c n (Nat.lt_of_succ_lt h)).2.2.2) := by
  rw [outsAt0_B m c ⟨n + 1, h⟩ e, (later_point _ _ _).1, (later_point _ _ _).2.1, (later_point _ _ _).2.2.1, (later_point _ _ _).2.2.2]
  rfl

/-- A row taken back through its normalisation. -/
theorem back_eq (q : Fin 1024 → Fin 2048) (x : FVec Ideal S8192x1024 .f32) (g : FVec Ideal S1x1024 .f32) (d X : Vec Ideal S512x1024 .f32)
    (G : Vec Ideal S1x1024 .f32) (r : Fin 512) (R : Fin 8192) (hd : ∀ l, d (ix2 r l) = rD (aw m c) (at' m c) R (q l))
    (hX : ∀ l, X (ix2 r l) = rX x R l) (hG : ∀ l, G (ix2 0 l) = rG g l) (l : Fin 1024) :
    k0_pay5 d X G (ix2 r l) = rows q (aw m c) (at' m c) x g (ix2 R l) := by
  rw [back_apply, show (fun l => d (ix2 r l)) = _ from funext hd, show (fun l => X (ix2 r l)) = _ from funext hX,
    show (fun l => G (ix2 0 l)) = _ from funext hG]
  rfl

/-- What a point adds to a scale's gradient. -/
theorem scale_eq (q : Fin 1024 → Fin 2048) (x : FVec Ideal S8192x1024 .f32) (n : ℕ) (hn : n < 16) (d X : Vec Ideal S512x1024 .f32)
    (old : Vec Ideal S1x1024 .f32)
    (hd : ∀ (r : Fin 512) (l : Fin 1024) (R : Fin 8192), R.val = n * 512 + r.val → d (ix2 r l) = rD (aw m c) (at' m c) R (q l))
    (hX : ∀ (r : Fin 512) (l : Fin 1024) (R : Fin 8192), R.val = n * 512 + r.val → X (ix2 r l) = rX x R l) (l : Fin 1024) :
    k0_pay6 d X old (ix2 0 l) = (old (ix2 0 l) + ∑ r ∈ range 512, part q (aw m c) (at' m c) x l (n % 16 * 512 + r) : EReal) := by
  rw [scale_apply, Finset.sum_range, Nat.mod_eq_of_lt hn]
  refine congrArg _ (Finset.sum_congr rfl fun r _ => ?_)
  have hlt : n * 512 + r.val < 8192 := by omega
  unfold part
  rw [dif_pos hlt, hd r l ⟨_, hlt⟩ rfl, hX r l ⟨_, hlt⟩ rfl,
    show (fun l => X (ix2 r l)) = rX x ⟨_, hlt⟩ from funext fun l => hX r l ⟨_, hlt⟩ rfl]

/-- The rows' gradients stored at a point. -/
theorem rows_at (t : Fin cfg0.N) (r : Fin 512) (l : Fin 1024) (R : Fin 8192) (hR : R.val = t.val * 512 + r.val) :
    (outsAt0 m c t.val t.isLt).1 (ix2 r l) = rows lo (aw m c) (at' m c) (aa m c) (aga m c) (ix2 R l) ∧
    (outsAt0 m c t.val t.isLt).2.1 (ix2 r l) = rows hi (aw m c) (at' m c) (ab m c) (agb m c) (ix2 R l) := by
  have ha := back_eq m c lo (aa m c) (aga m c) _ _ _ r R (fun l => left_P m c t r l R hR) (fun l => row_a m c t r l R hR) (scl_a m c t) l
  have hb := back_eq m c hi (ab m c) (agb m c) _ _ _ r R (fun l => right_P m c t r l R hR) (fun l => row_b m c t r l R hR) (scl_b m c t) l
  obtain ⟨n, h⟩ := t
  cases n with
  | zero => rw [outs_first m c ⟨0, h⟩ rfl]; exact ⟨ha, hb⟩
  | succ n => rw [outs_later m c n h (by have : n + 1 < 16 := h; omega)]; exact ⟨ha, hb⟩

/-- After a point, the first scale's gradient over the rows so far. -/
theorem scale_a (n : ℕ) (h : n < cfg0.N) (l : Fin 1024) :
    (outsAt0 m c n h).2.2.1 (ix2 0 l) = (∑ s ∈ range (n % 16 * 512 + 512), part lo (aw m c) (at' m c) (aa m c) l s : EReal) := by
  refine Mm.acc_sum 16 512 (fun n h => (outsAt0 m c n h).2.2.1 (ix2 0 l)) (fun _ => True) (part lo (aw m c) (at' m c) (aa m c) l)
    (fun n e => by omega) (fun n e p => trivial) (fun n h e p => ?_) (fun n h e p => ?_) n h trivial
  · rw [outs_first m c ⟨n, h⟩ e]
    refine (scale_eq m c lo (aa m c) n h _ _ _ (left_P m c ⟨n, h⟩) (row_a m c ⟨n, h⟩) l).trans ?_
    rw [zero_row_apply, zero_add]
  · rw [outs_later m c n h e]
    exact scale_eq m c lo (aa m c) (n + 1) h _ _ _ (left_P m c ⟨n + 1, h⟩) (row_a m c ⟨n + 1, h⟩) l

/-- The second scale's. -/
theorem scale_b (n : ℕ) (h : n < cfg0.N) (l : Fin 1024) :
    (outsAt0 m c n h).2.2.2 (ix2 0 l) = (∑ s ∈ range (n % 16 * 512 + 512), part hi (aw m c) (at' m c) (ab m c) l s : EReal) := by
  refine Mm.acc_sum 16 512 (fun n h => (outsAt0 m c n h).2.2.2 (ix2 0 l)) (fun _ => True) (part hi (aw m c) (at' m c) (ab m c) l)
    (fun n e => by omega) (fun n e p => trivial) (fun n h e p => ?_) (fun n h e p => ?_) n h trivial
  · rw [outs_first m c ⟨n, h⟩ e]
    refine (scale_eq m c hi (ab m c) n h _ _ _ (right_P m c ⟨n, h⟩) (row_b m c ⟨n, h⟩) l).trans ?_
    rw [zero_row_apply, zero_add]
  · rw [outs_later m c n h e]
    exact scale_eq m c hi (ab m c) (n + 1) h _ _ _ (right_P m c ⟨n + 1, h⟩) (row_b m c ⟨n + 1, h⟩) l

/-! ## The result arrays -/

theorem arr_6 : (dats m 0 c).arrAt 6 cfg0.N = rows lo (aw m c) (at' m c) (aa m c) (aga m c) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  have hR : t.val * 512 + r.val < 8192 := by have := lt_N t; omega
  have ei : (win0_6.rect t).emb (ix2 r l) = ix2 (⟨_, hR⟩ : Fin 8192) l := by
    rw [eq_ix2 ((win0_6.rect t).emb (ix2 r l))]
    refine congrArg₂ ix2 (Fin.ext ?_) (Fin.ext ?_)
    · rw [Pipeline.Window.rect_emb_val win0_6 t (ix2 r l) 0, idx_6]; rfl
    · rw [Pipeline.Window.rect_emb_val win0_6 t (ix2 r l) 1, idx_6]; exact Nat.zero_add _
  exact ((rows_at m c t r l ⟨_, hR⟩ rfl).1).trans (congrArg _ ei.symm)

theorem arr_7 : (dats m 0 c).arrAt 7 cfg0.N = rows hi (aw m c) (at' m c) (ab m c) (agb m c) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, eq_ix2 y⟩
  have hR : t.val * 512 + r.val < 8192 := by have := lt_N t; omega
  have ei : (win0_7.rect t).emb (ix2 r l) = ix2 (⟨_, hR⟩ : Fin 8192) l := by
    rw [eq_ix2 ((win0_7.rect t).emb (ix2 r l))]
    refine congrArg₂ ix2 (Fin.ext ?_) (Fin.ext ?_)
    · rw [Pipeline.Window.rect_emb_val win0_7 t (ix2 r l) 0, idx_7]; rfl
    · rw [Pipeline.Window.rect_emb_val win0_7 t (ix2 r l) 1, idx_7]; exact Nat.zero_add _
  exact ((rows_at m c t r l ⟨_, hR⟩ rfl).2).trans (congrArg _ ei.symm)

/-- The scales' gradients leave at the last point alone. -/
theorem last_8 : ∀ t : Fin cfg0.N, (cfg0.win 8).flush t = true → t.val = 15 := by decide +kernel
theorem last_9 : ∀ t : Fin cfg0.N, (cfg0.win 9).flush t = true → t.val = 15 := by decide +kernel

theorem arr_8 : (dats m 0 c).arrAt 8 cfg0.N = scales lo (aw m c) (at' m c) (aa m c) := by
  refine (dats m 0 c).arrAt_eq_of_covers 8 _ (by decide +kernel) fun t hf y => ?_
  have ht := last_8 t hf
  blk_simp
  rw [after0_8]
  obtain ⟨z, l, rfl⟩ : ∃ (z : Fin 1) (l : Fin 1024), y = ix2 z l := ⟨y 0, y 1, eq_ix2 y⟩
  obtain rfl : z = 0 := Subsingleton.elim _ _
  have ei : (win0_8.rect t).emb (ix2 0 l) = ix2 (0 : Fin 1) l := by
    rw [eq_ix2 ((win0_8.rect t).emb (ix2 0 l))]
    refine congrArg₂ ix2 (Subsingleton.elim (α := Fin 1) _ _) (Fin.ext ?_)
    rw [Pipeline.Window.rect_emb_val win0_8 t (ix2 0 l) 1, idx_8]; exact Nat.zero_add _
  refine Eq.trans ?_ (congrArg _ ei.symm)
  refine (scale_a m c t.val t.isLt l).trans ?_
  rw [ht]
  exact sum_part _ _ _ _ l

theorem arr_9 : (dats m 0 c).arrAt 9 cfg0.N = scales hi (aw m c) (at' m c) (ab m c) := by
  refine (dats m 0 c).arrAt_eq_of_covers 9 _ (by decide +kernel) fun t hf y => ?_
  have ht := last_9 t hf
  blk_simp
  rw [after0_9]
  obtain ⟨z, l, rfl⟩ : ∃ (z : Fin 1) (l : Fin 1024), y = ix2 z l := ⟨y 0, y 1, eq_ix2 y⟩
  obtain rfl : z = 0 := Subsingleton.elim _ _
  have ei : (win0_9.rect t).emb (ix2 0 l) = ix2 (0 : Fin 1) l := by
    rw [eq_ix2 ((win0_9.rect t).emb (ix2 0 l))]
    refine congrArg₂ ix2 (Subsingleton.elim (α := Fin 1) _ _) (Fin.ext ?_)
    rw [Pipeline.Window.rect_emb_val win0_9 t (ix2 0 l) 1, idx_9]; exact Nat.zero_add _
  refine Eq.trans ?_ (congrArg _ ei.symm)
  refine (scale_b m c t.val t.isLt l).trans ?_
  rw [ht]
  exact sum_part _ _ _ _ l
end Point

end Cert.Proof.OutX

end
-- ==== Proof.Mm.OutXH.lean ====
/-
  The gradient of the output projection's two inputs through their normalisations: the reference's values and their equality
  with the kernel's.
-/
module

public import proofs.«01_k».proof.Proof.Mm.OutXR
public import proofs.«01_k».proof.Proof.Gen.Reference13Ideal.Read
public import Idealize.ShloMosaic.Lib.Claim

@[expose] public section

set_option maxRecDepth 16384

noncomputable section

namespace Cert.Proof.OutX

open Idealize.ShloMosaic
open Idealize.ShloMosaic.Pointwise
open scoped BigOperators

/-! ## The reference's values -/

section Reference
open Cert.Reference13Ideal Cert.Reference13Ideal.Gen Cert.Reference13Ideal.Read
variable (x : FVec Ideal S8192x1024 .f32) (g : FVec Ideal S1x1024 .f32) (w : FVec Ideal S2048x2048 .f32) (t : FVec Ideal S8192x2048 .f32)

theorem ofBits_width : Ideal.ofBits .f32 0x44800000#32 = ((1024 : ℝ) : EReal) := by
  simp only [Ideal.ofBits, Ideal.ieee, show (BitVec.extractLsb' 0 23 0x44800000#32).toNat = 0 by decide, show (BitVec.extractLsb' 23 8 0x44800000#32).toNat = 137 by decide,
    show (BitVec.extractLsb' (8 + 23) 1 0x44800000#32 == 1#1) = false by decide]
  rw [if_neg (by decide), if_neg (by decide)]
  refine congrArg _ ?_
  norm_num

/-- The gradient of the two normalised inputs side by side, and its two halves. -/
theorem ref_both (i : S8192x2048.Idx) : val_main_v36 (F := Ideal) w t i = rD w t (i 0) (i 1) := by
  rw [val_main_v36_apply]
  exact Finset.sum_congr rfl fun s _ => congrArg₂ (fun a b => (t a * w b : EReal)) (eq_ix2 _) (eq_ix2 _)

theorem ref_left (i : S8192x1024.Idx) : val_main_v37 (F := Ideal) w t i = rD w t (i 0) (lo (i 1)) := by
  rw [val_main_v37_apply, ref_both]
  exact congrArg₂ (rD w t) (Fin.ext rfl) (Fin.ext rfl)

theorem ref_right (i : S8192x1024.Idx) : val_main_v38 (F := Ideal) w t i = rD w t (i 0) (hi (i 1)) := by
  rw [val_main_v38_apply, ref_both]
  exact congrArg₂ (rD w t) (Fin.ext rfl) (Fin.ext rfl)

theorem ref_mean (i : S8192x1.Idx) : val_main_v7 (F := Ideal) x i = Rms.meanOf 0x44800000#32 (rX x (i 0)) := by
  have e2 : val_main_v2 (F := Ideal) x (idx_main_v3 i) = ∑ k, rX x (i 0) k * rX x (i 0) k := by
    rw [val_main_v2_apply]
    refine (congrArg (· + _) (?_ : val_main_cst (F := Ideal) _ = (0 : EReal))).trans ((zero_add _).trans ?_)
    · exact Ideal.ofBits_zero .f32
    · refine Finset.sum_congr rfl fun k _ => ?_
      rw [eq_ix2 (idx_main_v2 _ k)]
      rfl
  unfold Rms.meanOf
  rw [← e2]
  rw [val_main_v7_apply, val_main_v5_apply, val_main_v3_apply, val_main_v4_apply, val_main_v6_apply]
  rfl

theorem ref_root (i : S8192x1.Idx) : val_main_v8 (F := Ideal) x i = rootOf (rX x (i 0)) := by
  rw [val_main_v8_apply, ref_mean]
  rfl

theorem ref_scale (i : S8192x1024.Idx) : val_main_v63 (F := Ideal) g i = rG g (i 1) := by
  rw [val_main_v63_apply, val_main_v14_apply, val_main_v0_apply, eq_ix2 (idx_main_v0 _)]
  refine congrArg₂ (fun a b => (g (ix2 a b) : EReal)) (Subsingleton.elim (α := Fin 1) _ _) (Fin.ext ?_)
  exact Nat.mod_eq_of_lt (i 1).isLt

theorem ref_dg (i : S8192x1024.Idx) : val_main_v64 (F := Ideal) g w t i = rD w t (i 0) (lo (i 1)) * rG g (i 1) := by
  rw [val_main_v64_apply, ref_left, ref_scale]
  rfl

theorem ref_unit (i : S8192x1024.Idx) : val_main_v13 (F := Ideal) x i = rX x (i 0) (i 1) * rootOf (rX x (i 0)) := by
  rw [val_main_v13_apply, val_main_v12_apply, ref_root]
  exact congrArg₂ (fun a b => (x a * b : EReal)) (eq_ix2 i) rfl

theorem ref_spread (i : S8192x1024.Idx) : val_main_v75 (F := Ideal) x g w t i =
    Rms.spreadOf 0x44800000#32 (fun l => rD w t (i 0) (lo l)) (rG g) (rX x (i 0)) := by
  have e67 : ∀ j : S8192.Idx, val_main_v67 (F := Ideal) x g w t j = ∑ k, rX x (j 0) k * (rD w t (j 0) (lo k) * rG g k) := fun j => by
    rw [val_main_v67_apply]
    refine (congrArg (· + _) (?_ : val_main_cst_14 (F := Ideal) _ = (0 : EReal))).trans ((zero_add _).trans ?_)
    · exact Ideal.ofBits_zero .f32
    · refine Finset.sum_congr rfl fun k _ => ?_
      rw [val_main_v66_apply, ref_dg]
      exact congrArg₂ (fun a b => (x a * b : EReal)) (eq_ix2 _) rfl
  have e73 : ∀ j : S8192x1.Idx, val_main_v73 (F := Ideal) x g w t j =
      Rms.spreadOf 0x44800000#32 (fun l => rD w t (j 0) (lo l)) (rG g) (rX x (j 0)) := fun j => by
    rw [val_main_v73_apply, val_main_v71_apply, val_main_v68_apply, e67, val_main_v11_apply, val_main_v9_apply, ref_root, ref_mean,
      val_main_v10_apply, val_main_v72_apply]
    have ej : (idx_main_v68 j 0 : Fin 8192) = j 0 := Fin.ext (by
      have h1 : (j 1).val < 1 := (j 1).isLt
      show (j 0).val * 1 + (j 1).val = (j 0).val
      omega)
    rw [ej]
    rfl
  rw [val_main_v75_apply, val_main_v74_apply]
  refine (congrArg (· + _) (?_ : val_main_cst_16 (F := Ideal) _ = (0 : EReal))).trans ((zero_add _).trans ?_)
  · exact Ideal.ofBits_zero .f32
  · rw [Fin.sum_univ_one, e73]
    rfl

/-- The reference's gradient of the first input. -/
theorem ref_rows_a : val_main_v79 (F := Ideal) x g w t = rows lo w t x g := by
  funext i
  obtain ⟨R, l, rfl⟩ : ∃ (R : Fin 8192) (l : Fin 1024), i = ix2 R l := ⟨i 0, i 1, eq_ix2 i⟩
  refine Eq.trans ?_ (Rms.back_eq_spread (fun l => rD w t R (lo l)) (rG g) (rX x R) (by norm_num) ofBits_width l).symm
  rw [val_main_v79_apply, val_main_v77_apply, val_main_v76_apply, val_main_v78_apply, val_main_v70_apply, val_main_v69_apply, ref_root, ref_dg, ref_spread]
  rfl

/-- The reference's gradient of its scale. -/
theorem ref_scales_a : val_main_v80 (F := Ideal) x w t = scales lo w t x := by
  funext i
  obtain ⟨z, l, rfl⟩ : ∃ (z : Fin 1) (l : Fin 1024), i = ix2 z l := ⟨i 0, i 1, eq_ix2 i⟩
  obtain rfl : z = 0 := Subsingleton.elim _ _
  have e61 : ∀ j : S1024.Idx, val_main_v61 (F := Ideal) x w t j = ∑ R, rD w t R (lo (j 0)) * (rX x R (j 0) * rootOf (rX x R)) := fun j => by
    rw [val_main_v61_apply]
    refine (congrArg (· + _) (?_ : val_main_cst_12 (F := Ideal) _ = (0 : EReal))).trans ((zero_add _).trans ?_)
    · exact Ideal.ofBits_zero .f32
    · refine Finset.sum_congr rfl fun k _ => ?_
      rw [val_main_v60_apply, ref_unit, ref_left]
      exact mul_comm (G := EReal) _ _
  rw [val_main_v80_apply, val_main_v65_apply]
  refine (congrArg (· + _) (?_ : val_main_cst_13 (F := Ideal) _ = (0 : EReal))).trans ((zero_add _).trans ?_)
  · exact Ideal.ofBits_zero .f32
  · rw [Fin.sum_univ_one, val_main_v62_apply, e61]
    have ej : (idx_main_v62 (idx_main_v65 (idx_main_v80 (ix2 0 l)) 0) 0 : Fin 1024) = l := Fin.ext (by
      show 0 * 1024 + l.val = l.val
      omega)
    rw [ej]
    rfl

/-- The weight with its two halves of rows exchanged: the second input's gradients are the first's at this weight. -/
def swap : FVec Ideal S2048x2048 .f32 := fun i => w (ix2 (⟨((i 0).val + 1024) % 2048, Nat.mod_lt _ (by decide)⟩ : Fin 2048) (i 1))

theorem swap_lo (R : Fin 8192) (l : Fin 1024) : rD (swap w) t R (lo l) = rD w t R (hi l) := by
  refine Finset.sum_congr rfl fun s _ => congrArg (fun z => (t (ix2 R s) * w (ix2 z s) : EReal)) (Fin.ext ?_)
  show (l.val + 1024) % 2048 = 1024 + l.val
  omega

theorem ref_swap : val_main_v38 (F := Ideal) w t = val_main_v37 (F := Ideal) (swap w) t := by
  funext i
  rw [ref_right, ref_left]
  exact (swap_lo w t _ _).symm

/-- The reference's gradient of the second input. -/
theorem ref_rows_b : val_main_v58 (F := Ideal) x g w t = rows hi w t x g := by
  have e : val_main_v58 (F := Ideal) x g w t = val_main_v79 (F := Ideal) x g (swap w) t := by
    unfold val_main_v58 val_main_v57 val_main_v56 val_main_v55 val_main_v54 val_main_v53 val_main_v52 val_main_v50 val_main_v49 val_main_v47
      val_main_v46 val_main_v45 val_main_v43
    rw [ref_swap]
    rfl
  rw [e, ref_rows_a]
  funext i
  unfold rows
  rw [show (fun l => rD (swap w) t (i 0) (lo l)) = fun l => rD w t (i 0) (hi l) from funext fun l => swap_lo w t _ l]

/-- The reference's gradient of its scale. -/
theorem ref_scales_b : val_main_v59 (F := Ideal) x w t = scales hi w t x := by
  have e : val_main_v59 (F := Ideal) x w t = val_main_v80 (F := Ideal) x (swap w) t := by
    unfold val_main_v59 val_main_v44 val_main_v41 val_main_v40 val_main_v39
    rw [ref_swap]
    rfl
  rw [e, ref_scales_a]
  funext i
  exact Finset.sum_congr rfl fun R _ => congrArg (fun z => (z * (rX x R (i 1) * rootOf (rX x R)) : EReal)) (swap_lo w t R (i 1))
end Reference

/-! ## The run -/

section Run
open Cert.Kernel13Ideal Cert.Kernel13Ideal.Gen Idealize.ShloMosaic.TcCoe Idealize.ShloMosaic.Tactic

/-- The run, with the four result arrays at the reference's values and the arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v1_0) = Reference13Ideal.Read.val_main_v79 (F := Ideal) (aa m c) (aga m c) (aw m c) (at' m c)
      ∧ r.2.mem ((c : Thread nD τ).loc main_v1_1) = Reference13Ideal.Read.val_main_v58 (F := Ideal) (ab m c) (agb m c) (aw m c) (at' m c)
      ∧ r.2.mem ((c : Thread nD τ).loc main_v1_2) = Reference13Ideal.Read.val_main_v80 (F := Ideal) (aa m c) (aw m c) (at' m c)
      ∧ r.2.mem ((c : Thread nD τ).loc main_v1_3) = Reference13Ideal.Read.val_main_v59 (F := Ideal) (ab m c) (aw m c) (at' m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((arr_6 m c).trans (ref_rows_a _ _ _ _).symm),
    (h c).2.1.trans ((arr_7 m c).trans (ref_rows_b _ _ _ _).symm), (h c).2.2.1.trans ((arr_8 m c).trans (ref_scales_a _ _ _).symm),
    (h c).2.2.2.1.trans ((arr_9 m c).trans (ref_scales_b _ _ _).symm), (h c).2.2.2.2⟩) (Value.run_blocks (F := Ideal) m g)
end Run

end Cert.Proof.OutX

end
-- ==== Proof.Adam.Small.lean ====
/-
  The optimiser's step of the small weights: the devices' gradients summed, and one step of AdamW on the packed array.
-/
module

public import proofs.«01_k».proof.Proof.Gen.Kernel14Ideal.Value
public import proofs.«01_k».proof.Proof.Gen.Reference14Ideal.Read
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.Small

open Idealize.ShloMosaic Cert.Kernel14Ideal Cert.Kernel14Ideal.Gen
open Idealize.ShloMosaic.TcCoe Idealize.ShloMosaic.Tactic
open Idealize.ShloMosaic.Pointwise
open Cert.Reference14Ideal.Read (val_main_v0 val_main_v5 val_main_v11 val_main_v24 val_main_v0_apply val_main_cst_apply)
open scoped BigOperators

/-! ## What the grid's one point leaves -/

theorem off0 : (![0, 0] : Fin 2 → Nat) = fun _ => 0 := funext fun a => by fin_cases a <;> rfl

section Cases
variable {F : FTy → Type} [FloatOps F]

/-- A device's part of the gradient. -/
def slab (p : Vec F S8x1610x128 .f32) (k : Nat) (h : ∀ a, (![k, 0, 0] : Fin 3 → Nat) a + S1x1610x128.size a ≤ S8x1610x128.size a) :
    Vec F S1x1610x128 .f32 := View.ld p (Rect.unit (s := S8x1610x128) ![k, 0, 0] S1x1610x128.size h)

/-- The sum of the eight parts. -/
def total (p : Vec F S8x1610x128 .f32) : FVec F S1610x128 .f32 :=
  k0_pay3 (slab p 0 inb_S8x1610x128_S1x1610x128_0_0_0) (slab p 1 inb_S8x1610x128_S1x1610x128_1_0_0)
    (slab p 2 inb_S8x1610x128_S1x1610x128_2_0_0) (slab p 3 inb_S8x1610x128_S1x1610x128_3_0_0)
    (slab p 4 inb_S8x1610x128_S1x1610x128_4_0_0) (slab p 5 inb_S8x1610x128_S1x1610x128_5_0_0)
    (slab p 6 inb_S8x1610x128_S1x1610x128_6_0_0) (slab p 7 inb_S8x1610x128_S1x1610x128_7_0_0)

/-- The new first moment. -/
def first (g m : FVec F S1610x128 .f32) : FVec F S1610x128 .f32 :=
  addf (mulf (broadcast S1610x128 (Scalar.ofBits .f32 0x3F666666#32)) m) (mulf (broadcast S1610x128 (Scalar.ofBits .f32 0x3DCCCCCD#32)) g)

variable {c : Dev nD} {i : grid0.Coords} {a2 : Memref sig .tc .vmem S8x1610x128 .f32} {h2 : a2.IsWhole}
  {a3 : Memref sig .tc .vmem S1610x128 .f32} {h3 : a3.IsWhole} {a4 : Memref sig .tc .vmem S1610x128 .f32} {h4 : a4.IsWhole}
  {a5 : Memref sig .tc .vmem S1610x128 .f32} {h5 : a5.IsWhole} {a6 : Memref sig .tc .vmem S1610x128 .f32} {h6 : a6.IsWhole}
  {a7 : Memref sig .tc .vmem S1610x128 .f32} {h7 : a7.IsWhole} {a8 : Memref sig .tc .vmem S1610x128 .f32} {h8 : a8.IsWhole}
  {a9 : Memref sig .tc .vmem S1610x128 .f32} {h9 : a9.IsWhole}
  {p : Vec F S8x1610x128 .f32} {w m v : Vec F S1610x128 .f32}

/-- The point leaves the summed gradient, the weights' change and the two new moments. -/
theorem point (hc0 : cond0_0 i) :
    out0_A_4 c i a2 h2 a3 h3 a4 h4 a5 h5 a6 h6 a7 h7 a8 h8 a9 h9 hc0 p w m v = total p ∧
    out0_A_5 c i a2 h2 a3 h3 a4 h4 a5 h5 a6 h6 a7 h7 a8 h8 a9 h9 hc0 p w m v = k0_pay2 (total p) (first (total p) m) v w ∧
    out0_A_6 c i a2 h2 a3 h3 a4 h4 a5 h5 a6 h6 a7 h7 a8 h8 a9 h9 hc0 p w m v = first (total p) m ∧
    out0_A_7 c i a2 h2 a3 h3 a4 h4 a5 h5 a6 h6 a7 h7 a8 h8 a9 h9 hc0 p w m v = k0_pay1 (total p) v := by
  refine ⟨(View.read_writes_eq_canon _ _ _ (cover0_A_4 c i a2 h2 a3 h3 a4 h4 a5 h5 a6 h6 a7 h7 a8 h8 a9 h9 hc0 p w m v)).trans ?_,
    (View.read_writes_eq_canon _ _ _ (cover0_A_5 c i a2 h2 a3 h3 a4 h4 a5 h5 a6 h6 a7 h7 a8 h8 a9 h9 hc0 p w m v)).trans ?_,
    (View.read_writes_eq_canon _ _ _ (cover0_A_6 c i a2 h2 a3 h3 a4 h4 a5 h5 a6 h6 a7 h7 a8 h8 a9 h9 hc0 p w m v)).trans ?_,
    (View.read_writes_eq_canon _ _ _ (cover0_A_7 c i a2 h2 a3 h3 a4 h4 a5 h5 a6 h6 a7 h7 a8 h8 a9 h9 hc0 p w m v)).trans ?_⟩ <;>
  · unfold kernelRun0_A
    dsimp only
    sl_unfold_words
    rw [View.canon_unit_zero off0]
    simp only [View.readAt_eq_ld, h2.read_unread, h3.read_unread, h4.read_unread, h5.read_unread, View.ld_unit_zero (S := S1610x128) off0]
    rfl

end Cases

/-! ## The same over the extended reals -/

theorem slab_apply (p : Vec Ideal S8x1610x128 .f32) (k : Nat) (hk : k < 8) (h) (y : S1610x128.Idx) :
    shapeCast S1610x128 (slab p k h) shapeCasts_S1x1610x128_S1610x128 y = p (Reference14Ideal.Read.idx_main_v0 y ⟨k, hk⟩) := by
  obtain ⟨r, l, rfl⟩ : ∃ (r : Fin 1610) (l : Fin 128), y = ix2 r l := ⟨y 0, y 1, eq_ix2 y⟩
  have e : shapeCast S1610x128 (slab p k h) shapeCasts_S1x1610x128_S1610x128 (ix2 r l) = slab p k h (ix3 0 r l) := by
    pointwise []
  rw [e]
  unfold slab View.ld
  refine congrArg p (funext fun a => Fin.ext ?_)
  refine (ValueKit.rect_emb_unit_val _ _ _ _ _).trans ?_
  match a with
  | ⟨0, _⟩ => rfl
  | ⟨1, _⟩ => exact Nat.zero_add _
  | ⟨2, _⟩ => exact Nat.zero_add _

/-- The eight parts added one after the other are the reference's sum over the devices. -/
theorem total_eq (p : Vec Ideal S8x1610x128 .f32) : total p = val_main_v0 (F := Ideal) p := by
  funext y
  rw [val_main_v0_apply, val_main_cst_apply]
  refine Eq.trans ?_ (congrArg (· + _) (Ideal.ofBits_zero .f32).symm)
  refine Eq.trans ?_ (zero_add _).symm
  rw [Fin.sum_univ_eight]
  have e := fun (k : Nat) (hk : k < 8) h => slab_apply p k hk h y
  exact congrArg₂ (· + ·) (congrArg₂ (· + ·) (congrArg₂ (· + ·) (congrArg₂ (· + ·) (congrArg₂ (· + ·) (congrArg₂ (· + ·) (congrArg₂ (· + ·)
    (e 0 (by omega) _) (e 1 (by omega) _)) (e 2 (by omega) _)) (e 3 (by omega) _)) (e 4 (by omega) _)) (e 5 (by omega) _))
    (e 6 (by omega) _)) (e 7 (by omega) _)

/-- The rest of the step is the reference's, element for element. -/
theorem first_eq (p : Vec Ideal S8x1610x128 .f32) (m : Vec Ideal S1610x128 .f32) :
    first (total p) m = val_main_v5 (F := Ideal) p m := by
  rw [total_eq]
  funext y
  rfl
theorem second_eq (p : Vec Ideal S8x1610x128 .f32) (v : Vec Ideal S1610x128 .f32) :
    k0_pay1 (total p) v = val_main_v11 (F := Ideal) p v := by
  rw [total_eq]
  funext y
  rfl
theorem change_eq (p : Vec Ideal S8x1610x128 .f32) (w m v : Vec Ideal S1610x128 .f32) :
    k0_pay2 (total p) (first (total p) m) v w = val_main_v24 (F := Ideal) p w m v := by
  rw [first_eq, total_eq]
  funext y
  rfl

/-! ## The blocks are the whole arrays -/

theorem idx_0 (t : Fin grid0.N) : win0_0.index t = fun _ => 0 := by revert t; decide +kernel
theorem idx_1 (t : Fin grid0.N) : win0_1.index t = fun _ => 0 := by revert t; decide +kernel
theorem idx_2 (t : Fin grid0.N) : win0_2.index t = fun _ => 0 := by revert t; decide +kernel
theorem idx_3 (t : Fin grid0.N) : win0_3.index t = fun _ => 0 := by revert t; decide +kernel
theorem idx_4 (t : Fin grid0.N) : win0_4.index t = fun _ => 0 := by revert t; decide +kernel
theorem idx_5 (t : Fin grid0.N) : win0_5.index t = fun _ => 0 := by revert t; decide +kernel
theorem idx_6 (t : Fin grid0.N) : win0_6.index t = fun _ => 0 := by revert t; decide +kernel
theorem idx_7 (t : Fin grid0.N) : win0_7.index t = fun _ => 0 := by revert t; decide +kernel

section Point
variable (m : (ℓ : Loc nD τ sig) → Buf (Elt Ideal) ℓ) (c : Dev nD)

abbrev ap : FVec Ideal S8x1610x128 .f32 := m ((c : Thread nD τ).loc main_arg0)
abbrev aw : FVec Ideal S1610x128 .f32 := m ((c : Thread nD τ).loc main_arg1)
abbrev am : FVec Ideal S1610x128 .f32 := m ((c : Thread nD τ).loc main_arg2)
abbrev av : FVec Ideal S1610x128 .f32 := m ((c : Thread nD τ).loc main_arg3)

theorem read_0 (t : Fin cfg0.N) : iblk m c 0 t = ap m c := by
  refine funext fun y => Eq.trans ?_ (congrFun (V_main_arg0 m c) y)
  blk_ext [iblk, idx_0 t]
theorem read_1 (t : Fin cfg0.N) : iblk m c 1 t = aw m c := by
  refine funext fun y => Eq.trans ?_ (congrFun (V_main_arg1 m c) y)
  blk_ext [iblk, idx_1 t]
theorem read_2 (t : Fin cfg0.N) : iblk m c 2 t = am m c := by
  refine funext fun y => Eq.trans ?_ (congrFun (V_main_arg2 m c) y)
  blk_ext [iblk, idx_2 t]
theorem read_3 (t : Fin cfg0.N) : iblk m c 3 t = av m c := by
  refine funext fun y => Eq.trans ?_ (congrFun (V_main_arg3 m c) y)
  blk_ext [iblk, idx_3 t]

/-- The four results at the point. -/
theorem outs (t : Fin cfg0.N) : outsAt0 m c t =
    (val_main_v0 (F := Ideal) (ap m c), val_main_v24 (F := Ideal) (ap m c) (aw m c) (am m c) (av m c),
      val_main_v5 (F := Ideal) (ap m c) (am m c), val_main_v11 (F := Ideal) (ap m c) (av m c)) := by
  unfold outsAt0
  rw [(point _).1, (point _).2.1, (point _).2.2.1, (point _).2.2.2, read_0, read_1, read_2, read_3, change_eq, first_eq, second_eq, total_eq]

/-! ## The result arrays -/

theorem arr_4 : (dats m 0 c).arrAt 4 cfg0.N = val_main_v0 (F := Ideal) (ap m c) := by
  refine (dats m 0 c).arrAt_eq_of_covers 4 _ (by decide +kernel) fun t hf y => ?_
  have ei : (win0_4.rect t).emb y = y := funext fun a => Fin.ext (by rw [Pipeline.Window.rect_emb_val win0_4 t y a, idx_4]; simp)
  blk_simp
  rw [after0_4, outs]
  exact congrArg _ ei.symm
theorem arr_5 : (dats m 0 c).arrAt 5 cfg0.N = val_main_v24 (F := Ideal) (ap m c) (aw m c) (am m c) (av m c) := by
  refine (dats m 0 c).arrAt_eq_of_covers 5 _ (by decide +kernel) fun t hf y => ?_
  have ei : (win0_5.rect t).emb y = y := funext fun a => Fin.ext (by rw [Pipeline.Window.rect_emb_val win0_5 t y a, idx_5]; simp)
  blk_simp
  rw [after0_5, outs]
  exact congrArg _ ei.symm
theorem arr_6 : (dats m 0 c).arrAt 6 cfg0.N = val_main_v5 (F := Ideal) (ap m c) (am m c) := by
  refine (dats m 0 c).arrAt_eq_of_covers 6 _ (by decide +kernel) fun t hf y => ?_
  have ei : (win0_6.rect t).emb y = y := funext fun a => Fin.ext (by rw [Pipeline.Window.rect_emb_val win0_6 t y a, idx_6]; simp)
  blk_simp
  rw [after0_6, outs]
  exact congrArg _ ei.symm
theorem arr_7 : (dats m 0 c).arrAt 7 cfg0.N = val_main_v11 (F := Ideal) (ap m c) (av m c) := by
  refine (dats m 0 c).arrAt_eq_of_covers 7 _ (by decide +kernel) fun t hf y => ?_
  have ei : (win0_7.rect t).emb y = y := funext fun a => Fin.ext (by rw [Pipeline.Window.rect_emb_val win0_7 t y a, idx_7]; simp)
  blk_simp
  rw [after0_7, outs]
  exact congrArg _ ei.symm
end Point

/-- The kernel's run: its four results are the reference's, its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = val_main_v0 (F := Ideal) (ap m c)
      ∧ r.2.mem ((c : Thread nD τ).loc main_v0_1) = val_main_v24 (F := Ideal) (ap m c) (aw m c) (am m c) (av m c)
      ∧ r.2.mem ((c : Thread nD τ).loc main_v0_2) = val_main_v5 (F := Ideal) (ap m c) (am m c)
      ∧ r.2.mem ((c : Thread nD τ).loc main_v0_3) = val_main_v11 (F := Ideal) (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, rest⟩ := h c
    exact ⟨h4.trans (arr_4 m c), h5.trans (arr_5 m c), h6.trans (arr_6 m c), h7.trans (arr_7 m c), rest⟩)
    (Kernel14Ideal.Value.run_blocks m ρ)

end Cert.Proof.Small

end
-- ==== Proof.Adam.ConvW.lean ====
/-
  The optimiser's step of the convolution's weight: one step of AdamW on a device's columns of it, from their gradient.
-/
module

public import proofs.«01_k».proof.Proof.Gen.Kernel15Ideal.Value
public import proofs.«01_k».proof.Proof.Gen.Reference15Ideal.Read
public import Idealize.ShloMosaic.Lib.Pipeline.ValueKit.Geometry
public import Idealize.ShloMosaic.Lib.Pipeline.ValueKit.Point
public import Idealize.ShloMosaic.Lib.Pointwise
public import Idealize.ShloMosaic.Lib.Tactic

@[expose] public section

set_option maxRecDepth 16384

noncomputable section

namespace Cert.Proof.ConvW

open Idealize.ShloMosaic Cert.Kernel15Ideal Cert.Kernel15Ideal.Gen
open Idealize.ShloMosaic.TcCoe Idealize.ShloMosaic.Tactic
open Idealize.ShloMosaic.Pointwise
open Cert.Reference15Ideal.Read (val_main_v0 val_main_v5 val_main_v11 val_main_v24 val_main_v0_apply val_main_cst_apply)
open scoped BigOperators

/-! ## What the grid's one point leaves -/

theorem off1 : (![0, 0, 0] : Fin 3 → Nat) = fun _ => 0 := funext fun a => by fin_cases a <;> rfl
theorem off0 : (![0, 0] : Fin 2 → Nat) = fun _ => 0 := funext fun a => by fin_cases a <;> rfl

section Cases
variable {F : FTy → Type} [FloatOps F]

variable {c : Dev nD} {i : grid0.Coords} {a2 : Memref sig .tc .vmem S1x12x1408 .f32} {h2 : a2.IsWhole}
  {a3 : Memref sig .tc .vmem S12x1408 .f32} {h3 : a3.IsWhole} {a4 : Memref sig .tc .vmem S12x1408 .f32} {h4 : a4.IsWhole}
  {a5 : Memref sig .tc .vmem S12x1408 .f32} {h5 : a5.IsWhole} {a6 : Memref sig .tc .vmem S12x1408 .f32} {h6 : a6.IsWhole}
  {a7 : Memref sig .tc .vmem S12x1408 .f32} {h7 : a7.IsWhole} {a8 : Memref sig .tc .vmem S12x1408 .f32} {h8 : a8.IsWhole}
  {a9 : Memref sig .tc .vmem S12x1408 .f32} {h9 : a9.IsWhole}
  {p : Vec F S1x12x1408 .f32} {w m v : Vec F S12x1408 .f32}

/-- The point leaves the gradient, the weights' change and the two new moments. -/
theorem point (hc0 : cond0_0 i) :
    out0_A_4 c i a2 h2 a3 h3 a4 h4 a5 h5 a6 h6 a7 h7 a8 h8 a9 h9 hc0 p w m v = k0_pay1 p ∧
    out0_A_5 c i a2 h2 a3 h3 a4 h4 a5 h5 a6 h6 a7 h7 a8 h8 a9 h9 hc0 p w m v = k0_pay4 p m v w ∧
    out0_A_6 c i a2 h2 a3 h3 a4 h4 a5 h5 a6 h6 a7 h7 a8 h8 a9 h9 hc0 p w m v = k0_pay2 p m ∧
    out0_A_7 c i a2 h2 a3 h3 a4 h4 a5 h5 a6 h6 a7 h7 a8 h8 a9 h9 hc0 p w m v = k0_pay3 p v := by
  refine ⟨(View.read_writes_eq_canon _ _ _ (cover0_A_4 c i a2 h2 a3 h3 a4 h4 a5 h5 a6 h6 a7 h7 a8 h8 a9 h9 hc0 p w m v)).trans ?_,
    (View.read_writes_eq_canon _ _ _ (cover0_A_5 c i a2 h2 a3 h3 a4 h4 a5 h5 a6 h6 a7 h7 a8 h8 a9 h9 hc0 p w m v)).trans ?_,
    (View.read_writes_eq_canon _ _ _ (cover0_A_6 c i a2 h2 a3 h3 a4 h4 a5 h5 a6 h6 a7 h7 a8 h8 a9 h9 hc0 p w m v)).trans ?_,
    (View.read_writes_eq_canon _ _ _ (cover0_A_7 c i a2 h2 a3 h3 a4 h4 a5 h5 a6 h6 a7 h7 a8 h8 a9 h9 hc0 p w m v)).trans ?_⟩ <;>
  · unfold kernelRun0_A
    dsimp only
    sl_unfold_words
    rw [View.canon_unit_zero off0]
    simp only [View.readAt_eq_ld, h2.read_unread, h3.read_unread, h4.read_unread, h5.read_unread, View.ld_unit_zero (S := S12x1408) off0,
      View.ld_unit_zero (S := S1x12x1408) off1]

end Cases

/-! ## The same over the extended reals -/

/-- The one part of the gradient is the reference's sum over one part. -/
theorem grad_eq (p : Vec Ideal S1x12x1408 .f32) : k0_pay1 p = val_main_v0 (F := Ideal) p := by
  funext y
  rw [val_main_v0_apply, val_main_cst_apply]
  refine Eq.trans ?_ (congrArg (· + _) (Ideal.ofBits_zero .f32).symm)
  refine Eq.trans ?_ (zero_add _).symm
  rw [Fin.sum_univ_one]
  obtain ⟨r, l, rfl⟩ : ∃ (r : Fin 12) (l : Fin 1408), y = ix2 r l := ⟨y 0, y 1, eq_ix2 y⟩
  have e : k0_pay1 p (ix2 r l) = p (ix3 0 r l) := by pointwise [k0_pay1]
  rw [e]
  refine congrArg p (funext fun a => Fin.ext ?_)
  match a with
  | ⟨0, _⟩ => rfl
  | ⟨1, _⟩ => rfl
  | ⟨2, _⟩ => rfl

/-- The rest of the step is the reference's, element for element. -/
theorem first_eq (p : Vec Ideal S1x12x1408 .f32) (m : Vec Ideal S12x1408 .f32) :
    k0_pay2 p m = val_main_v5 (F := Ideal) p m := by
  unfold k0_pay2
  rw [grad_eq]
  funext y
  rfl
theorem second_eq (p : Vec Ideal S1x12x1408 .f32) (v : Vec Ideal S12x1408 .f32) :
    k0_pay3 p v = val_main_v11 (F := Ideal) p v := by
  unfold k0_pay3
  rw [grad_eq]
  funext y
  rfl
theorem change_eq (p : Vec Ideal S1x12x1408 .f32) (w m v : Vec Ideal S12x1408 .f32) :
    k0_pay4 p m v w = val_main_v24 (F := Ideal) p w m v := by
  unfold k0_pay4
  rw [first_eq, second_eq]
  funext y
  rfl

/-! ## The blocks are the whole arrays -/

theorem idx_0 (t : Fin grid0.N) : win0_0.index t = fun _ => 0 := by revert t; decide +kernel
theorem idx_1 (t : Fin grid0.N) : win0_1.index t = fun _ => 0 := by revert t; decide +kernel
theorem idx_2 (t : Fin grid0.N) : win0_2.index t = fun _ => 0 := by revert t; decide +kernel
theorem idx_3 (t : Fin grid0.N) : win0_3.index t = fun _ => 0 := by revert t; decide +kernel
theorem idx_4 (t : Fin grid0.N) : win0_4.index t = fun _ => 0 := by revert t; decide +kernel
theorem idx_5 (t : Fin grid0.N) : win0_5.index t = fun _ => 0 := by revert t; decide +kernel
theorem idx_6 (t : Fin grid0.N) : win0_6.index t = fun _ => 0 := by revert t; decide +kernel
theorem idx_7 (t : Fin grid0.N) : win0_7.index t = fun _ => 0 := by revert t; decide +kernel

section Point
variable (m : (ℓ : Loc nD τ sig) → Buf (Elt Ideal) ℓ) (c : Dev nD)

abbrev ap : FVec Ideal S1x12x1408 .f32 := m ((c : Thread nD τ).loc main_arg0)
abbrev aw : FVec Ideal S12x1408 .f32 := m ((c : Thread nD τ).loc main_arg1)
abbrev am : FVec Ideal S12x1408 .f32 := m ((c : Thread nD τ).loc main_arg2)
abbrev av : FVec Ideal S12x1408 .f32 := m ((c : Thread nD τ).loc main_arg3)

theorem read_0 (t : Fin cfg0.N) : iblk m c 0 t = ap m c := by
  refine funext fun y => Eq.trans ?_ (congrFun (V_main_arg0 m c) y)
  blk_ext [iblk, idx_0 t]
theorem read_1 (t : Fin cfg0.N) : iblk m c 1 t = aw m c := by
  refine funext fun y => Eq.trans ?_ (congrFun (V_main_arg1 m c) y)
  blk_ext [iblk, idx_1 t]
theorem read_2 (t : Fin cfg0.N) : iblk m c 2 t = am m c := by
  refine funext fun y => Eq.trans ?_ (congrFun (V_main_arg2 m c) y)
  blk_ext [iblk, idx_2 t]
theorem read_3 (t : Fin cfg0.N) : iblk m c 3 t = av m c := by
  refine funext fun y => Eq.trans ?_ (congrFun (V_main_arg3 m c) y)
  blk_ext [iblk, idx_3 t]

/-- The four results at the point. -/
theorem outs (t : Fin cfg0.N) : outsAt0 m c t =
    (val_main_v0 (F := Ideal) (ap m c), val_main_v24 (F := Ideal) (ap m c) (aw m c) (am m c) (av m c),
      val_main_v5 (F := Ideal) (ap m c) (am m c), val_main_v11 (F := Ideal) (ap m c) (av m c)) := by
  unfold outsAt0
  rw [(point _).1, (point _).2.1, (point _).2.2.1, (point _).2.2.2, read_0, read_1, read_2, read_3, change_eq, first_eq, second_eq, grad_eq]

/-! ## The result arrays -/

theorem arr_4 : (dats m 0 c).arrAt 4 cfg0.N = val_main_v0 (F := Ideal) (ap m c) := by
  refine (dats m 0 c).arrAt_eq_of_covers 4 _ (by decide +kernel) fun t hf y => ?_
  have ei : (win0_4.rect t).emb y = y := funext fun a => Fin.ext (by rw [Pipeline.Window.rect_emb_val win0_4 t y a, idx_4]; simp)
  blk_simp
  rw [after0_4, outs]
  exact congrArg _ ei.symm
theorem arr_5 : (dats m 0 c).arrAt 5 cfg0.N = val_main_v24 (F := Ideal) (ap m c) (aw m c) (am m c) (av m c) := by
  refine (dats m 0 c).arrAt_eq_of_covers 5 _ (by decide +kernel) fun t hf y => ?_
  have ei : (win0_5.rect t).emb y = y := funext fun a => Fin.ext (by rw [Pipeline.Window.rect_emb_val win0_5 t y a, idx_5]; simp)
  blk_simp
  rw [after0_5, outs]
  exact congrArg _ ei.symm
theorem arr_6 : (dats m 0 c).arrAt 6 cfg0.N = val_main_v5 (F := Ideal) (ap m c) (am m c) := by
  refine (dats m 0 c).arrAt_eq_of_covers 6 _ (by decide +kernel) fun t hf y => ?_
  have ei : (win0_6.rect t).emb y = y := funext fun a => Fin.ext (by rw [Pipeline.Window.rect_emb_val win0_6 t y a, idx_6]; simp)
  blk_simp
  rw [after0_6, outs]
  exact congrArg _ ei.symm
theorem arr_7 : (dats m 0 c).arrAt 7 cfg0.N = val_main_v11 (F := Ideal) (ap m c) (av m c) := by
  refine (dats m 0 c).arrAt_eq_of_covers 7 _ (by decide +kernel) fun t hf y => ?_
  have ei : (win0_7.rect t).emb y = y := funext fun a => Fin.ext (by rw [Pipeline.Window.rect_emb_val win0_7 t y a, idx_7]; simp)
  blk_simp
  rw [after0_7, outs]
  exact congrArg _ ei.symm
end Point

/-- The kernel's run: its four results are the reference's, its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = val_main_v0 (F := Ideal) (ap m c)
      ∧ r.2.mem ((c : Thread nD τ).loc main_v0_1) = val_main_v24 (F := Ideal) (ap m c) (aw m c) (am m c) (av m c)
      ∧ r.2.mem ((c : Thread nD τ).loc main_v0_2) = val_main_v5 (F := Ideal) (ap m c) (am m c)
      ∧ r.2.mem ((c : Thread nD τ).loc main_v0_3) = val_main_v11 (F := Ideal) (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, rest⟩ := h c
    exact ⟨h4.trans (arr_4 m c), h5.trans (arr_5 m c), h6.trans (arr_6 m c), h7.trans (arr_7 m c), rest⟩)
    (Kernel15Ideal.Value.run_blocks m ρ)

end Cert.Proof.ConvW

end
-- ==== Proof.lean ====
/-
  The proof of the claim, assembled from the modules below: for each of fifteen calls the three frames, the idealization and the equality of
  the results over the extended reals.
-/
module

public import proofs.«01_k».proof.Defs
public import proofs.«01_k».proof.Proof.Fox.FrameK
public import proofs.«01_k».proof.Proof.Fox.ResultV
public import proofs.«01_k».proof.Proof.Up.WeightR
public import proofs.«01_k».proof.Proof.Up.Frames
public import proofs.«01_k».proof.Proof.Mm.Frames
public import proofs.«01_k».proof.Proof.Mm.InXH
public import proofs.«01_k».proof.Proof.Mm.InW
public import proofs.«01_k».proof.Proof.Mm.DownX
public import proofs.«01_k».proof.Proof.Mm.DownW
public import proofs.«01_k».proof.Proof.Mm.OutW
public import proofs.«01_k».proof.Proof.Mm.DownF
public import proofs.«01_k».proof.Proof.Mm.InV
public import proofs.«01_k».proof.Proof.Mm.OutV
public import proofs.«01_k».proof.Proof.Mm.OutXH
public import proofs.«01_k».proof.Proof.Adam.Small
public import proofs.«01_k».proof.Proof.Adam.ConvW
public import Idealize.ShloMosaic.Adequacy
public import Idealize.ShloMosaic.Init

@[expose] public section

set_option maxRecDepth 16384

noncomputable section

namespace Cert.Proof

open Idealize.ShloMosaic Idealize.SL.Sem

section Reference
open Cert.ReferenceIdeal Cert.ReferenceIdeal.Gen
variable {x0 x1 x2 x4 : FVec Ideal S8x8192x128 .f32} {x3 : FVec Ideal S8x8192 .f32}
  (h0 : FoxV.Fin' x0) (h1 : FoxV.Fin' x1) (h3 : FoxV.Fin' x3) (h4 : FoxV.Fin' x4)
include h0 h1 h3 h4

/-- The reference's first result is the gradient of q, the heads side by side. -/
theorem ref_q (h2 : FoxV.Fin' x2) : Read.val_main_v74 (F := Ideal) x0 x1 x2 x3 x4 = FoxV.G8 (FoxV.data x0 x1 x2 x3 x4) := funext fun i => FoxV.ref_res0 h0 h1 h2 h3 h4 i
/-- The reference's second result is the gradient of k, the heads side by side. -/
theorem ref_k (h2 : FoxV.Fin' x2) : Read.val_main_v76 (F := Ideal) x0 x1 x2 x3 x4 = FoxV.G9 (FoxV.data x0 x1 x2 x3 x4) := funext fun i => FoxV.ref_res1 h0 h1 h2 h3 h4 i
/-- The reference's third result is the gradient of v, the heads side by side. -/
theorem ref_v : Read.val_main_v78 (F := Ideal) x0 x1 x3 x4 = FoxV.G10 (FoxV.data x0 x1 x2 x3 x4) := funext fun i => FoxV.ref_res2 h0 h1 h3 h4 i
/-- The reference's fourth result is the gradient of the summed log gates, a head to a row. -/
theorem ref_c (h2 : FoxV.Fin' x2) : Read.val_main_v68 (F := Ideal) x0 x1 x2 x3 x4 = FoxV.GC (FoxV.data x0 x1 x2 x3 x4) := funext fun i => FoxV.ref_dc h0 h1 h2 h3 h4 i
end Reference

/-- The two programs' results are equal over the extended reals at finite inputs: both are the gradients as sums of reals. -/
theorem values : algebraic_KernelIdeal_ReferenceIdeal_pre_finite := by
  intro m g m' g' hp ha
  have H : ∀ c, FoxV.FinArgs m c := fun c =>
    let ⟨e0, e1, e2, e3, e4⟩ := FoxV.fin_of_pre _ _ _ _ _ (hp c)
    ⟨e0, e1, e2, e3, e4⟩
  refine ⟨fun c => FoxV.G8 (FoxV.argData m c), fun c => FoxV.G9 (FoxV.argData m c), fun c => FoxV.G10 (FoxV.argData m c),
    fun c => FoxV.GC (FoxV.argData m c), FoxV.run_values g H, ?_⟩
  refine (θ_run _ _ _).mono (fun r h c => ?_) (ReferenceIdeal.Value.run (F := Ideal) m' g')
  obtain ⟨r0, r1, r2, r3, rest⟩ := h c
  obtain ⟨a0, a1, a2, a3, a4⟩ := ha c
  obtain ⟨f0, f1, f2, f3, f4⟩ := H c
  refine ⟨r0.trans ?_, r1.trans ?_, r2.trans ?_, r3.trans ?_, rest⟩
  · rw [ReferenceIdeal.Read.val_main_v74_eq, a0, a1, a2, a3, a4]; exact ref_q f0 f1 f3 f4 f2
  · rw [ReferenceIdeal.Read.val_main_v76_eq, a0, a1, a2, a3, a4]; exact ref_k f0 f1 f3 f4 f2
  · rw [ReferenceIdeal.Read.val_main_v78_eq, a0, a1, a3, a4]; exact ref_v f0 f1 f3 f4
  · rw [ReferenceIdeal.Read.val_main_v68_eq, a0, a1, a2, a3, a4]; exact ref_c f0 f1 f3 f4 f2

/-- The weight's gradient: the kernel's blocked sums and the reference's product are equal over the extended reals at any
    inputs. -/
theorem values2 : algebraic_Kernel2Ideal_Reference2Ideal := by
  intro m g m' g' _ ha
  refine ⟨fun c => Kernel2Ideal.Value.G2 m c, ?_, ?_⟩
  · exact Kernel2Ideal.Value.run m g
  · refine (θ_run _ _ _).mono (fun r h c => ?_) (Reference2Ideal.Value.run (F := Ideal) m' g')
    obtain ⟨r0, rest⟩ := h c
    obtain ⟨a0, a1, a2⟩ := ha c
    refine ⟨r0.trans ?_, rest⟩
    rw [Reference2Ideal.Read.val_main_v18_eq, a0, a1, a2]
    exact (UpW.result_eq m c).symm

/-- The rows' and the scale's gradients: equal over the extended reals at any inputs. -/
theorem values3 : algebraic_Kernel3Ideal_Reference3Ideal := by
  intro m g m' g' _ ha
  refine ⟨fun c => Kernel3Ideal.Value.G5 m c, fun c => Kernel3Ideal.Value.G6 m c, ?_, ?_⟩
  · exact Kernel3Ideal.Value.run m g
  · refine (θ_run _ _ _).mono (fun r h c => ?_) (Reference3Ideal.Value.run (F := Ideal) m' g')
    obtain ⟨r0, r1, rest⟩ := h c
    obtain ⟨a0, a1, a2, a3, a4⟩ := ha c
    refine ⟨r0.trans ?_, r1.trans ?_, rest⟩
    · rw [Reference3Ideal.Read.val_main_v40_eq, a0, a1, a2, a3, a4]
      exact (UpX.rows_eq m c).symm
    · rw [Reference3Ideal.Read.val_main_v39_eq, a0, a2, a3]
      exact (UpX.scale_grad_eq m c).symm

/-- The input projection's rows' and scale's gradients: equal over the extended reals at any inputs. -/
theorem values4 : algebraic_Kernel4Ideal_Reference4Ideal := by
  intro m g m' g' _ ha
  refine ⟨fun c => Kernel4Ideal.Value.G5 m c, fun c => Kernel4Ideal.Value.G6 m c, ?_, ?_⟩
  · exact Kernel4Ideal.Value.run m g
  · refine (θ_run _ _ _).mono (fun r h c => ?_) (Reference4Ideal.Value.run (F := Ideal) m' g')
    obtain ⟨r0, r1, rest⟩ := h c
    obtain ⟨a0, a1, a2, a3, a4⟩ := ha c
    refine ⟨r0.trans ?_, r1.trans ?_, rest⟩
    · rw [Reference4Ideal.Read.val_main_v40_eq, a0, a1, a2, a3, a4]
      exact (InX.rows_eq m c).symm
    · rw [Reference4Ideal.Read.val_main_v39_eq, a0, a2, a3]
      exact (InX.scale_grad_eq m c).symm

/-- The input projection's weight's gradient: equal over the extended reals at any inputs. -/
theorem values5 : algebraic_Kernel5Ideal_Reference5Ideal := by
  intro m g m' g' _ ha
  refine ⟨fun c => Kernel5Ideal.Value.G2 m c, ?_, ?_⟩
  · exact Kernel5Ideal.Value.run m g
  · refine (θ_run _ _ _).mono (fun r h c => ?_) (Reference5Ideal.Value.run (F := Ideal) m' g')
    obtain ⟨r0, rest⟩ := h c
    obtain ⟨a0, a1, a2⟩ := ha c
    refine ⟨r0.trans ?_, rest⟩
    rw [Reference5Ideal.Read.val_main_v18_eq, a0, a1, a2]
    exact (InW.result_eq m c).symm

/-- The gradient of the down projection's input: equal over the extended reals at any inputs. -/
theorem values6 : algebraic_Kernel6Ideal_Reference6Ideal := by
  intro m g m' g' _ ha
  refine ⟨fun c => Kernel6Ideal.Value.G2 m c, ?_, ?_⟩
  · exact Kernel6Ideal.Value.run m g
  · refine (θ_run _ _ _).mono (fun r h c => ?_) (Reference6Ideal.Value.run (F := Ideal) m' g')
    obtain ⟨r0, rest⟩ := h c
    obtain ⟨a0, a1⟩ := ha c
    refine ⟨r0.trans ?_, rest⟩
    rw [Reference6Ideal.Read.val_main_v2_eq, a0, a1]
    exact (DownX.result_eq m c).symm

/-- The down projection's weight's gradient: equal over the extended reals at any inputs. -/
theorem values7 : algebraic_Kernel7Ideal_Reference7Ideal := by
  intro m g m' g' _ ha
  refine ⟨fun c => Kernel7Ideal.Value.G2 m c, ?_, ?_⟩
  · exact Kernel7Ideal.Value.run m g
  · refine (θ_run _ _ _).mono (fun r h c => ?_) (Reference7Ideal.Value.run (F := Ideal) m' g')
    obtain ⟨r0, rest⟩ := h c
    obtain ⟨a0, a1⟩ := ha c
    refine ⟨r0.trans ?_, rest⟩
    rw [Reference7Ideal.Read.val_main_v4_eq, a0, a1]
    exact (DownW.result_eq m c).symm

/-- The output projection's weight's gradient: equal over the extended reals at any inputs. -/
theorem values8 : algebraic_Kernel8Ideal_Reference8Ideal := by
  intro m g m' g' _ ha
  refine ⟨fun c => Kernel8Ideal.Value.G2 m c, ?_, ?_⟩
  · exact Kernel8Ideal.Value.run m g
  · refine (θ_run _ _ _).mono (fun r h c => ?_) (Reference8Ideal.Value.run (F := Ideal) m' g')
    obtain ⟨r0, rest⟩ := h c
    obtain ⟨a0, a1, a2, a3, a4⟩ := ha c
    refine ⟨r0.trans ?_, rest⟩
    rw [Reference8Ideal.Read.val_main_v33_eq, a0, a1, a2, a3, a4]
    exact (OutW.result_eq m c).symm

/-- The down projection with the residual: equal over the extended reals at any inputs. -/
theorem values9 : algebraic_Kernel9Ideal_Reference9Ideal := by
  intro m g m' g' _ ha
  refine ⟨fun c => Reference9Ideal.Read.val_main_v1 (F := Ideal) (DownF.ah m c) (DownF.aw m c) (DownF.ax m c), ?_, ?_⟩
  · exact DownF.run m g
  · refine (θ_run _ _ _).mono (fun r h c => ?_) (Reference9Ideal.Value.run (F := Ideal) m' g')
    obtain ⟨r0, rest⟩ := h c
    obtain ⟨a0, a1, a2⟩ := ha c
    refine ⟨r0.trans ?_, rest⟩
    rw [Reference9Ideal.Read.val_main_v1_eq, a0, a1, a2]

/-- The up projection of the normalised rows, and those rows: equal over the extended reals at any inputs. -/
theorem values10 : algebraic_Kernel10Ideal_Reference10Ideal := by
  intro m g m' g' _ ha
  refine ⟨fun c => Reference10Ideal.Read.val_main_v14 (F := Ideal) (UpV.ax m c) (UpV.ag m c) (UpV.aw m c),
    fun c => Reference10Ideal.Read.val_main_v15 (F := Ideal) (UpV.ax m c) (UpV.ag m c), ?_, ?_⟩
  · exact UpV.run m g
  · refine (θ_run _ _ _).mono (fun r h c => ?_) (Reference10Ideal.Value.run (F := Ideal) m' g')
    obtain ⟨r0, r1, rest⟩ := h c
    obtain ⟨a0, a1, a2⟩ := ha c
    refine ⟨r0.trans ?_, r1.trans ?_, rest⟩
    · rw [Reference10Ideal.Read.val_main_v14_eq, a0, a1, a2]
    · rw [Reference10Ideal.Read.val_main_v15_eq, a0, a1]

/-- The input projection of the normalised rows, and those rows: equal over the extended reals at any inputs. -/
theorem values11 : algebraic_Kernel11Ideal_Reference11Ideal := by
  intro m g m' g' _ ha
  refine ⟨fun c => Reference11Ideal.Read.val_main_v14 (F := Ideal) (InV.ax m c) (InV.ag m c) (InV.aw m c),
    fun c => Reference11Ideal.Read.val_main_v15 (F := Ideal) (InV.ax m c) (InV.ag m c), ?_, ?_⟩
  · exact InV.run m g
  · refine (θ_run _ _ _).mono (fun r h c => ?_) (Reference11Ideal.Value.run (F := Ideal) m' g')
    obtain ⟨r0, r1, rest⟩ := h c
    obtain ⟨a0, a1, a2⟩ := ha c
    refine ⟨r0.trans ?_, r1.trans ?_, rest⟩
    · rw [Reference11Ideal.Read.val_main_v14_eq, a0, a1, a2]
    · rw [Reference11Ideal.Read.val_main_v15_eq, a0, a1]

/-- The output projection of the two normalised inputs side by side, with the residual, and those rows: equal over the
    extended reals at any inputs. -/
theorem values12 : algebraic_Kernel12Ideal_Reference12Ideal := by
  intro m g m' g' _ ha
  refine ⟨fun c => Reference12Ideal.Read.val_main_v30 (F := Ideal) (OutV.aa m c) (OutV.ab m c) (OutV.aga m c) (OutV.agb m c) (OutV.aw m c) (OutV.ax m c),
    fun c => Reference12Ideal.Read.val_main_v31 (F := Ideal) (OutV.aa m c) (OutV.ab m c) (OutV.aga m c) (OutV.agb m c), ?_, ?_⟩
  · exact OutV.run m g
  · refine (θ_run _ _ _).mono (fun r h c => ?_) (Reference12Ideal.Value.run (F := Ideal) m' g')
    obtain ⟨r0, r1, rest⟩ := h c
    obtain ⟨a0, a1, a2, a3, a4, a5⟩ := ha c
    refine ⟨r0.trans ?_, r1.trans ?_, rest⟩
    · rw [Reference12Ideal.Read.val_main_v30_eq, a0, a1, a2, a3, a4, a5]
    · rw [Reference12Ideal.Read.val_main_v31_eq, a0, a1, a2, a3]

/-- The gradients of the output projection's two inputs before their norms, and of the norms' scales: equal over the extended
    reals at any inputs. -/
theorem values13 : algebraic_Kernel13Ideal_Reference13Ideal := by
  intro m g m' g' _ ha
  refine ⟨fun c => Reference13Ideal.Read.val_main_v79 (F := Ideal) (OutX.aa m c) (OutX.aga m c) (OutX.aw m c) (OutX.at' m c),
    fun c => Reference13Ideal.Read.val_main_v58 (F := Ideal) (OutX.ab m c) (OutX.agb m c) (OutX.aw m c) (OutX.at' m c),
    fun c => Reference13Ideal.Read.val_main_v80 (F := Ideal) (OutX.aa m c) (OutX.aw m c) (OutX.at' m c),
    fun c => Reference13Ideal.Read.val_main_v59 (F := Ideal) (OutX.ab m c) (OutX.aw m c) (OutX.at' m c), ?_, ?_⟩
  · exact OutX.run m g
  · refine (θ_run _ _ _).mono (fun r h c => ?_) (Reference13Ideal.Value.run (F := Ideal) m' g')
    obtain ⟨r0, r1, r2, r3, rest⟩ := h c
    obtain ⟨a0, a1, a2, a3, a4, a5⟩ := ha c
    refine ⟨r0.trans ?_, r1.trans ?_, r2.trans ?_, r3.trans ?_, rest⟩
    · rw [Reference13Ideal.Read.val_main_v79_eq, a0, a2, a4, a5]
    · rw [Reference13Ideal.Read.val_main_v58_eq, a1, a3, a4, a5]
    · rw [Reference13Ideal.Read.val_main_v80_eq, a0, a4, a5]
    · rw [Reference13Ideal.Read.val_main_v59_eq, a1, a4, a5]

/-- The optimiser's step of the small weights: the gradient, the change of the weights and the two new moments, equal over the extended reals at any inputs. -/
theorem values14 : algebraic_Kernel14Ideal_Reference14Ideal := by
  intro m g m' g' _ ha
  refine ⟨fun c => Reference14Ideal.Read.val_main_v0 (F := Ideal) (Small.ap m c),
    fun c => Reference14Ideal.Read.val_main_v24 (F := Ideal) (Small.ap m c) (Small.aw m c) (Small.am m c) (Small.av m c),
    fun c => Reference14Ideal.Read.val_main_v5 (F := Ideal) (Small.ap m c) (Small.am m c),
    fun c => Reference14Ideal.Read.val_main_v11 (F := Ideal) (Small.ap m c) (Small.av m c), ?_, ?_⟩
  · exact Small.run m g
  · refine (θ_run _ _ _).mono (fun r h c => ?_) (Reference14Ideal.Value.run (F := Ideal) m' g')
    obtain ⟨r0, r1, r2, r3, rest⟩ := h c
    obtain ⟨a0, a1, a2, a3⟩ := ha c
    refine ⟨r0.trans ?_, r1.trans ?_, r2.trans ?_, r3.trans ?_, rest⟩
    · rw [Reference14Ideal.Read.val_main_v0_eq, a0]
    · rw [Reference14Ideal.Read.val_main_v24_eq, a0, a1, a2, a3]
    · rw [Reference14Ideal.Read.val_main_v5_eq, a0, a2]
    · rw [Reference14Ideal.Read.val_main_v11_eq, a0, a3]

/-- The optimiser's step of the convolution's weight: the gradient, the change of the weights and the two new moments, equal over the extended reals at any inputs. -/
theorem values15 : algebraic_Kernel15Ideal_Reference15Ideal := by
  intro m g m' g' _ ha
  refine ⟨fun c => Reference15Ideal.Read.val_main_v0 (F := Ideal) (ConvW.ap m c),
    fun c => Reference15Ideal.Read.val_main_v24 (F := Ideal) (ConvW.ap m c) (ConvW.aw m c) (ConvW.am m c) (ConvW.av m c),
    fun c => Reference15Ideal.Read.val_main_v5 (F := Ideal) (ConvW.ap m c) (ConvW.am m c),
    fun c => Reference15Ideal.Read.val_main_v11 (F := Ideal) (ConvW.ap m c) (ConvW.av m c), ?_, ?_⟩
  · exact ConvW.run m g
  · refine (θ_run _ _ _).mono (fun r h c => ?_) (Reference15Ideal.Value.run (F := Ideal) m' g')
    obtain ⟨r0, r1, r2, r3, rest⟩ := h c
    obtain ⟨a0, a1, a2, a3⟩ := ha c
    refine ⟨r0.trans ?_, r1.trans ?_, r2.trans ?_, r3.trans ?_, rest⟩
    · rw [Reference15Ideal.Read.val_main_v0_eq, a0]
    · rw [Reference15Ideal.Read.val_main_v24_eq, a0, a1, a2, a3]
    · rw [Reference15Ideal.Read.val_main_v5_eq, a0, a2]
    · rw [Reference15Ideal.Read.val_main_v11_eq, a0, a3]

/-- Every claim: the three frames, the named constant, and the equality of the results. -/
theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Pre_finite.Gen.facts,
  fun m g _ => FoxK.frame m g,
  fun m g _ => FoxI.frame m g,
  fun m g _ => FoxI.frame m g,
  fun m g _ => (θ_run _ _ _).mono (fun r h => ⟨fun c => ⟨(h c).2.2.2.2.1, (h c).2.2.2.2.2.1, (h c).2.2.2.2.2.2.1, (h c).2.2.2.2.2.2.2.1, (h c).2.2.2.2.2.2.2.2⟩, sem_eq_zero_of_no_sems (by decide) r.2⟩) (ReferenceIdeal.Value.run (F := Ideal) m g),
  fun m g _ => (θ_run _ _ _).mono (fun r h => ⟨fun c => ⟨(h c).2.2.2.2.1, (h c).2.2.2.2.2.1, (h c).2.2.2.2.2.2.1, (h c).2.2.2.2.2.2.2.1, (h c).2.2.2.2.2.2.2.2⟩, sem_eq_zero_of_no_sems (by decide) r.2⟩) (ReferenceIdeal.Value.run (F := Ideal) m g),
  UpFrames.frame2,
  fun m g _ => Kernel2Ideal.Gen.frame (F := Ideal) m g,
  fun m g _ => (θ_run _ _ _).mono (fun r h => ⟨fun c => (h c).2, sem_eq_zero_of_no_sems (by decide) r.2⟩) (Reference2Ideal.Value.run (F := Ideal) m g),
  UpFrames.frame3,
  fun m g _ => Kernel3Ideal.Gen.frame (F := Ideal) m g,
  fun m g _ => (θ_run _ _ _).mono (fun r h => ⟨fun c => (h c).2.2, sem_eq_zero_of_no_sems (by decide) r.2⟩) (Reference3Ideal.Value.run (F := Ideal) m g),
  MmFrames.frame4,
  fun m g _ => Kernel4Ideal.Gen.frame (F := Ideal) m g,
  fun m g _ => (θ_run _ _ _).mono (fun r h => ⟨fun c => (h c).2.2, sem_eq_zero_of_no_sems (by decide) r.2⟩) (Reference4Ideal.Value.run (F := Ideal) m g),
  MmFrames.frame5,
  fun m g _ => Kernel5Ideal.Gen.frame (F := Ideal) m g,
  fun m g _ => (θ_run _ _ _).mono (fun r h => ⟨fun c => (h c).2, sem_eq_zero_of_no_sems (by decide) r.2⟩) (Reference5Ideal.Value.run (F := Ideal) m g),
  MmFrames.frame6,
  fun m g _ => Kernel6Ideal.Gen.frame (F := Ideal) m g,
  fun m g _ => (θ_run _ _ _).mono (fun r h => ⟨fun c => (h c).2, sem_eq_zero_of_no_sems (by decide) r.2⟩) (Reference6Ideal.Value.run (F := Ideal) m g),
  MmFrames.frame7,
  fun m g _ => Kernel7Ideal.Gen.frame (F := Ideal) m g,
  fun m g _ => (θ_run _ _ _).mono (fun r h => ⟨fun c => (h c).2, sem_eq_zero_of_no_sems (by decide) r.2⟩) (Reference7Ideal.Value.run (F := Ideal) m g),
  MmFrames.frame8,
  fun m g _ => Kernel8Ideal.Gen.frame (F := Ideal) m g,
  fun m g _ => (θ_run _ _ _).mono (fun r h => ⟨fun c => (h c).2, sem_eq_zero_of_no_sems (by decide) r.2⟩) (Reference8Ideal.Value.run (F := Ideal) m g),
  MmFrames.frame9,
  fun m g _ => Kernel9Ideal.Gen.frame (F := Ideal) m g,
  fun m g _ => (θ_run _ _ _).mono (fun r h => ⟨fun c => (h c).2, sem_eq_zero_of_no_sems (by decide) r.2⟩) (Reference9Ideal.Value.run (F := Ideal) m g),
  MmFrames.frame10,
  fun m g _ => UpF.frame (F := Ideal) m g,
  fun m g _ => (θ_run _ _ _).mono (fun r h => ⟨fun c => (h c).2.2, sem_eq_zero_of_no_sems (by decide) r.2⟩) (Reference10Ideal.Value.run (F := Ideal) m g),
  MmFrames.frame11,
  fun m g _ => InF.frame (F := Ideal) m g,
  fun m g _ => (θ_run _ _ _).mono (fun r h => ⟨fun c => (h c).2.2, sem_eq_zero_of_no_sems (by decide) r.2⟩) (Reference11Ideal.Value.run (F := Ideal) m g),
  MmFrames.frame12,
  fun m g _ => OutF.frame (F := Ideal) m g,
  fun m g _ => (θ_run _ _ _).mono (fun r h => ⟨fun c => (h c).2.2, sem_eq_zero_of_no_sems (by decide) r.2⟩) (Reference12Ideal.Value.run (F := Ideal) m g),
  MmFrames.frame13,
  fun m g _ => Kernel13Ideal.Gen.frame (F := Ideal) m g,
  fun m g _ => (θ_run _ _ _).mono (fun r h => ⟨fun c => (h c).2.2.2.2, sem_eq_zero_of_no_sems (by decide) r.2⟩) (Reference13Ideal.Value.run (F := Ideal) m g),
  MmFrames.frame14,
  fun m g _ => Kernel14Ideal.Gen.frame (F := Ideal) m g,
  fun m g _ => (θ_run _ _ _).mono (fun r h => ⟨fun c => (h c).2.2.2.2, sem_eq_zero_of_no_sems (by decide) r.2⟩) (Reference14Ideal.Value.run (F := Ideal) m g),
  MmFrames.frame15,
  fun m g _ => Kernel15Ideal.Gen.frame (F := Ideal) m g,
  fun m g _ => (θ_run _ _ _).mono (fun r h => ⟨fun c => (h c).2.2.2.2, sem_eq_zero_of_no_sems (by decide) r.2⟩) (Reference15Ideal.Value.run (F := Ideal) m g),
  IdealRules.named_const.statement KernelIdeal.κ "skip" .f32 0xC2DC0000#32 ⊥ rfl,
  values, trivial, values2, trivial, values3,
  trivial, values4, trivial, values5, trivial, values6, trivial, values7, trivial, values8, trivial, values9,
  trivial, values10, trivial, values11, trivial, values12, trivial, values13, trivial, values14, trivial, values15⟩

end Cert.Proof

end
